-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v19_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S4x1000x256 : Shape := ⟨3, ![4, 1000, 256]⟩
abbrev S4x1000x1008 : Shape := ⟨3, ![4, 1000, 1008]⟩
abbrev S4x1x1008 : Shape := ⟨3, ![4, 1, 1008]⟩
abbrev S1x1000x256 : Shape := ⟨3, ![1, 1000, 256]⟩
abbrev S1x1000x1008 : Shape := ⟨3, ![1, 1000, 1008]⟩
abbrev S1x1x1008 : Shape := ⟨3, ![1, 1, 1008]⟩
abbrev S1000x256 : Shape := ⟨2, ![1000, 256]⟩
abbrev S1000 : Shape := ⟨1, ![1000]⟩
abbrev S1000x1 : Shape := ⟨2, ![1000, 1]⟩
abbrev S1000x1000 : Shape := ⟨2, ![1000, 1000]⟩
abbrev S1x1000 : Shape := ⟨2, ![1, 1000]⟩
abbrev S1x8 : Shape := ⟨2, ![1, 8]⟩
abbrev S1x1008 : Shape := ⟨2, ![1, 1008]⟩
abbrev S1x1x1000 : Shape := ⟨3, ![1, 1, 1000]⟩
abbrev S1 : Shape := ⟨1, ![1]⟩
abbrev S1x1x1 : Shape := ⟨3, ![1, 1, 1]⟩
abbrev S1000x8 : Shape := ⟨2, ![1000, 8]⟩
abbrev S1000x1008 : Shape := ⟨2, ![1000, 1008]⟩
abbrev S4x1008 : Shape := ⟨2, ![4, 1008]⟩
abbrev S1008 : Shape := ⟨1, ![1008]⟩
abbrev S256x256 : Shape := ⟨2, ![256, 256]⟩
abbrev S256 : Shape := ⟨1, ![256]⟩
abbrev S_ : Shape := ⟨0, ![]⟩
abbrev S16 : Shape := ⟨1, ![16]⟩
abbrev S200x256 : Shape := ⟨2, ![200, 256]⟩
abbrev S1x200x256 : Shape := ⟨3, ![1, 200, 256]⟩
abbrev S1x16 : Shape := ⟨2, ![1, 16]⟩
abbrev S1x1x256 : Shape := ⟨3, ![1, 1, 256]⟩
abbrev S1x256x256 : Shape := ⟨3, ![1, 256, 256]⟩
abbrev S232x256 : Shape := ⟨2, ![232, 256]⟩
abbrev S1x232x256 : Shape := ⟨3, ![1, 232, 256]⟩
abbrev S4x1000 : Shape := ⟨2, ![4, 1000]⟩

abbrev nBuf : Table → Nat
  | .hbm => 9
  | .local .tc .vmem => 8
  | .local .scVector .smem => 1
  | .local .scVector .vmem => 8
  | _ => 0

abbrev bufTy : (tb : Table) → Fin (nBuf tb) → BufTy
  | .hbm, ⟨0, _⟩ => ⟨S4x1000x256, .f32⟩
  | .hbm, ⟨1, _⟩ => ⟨S4x1000x1008, .f32⟩
  | .hbm, ⟨2, _⟩ => ⟨S4x1x1008, .f32⟩
  | .hbm, ⟨3, _⟩ => ⟨S4x1x1008, .i32⟩
  | .hbm, ⟨4, _⟩ => ⟨S4x1008, .f32⟩
  | .hbm, ⟨5, _⟩ => ⟨S4x1008, .i32⟩
  | .hbm, ⟨6, _⟩ => ⟨S4x1008, .i32⟩
  | .hbm, ⟨7, _⟩ => ⟨S4x1000x256, .f32⟩
  | .hbm, ⟨8, _⟩ => ⟨S4x1000, .i32⟩
  | .local .tc .vmem, ⟨0, _⟩ => ⟨S1x1000x256, .f32⟩
  | .local .tc .vmem, ⟨1, _⟩ => ⟨S1x1000x256, .f32⟩
  | .local .tc .vmem, ⟨2, _⟩ => ⟨S1x1000x1008, .f32⟩
  | .local .tc .vmem, ⟨3, _⟩ => ⟨S1x1000x1008, .f32⟩
  | .local .tc .vmem, ⟨4, _⟩ => ⟨S1x1x1008, .f32⟩
  | .local .tc .vmem, ⟨5, _⟩ => ⟨S1x1x1008, .f32⟩
  | .local .tc .vmem, ⟨6, _⟩ => ⟨S1x1x1008, .i32⟩
  | .local .tc .vmem, ⟨7, _⟩ => ⟨S1x1x1008, .i32⟩
  | .local .scVector .smem, ⟨0, _⟩ => ⟨S1, .i32⟩
  | .local .scVector .vmem, ⟨0, _⟩ => ⟨S1008, .f32⟩
  | .local .scVector .vmem, ⟨1, _⟩ => ⟨S1008, .i32⟩
  | .local .scVector .vmem, ⟨2, _⟩ => ⟨S1008, .f32⟩
  | .local .scVector .vmem, ⟨3, _⟩ => ⟨S1008, .i32⟩
  | .local .scVector .vmem, ⟨4, _⟩ => ⟨S1008, .f32⟩
  | .local .scVector .vmem, ⟨5, _⟩ => ⟨S1008, .f32⟩
  | .local .scVector .vmem, ⟨6, _⟩ => ⟨S256x256, .f32⟩
  | .local .scVector .vmem, ⟨7, _⟩ => ⟨S256, .f32⟩
  | _, _ => ⟨S4x1000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v0_0_scv : Ref sig .scVector := ⟨.hbm, 1, rfl⟩
abbrev main_v1_scv : Ref sig .scVector := ⟨.hbm, 4, rfl⟩
abbrev main_v2_scv : Ref sig .scVector := ⟨.hbm, 5, rfl⟩
abbrev main_arg0_scv : Ref sig .scVector := ⟨.hbm, 0, rfl⟩
abbrev main_v3_0_scv : Ref sig .scVector := ⟨.hbm, 6, rfl⟩
abbrev main_v3_1_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_scratch8 : Ref sig .scVector := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1000x1008 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1008 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 1 := Scalar.cmpi .slt v1 c4_i32
  let v6 : BitVec 32 := Scalar.extui v5
  let c0_i32_0 : BitVec 32 := 0#32
  let v7 : BitVec 1 := Scalar.cmpi .ne v6 c0_i32_0
  v7

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  ![v1.toNat, 0]
@[reducible] def k1_t1_loop : Scf.Loop 32 :=
  let c0_i32_10 : BitVec 32 := 0#32
  let c63_i32 : BitVec 32 := 63#32
  let v24 : BitVec 32 := Scalar.addi c0_i32_10 c63_i32
  let c1_i32 : BitVec 32 := 1#32
  ⟨c0_i32_10, v24, c1_i32⟩
def k1_off2 (k1_t1 : Fin k1_t1_loop.trips) : Fin 1 → Nat :=
  let c0_i32_10 : BitVec 32 := 0#32
  let c1_i32 : BitVec 32 := 1#32
  let arg24 : BitVec 32 := Scf.iv c0_i32_10 c1_i32 k1_t1
  let c16_i32_30 : BitVec 32 := 16#32
  let v56 : BitVec 32 := Scalar.muli arg24 c16_i32_30
  let v57 : Index := Scalar.indexCast v56
  ![v57.toNat]
@[reducible] def k1_t2_loop : Scf.Loop 32 :=
  let c0_i32_15 : BitVec 32 := 0#32
  let c1000_i32 : BitVec 32 := 1000#32
  let v28 : BitVec 32 := Scalar.addi c0_i32_15 c1000_i32
  let c1_i32_16 : BitVec 32 := 1#32
  ⟨c0_i32_15, v28, c1_i32_16⟩
@[reducible] def k1_t3_loop : Scf.Loop 32 :=
  let c0_i32_31 : BitVec 32 := 0#32
  let c63_i32_32 : BitVec 32 := 63#32
  let v54 : BitVec 32 := Scalar.addi c0_i32_31 c63_i32_32
  let c1_i32_33 : BitVec 32 := 1#32
  ⟨c0_i32_31, v54, c1_i32_33⟩
def k1_off3 (k1_t3 : Fin k1_t3_loop.trips) : Fin 1 → Nat :=
  let c0_i32_31 : BitVec 32 := 0#32
  let c1_i32_33 : BitVec 32 := 1#32
  let arg26 : BitVec 32 := Scf.iv c0_i32_31 c1_i32_33 k1_t3
  let c16_i32 : BitVec 32 := 16#32
  let v117 : BitVec 32 := Scalar.muli arg26 c16_i32
  let v118 : Index := Scalar.indexCast v117
  ![v118.toNat]
def k1_cond2 (arg25 : BitVec 32) : BitVec 1 :=
  let c0_i32_28 : BitVec 32 := 0#32
  let v48 : BitVec 1 := Scalar.cmpi .ne arg25 c0_i32_28
  let v49 : BitVec 32 := Scalar.extui v48
  let c0_i32_29 : BitVec 32 := 0#32
  let v50 : BitVec 1 := Scalar.cmpi .ne v49 c0_i32_29
  v50

def k1_cond3 (v113 : BitVec 1) : BitVec 1 :=
  let v114 : BitVec 32 := Scalar.extui v113
  let c0_i32_36 : BitVec 32 := 0#32
  let v115 : BitVec 1 := Scalar.cmpi .ne v114 c0_i32_36
  v115

def k1_chk1 (i : grid1.Coords) (arg25 : BitVec 32) (v113 : BitVec 1) (v119 : IVec S16 32) : Prop :=
  (∀ (k1_h1 : k1_cond1 i = 1#1), ∀ (k1_h2 : k1_cond2 arg25 = 1#1), ∀ (k1_h3 : k1_cond3 v113 = 1#1), ∀ a x, ((![v119] : Fin 1 → IVec S16 32) a x).toNat < S1008.size a)
theorem k1_idx1_inb : ∀ (i : grid1.Coords) (arg25 : BitVec 32) (v113 : BitVec 1) (v119 : IVec S16 32) (k1_hw1 : k1_chk1 i arg25 v113 v119), ∀ (k1_h1 : k1_cond1 i = 1#1), ∀ (k1_h2 : k1_cond2 arg25 = 1#1), ∀ (k1_h3 : k1_cond3 v113 = 1#1), ∀ a x, ((![v119] : Fin 1 → IVec S16 32) a x).toNat < S1008.size a := fun i arg25 v113 v119 k1_hw1 k1_h1 k1_h2 k1_h3 => k1_hw1 k1_h1 k1_h2 k1_h3

def k1_chk2 (i : grid1.Coords) (arg25 : BitVec 32) (v113 : BitVec 1) (v129 : IVec S16 32) : Prop :=
  (∀ (k1_h1 : k1_cond1 i = 1#1), ∀ (k1_h2 : k1_cond2 arg25 = 1#1), ∀ (k1_h3 : k1_cond3 v113 = 1#1), ∀ a x, ((![v129] : Fin 1 → IVec S16 32) a x).toNat < S1008.size a)
theorem k1_idx2_inb : ∀ (i : grid1.Coords) (arg25 : BitVec 32) (v113 : BitVec 1) (v129 : IVec S16 32) (k1_hw2 : k1_chk2 i arg25 v113 v129), ∀ (k1_h1 : k1_cond1 i = 1#1), ∀ (k1_h2 : k1_cond2 arg25 = 1#1), ∀ (k1_h3 : k1_cond3 v113 = 1#1), ∀ a x, ((![v129] : Fin 1 → IVec S16 32) a x).toNat < S1008.size a := fun i arg25 v113 v129 k1_hw2 k1_h1 k1_h2 k1_h3 => k1_hw2 k1_h1 k1_h2 k1_h3

def k1_chk3 (i : grid1.Coords) (arg25 : BitVec 32) (v113 : BitVec 1) (v131 : IVec S16 32) : Prop :=
  (∀ (k1_h1 : k1_cond1 i = 1#1), ∀ (k1_h2 : k1_cond2 arg25 = 1#1), ∀ (k1_h3 : k1_cond3 v113 = 1#1), ∀ a x, ((![v131] : Fin 1 → IVec S16 32) a x).toNat < S1008.size a)
theorem k1_idx3_inb : ∀ (i : grid1.Coords) (arg25 : BitVec 32) (v113 : BitVec 1) (v131 : IVec S16 32) (k1_hw3 : k1_chk3 i arg25 v113 v131), ∀ (k1_h1 : k1_cond1 i = 1#1), ∀ (k1_h2 : k1_cond2 arg25 = 1#1), ∀ (k1_h3 : k1_cond3 v113 = 1#1), ∀ a x, ((![v131] : Fin 1 → IVec S16 32) a x).toNat < S1008.size a := fun i arg25 v113 v131 k1_hw3 k1_h1 k1_h2 k1_h3 => k1_hw3 k1_h1 k1_h2 k1_h3

def k1_chk4 (i : grid1.Coords) (arg25 : BitVec 32) (v113 : BitVec 1) (v133 : IVec S16 32) : Prop :=
  (∀ (k1_h1 : k1_cond1 i = 1#1), ∀ (k1_h2 : k1_cond2 arg25 = 1#1), ∀ (k1_h3 : k1_cond3 v113 = 1#1), ∀ a x, ((![v133] : Fin 1 → IVec S16 32) a x).toNat < S1008.size a)
theorem k1_idx4_inb : ∀ (i : grid1.Coords) (arg25 : BitVec 32) (v113 : BitVec 1) (v133 : IVec S16 32) (k1_hw4 : k1_chk4 i arg25 v113 v133), ∀ (k1_h1 : k1_cond1 i = 1#1), ∀ (k1_h2 : k1_cond2 arg25 = 1#1), ∀ (k1_h3 : k1_cond3 v113 = 1#1), ∀ a x, ((![v133] : Fin 1 → IVec S16 32) a x).toNat < S1008.size a := fun i arg25 v113 v133 k1_hw4 k1_h1 k1_h2 k1_h3 => k1_hw4 k1_h1 k1_h2 k1_h3
@[reducible] def k1_t4_loop : Scf.Loop 32 :=
  let c0_i32_44 : BitVec 32 := 0#32
  let c63_i32_45 : BitVec 32 := 63#32
  let v135 : BitVec 32 := Scalar.addi c0_i32_44 c63_i32_45
  let c1_i32_46 : BitVec 32 := 1#32
  ⟨c0_i32_44, v135, c1_i32_46⟩
def k1_off4 (k1_t4 : Fin k1_t4_loop.trips) : Fin 1 → Nat :=
  let c0_i32_44 : BitVec 32 := 0#32
  let c1_i32_46 : BitVec 32 := 1#32
  let arg26 : BitVec 32 := Scf.iv c0_i32_44 c1_i32_46 k1_t4
  let c16_i32 : BitVec 32 := 16#32
  let v137 : BitVec 32 := Scalar.muli arg26 c16_i32
  let v138 : Index := Scalar.indexCast v137
  ![v138.toNat]
@[reducible] def k1_t5_loop : Scf.Loop 32 :=
  let c0_i32_55 : BitVec 32 := 0#32
  let c16_i32_56 : BitVec 32 := 16#32
  let v155 : BitVec 32 := Scalar.addi c0_i32_55 c16_i32_56
  let c1_i32_57 : BitVec 32 := 1#32
  ⟨c0_i32_55, v155, c1_i32_57⟩
def k1_cond4 (v151 : BitVec 32) : BitVec 1 :=
  let c0_i32_51 : BitVec 32 := 0#32
  let v152 : BitVec 1 := Scalar.cmpi .sgt v151 c0_i32_51
  let v153 : BitVec 32 := Scalar.extui v152
  let c0_i32_52 : BitVec 32 := 0#32
  let v154 : BitVec 1 := Scalar.cmpi .ne v153 c0_i32_52
  v154

def k1_chk5 (i : grid1.Coords) (arg25 : BitVec 32) (v113 : BitVec 1) (v151 : BitVec 32) (v159 : IVec S16 32) : Prop :=
  (∀ (k1_h1 : k1_cond1 i = 1#1), ∀ (k1_h2 : k1_cond2 arg25 = 1#1), ∀ (k1_h3 : k1_cond3 v113 = 1#1), ∀ (k1_h4 : k1_cond4 v151 = 1#1), ∀ a x, ((![v159] : Fin 1 → IVec S16 32) a x).toNat < S1008.size a)
theorem k1_idx5_inb : ∀ (i : grid1.Coords) (arg25 : BitVec 32) (v113 : BitVec 1) (v151 : BitVec 32) (v159 : IVec S16 32) (k1_hw5 : k1_chk5 i arg25 v113 v151 v159), ∀ (k1_h1 : k1_cond1 i = 1#1), ∀ (k1_h2 : k1_cond2 arg25 = 1#1), ∀ (k1_h3 : k1_cond3 v113 = 1#1), ∀ (k1_h4 : k1_cond4 v151 = 1#1), ∀ a x, ((![v159] : Fin 1 → IVec S16 32) a x).toNat < S1008.size a := fun i arg25 v113 v151 v159 k1_hw5 k1_h1 k1_h2 k1_h3 k1_h4 => k1_hw5 k1_h1 k1_h2 k1_h3 k1_h4

def k1_chk6 (i : grid1.Coords) (arg25 : BitVec 32) (v113 : BitVec 1) (v151 : BitVec 32) (v168 : IVec S16 32) : Prop :=
  (∀ (k1_h1 : k1_cond1 i = 1#1), ∀ (k1_h2 : k1_cond2 arg25 = 1#1), ∀ (k1_h3 : k1_cond3 v113 = 1#1), ∀ (k1_h4 : k1_cond4 v151 = 1#1), ∀ a x, ((![v168] : Fin 1 → IVec S16 32) a x).toNat < S1008.size a)
theorem k1_idx6_inb : ∀ (i : grid1.Coords) (arg25 : BitVec 32) (v113 : BitVec 1) (v151 : BitVec 32) (v168 : IVec S16 32) (k1_hw6 : k1_chk6 i arg25 v113 v151 v168), ∀ (k1_h1 : k1_cond1 i = 1#1), ∀ (k1_h2 : k1_cond2 arg25 = 1#1), ∀ (k1_h3 : k1_cond3 v113 = 1#1), ∀ (k1_h4 : k1_cond4 v151 = 1#1), ∀ a x, ((![v168] : Fin 1 → IVec S16 32) a x).toNat < S1008.size a := fun i arg25 v113 v151 v168 k1_hw6 k1_h1 k1_h2 k1_h3 k1_h4 => k1_hw6 k1_h1 k1_h2 k1_h3 k1_h4
def k1_off5 (i : grid1.Coords) (k1_t4 : Fin k1_t4_loop.trips) (k1_t5 : Fin k1_t5_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_44 : BitVec 32 := 0#32
  let c1_i32_46 : BitVec 32 := 1#32
  let arg26 : BitVec 32 := Scf.iv c0_i32_44 c1_i32_46 k1_t4
  let c16_i32_59 : BitVec 32 := 16#32
  let v157 : BitVec 32 := Scalar.muli arg26 c16_i32_59
  let c0_i32_55 : BitVec 32 := 0#32
  let c1_i32_57 : BitVec 32 := 1#32
  let arg28 : BitVec 32 := Scf.iv c0_i32_55 c1_i32_57 k1_t5
  let v158 : BitVec 32 := Scalar.addi v157 arg28
  let c0_i32_65 : BitVec 32 := 0#32
  ![v1.toNat, v158.toNat, 0]
def k1_cond5 (v112 : BitVec 32) (v126 : BitVec 32) (v166 : BitVec 32) (v172 : BitVec 1) : BitVec 1 :=
  let v127 : BitVec 32 := Scalar.maxsi v112 v126
  let v167 : BitVec 1 := Scalar.cmpi .eq v166 v127
  let v173 : BitVec 1 := Scalar.andi v167 v172
  let v174 : BitVec 32 := Scalar.extui v173
  let c0_i32_63 : BitVec 32 := 0#32
  let v175 : BitVec 1 := Scalar.cmpi .ne v174 c0_i32_63
  v175

def k1_chk7 (i : grid1.Coords) (arg25 : BitVec 32) (v112 : BitVec 32) (v113 : BitVec 1) (v126 : BitVec 32) (k1_t4 : Fin k1_t4_loop.trips) (v151 : BitVec 32) (k1_t5 : Fin k1_t5_loop.trips) (v166 : BitVec 32) (v172 : BitVec 1) : Prop :=
  (∀ (k1_h1 : k1_cond1 i = 1#1), ∀ (k1_h2 : k1_cond2 arg25 = 1#1), ∀ (k1_h3 : k1_cond3 v113 = 1#1), ∀ (k1_h4 : k1_cond4 v151 = 1#1), ∀ (k1_h5 : k1_cond5 v112 v126 v166 v172 = 1#1), ∀ a, (k1_off5 i k1_t4 k1_t5) a + S1x1x1008.size a ≤ S4x1000x1008.size a)
theorem k1_off5_inb : ∀ (i : grid1.Coords) (arg25 : BitVec 32) (v112 : BitVec 32) (v113 : BitVec 1) (v126 : BitVec 32) (k1_t4 : Fin k1_t4_loop.trips) (v151 : BitVec 32) (k1_t5 : Fin k1_t5_loop.trips) (v166 : BitVec 32) (v172 : BitVec 1) (k1_hw7 : k1_chk7 i arg25 v112 v113 v126 k1_t4 v151 k1_t5 v166 v172), ∀ (k1_h1 : k1_cond1 i = 1#1), ∀ (k1_h2 : k1_cond2 arg25 = 1#1), ∀ (k1_h3 : k1_cond3 v113 = 1#1), ∀ (k1_h4 : k1_cond4 v151 = 1#1), ∀ (k1_h5 : k1_cond5 v112 v126 v166 v172 = 1#1), ∀ a, (k1_off5 i k1_t4 k1_t5) a + S1x1x1008.size a ≤ S4x1000x1008.size a := fun i arg25 v112 v113 v126 k1_t4 v151 k1_t5 v166 v172 k1_hw7 k1_h1 k1_h2 k1_h3 k1_h4 k1_h5 => k1_hw7 k1_h1 k1_h2 k1_h3 k1_h4 k1_h5

@[reducible] def k1_t6_loop : Scf.Loop 32 :=
  let c0_i32_71 : BitVec 32 := 0#32
  let c63_i32_72 : BitVec 32 := 63#32
  let v186 : BitVec 32 := Scalar.addi c0_i32_71 c63_i32_72
  let c1_i32_73 : BitVec 32 := 1#32
  ⟨c0_i32_71, v186, c1_i32_73⟩
def k1_off6 (k1_t6 : Fin k1_t6_loop.trips) : Fin 1 → Nat :=
  let c0_i32_71 : BitVec 32 := 0#32
  let c1_i32_73 : BitVec 32 := 1#32
  let arg30 : BitVec 32 := Scf.iv c0_i32_71 c1_i32_73 k1_t6
  let c16_i32_78 : BitVec 32 := 16#32
  let v249 : BitVec 32 := Scalar.muli arg30 c16_i32_78
  let v250 : Index := Scalar.indexCast v249
  ![v250.toNat]

def k1_chk8 (i : grid1.Coords) (arg25 : BitVec 32) (v112 : BitVec 32) (v113 : BitVec 1) (v126 : BitVec 32) (v151 : BitVec 32) (v166 : BitVec 32) (v172 : BitVec 1) (v245 : IVec S16 32) : Prop :=
  (∀ (k1_h1 : k1_cond1 i = 1#1), ∀ (k1_h2 : k1_cond2 arg25 = 1#1), ∀ (k1_h3 : k1_cond3 v113 = 1#1), ∀ (k1_h4 : k1_cond4 v151 = 1#1), ∀ (k1_h5 : k1_cond5 v112 v126 v166 v172 = 1#1), ∀ a x, ((![v245] : Fin 1 → IVec S16 32) a x).toNat < S1008.size a)
theorem k1_idx7_inb : ∀ (i : grid1.Coords) (arg25 : BitVec 32) (v112 : BitVec 32) (v113 : BitVec 1) (v126 : BitVec 32) (v151 : BitVec 32) (v166 : BitVec 32) (v172 : BitVec 1) (v245 : IVec S16 32) (k1_hw8 : k1_chk8 i arg25 v112 v113 v126 v151 v166 v172 v245), ∀ (k1_h1 : k1_cond1 i = 1#1), ∀ (k1_h2 : k1_cond2 arg25 = 1#1), ∀ (k1_h3 : k1_cond3 v113 = 1#1), ∀ (k1_h4 : k1_cond4 v151 = 1#1), ∀ (k1_h5 : k1_cond5 v112 v126 v166 v172 = 1#1), ∀ a x, ((![v245] : Fin 1 → IVec S16 32) a x).toNat < S1008.size a := fun i arg25 v112 v113 v126 v151 v166 v172 v245 k1_hw8 k1_h1 k1_h2 k1_h3 k1_h4 k1_h5 => k1_hw8 k1_h1 k1_h2 k1_h3 k1_h4 k1_h5

def k1_chk9 (i : grid1.Coords) (arg25 : BitVec 32) (v112 : BitVec 32) (v113 : BitVec 1) (v126 : BitVec 32) (v151 : BitVec 32) (v166 : BitVec 32) (v172 : BitVec 1) (v247 : IVec S16 32) : Prop :=
  (∀ (k1_h1 : k1_cond1 i = 1#1), ∀ (k1_h2 : k1_cond2 arg25 = 1#1), ∀ (k1_h3 : k1_cond3 v113 = 1#1), ∀ (k1_h4 : k1_cond4 v151 = 1#1), ∀ (k1_h5 : k1_cond5 v112 v126 v166 v172 = 1#1), ∀ a x, ((![v247] : Fin 1 → IVec S16 32) a x).toNat < S1008.size a)
theorem k1_idx8_inb : ∀ (i : grid1.Coords) (arg25 : BitVec 32) (v112 : BitVec 32) (v113 : BitVec 1) (v126 : BitVec 32) (v151 : BitVec 32) (v166 : BitVec 32) (v172 : BitVec 1) (v247 : IVec S16 32) (k1_hw9 : k1_chk9 i arg25 v112 v113 v126 v151 v166 v172 v247), ∀ (k1_h1 : k1_cond1 i = 1#1), ∀ (k1_h2 : k1_cond2 arg25 = 1#1), ∀ (k1_h3 : k1_cond3 v113 = 1#1), ∀ (k1_h4 : k1_cond4 v151 = 1#1), ∀ (k1_h5 : k1_cond5 v112 v126 v166 v172 = 1#1), ∀ a x, ((![v247] : Fin 1 → IVec S16 32) a x).toNat < S1008.size a := fun i arg25 v112 v113 v126 v151 v166 v172 v247 k1_hw9 k1_h1 k1_h2 k1_h3 k1_h4 k1_h5 => k1_hw9 k1_h1 k1_h2 k1_h3 k1_h4 k1_h5
def k1_off7 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30 : BitVec 32 := 0#32
  let c0_i32_31 : BitVec 32 := 0#32
  ![v1.toNat, 0, 0]
def k1_off8 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let c0_i32_62 : BitVec 32 := 0#32
  ![v1.toNat, 200, 0]
def k1_off9 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let c0_i32_93 : BitVec 32 := 0#32
  ![v1.toNat, 400, 0]
def k1_off10 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c600_i32 : BitVec 32 := 600#32
  let c0_i32_124 : BitVec 32 := 0#32
  ![v1.toNat, 600, 0]
def k1_off11 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let c0_i32_155 : BitVec 32 := 0#32
  ![v1.toNat, 800, 0]
@[reducible] def k1_t7_loop : Scf.Loop 32 :=
  let c0_i32_30 : BitVec 32 := 0#32
  let c63_i32_31 : BitVec 32 := 63#32
  let v50 : BitVec 32 := Scalar.addi c0_i32_30 c63_i32_31
  let c1_i32_32 : BitVec 32 := 1#32
  ⟨c0_i32_30, v50, c1_i32_32⟩
def k1_off12 (k1_t7 : Fin k1_t7_loop.trips) : Fin 1 → Nat :=
  let c0_i32_30 : BitVec 32 := 0#32
  let c1_i32_32 : BitVec 32 := 1#32
  let arg24 : BitVec 32 := Scf.iv c0_i32_30 c1_i32_32 k1_t7
  let c16_i32 : BitVec 32 := 16#32
  let v126 : BitVec 32 := Scalar.muli arg24 c16_i32
  let v127 : Index := Scalar.indexCast v126
  ![v127.toNat]
@[reducible] def k1_t8_loop : Scf.Loop 32 :=
  let c0_i32_35 : BitVec 32 := 0#32
  let c63_i32_36 : BitVec 32 := 63#32
  let v52 : BitVec 32 := Scalar.addi c0_i32_35 c63_i32_36
  let c1_i32_37 : BitVec 32 := 1#32
  ⟨c0_i32_35, v52, c1_i32_37⟩
def k1_off13 (k1_t8 : Fin k1_t8_loop.trips) : Fin 1 → Nat :=
  let c0_i32_35 : BitVec 32 := 0#32
  let c1_i32_37 : BitVec 32 := 1#32
  let arg24 : BitVec 32 := Scf.iv c0_i32_35 c1_i32_37 k1_t8
  let c16_i32 : BitVec 32 := 16#32
  let v126 : BitVec 32 := Scalar.muli arg24 c16_i32
  let v127 : Index := Scalar.indexCast v126
  ![v127.toNat]
def k1_cond7 (v44 : BitVec 32) : BitVec 1 :=
  let c0_i32_26 : BitVec 32 := 0#32
  let v45 : BitVec 1 := Scalar.cmpi .ne v44 c0_i32_26
  let v46 : BitVec 32 := Scalar.extui v45
  let c0_i32_27 : BitVec 32 := 0#32
  let v47 : BitVec 1 := Scalar.cmpi .ne v46 c0_i32_27
  v47

def k1_chk10 (i : grid1.Coords) (v44 : BitVec 32) (v128 : IVec S16 32) : Prop :=
  (∀ (k1_h1 : k1_cond1 i = 1#1), ∀ (k1_h7 : k1_cond7 v44 = 1#1), ∀ a x, ((![v128] : Fin 1 → IVec S16 32) a x).toNat < S1008.size a)
theorem k1_idx9_inb : ∀ (i : grid1.Coords) (v44 : BitVec 32) (v128 : IVec S16 32) (k1_hw10 : k1_chk10 i v44 v128), ∀ (k1_h1 : k1_cond1 i = 1#1), ∀ (k1_h7 : k1_cond7 v44 = 1#1), ∀ a x, ((![v128] : Fin 1 → IVec S16 32) a x).toNat < S1008.size a := fun i v44 v128 k1_hw10 k1_h1 k1_h7 => k1_hw10 k1_h1 k1_h7
@[reducible] def k1_t9_loop : Scf.Loop 32 :=
  let c0_i32_40 : BitVec 32 := 0#32
  let c256_i32 : BitVec 32 := 256#32
  let v54 : BitVec 32 := Scalar.addi c0_i32_40 c256_i32
  let c1_i32_41 : BitVec 32 := 1#32
  ⟨c0_i32_40, v54, c1_i32_41⟩
@[reducible] def k1_t10_loop : Scf.Loop 32 :=
  let c0_i32_160 : BitVec 32 := 0#32
  let c16_i32 : BitVec 32 := 16#32
  let v126 : BitVec 32 := Scalar.addi c0_i32_160 c16_i32
  let c1_i32_161 : BitVec 32 := 1#32
  ⟨c0_i32_160, v126, c1_i32_161⟩
def k1_off14 (k1_t9 : Fin k1_t9_loop.trips) (k1_t10 : Fin k1_t10_loop.trips) : Fin 2 → Nat :=
  let c0_i32_40 : BitVec 32 := 0#32
  let c1_i32_41 : BitVec 32 := 1#32
  let arg24 : BitVec 32 := Scf.iv c0_i32_40 c1_i32_41 k1_t9
  let v129 : Index := Scalar.indexCast arg24
  let c0_i32_160 : BitVec 32 := 0#32
  let c1_i32_161 : BitVec 32 := 1#32
  let arg26 : BitVec 32 := Scf.iv c0_i32_160 c1_i32_161 k1_t10
  let c16_i32_164 : BitVec 32 := 16#32
  let v128 : BitVec 32 := Scalar.muli arg26 c16_i32_164
  let v130 : Index := Scalar.indexCast v128
  ![v129.toNat, v130.toNat]
@[reducible] def k1_t11_loop : Scf.Loop 32 :=
  let c0_i32_44 : BitVec 32 := 0#32
  let c1000_i32_45 : BitVec 32 := 1000#32
  let v56 : BitVec 32 := Scalar.addi c0_i32_44 c1000_i32_45
  let c1_i32_46 : BitVec 32 := 1#32
  ⟨c0_i32_44, v56, c1_i32_46⟩

def k1_chk11 (i : grid1.Coords) (v44 : BitVec 32) (v126 : IVec S16 32) : Prop :=
  (∀ (k1_h1 : k1_cond1 i = 1#1), ∀ (k1_h7 : k1_cond7 v44 = 1#1), ∀ a x, ((![v126] : Fin 1 → IVec S16 32) a x).toNat < S1008.size a)
theorem k1_idx10_inb : ∀ (i : grid1.Coords) (v44 : BitVec 32) (v126 : IVec S16 32) (k1_hw11 : k1_chk11 i v44 v126), ∀ (k1_h1 : k1_cond1 i = 1#1), ∀ (k1_h7 : k1_cond7 v44 = 1#1), ∀ a x, ((![v126] : Fin 1 → IVec S16 32) a x).toNat < S1008.size a := fun i v44 v126 k1_hw11 k1_h1 k1_h7 => k1_hw11 k1_h1 k1_h7
def k1_off15 (i : grid1.Coords) (k1_t11 : Fin k1_t11_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_44 : BitVec 32 := 0#32
  let c1_i32_46 : BitVec 32 := 1#32
  let arg24 : BitVec 32 := Scf.iv c0_i32_44 c1_i32_46 k1_t11
  let c0_i32_163 : BitVec 32 := 0#32
  ![v1.toNat, arg24.toNat, 0]
@[reducible] def k1_t12_loop : Scf.Loop 32 :=
  let c0_i32_169 : BitVec 32 := 0#32
  let c16_i32 : BitVec 32 := 16#32
  let v148 : BitVec 32 := Scalar.addi c0_i32_169 c16_i32
  let c1_i32_170 : BitVec 32 := 1#32
  ⟨c0_i32_169, v148, c1_i32_170⟩
def k1_off16 (v133 : BitVec 32) (k1_t12 : Fin k1_t12_loop.trips) : Fin 2 → Nat :=
  let c0_i32_167 : BitVec 32 := 0#32
  let v147 : BitVec 32 := Scalar.subi v133 c0_i32_167
  let v151 : Index := Scalar.indexCast v147
  let c0_i32_169 : BitVec 32 := 0#32
  let c1_i32_170 : BitVec 32 := 1#32
  let arg26 : BitVec 32 := Scf.iv c0_i32_169 c1_i32_170 k1_t12
  let c16_i32_172 : BitVec 32 := 16#32
  let v150 : BitVec 32 := Scalar.muli arg26 c16_i32_172
  let v152 : Index := Scalar.indexCast v150
  ![v151.toNat, v152.toNat]
def k1_cond8 (v133 : BitVec 32) : BitVec 1 :=
  let c0_i32_159 : BitVec 32 := 0#32
  let v134 : BitVec 1 := Scalar.cmpi .sge v133 c0_i32_159
  let c256_i32_160 : BitVec 32 := 256#32
  let v135 : BitVec 1 := Scalar.cmpi .slt v133 c256_i32_160
  let v136 : BitVec 1 := Scalar.andi v134 v135
  let v137 : BitVec 32 := Scalar.extui v136
  let c0_i32_161 : BitVec 32 := 0#32
  let v138 : BitVec 1 := Scalar.cmpi .ne v137 c0_i32_161
  v138

def k1_chk12 (i : grid1.Coords) (v44 : BitVec 32) (v133 : BitVec 32) : Prop :=
  (∀ k1_t12 : Fin k1_t12_loop.trips, ∀ (k1_h1 : k1_cond1 i = 1#1), ∀ (k1_h7 : k1_cond7 v44 = 1#1), ∀ (k1_h8 : k1_cond8 v133 = 1#1), ∀ a, (k1_off16 v133 k1_t12) a + S1x16.size a ≤ S256x256.size a)
theorem k1_off16_inb : ∀ (i : grid1.Coords) (v44 : BitVec 32) (v133 : BitVec 32) (k1_hw12 : k1_chk12 i v44 v133) (k1_t12 : Fin k1_t12_loop.trips), ∀ (k1_h1 : k1_cond1 i = 1#1), ∀ (k1_h7 : k1_cond7 v44 = 1#1), ∀ (k1_h8 : k1_cond8 v133 = 1#1), ∀ a, (k1_off16 v133 k1_t12) a + S1x16.size a ≤ S256x256.size a := fun i v44 v133 k1_hw12 k1_t12 k1_h1 k1_h7 k1_h8 => k1_hw12 k1_t12 k1_h1 k1_h7 k1_h8

def k1_off17 (k1_t12 : Fin k1_t12_loop.trips) : Fin 1 → Nat :=
  let c0_i32_169 : BitVec 32 := 0#32
  let c1_i32_170 : BitVec 32 := 1#32
  let arg26 : BitVec 32 := Scf.iv c0_i32_169 c1_i32_170 k1_t12
  let c16_i32_172 : BitVec 32 := 16#32
  let v150 : BitVec 32 := Scalar.muli arg26 c16_i32_172
  let v154 : Index := Scalar.indexCast v150
  ![v154.toNat]
@[reducible] def k1_t13_loop : Scf.Loop 32 :=
  let c0_i32_49 : BitVec 32 := 0#32
  let c256_i32_50 : BitVec 32 := 256#32
  let v58 : BitVec 32 := Scalar.addi c0_i32_49 c256_i32_50
  let c1_i32_51 : BitVec 32 := 1#32
  ⟨c0_i32_49, v58, c1_i32_51⟩

def k1_chk13 (i : grid1.Coords) (v44 : BitVec 32) (v127 : IVec S16 32) : Prop :=
  (∀ (k1_h1 : k1_cond1 i = 1#1), ∀ (k1_h7 : k1_cond7 v44 = 1#1), ∀ a x, ((![v127] : Fin 1 → IVec S16 32) a x).toNat < S1008.size a)
theorem k1_idx11_inb : ∀ (i : grid1.Coords) (v44 : BitVec 32) (v127 : IVec S16 32) (k1_hw13 : k1_chk13 i v44 v127), ∀ (k1_h1 : k1_cond1 i = 1#1), ∀ (k1_h7 : k1_cond7 v44 = 1#1), ∀ a x, ((![v127] : Fin 1 → IVec S16 32) a x).toNat < S1008.size a := fun i v44 v127 k1_hw13 k1_h1 k1_h7 => k1_hw13 k1_h1 k1_h7
@[reducible] def k1_t14_loop : Scf.Loop 32 :=
  let c0_i32_162 : BitVec 32 := 0#32
  let c16_i32 : BitVec 32 := 16#32
  let v132 : BitVec 32 := Scalar.addi c0_i32_162 c16_i32
  let c1_i32_163 : BitVec 32 := 1#32
  ⟨c0_i32_162, v132, c1_i32_163⟩
def k1_off18 (k1_t13 : Fin k1_t13_loop.trips) (k1_t14 : Fin k1_t14_loop.trips) : Fin 2 → Nat :=
  let c0_i32_49 : BitVec 32 := 0#32
  let c1_i32_51 : BitVec 32 := 1#32
  let arg24 : BitVec 32 := Scf.iv c0_i32_49 c1_i32_51 k1_t13
  let v135 : Index := Scalar.indexCast arg24
  let c0_i32_162 : BitVec 32 := 0#32
  let c1_i32_163 : BitVec 32 := 1#32
  let arg26 : BitVec 32 := Scf.iv c0_i32_162 c1_i32_163 k1_t14
  let c16_i32_166 : BitVec 32 := 16#32
  let v134 : BitVec 32 := Scalar.muli arg26 c16_i32_166
  let v136 : Index := Scalar.indexCast v134
  ![v135.toNat, v136.toNat]
def k1_off19 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_55 : BitVec 32 := 0#32
  let c0_i32_56 : BitVec 32 := 0#32
  ![v1.toNat, 0, 0]
@[reducible] def k1_t15_loop : Scf.Loop 32 :=
  let c0_i32_70 : BitVec 32 := 0#32
  let c256_i32_71 : BitVec 32 := 256#32
  let v72 : BitVec 32 := Scalar.addi c0_i32_70 c256_i32_71
  let c1_i32_72 : BitVec 32 := 1#32
  ⟨c0_i32_70, v72, c1_i32_72⟩
@[reducible] def k1_t16_loop : Scf.Loop 32 :=
  let c0_i32_160 : BitVec 32 := 0#32
  let c16_i32 : BitVec 32 := 16#32
  let v126 : BitVec 32 := Scalar.addi c0_i32_160 c16_i32
  let c1_i32_161 : BitVec 32 := 1#32
  ⟨c0_i32_160, v126, c1_i32_161⟩
def k1_off20 (k1_t15 : Fin k1_t15_loop.trips) (k1_t16 : Fin k1_t16_loop.trips) : Fin 2 → Nat :=
  let c0_i32_70 : BitVec 32 := 0#32
  let c1_i32_72 : BitVec 32 := 1#32
  let arg24 : BitVec 32 := Scf.iv c0_i32_70 c1_i32_72 k1_t15
  let v129 : Index := Scalar.indexCast arg24
  let c0_i32_160 : BitVec 32 := 0#32
  let c1_i32_161 : BitVec 32 := 1#32
  let arg26 : BitVec 32 := Scf.iv c0_i32_160 c1_i32_161 k1_t16
  let c16_i32_164 : BitVec 32 := 16#32
  let v128 : BitVec 32 := Scalar.muli arg26 c16_i32_164
  let v130 : Index := Scalar.indexCast v128
  ![v129.toNat, v130.toNat]
@[reducible] def k1_t17_loop : Scf.Loop 32 :=
  let c0_i32_75 : BitVec 32 := 0#32
  let c1000_i32_76 : BitVec 32 := 1000#32
  let v74 : BitVec 32 := Scalar.addi c0_i32_75 c1000_i32_76
  let c1_i32_77 : BitVec 32 := 1#32
  ⟨c0_i32_75, v74, c1_i32_77⟩

def k1_chk14 (i : grid1.Coords) (v44 : BitVec 32) (v126 : IVec S16 32) : Prop :=
  (∀ (k1_h1 : k1_cond1 i = 1#1), ∀ (k1_h7 : k1_cond7 v44 = 1#1), ∀ a x, ((![v126] : Fin 1 → IVec S16 32) a x).toNat < S1008.size a)
theorem k1_idx12_inb : ∀ (i : grid1.Coords) (v44 : BitVec 32) (v126 : IVec S16 32) (k1_hw14 : k1_chk14 i v44 v126), ∀ (k1_h1 : k1_cond1 i = 1#1), ∀ (k1_h7 : k1_cond7 v44 = 1#1), ∀ a x, ((![v126] : Fin 1 → IVec S16 32) a x).toNat < S1008.size a := fun i v44 v126 k1_hw14 k1_h1 k1_h7 => k1_hw14 k1_h1 k1_h7
def k1_off21 (i : grid1.Coords) (k1_t17 : Fin k1_t17_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_75 : BitVec 32 := 0#32
  let c1_i32_77 : BitVec 32 := 1#32
  let arg24 : BitVec 32 := Scf.iv c0_i32_75 c1_i32_77 k1_t17
  let c0_i32_163 : BitVec 32 := 0#32
  ![v1.toNat, arg24.toNat, 0]
@[reducible] def k1_t18_loop : Scf.Loop 32 :=
  let c0_i32_169 : BitVec 32 := 0#32
  let c16_i32 : BitVec 32 := 16#32
  let v148 : BitVec 32 := Scalar.addi c0_i32_169 c16_i32
  let c1_i32_170 : BitVec 32 := 1#32
  ⟨c0_i32_169, v148, c1_i32_170⟩
def k1_off22 (v133 : BitVec 32) (k1_t18 : Fin k1_t18_loop.trips) : Fin 2 → Nat :=
  let c256_i32_167 : BitVec 32 := 256#32
  let v147 : BitVec 32 := Scalar.subi v133 c256_i32_167
  let v151 : Index := Scalar.indexCast v147
  let c0_i32_169 : BitVec 32 := 0#32
  let c1_i32_170 : BitVec 32 := 1#32
  let arg26 : BitVec 32 := Scf.iv c0_i32_169 c1_i32_170 k1_t18
  let c16_i32_172 : BitVec 32 := 16#32
  let v150 : BitVec 32 := Scalar.muli arg26 c16_i32_172
  let v152 : Index := Scalar.indexCast v150
  ![v151.toNat, v152.toNat]
def k1_cond9 (v133 : BitVec 32) : BitVec 1 :=
  let c256_i32_159 : BitVec 32 := 256#32
  let v134 : BitVec 1 := Scalar.cmpi .sge v133 c256_i32_159
  let c512_i32_160 : BitVec 32 := 512#32
  let v135 : BitVec 1 := Scalar.cmpi .slt v133 c512_i32_160
  let v136 : BitVec 1 := Scalar.andi v134 v135
  let v137 : BitVec 32 := Scalar.extui v136
  let c0_i32_161 : BitVec 32 := 0#32
  let v138 : BitVec 1 := Scalar.cmpi .ne v137 c0_i32_161
  v138

def k1_chk15 (i : grid1.Coords) (v44 : BitVec 32) (v133 : BitVec 32) : Prop :=
  (∀ k1_t18 : Fin k1_t18_loop.trips, ∀ (k1_h1 : k1_cond1 i = 1#1), ∀ (k1_h7 : k1_cond7 v44 = 1#1), ∀ (k1_h9 : k1_cond9 v133 = 1#1), ∀ a, (k1_off22 v133 k1_t18) a + S1x16.size a ≤ S256x256.size a)
theorem k1_off22_inb : ∀ (i : grid1.Coords) (v44 : BitVec 32) (v133 : BitVec 32) (k1_hw15 : k1_chk15 i v44 v133) (k1_t18 : Fin k1_t18_loop.trips), ∀ (k1_h1 : k1_cond1 i = 1#1), ∀ (k1_h7 : k1_cond7 v44 = 1#1), ∀ (k1_h9 : k1_cond9 v133 = 1#1), ∀ a, (k1_off22 v133 k1_t18) a + S1x16.size a ≤ S256x256.size a := fun i v44 v133 k1_hw15 k1_t18 k1_h1 k1_h7 k1_h9 => k1_hw15 k1_t18 k1_h1 k1_h7 k1_h9

def k1_off23 (k1_t18 : Fin k1_t18_loop.trips) : Fin 1 → Nat :=
  let c0_i32_169 : BitVec 32 := 0#32
  let c1_i32_170 : BitVec 32 := 1#32
  let arg26 : BitVec 32 := Scf.iv c0_i32_169 c1_i32_170 k1_t18
  let c16_i32_172 : BitVec 32 := 16#32
  let v150 : BitVec 32 := Scalar.muli arg26 c16_i32_172
  let v154 : Index := Scalar.indexCast v150
  ![v154.toNat]
@[reducible] def k1_t19_loop : Scf.Loop 32 :=
  let c0_i32_80 : BitVec 32 := 0#32
  let c256_i32_81 : BitVec 32 := 256#32
  let v76 : BitVec 32 := Scalar.addi c0_i32_80 c256_i32_81
  let c1_i32_82 : BitVec 32 := 1#32
  ⟨c0_i32_80, v76, c1_i32_82⟩

def k1_chk16 (i : grid1.Coords) (v44 : BitVec 32) (v127 : IVec S16 32) : Prop :=
  (∀ (k1_h1 : k1_cond1 i = 1#1), ∀ (k1_h7 : k1_cond7 v44 = 1#1), ∀ a x, ((![v127] : Fin 1 → IVec S16 32) a x).toNat < S1008.size a)
theorem k1_idx13_inb : ∀ (i : grid1.Coords) (v44 : BitVec 32) (v127 : IVec S16 32) (k1_hw16 : k1_chk16 i v44 v127), ∀ (k1_h1 : k1_cond1 i = 1#1), ∀ (k1_h7 : k1_cond7 v44 = 1#1), ∀ a x, ((![v127] : Fin 1 → IVec S16 32) a x).toNat < S1008.size a := fun i v44 v127 k1_hw16 k1_h1 k1_h7 => k1_hw16 k1_h1 k1_h7
@[reducible] def k1_t20_loop : Scf.Loop 32 :=
  let c0_i32_162 : BitVec 32 := 0#32
  let c16_i32 : BitVec 32 := 16#32
  let v132 : BitVec 32 := Scalar.addi c0_i32_162 c16_i32
  let c1_i32_163 : BitVec 32 := 1#32
  ⟨c0_i32_162, v132, c1_i32_163⟩
def k1_off24 (k1_t19 : Fin k1_t19_loop.trips) (k1_t20 : Fin k1_t20_loop.trips) : Fin 2 → Nat :=
  let c0_i32_80 : BitVec 32 := 0#32
  let c1_i32_82 : BitVec 32 := 1#32
  let arg24 : BitVec 32 := Scf.iv c0_i32_80 c1_i32_82 k1_t19
  let v135 : Index := Scalar.indexCast arg24
  let c0_i32_162 : BitVec 32 := 0#32
  let c1_i32_163 : BitVec 32 := 1#32
  let arg26 : BitVec 32 := Scf.iv c0_i32_162 c1_i32_163 k1_t20
  let c16_i32_166 : BitVec 32 := 16#32
  let v134 : BitVec 32 := Scalar.muli arg26 c16_i32_166
  let v136 : Index := Scalar.indexCast v134
  ![v135.toNat, v136.toNat]
def k1_off25 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_86 : BitVec 32 := 256#32
  let c0_i32_87 : BitVec 32 := 0#32
  ![v1.toNat, 256, 0]
@[reducible] def k1_t21_loop : Scf.Loop 32 :=
  let c0_i32_101 : BitVec 32 := 0#32
  let c256_i32_102 : BitVec 32 := 256#32
  let v90 : BitVec 32 := Scalar.addi c0_i32_101 c256_i32_102
  let c1_i32_103 : BitVec 32 := 1#32
  ⟨c0_i32_101, v90, c1_i32_103⟩
@[reducible] def k1_t22_loop : Scf.Loop 32 :=
  let c0_i32_160 : BitVec 32 := 0#32
  let c16_i32 : BitVec 32 := 16#32
  let v126 : BitVec 32 := Scalar.addi c0_i32_160 c16_i32
  let c1_i32_161 : BitVec 32 := 1#32
  ⟨c0_i32_160, v126, c1_i32_161⟩
def k1_off26 (k1_t21 : Fin k1_t21_loop.trips) (k1_t22 : Fin k1_t22_loop.trips) : Fin 2 → Nat :=
  let c0_i32_101 : BitVec 32 := 0#32
  let c1_i32_103 : BitVec 32 := 1#32
  let arg24 : BitVec 32 := Scf.iv c0_i32_101 c1_i32_103 k1_t21
  let v129 : Index := Scalar.indexCast arg24
  let c0_i32_160 : BitVec 32 := 0#32
  let c1_i32_161 : BitVec 32 := 1#32
  let arg26 : BitVec 32 := Scf.iv c0_i32_160 c1_i32_161 k1_t22
  let c16_i32_164 : BitVec 32 := 16#32
  let v128 : BitVec 32 := Scalar.muli arg26 c16_i32_164
  let v130 : Index := Scalar.indexCast v128
  ![v129.toNat, v130.toNat]
@[reducible] def k1_t23_loop : Scf.Loop 32 :=
  let c0_i32_106 : BitVec 32 := 0#32
  let c1000_i32_107 : BitVec 32 := 1000#32
  let v92 : BitVec 32 := Scalar.addi c0_i32_106 c1000_i32_107
  let c1_i32_108 : BitVec 32 := 1#32
  ⟨c0_i32_106, v92, c1_i32_108⟩

def k1_chk17 (i : grid1.Coords) (v44 : BitVec 32) (v126 : IVec S16 32) : Prop :=
  (∀ (k1_h1 : k1_cond1 i = 1#1), ∀ (k1_h7 : k1_cond7 v44 = 1#1), ∀ a x, ((![v126] : Fin 1 → IVec S16 32) a x).toNat < S1008.size a)
theorem k1_idx14_inb : ∀ (i : grid1.Coords) (v44 : BitVec 32) (v126 : IVec S16 32) (k1_hw17 : k1_chk17 i v44 v126), ∀ (k1_h1 : k1_cond1 i = 1#1), ∀ (k1_h7 : k1_cond7 v44 = 1#1), ∀ a x, ((![v126] : Fin 1 → IVec S16 32) a x).toNat < S1008.size a := fun i v44 v126 k1_hw17 k1_h1 k1_h7 => k1_hw17 k1_h1 k1_h7
def k1_off27 (i : grid1.Coords) (k1_t23 : Fin k1_t23_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_106 : BitVec 32 := 0#32
  let c1_i32_108 : BitVec 32 := 1#32
  let arg24 : BitVec 32 := Scf.iv c0_i32_106 c1_i32_108 k1_t23
  let c0_i32_163 : BitVec 32 := 0#32
  ![v1.toNat, arg24.toNat, 0]
@[reducible] def k1_t24_loop : Scf.Loop 32 :=
  let c0_i32_169 : BitVec 32 := 0#32
  let c16_i32 : BitVec 32 := 16#32
  let v148 : BitVec 32 := Scalar.addi c0_i32_169 c16_i32
  let c1_i32_170 : BitVec 32 := 1#32
  ⟨c0_i32_169, v148, c1_i32_170⟩
def k1_off28 (v133 : BitVec 32) (k1_t24 : Fin k1_t24_loop.trips) : Fin 2 → Nat :=
  let c512_i32_167 : BitVec 32 := 512#32
  let v147 : BitVec 32 := Scalar.subi v133 c512_i32_167
  let v151 : Index := Scalar.indexCast v147
  let c0_i32_169 : BitVec 32 := 0#32
  let c1_i32_170 : BitVec 32 := 1#32
  let arg26 : BitVec 32 := Scf.iv c0_i32_169 c1_i32_170 k1_t24
  let c16_i32_172 : BitVec 32 := 16#32
  let v150 : BitVec 32 := Scalar.muli arg26 c16_i32_172
  let v152 : Index := Scalar.indexCast v150
  ![v151.toNat, v152.toNat]
def k1_cond10 (v133 : BitVec 32) : BitVec 1 :=
  let c512_i32_159 : BitVec 32 := 512#32
  let v134 : BitVec 1 := Scalar.cmpi .sge v133 c512_i32_159
  let c768_i32_160 : BitVec 32 := 768#32
  let v135 : BitVec 1 := Scalar.cmpi .slt v133 c768_i32_160
  let v136 : BitVec 1 := Scalar.andi v134 v135
  let v137 : BitVec 32 := Scalar.extui v136
  let c0_i32_161 : BitVec 32 := 0#32
  let v138 : BitVec 1 := Scalar.cmpi .ne v137 c0_i32_161
  v138

def k1_chk18 (i : grid1.Coords) (v44 : BitVec 32) (v133 : BitVec 32) : Prop :=
  (∀ k1_t24 : Fin k1_t24_loop.trips, ∀ (k1_h1 : k1_cond1 i = 1#1), ∀ (k1_h7 : k1_cond7 v44 = 1#1), ∀ (k1_h10 : k1_cond10 v133 = 1#1), ∀ a, (k1_off28 v133 k1_t24) a + S1x16.size a ≤ S256x256.size a)
theorem k1_off28_inb : ∀ (i : grid1.Coords) (v44 : BitVec 32) (v133 : BitVec 32) (k1_hw18 : k1_chk18 i v44 v133) (k1_t24 : Fin k1_t24_loop.trips), ∀ (k1_h1 : k1_cond1 i = 1#1), ∀ (k1_h7 : k1_cond7 v44 = 1#1), ∀ (k1_h10 : k1_cond10 v133 = 1#1), ∀ a, (k1_off28 v133 k1_t24) a + S1x16.size a ≤ S256x256.size a := fun i v44 v133 k1_hw18 k1_t24 k1_h1 k1_h7 k1_h10 => k1_hw18 k1_t24 k1_h1 k1_h7 k1_h10

def k1_off29 (k1_t24 : Fin k1_t24_loop.trips) : Fin 1 → Nat :=
  let c0_i32_169 : BitVec 32 := 0#32
  let c1_i32_170 : BitVec 32 := 1#32
  let arg26 : BitVec 32 := Scf.iv c0_i32_169 c1_i32_170 k1_t24
  let c16_i32_172 : BitVec 32 := 16#32
  let v150 : BitVec 32 := Scalar.muli arg26 c16_i32_172
  let v154 : Index := Scalar.indexCast v150
  ![v154.toNat]
@[reducible] def k1_t25_loop : Scf.Loop 32 :=
  let c0_i32_111 : BitVec 32 := 0#32
  let c256_i32_112 : BitVec 32 := 256#32
  let v94 : BitVec 32 := Scalar.addi c0_i32_111 c256_i32_112
  let c1_i32_113 : BitVec 32 := 1#32
  ⟨c0_i32_111, v94, c1_i32_113⟩

def k1_chk19 (i : grid1.Coords) (v44 : BitVec 32) (v127 : IVec S16 32) : Prop :=
  (∀ (k1_h1 : k1_cond1 i = 1#1), ∀ (k1_h7 : k1_cond7 v44 = 1#1), ∀ a x, ((![v127] : Fin 1 → IVec S16 32) a x).toNat < S1008.size a)
theorem k1_idx15_inb : ∀ (i : grid1.Coords) (v44 : BitVec 32) (v127 : IVec S16 32) (k1_hw19 : k1_chk19 i v44 v127), ∀ (k1_h1 : k1_cond1 i = 1#1), ∀ (k1_h7 : k1_cond7 v44 = 1#1), ∀ a x, ((![v127] : Fin 1 → IVec S16 32) a x).toNat < S1008.size a := fun i v44 v127 k1_hw19 k1_h1 k1_h7 => k1_hw19 k1_h1 k1_h7
@[reducible] def k1_t26_loop : Scf.Loop 32 :=
  let c0_i32_162 : BitVec 32 := 0#32
  let c16_i32 : BitVec 32 := 16#32
  let v132 : BitVec 32 := Scalar.addi c0_i32_162 c16_i32
  let c1_i32_163 : BitVec 32 := 1#32
  ⟨c0_i32_162, v132, c1_i32_163⟩
def k1_off30 (k1_t25 : Fin k1_t25_loop.trips) (k1_t26 : Fin k1_t26_loop.trips) : Fin 2 → Nat :=
  let c0_i32_111 : BitVec 32 := 0#32
  let c1_i32_113 : BitVec 32 := 1#32
  let arg24 : BitVec 32 := Scf.iv c0_i32_111 c1_i32_113 k1_t25
  let v135 : Index := Scalar.indexCast arg24
  let c0_i32_162 : BitVec 32 := 0#32
  let c1_i32_163 : BitVec 32 := 1#32
  let arg26 : BitVec 32 := Scf.iv c0_i32_162 c1_i32_163 k1_t26
  let c16_i32_166 : BitVec 32 := 16#32
  let v134 : BitVec 32 := Scalar.muli arg26 c16_i32_166
  let v136 : Index := Scalar.indexCast v134
  ![v135.toNat, v136.toNat]
def k1_off31 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let c0_i32_117 : BitVec 32 := 0#32
  ![v1.toNat, 512, 0]
@[reducible] def k1_t27_loop : Scf.Loop 32 :=
  let c0_i32_131 : BitVec 32 := 0#32
  let c256_i32_132 : BitVec 32 := 256#32
  let v108 : BitVec 32 := Scalar.addi c0_i32_131 c256_i32_132
  let c1_i32_133 : BitVec 32 := 1#32
  ⟨c0_i32_131, v108, c1_i32_133⟩
@[reducible] def k1_t28_loop : Scf.Loop 32 :=
  let c0_i32_160 : BitVec 32 := 0#32
  let c16_i32 : BitVec 32 := 16#32
  let v126 : BitVec 32 := Scalar.addi c0_i32_160 c16_i32
  let c1_i32_161 : BitVec 32 := 1#32
  ⟨c0_i32_160, v126, c1_i32_161⟩
def k1_off32 (k1_t27 : Fin k1_t27_loop.trips) (k1_t28 : Fin k1_t28_loop.trips) : Fin 2 → Nat :=
  let c0_i32_131 : BitVec 32 := 0#32
  let c1_i32_133 : BitVec 32 := 1#32
  let arg24 : BitVec 32 := Scf.iv c0_i32_131 c1_i32_133 k1_t27
  let v129 : Index := Scalar.indexCast arg24
  let c0_i32_160 : BitVec 32 := 0#32
  let c1_i32_161 : BitVec 32 := 1#32
  let arg26 : BitVec 32 := Scf.iv c0_i32_160 c1_i32_161 k1_t28
  let c16_i32_164 : BitVec 32 := 16#32
  let v128 : BitVec 32 := Scalar.muli arg26 c16_i32_164
  let v130 : Index := Scalar.indexCast v128
  ![v129.toNat, v130.toNat]
@[reducible] def k1_t29_loop : Scf.Loop 32 :=
  let c0_i32_136 : BitVec 32 := 0#32
  let c1000_i32_137 : BitVec 32 := 1000#32
  let v110 : BitVec 32 := Scalar.addi c0_i32_136 c1000_i32_137
  let c1_i32_138 : BitVec 32 := 1#32
  ⟨c0_i32_136, v110, c1_i32_138⟩

def k1_chk20 (i : grid1.Coords) (v44 : BitVec 32) (v126 : IVec S16 32) : Prop :=
  (∀ (k1_h1 : k1_cond1 i = 1#1), ∀ (k1_h7 : k1_cond7 v44 = 1#1), ∀ a x, ((![v126] : Fin 1 → IVec S16 32) a x).toNat < S1008.size a)
theorem k1_idx16_inb : ∀ (i : grid1.Coords) (v44 : BitVec 32) (v126 : IVec S16 32) (k1_hw20 : k1_chk20 i v44 v126), ∀ (k1_h1 : k1_cond1 i = 1#1), ∀ (k1_h7 : k1_cond7 v44 = 1#1), ∀ a x, ((![v126] : Fin 1 → IVec S16 32) a x).toNat < S1008.size a := fun i v44 v126 k1_hw20 k1_h1 k1_h7 => k1_hw20 k1_h1 k1_h7
def k1_off33 (i : grid1.Coords) (k1_t29 : Fin k1_t29_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_136 : BitVec 32 := 0#32
  let c1_i32_138 : BitVec 32 := 1#32
  let arg24 : BitVec 32 := Scf.iv c0_i32_136 c1_i32_138 k1_t29
  let c0_i32_162 : BitVec 32 := 0#32
  ![v1.toNat, arg24.toNat, 0]
@[reducible] def k1_t30_loop : Scf.Loop 32 :=
  let c0_i32_168 : BitVec 32 := 0#32
  let c16_i32 : BitVec 32 := 16#32
  let v148 : BitVec 32 := Scalar.addi c0_i32_168 c16_i32
  let c1_i32_169 : BitVec 32 := 1#32
  ⟨c0_i32_168, v148, c1_i32_169⟩
def k1_off34 (v133 : BitVec 32) (k1_t30 : Fin k1_t30_loop.trips) : Fin 2 → Nat :=
  let c768_i32_166 : BitVec 32 := 768#32
  let v147 : BitVec 32 := Scalar.subi v133 c768_i32_166
  let v151 : Index := Scalar.indexCast v147
  let c0_i32_168 : BitVec 32 := 0#32
  let c1_i32_169 : BitVec 32 := 1#32
  let arg26 : BitVec 32 := Scf.iv c0_i32_168 c1_i32_169 k1_t30
  let c16_i32_171 : BitVec 32 := 16#32
  let v150 : BitVec 32 := Scalar.muli arg26 c16_i32_171
  let v152 : Index := Scalar.indexCast v150
  ![v151.toNat, v152.toNat]
def k1_cond11 (v133 : BitVec 32) : BitVec 1 :=
  let c768_i32_159 : BitVec 32 := 768#32
  let v134 : BitVec 1 := Scalar.cmpi .sge v133 c768_i32_159
  let c1024_i32 : BitVec 32 := 1024#32
  let v135 : BitVec 1 := Scalar.cmpi .slt v133 c1024_i32
  let v136 : BitVec 1 := Scalar.andi v134 v135
  let v137 : BitVec 32 := Scalar.extui v136
  let c0_i32_160 : BitVec 32 := 0#32
  let v138 : BitVec 1 := Scalar.cmpi .ne v137 c0_i32_160
  v138

def k1_chk21 (i : grid1.Coords) (v44 : BitVec 32) (v133 : BitVec 32) : Prop :=
  (∀ k1_t30 : Fin k1_t30_loop.trips, ∀ (k1_h1 : k1_cond1 i = 1#1), ∀ (k1_h7 : k1_cond7 v44 = 1#1), ∀ (k1_h11 : k1_cond11 v133 = 1#1), ∀ a, (k1_off34 v133 k1_t30) a + S1x16.size a ≤ S256x256.size a)
theorem k1_off34_inb : ∀ (i : grid1.Coords) (v44 : BitVec 32) (v133 : BitVec 32) (k1_hw21 : k1_chk21 i v44 v133) (k1_t30 : Fin k1_t30_loop.trips), ∀ (k1_h1 : k1_cond1 i = 1#1), ∀ (k1_h7 : k1_cond7 v44 = 1#1), ∀ (k1_h11 : k1_cond11 v133 = 1#1), ∀ a, (k1_off34 v133 k1_t30) a + S1x16.size a ≤ S256x256.size a := fun i v44 v133 k1_hw21 k1_t30 k1_h1 k1_h7 k1_h11 => k1_hw21 k1_t30 k1_h1 k1_h7 k1_h11

def k1_off35 (k1_t30 : Fin k1_t30_loop.trips) : Fin 1 → Nat :=
  let c0_i32_168 : BitVec 32 := 0#32
  let c1_i32_169 : BitVec 32 := 1#32
  let arg26 : BitVec 32 := Scf.iv c0_i32_168 c1_i32_169 k1_t30
  let c16_i32_171 : BitVec 32 := 16#32
  let v150 : BitVec 32 := Scalar.muli arg26 c16_i32_171
  let v154 : Index := Scalar.indexCast v150
  ![v154.toNat]
@[reducible] def k1_t31_loop : Scf.Loop 32 :=
  let c0_i32_141 : BitVec 32 := 0#32
  let c232_i32 : BitVec 32 := 232#32
  let v112 : BitVec 32 := Scalar.addi c0_i32_141 c232_i32
  let c1_i32_142 : BitVec 32 := 1#32
  ⟨c0_i32_141, v112, c1_i32_142⟩

def k1_chk22 (i : grid1.Coords) (v44 : BitVec 32) (v127 : IVec S16 32) : Prop :=
  (∀ (k1_h1 : k1_cond1 i = 1#1), ∀ (k1_h7 : k1_cond7 v44 = 1#1), ∀ a x, ((![v127] : Fin 1 → IVec S16 32) a x).toNat < S1008.size a)
theorem k1_idx17_inb : ∀ (i : grid1.Coords) (v44 : BitVec 32) (v127 : IVec S16 32) (k1_hw22 : k1_chk22 i v44 v127), ∀ (k1_h1 : k1_cond1 i = 1#1), ∀ (k1_h7 : k1_cond7 v44 = 1#1), ∀ a x, ((![v127] : Fin 1 → IVec S16 32) a x).toNat < S1008.size a := fun i v44 v127 k1_hw22 k1_h1 k1_h7 => k1_hw22 k1_h1 k1_h7
@[reducible] def k1_t32_loop : Scf.Loop 32 :=
  let c0_i32_162 : BitVec 32 := 0#32
  let c16_i32 : BitVec 32 := 16#32
  let v132 : BitVec 32 := Scalar.addi c0_i32_162 c16_i32
  let c1_i32_163 : BitVec 32 := 1#32
  ⟨c0_i32_162, v132, c1_i32_163⟩
def k1_off36 (k1_t31 : Fin k1_t31_loop.trips) (k1_t32 : Fin k1_t32_loop.trips) : Fin 2 → Nat :=
  let c0_i32_141 : BitVec 32 := 0#32
  let c1_i32_142 : BitVec 32 := 1#32
  let arg24 : BitVec 32 := Scf.iv c0_i32_141 c1_i32_142 k1_t31
  let v135 : Index := Scalar.indexCast arg24
  let c0_i32_162 : BitVec 32 := 0#32
  let c1_i32_163 : BitVec 32 := 1#32
  let arg26 : BitVec 32 := Scf.iv c0_i32_162 c1_i32_163 k1_t32
  let c16_i32_166 : BitVec 32 := 16#32
  let v134 : BitVec 32 := Scalar.muli arg26 c16_i32_166
  let v136 : Index := Scalar.indexCast v134
  ![v135.toNat, v136.toNat]
def k1_off37 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c768_i32 : BitVec 32 := 768#32
  let c0_i32_146 : BitVec 32 := 0#32
  ![v1.toNat, 768, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1000x256 : Shape := ⟨3, ![4, 1000, 256]⟩
abbrev S_ : Shape := ⟨0, ![]⟩
abbrev S4x1000 : Shape := ⟨2, ![4, 1000]⟩
abbrev S4x1000x1 : Shape := ⟨3, ![4, 1000, 1]⟩
abbrev S4x1000x1000 : Shape := ⟨3, ![4, 1000, 1000]⟩
abbrev S4 : Shape := ⟨1, ![4]⟩
abbrev S4x1x1 : Shape := ⟨3, ![4, 1, 1]⟩
abbrev S4x1 : Shape := ⟨2, ![4, 1]⟩
abbrev S4x1x1000 : Shape := ⟨3, ![4, 1, 1000]⟩

abbrev nBuf : Space → Nat
  | .hbm => 92
  | .vmem => 0
  | .smem => 0
  | _ => 0

abbrev bufTy : (tb : Table) → Fin (tcTables nBuf tb) → BufTy
  | .hbm, ⟨0, _⟩ => ⟨S4x1000x256, .f32⟩
  | .hbm, ⟨1, _⟩ => ⟨S4x1000x256, .f32⟩
  | .hbm, ⟨2, _⟩ => ⟨S_, .f32⟩
  | .hbm, ⟨3, _⟩ => ⟨S4x1000, .f32⟩
  | .hbm, ⟨4, _⟩ => ⟨S4x1000x1, .f32⟩
  | .hbm, ⟨5, _⟩ => ⟨S4x1000x1, .f32⟩
  | .hbm, ⟨6, _⟩ => ⟨S_, .f32⟩
  | .hbm, ⟨7, _⟩ => ⟨S4x1000x1, .f32⟩
  | .hbm, ⟨8, _⟩ => ⟨S4x1000x1, .f32⟩
  | .hbm, ⟨9, _⟩ => ⟨S4x1000x256, .f32⟩
  | .hbm, ⟨10, _⟩ => ⟨S4x1000x256, .f32⟩
  | .hbm, ⟨11, _⟩ => ⟨S4x1000x1000, .f32⟩
  | .hbm, ⟨12, _⟩ => ⟨S4x1000x1000, .i32⟩
  | .hbm, ⟨13, _⟩ => ⟨S4x1000x1000, .i32⟩
  | .hbm, ⟨14, _⟩ => ⟨S4x1000x1000, .i1⟩
  | .hbm, ⟨15, _⟩ => ⟨S_, .f32⟩
  | .hbm, ⟨16, _⟩ => ⟨S4x1000x1000, .f32⟩
  | .hbm, ⟨17, _⟩ => ⟨S4x1000x1000, .f32⟩
  | .hbm, ⟨18, _⟩ => ⟨S4x1000x1000, .f32⟩
  | .hbm, ⟨19, _⟩ => ⟨S_, .i32⟩
  | .hbm, ⟨20, _⟩ => ⟨S4x1000x1000, .i32⟩
  | .hbm, ⟨21, _⟩ => ⟨S4x1000x1000, .i32⟩
  | .hbm, ⟨22, _⟩ => ⟨S4x1000x1000, .i32⟩
  | .hbm, ⟨23, _⟩ => ⟨S4x1000, .i32⟩
  | .hbm, ⟨24, _⟩ => ⟨S_, .i32⟩
  | .hbm, ⟨25, _⟩ => ⟨S_, .i32⟩
  | .hbm, ⟨26, _⟩ => ⟨S4x1000x1000, .i32⟩
  | .hbm, ⟨27, _⟩ => ⟨S4x1000, .i32⟩
  | .hbm, ⟨28, _⟩ => ⟨S_, .i32⟩
  | .hbm, ⟨29, _⟩ => ⟨S_, .i32⟩
  | .hbm, ⟨30, _⟩ => ⟨S4x1000x1000, .f32⟩
  | .hbm, ⟨31, _⟩ => ⟨S4x1000, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S4, .f32⟩
  | .hbm, ⟨38, _⟩ => ⟨S4x1x1, .f32⟩
  | .hbm, ⟨39, _⟩ => ⟨S4x1000x1000, .f32⟩
  | .hbm, ⟨40, _⟩ => ⟨S4x1000x1000, .i1⟩
  | .hbm, ⟨41, _⟩ => ⟨S_, .i32⟩
  | .hbm, ⟨42, _⟩ => ⟨S_, .i32⟩
  | .hbm, ⟨43, _⟩ => ⟨S4x1000x1000, .i32⟩
  | .hbm, ⟨44, _⟩ => ⟨S4x1000x1000, .i32⟩
  | .hbm, ⟨45, _⟩ => ⟨S_, .i32⟩
  | .hbm, ⟨46, _⟩ => ⟨S4, .i32⟩
  | .hbm, ⟨47, _⟩ => ⟨S_, .i32⟩
  | .hbm, ⟨48, _⟩ => ⟨S4, .i32⟩
  | .hbm, ⟨49, _⟩ => ⟨S4, .i32⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S4, .i32⟩
  | .hbm, ⟨54, _⟩ => ⟨S4, .i32⟩
  | .hbm, ⟨55, _⟩ => ⟨S_, .f32⟩
  | .hbm, ⟨56, _⟩ => ⟨S4, .f32⟩
  | .hbm, ⟨57, _⟩ => ⟨S4, .i1⟩
  | .hbm, ⟨58, _⟩ => ⟨S4x1, .i1⟩
  | .hbm, ⟨59, _⟩ => ⟨S4x1, .i32⟩
  | .hbm, ⟨60, _⟩ => ⟨S4x1000, .i32⟩
  | .hbm, ⟨61, _⟩ => ⟨S4x1000, .i1⟩
  | .hbm, ⟨62, _⟩ => ⟨S4x1000, .i1⟩
  | .hbm, ⟨63, _⟩ => ⟨S4x1000, .i1⟩
  | .hbm, ⟨64, _⟩ => ⟨S4x1, .i32⟩
  | .hbm, ⟨65, _⟩ => ⟨S4x1000, .i32⟩
  | .hbm, ⟨66, _⟩ => ⟨S4x1000, .i32⟩
  | .hbm, ⟨67, _⟩ => ⟨S4x1000x1, .i1⟩
  | .hbm, ⟨68, _⟩ => ⟨S4x1x1000, .i1⟩
  | .hbm, ⟨69, _⟩ => ⟨S4x1000x1000, .i1⟩
  | .hbm, ⟨70, _⟩ => ⟨S4x1000x1000, .i1⟩
  | .hbm, ⟨71, _⟩ => ⟨S4x1000x1000, .i1⟩
  | .hbm, ⟨72, _⟩ => ⟨S_, .f32⟩
  | .hbm, ⟨73, _⟩ => ⟨S_, .f32⟩
  | .hbm, ⟨74, _⟩ => ⟨S4x1000x1000, .f32⟩
  | .hbm, ⟨75, _⟩ => ⟨S4x1000x1000, .f32⟩
  | .hbm, ⟨76, _⟩ => ⟨S_, .i32⟩
  | .hbm, ⟨77, _⟩ => ⟨S_, .i32⟩
  | .hbm, ⟨78, _⟩ => ⟨S4x1000x1000, .i32⟩
  | .hbm, ⟨79, _⟩ => ⟨S4x1000x1, .i32⟩
  | .hbm, ⟨80, _⟩ => ⟨S4x1000x1000, .i32⟩
  | .hbm, ⟨81, _⟩ => ⟨S4x1000x1000, .i1⟩
  | .hbm, ⟨82, _⟩ => ⟨S4x1000x1000, .f32⟩
  | .hbm, ⟨83, _⟩ => ⟨S4x1000x256, .f32⟩
  | .hbm, ⟨84, _⟩ => ⟨S_, .f32⟩
  | .hbm, ⟨85, _⟩ => ⟨S4x1000, .f32⟩
  | .hbm, ⟨86, _⟩ => ⟨S_, .f32⟩
  | .hbm, ⟨87, _⟩ => ⟨S4x1000, .f32⟩
  | .hbm, ⟨88, _⟩ => ⟨S4x1000, .f32⟩
  | .hbm, ⟨89, _⟩ => ⟨S4x1000x1, .f32⟩
  | .hbm, ⟨90, _⟩ => ⟨S4x1000x256, .f32⟩
  | .hbm, ⟨91, _⟩ => ⟨S4x1000x256, .f32⟩
  | _, _ => ⟨S4x1000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_2 : Ref sig .tc := ⟨.hbm, 24, rfl⟩
abbrev main_c_3 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev main_v19_4 : Ref sig .tc := ⟨.hbm, 30, rfl⟩
abbrev main_v19_5 : Ref sig .tc := ⟨.hbm, 31, rfl⟩
abbrev main_while0c_c_11 : Ref sig .tc := ⟨.hbm, 32, rfl⟩
abbrev main_while0c_v32 : Ref sig .tc := ⟨.hbm, 33, rfl⟩
abbrev main_while0b_c_11 : Ref sig .tc := ⟨.hbm, 34, rfl⟩
abbrev main_while0b_v32 : Ref sig .tc := ⟨.hbm, 35, rfl⟩
abbrev main_while0b_cst_12 : Ref sig .tc := ⟨.hbm, 36, rfl⟩
abbrev main_while0b_v33 : Ref sig .tc := ⟨.hbm, 37, rfl⟩
abbrev main_while0b_v34 : Ref sig .tc := ⟨.hbm, 38, rfl⟩
abbrev main_while0b_v35 : Ref sig .tc := ⟨.hbm, 39, rfl⟩
abbrev main_while0b_v36 : Ref sig .tc := ⟨.hbm, 40, rfl⟩
abbrev main_while0b_c_13 : Ref sig .tc := ⟨.hbm, 41, rfl⟩
abbrev main_while0b_call1_v0 : Ref sig .tc := ⟨.hbm, 42, rfl⟩
abbrev main_while0b_call1_v1 : Ref sig .tc := ⟨.hbm, 43, rfl⟩
abbrev main_while0b_v37 : Ref sig .tc := ⟨.hbm, 44, rfl⟩
abbrev main_while0b_c_14 : Ref sig .tc := ⟨.hbm, 45, rfl⟩
abbrev main_while0b_v38 : Ref sig .tc := ⟨.hbm, 46, rfl⟩
abbrev main_while0b_c_15 : Ref sig .tc := ⟨.hbm, 47, rfl⟩
abbrev main_while0b_v39 : Ref sig .tc := ⟨.hbm, 48, rfl⟩
abbrev main_while0b_v40 : Ref sig .tc := ⟨.hbm, 49, rfl⟩
abbrev main_while0b_c_16 : Ref sig .tc := ⟨.hbm, 50, rfl⟩
abbrev main_while0b_v41 : Ref sig .tc := ⟨.hbm, 51, rfl⟩
abbrev main_while0b_v42 : Ref sig .tc := ⟨.hbm, 52, rfl⟩
abbrev main_while0b_v43 : Ref sig .tc := ⟨.hbm, 53, rfl⟩
abbrev main_while0b_v44 : Ref sig .tc := ⟨.hbm, 54, rfl⟩
abbrev main_while0b_cst_17 : Ref sig .tc := ⟨.hbm, 55, rfl⟩
abbrev main_while0b_v45 : Ref sig .tc := ⟨.hbm, 56, rfl⟩
abbrev main_while0b_v46 : Ref sig .tc := ⟨.hbm, 57, rfl⟩
abbrev main_while0b_v47 : Ref sig .tc := ⟨.hbm, 58, rfl⟩
abbrev main_while0b_v48 : Ref sig .tc := ⟨.hbm, 59, rfl⟩
abbrev main_while0b_v49 : Ref sig .tc := ⟨.hbm, 60, rfl⟩
abbrev main_while0b_v50 : Ref sig .tc := ⟨.hbm, 61, rfl⟩
abbrev main_while0b_v51 : Ref sig .tc := ⟨.hbm, 62, rfl⟩
abbrev main_while0b_v52 : Ref sig .tc := ⟨.hbm, 63, rfl⟩
abbrev main_while0b_v53 : Ref sig .tc := ⟨.hbm, 64, rfl⟩
abbrev main_while0b_call2_v0 : Ref sig .tc := ⟨.hbm, 65, rfl⟩
abbrev main_while0b_v54 : Ref sig .tc := ⟨.hbm, 66, rfl⟩
abbrev main_while0b_v55 : Ref sig .tc := ⟨.hbm, 67, rfl⟩
abbrev main_while0b_v56 : Ref sig .tc := ⟨.hbm, 68, rfl⟩
abbrev main_while0b_v57 : Ref sig .tc := ⟨.hbm, 69, rfl⟩
abbrev main_while0b_v58 : Ref sig .tc := ⟨.hbm, 70, rfl⟩
abbrev main_while0b_v59 : Ref sig .tc := ⟨.hbm, 71, rfl⟩
abbrev main_while0b_cst_18 : Ref sig .tc := ⟨.hbm, 72, rfl⟩
abbrev main_while0b_call3_v0 : Ref sig .tc := ⟨.hbm, 73, rfl⟩
abbrev main_while0b_call3_v1 : Ref sig .tc := ⟨.hbm, 74, rfl⟩
abbrev main_while0b_v60 : Ref sig .tc := ⟨.hbm, 75, rfl⟩
abbrev main_while0b_c_19 : Ref sig .tc := ⟨.hbm, 76, rfl⟩
abbrev main_while0b_v61 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_cst_4 : Ref sig .tc := ⟨.hbm, 84, rfl⟩
abbrev main_v26 : Ref sig .tc := ⟨.hbm, 85, rfl⟩
abbrev main_cst_5 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩

abbrev nD : Nat := 1
abbrev τ : Topo := Topo.v7x

variable {F : FTy → Type} [FloatOps F]

abbrev main_while0_count : Scf.Loop 32 := ⟨0#32, 1000#32, 1#32⟩
-- ==== Proof.Rules.lean ====
/-
  Rules for one memory operation at the head of a program, over memrefs owned at named contents (`owns`): a vector load,
  a store, a gather and a scatter in tile memory, a scalar load and store, a transfer and its wait, and the stated
  bounds of an index.
-/
module

public import Idealize.ShloMosaic.Lib.SparseCore.Ops
public import Idealize.ShloMosaic.Lib.Transfers
public import Idealize.ShloMosaic.Lib.Memref
public import Idealize.ShloMosaic.Lib.Scf
public import Idealize.ShloMosaic.Lib.Tactic

@[expose] public section

noncomputable section

namespace Cert.Proof.Rules

open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {sp : Space} {s t : Shape} {e : EltTy} {α : Type} {Q : α → sProp (MT nD τ sig Ix (Elt F) Name U Lvl)}

local notation "𝕄" => MT nD τ sig Ix (Elt F) Name U Lvl

/-- Ownership opened: some contents of the buffer that the memref reads as `X`. -/
theorem owns_open (m : Memref sig c.2.kind sp s e) (q : PosShare TreeShare) (X : s.Idx → Elt F e) :
    (owns c m q X : sProp 𝕄) ⊢ iprop(∃ f, ⌜m.view.read (Elt F) f = X⌝ ∗ (m.view.loc c ↦[m.view.set]{q} f)) := .rfl

/-- Ownership made from contents that read as `X`. -/
theorem owns_close (m : Memref sig c.2.kind sp s e) (q : PosShare TreeShare) {X : s.Idx → Elt F e} {f : m.view.ty.Contents (Elt F)}
    (h : m.view.read (Elt F) f = X) : (m.view.loc c ↦[m.view.set]{q} f : sProp 𝕄) ⊢ owns c m q X := by
  subst h; exact owns_intro c m q f

/-- Contents renamed along an equation. -/
theorem owns_congr (m : Memref sig c.2.kind sp s e) (q : PosShare TreeShare) {X Y : s.Idx → Elt F e} (h : X = Y) :
    (owns c m q X : sProp 𝕄) ⊢ owns c m q Y := by subst h; exact .rfl

/-- A program that has come to its result. -/
theorem wp_doneO (a : α) : (Q a : sProp 𝕄) ⊢ wp frame (wpE defs 𝒱 c bd) Set.univ (Prog.ret a) Q := by
  rw [wp_ret]; exact BI.fupd_intro

/-- A program and what follows it. -/
theorem wp_bindO {β : Type} {p : Prog (TpuEff nD τ sig (Elt F) Λ c.2) β} {k : β → Prog (TpuEff nD τ sig (Elt F) Λ c.2) α} :
    (wp frame (wpE defs 𝒱 c bd) Set.univ p fun x => wp frame (wpE defs 𝒱 c bd) Set.univ (k x) Q)
      ⊢ wp frame (wpE defs 𝒱 c bd) Set.univ (p >>= k) Q := by
  rw [wp_bind]

/-- A branch whose condition holds. -/
theorem wp_posO {P : Prop} {hd : Decidable P} (h : P) {p : P → Prog (TpuEff nD τ sig (Elt F) Λ c.2) α} {p' : ¬ P → Prog (TpuEff nD τ sig (Elt F) Λ c.2) α} :
    (wp frame (wpE defs 𝒱 c bd) Set.univ (p h) Q : sProp 𝕄) ⊢ wp frame (wpE defs 𝒱 c bd) Set.univ (dite P p p') Q := by
  rw [dif_pos h]

/-- A branch whose condition fails. -/
theorem wp_negO {P : Prop} {hd : Decidable P} (h : ¬ P) {p : P → Prog (TpuEff nD τ sig (Elt F) Λ c.2) α} {p' : ¬ P → Prog (TpuEff nD τ sig (Elt F) Λ c.2) α} :
    (wp frame (wpE defs 𝒱 c bd) Set.univ (p' h) Q : sProp 𝕄) ⊢ wp frame (wpE defs 𝒱 c bd) Set.univ (dite P p p') Q := by
  rw [dif_neg h]

/-- A load through a rectangle of unit strides. -/
theorem wp_loadO {cs : CoreSpace} {m : Memref sig c.2.kind cs s e} {r : Rect s} {hl : m.view.LoadsAt r}
    {k : (r.shape.Idx → Elt F e) → Prog (TpuEff nD τ sig (Elt F) Λ c.2) α} {q : PosShare TreeShare} {X : s.Idx → Elt F e} :
    (owns c m q X : sProp 𝕄)
      ⊢ iprop((owns c m q X -∗ wp frame (wpE defs 𝒱 c bd) Set.univ (k fun j => X (r.emb j)) Q)
        -∗ wp frame (wpE defs 𝒱 c bd) Set.univ (.op (.load m r hl) k) Q) := by
  iintro H Hk
  ihave H' := (owns_open c m q X) $$ H
  icases H' with ⟨%f, %hf, H⟩
  iapply (wp_load_rect (defs := defs) 𝒱 c bd Set.univ (Q := Q) (m := m) (r := r) (hl := hl) (k := k) (q := q) (f := f) (S := m.view.set)
    (m.view.set_slice_subset r)) $$ H
  iintro H
  have e1 : (m.access r).read (Elt F) f = fun j => X (r.emb j) := by subst hf; rfl
  rw [e1]
  iapply Hk
  iapply (owns_close c m q hf) $$ H

/-- A store of a whole rectangle. -/
theorem wp_storeO {cs : CoreSpace} {m : Memref sig c.2.kind cs s e} {r : Rect s} {w : r.shape.Idx → Elt F e}
    {hx : (m.access r).Stores Finset.univ} {hm : Finset.univ = Finset.univ ∨ ∀ a, r.stride a = 1}
    {k : PUnit → Prog (TpuEff nD τ sig (Elt F) Λ c.2) α} {X : s.Idx → Elt F e} :
    (owns c m fullShare X : sProp 𝕄)
      ⊢ iprop((owns c m fullShare (r.overlay X w) -∗ wp frame (wpE defs 𝒱 c bd) Set.univ (k ⟨⟩) Q)
        -∗ wp frame (wpE defs 𝒱 c bd) Set.univ (.op (.store m r w Finset.univ hx hm) k) Q) := by
  iintro H Hk
  ihave H' := (owns_open c m fullShare X) $$ H
  icases H' with ⟨%f, %hf, H⟩
  iapply (wp_store (defs := defs) 𝒱 c bd Set.univ (Q := Q) (m := m) (r := r) (w := w) (Mk := Finset.univ) (hx := hx) (hm := hm) (k := k) (f := f)
    (S := m.view.set) (m.view.set_slice_subset r)) $$ H
  iintro H
  iapply Hk
  iapply (owns_close c m fullShare (X := r.overlay X w) ?_) $$ H
  subst hf
  funext j
  by_cases hj : j ∈ r.set
  · obtain ⟨i, rfl⟩ := r.exists_idx_of_mem hj
    refine Eq.trans ?_ (Rect.overlay_emb r _ w i).symm
    exact View.read_slice_write_emb (v := m.view) r f w (Finset.mem_univ i)
  · rw [Rect.overlay_of_not_mem _ _ _ hj]
    exact View.read_slice_write_of_not_mem (v := m.view) r f w Finset.univ (by rwa [r.map_emb_univ])

/-- A scalar load. -/
theorem wp_smemO {m : Memref sig c.2.kind .smem s e} {r : Rect s} {h1 : r.shape.numel = 1} {hp : e.packing = 1}
    {k : Elt F e → Prog (TpuEff nD τ sig (Elt F) Λ c.2) α} {q : PosShare TreeShare} {X : s.Idx → Elt F e} :
    (owns c m q X : sProp 𝕄)
      ⊢ iprop((owns c m q X -∗ wp frame (wpE defs 𝒱 c bd) Set.univ (k (X (r.emb (Shape.Idx.first (h1.symm ▸ Nat.one_pos))))) Q)
        -∗ wp frame (wpE defs 𝒱 c bd) Set.univ (smemLoad m r h1 hp >>= k) Q) :=
  wp_loadO (defs := defs) 𝒱 c bd (Q := Q) (m := m) (r := r) (hl := View.loadsAt_rect (View.loads_smem_one hp h1))
    (k := fun f => k (f (Shape.Idx.first (h1.symm ▸ Nat.one_pos)))) (q := q) (X := X)

/-- A gather out of tile memory. -/
theorem wp_gatherO {base : Memref sig c.2.kind .vmem s e} {idxs : Fin s.rank → IVec t 32}
    {h : ∀ a x, (idxs a x).toNat < s.size a} {hl : base.view.Loads} {k : Vec F t e → Prog (TpuEff nD τ sig (Elt F) Λ c.2) α}
    {q : PosShare TreeShare} {X : s.Idx → Elt F e} :
    (owns c base q X : sProp 𝕄)
      ⊢ iprop((owns c base q X -∗ wp frame (wpE defs 𝒱 c bd) Set.univ (k (loadIdx X idxs h)) Q)
        -∗ wp frame (wpE defs 𝒱 c bd) Set.univ (vectorLoadIdx base idxs h hl >>= k) Q) := by
  rw [vectorLoadIdx_bind]
  have e0 : (fun j : (Rect.whole s).shape.Idx => X ((Rect.whole s).emb j)) = X := by
    funext j; exact congrArg X (funext fun a => Fin.ext (by simp [Rect.whole]))
  have := wp_loadO (defs := defs) 𝒱 c bd (Q := Q) (m := base) (r := Rect.whole s) (hl := View.loadsAt_whole hl)
    (k := fun f => k (loadIdx f idxs h)) (q := q) (X := X)
  rw [e0] at this
  exact this

/-- A scatter into tile memory. -/
theorem wp_scatterO {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {X : s.Idx → Elt F e} :
    (owns c base fullShare X : sProp 𝕄)
      ⊢ iprop((owns c base fullShare (storeIdx X idxs v mask add h) -∗ wp frame (wpE defs 𝒱 c bd) Set.univ (k ⟨⟩) Q)
        -∗ wp frame (wpE defs 𝒱 c bd) Set.univ (vectorStoreIdx base idxs v mask add h hs >>= k) Q) := by
  iintro H Hk
  rw [vectorStoreIdx_bind]
  have e0 : (fun j : (Rect.whole s).shape.Idx => X ((Rect.whole s).emb j)) = X := by
    funext j; exact congrArg X (funext fun a => Fin.ext (by simp [Rect.whole]))
  have e1 : (Rect.whole s).overlay X (storeIdx X idxs v mask add h) = storeIdx X idxs v mask add h := by
    funext j
    have hj : (Rect.whole s).emb j = j := funext fun a => Fin.ext (by simp [Rect.whole])
    have := Rect.overlay_emb (Rect.whole s) X (storeIdx X idxs v mask add h) j
    rw [hj] at this; exact this
  have h1 := wp_loadO (defs := defs) 𝒱 c bd (Q := Q) (m := base) (r := Rect.whole s) (hl := View.loadsAt_rect hs.loads)
    (k := fun f' => .op (.store base (.whole s) (storeIdx f' idxs v mask add h) Finset.univ hs (.inl rfl)) k) (q := fullShare) (X := X)
  rw [e0] at h1
  iapply h1 $$ H
  iintro H
  have h2 := wp_storeO (defs := defs) 𝒱 c bd (Q := Q) (m := base) (r := Rect.whole s) (w := storeIdx X idxs v mask add h)
    (hx := hs) (hm := .inl rfl) (k := k) (X := X)
  rw [e1] at h2
  iapply h2 $$ H
  iexact Hk

/-- What a task holds to wait on its own transfers: it may wait below all that it owes, and what it owes, the waits
    recorded so far being those of its entry and its own. -/
def Env (O : CellTallies nD τ sig Ix) (W : Waits sig Ix) (ι : Ix) : sProp 𝕄 :=
  iprop(MayWaits c ι O ∗ ∃ W', ⌜∀ p ∈ W', p ∈ W ∨ p.2 = ι⌝ ∗ owes c O W')

theorem Env_open (O : CellTallies nD τ sig Ix) (W : Waits sig Ix) (ι : Ix) :
    (Env c O W ι : sProp 𝕄) ⊢ iprop(MayWaits c ι O ∗ ∃ W', ⌜∀ p ∈ W', p ∈ W ∨ p.2 = ι⌝ ∗ owes c O W') := .rfl

/-- A transfer issued and then waited for, on a cell at zero: the destination reads what the source does. -/
theorem wp_copyO (EC : UEmb Counters 𝕄) [Infinite Name] [EC.LandsIn (upEmb : UEmb _ 𝕄)] {sp₁ sp₂ : Space}
    {src : Memref sig c.2.kind sp₁ s e} {dst : Memref sig c.2.kind sp₂ s e} {sem : DmaSem sig}
    {hsrc hsrc' : src.view.WordExact} {hdst hdst' : dst.view.WordExact} {hsem : DmaTarget.Typed (nD := nD) sp₁ (SemLoc.dma sem) (.here dst)}
    {k : PUnit → Prog (TpuEff nD τ sig (Elt F) Λ c.2) α} {q : PosShare TreeShare} {X Y : s.Idx → Elt F e} (hs : 0 < s.numel)
    {O : CellTallies nD τ sig Ix} {W : Waits sig Ix} (ι : Ix) :
    iprop(owns c src q X ∗ owns c dst fullShare Y ∗ semVal (c, .dma sem) 0 ∗ Env c O W ι)
      ⊢ iprop((iprop(owns c src q X ∗ owns c dst fullShare X ∗ semVal (c, .dma sem) 0 ∗ Env c O W ι)
            -∗ wp frame (wpE defs 𝒱 c bd) Set.univ (k ⟨⟩) Q)
        -∗ wp frame (wpE defs 𝒱 c bd) Set.univ
          (.op (.enqueueDma src (.here dst) (.dma sem) hsrc hdst hsem) fun _ => .op (.waitDma2 sem src dst hsrc' hdst') k) Q) := by
  iintro ⟨Hs, Hd, Hv, HE⟩ Hk
  ihave Hs' := (owns_open c src q X) $$ Hs
  icases Hs' with ⟨%fs, %hfs, Hs⟩
  ihave Hd' := (owns_open c dst fullShare Y) $$ Hd
  icases Hd' with ⟨%fd, %hfd, Hd⟩
  ihave HE' := (Env_open c O W ι) $$ HE
  icases HE' with ⟨#Hmw, %W', %hW', HO⟩
  iapply (wp_dmaLocal EC 𝒱 c bd (defs := defs) (src := src) (dst := dst) (via := .same) (sm := .dma sem) (q := q) (fs := fs) (Sd := dst.view.set) (fd := fd) (hsem := hsem) ι
    (dst.view.amount (.dma sem)) rfl (View.amount_pos _ _ hs) (fun _ h => h)) $$ [Hs Hd Hv]
  · isplitl [Hs]; · iexact Hs
    isplitl [Hd]; · iexact Hd
    iexact Hv
  iintro HF
  iapply (wp_waitLocalO EC 𝒱 c bd (defs := defs) (srcw := src) (dstw := dst) ι (N := dst.view.amount (.dma sem)) rfl) $$ [HF HO]
  · isplitl [HF]; · iexact HF
    isplitl [HO]; · iexact HO
    iapply (MayWaits.elim (.dma sem)); iexact Hmw
  iintro ⟨⟨Hd, Hs⟩, Hv, HO⟩
  iapply Hk
  isplitl [Hs]; · iapply (owns_close c src q hfs) $$ Hs
  isplitl [Hd]
  · iapply (owns_close c dst fullShare ?_) $$ Hd
    rw [View.read_write_univ]; exact hfs
  isplitl [Hv]; · iexact Hv
  unfold Env
  isplitr; · iexact Hmw
  iexists (insert (SemLoc.dma sem, ι) W')
  isplitr
  · ipureintro; intro p hp
    rcases Finset.mem_insert.mp hp with hp | hp
    · exact .inr (hp ▸ rfl)
    · exact hW' p hp
  · iexact HO

/-- A transfer under way: at its wait the destination reads what the source did when it was issued. -/
def Sent (EC : UEmb Counters 𝕄) {sp₁ sp₂ : Space} (src : Memref sig c.2.kind sp₁ s e) (dst : Memref sig c.2.kind sp₂ s e) (sem : DmaSem sig)
    (ι : Ix) (q : PosShare TreeShare) (X : s.Idx → Elt F e) : sProp 𝕄 :=
  iprop(∃ (fs : Buf (Elt F) (src.view.loc c)) (fd : Buf (Elt F) (dst.view.loc c)), ⌜src.view.read (Elt F) fs = X⌝
    ∗ Flight EC c (.dma sem) ι (dst.view.amount (.dma sem)) iprop((dst.view.loc c ↦[dst.view.set]{fullShare} (dst.view.write (Elt F) fd (src.view.read (Elt F) fs) Finset.univ))
        ∗ (src.view.loc c ↦[src.view.set]{q} fs)))

/-- A transfer issued. -/
theorem wp_enqO (EC : UEmb Counters 𝕄) [Infinite Name] [EC.LandsIn (upEmb : UEmb _ 𝕄)] {sp₁ sp₂ : Space}
    {src : Memref sig c.2.kind sp₁ s e} {dst : Memref sig c.2.kind sp₂ s e} {sem : DmaSem sig}
    {hsrc : src.view.WordExact} {hdst : dst.view.WordExact} {hsem : DmaTarget.Typed (nD := nD) sp₁ (SemLoc.dma sem) (.here dst)}
    {k : PUnit → Prog (TpuEff nD τ sig (Elt F) Λ c.2) α} {q : PosShare TreeShare} {X Y : s.Idx → Elt F e} (hs : 0 < s.numel) (ι : Ix) :
    iprop(owns c src q X ∗ owns c dst fullShare Y ∗ semVal (c, .dma sem) 0)
      ⊢ iprop((Sent c EC src dst sem ι q X -∗ wp frame (wpE defs 𝒱 c bd) Set.univ (k ⟨⟩) Q)
        -∗ wp frame (wpE defs 𝒱 c bd) Set.univ (.op (.enqueueDma src (.here dst) (.dma sem) hsrc hdst hsem) k) Q) := by
  iintro ⟨Hs, Hd, Hv⟩ Hk
  ihave Hs' := (owns_open c src q X) $$ Hs
  icases Hs' with ⟨%fs, %hfs, Hs⟩
  ihave Hd' := (owns_open c dst fullShare Y) $$ Hd
  icases Hd' with ⟨%fd, %hfd, Hd⟩
  iapply (wp_dmaLocal EC 𝒱 c bd (defs := defs) (src := src) (dst := dst) (via := .same) (sm := .dma sem) (q := q) (fs := fs) (Sd := dst.view.set) (fd := fd) (hsem := hsem) ι
    (dst.view.amount (.dma sem)) rfl (View.amount_pos _ _ hs) (fun _ h => h)) $$ [Hs Hd Hv]
  · isplitl [Hs]; · iexact Hs
    isplitl [Hd]; · iexact Hd
    iexact Hv
  iintro HF
  iapply Hk
  unfold Sent
  iexists fs; iexists fd
  isplitr
  · ipureintro; exact hfs
  · iexact HF

/-- The wait for it. -/
theorem wp_waitO (EC : UEmb Counters 𝕄) [Infinite Name] [EC.LandsIn (upEmb : UEmb _ 𝕄)] {sp₁ sp₂ : Space}
    {src : Memref sig c.2.kind sp₁ s e} {dst : Memref sig c.2.kind sp₂ s e} {sem : DmaSem sig}
    {hsrc' : src.view.WordExact} {hdst' : dst.view.WordExact}
    {k : PUnit → Prog (TpuEff nD τ sig (Elt F) Λ c.2) α} {q : PosShare TreeShare} {X : s.Idx → Elt F e}
    {O : CellTallies nD τ sig Ix} {W : Waits sig Ix} (ι : Ix) :
    iprop(Sent c EC src dst sem ι q X ∗ Env c O W ι)
      ⊢ iprop((iprop(owns c src q X ∗ owns c dst fullShare X ∗ semVal (c, .dma sem) 0 ∗ Env c O W ι)
            -∗ wp frame (wpE defs 𝒱 c bd) Set.univ (k ⟨⟩) Q)
        -∗ wp frame (wpE defs 𝒱 c bd) Set.univ (.op (.waitDma2 sem src dst hsrc' hdst') k) Q) := by
  iintro ⟨HS, HE⟩ Hk
  ihave HS' := (show (Sent c EC src dst sem ι q X : sProp 𝕄) ⊢ iprop(∃ (fs : Buf (Elt F) (src.view.loc c)) (fd : Buf (Elt F) (dst.view.loc c)), ⌜src.view.read (Elt F) fs = X⌝
    ∗ Flight EC c (.dma sem) ι (dst.view.amount (.dma sem)) iprop((dst.view.loc c ↦[dst.view.set]{fullShare} (dst.view.write (Elt F) fd (src.view.read (Elt F) fs) Finset.univ))
        ∗ (src.view.loc c ↦[src.view.set]{q} fs))) from .rfl) $$ HS
  icases HS' with ⟨%fs, %fd, %hfs, HF⟩
  ihave HE' := (Env_open c O W ι) $$ HE
  icases HE' with ⟨#Hmw, %W', %hW', HO⟩
  iapply (wp_waitLocalO EC 𝒱 c bd (defs := defs) (srcw := src) (dstw := dst) ι (N := dst.view.amount (.dma sem)) rfl) $$ [HF HO]
  · isplitl [HF]; · iexact HF
    isplitl [HO]; · iexact HO
    iapply (MayWaits.elim (.dma sem)); iexact Hmw
  iintro ⟨⟨Hd, Hs⟩, Hv, HO⟩
  iapply Hk
  isplitl [Hs]; · iapply (owns_close c src q hfs) $$ Hs
  isplitl [Hd]
  · iapply (owns_close c dst fullShare ?_) $$ Hd
    rw [View.read_write_univ]; exact hfs
  isplitl [Hv]; · iexact Hv
  unfold Env
  isplitr; · iexact Hmw
  iexists (insert (SemLoc.dma sem, ι) W')
  isplitr
  · ipureintro; intro p hp
    rcases Finset.mem_insert.mp hp with hp | hp
    · exact .inr (hp ▸ rfl)
    · exact hW' p hp
  · iexact HO

end Cert.Proof.Rules

end
-- ==== Proof.Greedy.lean ====
/-
  Greedy merging, as mathematics. Among the alive indices `A` the pair of greatest similarity is sought, the first in
  row order where several are equal; while it exceeds the threshold the greater index of the pair is merged into the
  lesser. Beside it: a scan for the greatest value in sixteen interleaved lanes, and the per-row maxima that the kernel
  keeps in place of the whole matrix.
-/
module

public import Mathlib.Data.Finset.Basic
public import Mathlib.Data.Finset.Range
public import Mathlib.Order.Lattice
public import Mathlib.Order.Basic
public import Mathlib.Tactic.Linarith
public import Mathlib.Logic.Function.Basic

@[expose] public section

namespace Cert.Proof.Greedy

variable {V : Type} [LinearOrder V]

/-- `(r, c)` is the pair of alive indices of greatest similarity, the first in row order of those. -/
structure Best (S : ℕ → ℕ → V) (A : Finset ℕ) (r c : ℕ) : Prop where
  hr : r ∈ A
  hc : c ∈ A
  ub : ∀ i ∈ A, ∀ j ∈ A, S i j ≤ S r c
  first : ∀ i ∈ A, ∀ j ∈ A, S i j = S r c → r < i ∨ (r = i ∧ c ≤ j)

theorem Best.unique {S : ℕ → ℕ → V} {A : Finset ℕ} {r c r' c' : ℕ} (h : Best S A r c) (h' : Best S A r' c') : r = r' ∧ c = c' := by
  have e : S r c = S r' c' := le_antisymm (h'.ub r h.hr c h.hc) (h.ub r' h'.hr c' h'.hc)
  have h1 := h.first r' h'.hr c' h'.hc e.symm
  have h2 := h'.first r h.hr c h.hc e
  omega

/-- One round: the best pair, if it exceeds the threshold, is merged; else nothing changes. -/
inductive Step (S : ℕ → ℕ → V) (θ : V) : Finset ℕ → (ℕ → ℕ) → Finset ℕ → (ℕ → ℕ) → Prop
  | merge {A : Finset ℕ} {M : ℕ → ℕ} {r c : ℕ} (hb : Best S A r c) (hθ : θ < S r c) :
      Step S θ A M (A.erase (max r c)) (Function.update M (max r c) (min r c))
  | stay {A : Finset ℕ} {M : ℕ → ℕ} (h : ∀ i ∈ A, ∀ j ∈ A, S i j ≤ θ) : Step S θ A M A M

theorem Step.det {S : ℕ → ℕ → V} {θ : V} {A A₁ A₂ : Finset ℕ} {M M₁ M₂ : ℕ → ℕ} (h₁ : Step S θ A M A₁ M₁) (h₂ : Step S θ A M A₂ M₂) :
    A₁ = A₂ ∧ M₁ = M₂ := by
  cases h₁ with
  | merge hb hθ =>
    cases h₂ with
    | merge hb' hθ' => obtain ⟨rfl, rfl⟩ := hb.unique hb'; exact ⟨rfl, rfl⟩
    | stay h => exact absurd hθ (not_lt.mpr (h _ hb.hr _ hb.hc))
  | stay h =>
    cases h₂ with
    | merge hb' hθ' => exact absurd hθ' (not_lt.mpr (h _ hb'.hr _ hb'.hc))
    | stay h' => exact ⟨rfl, rfl⟩

/-- What `n` rounds reach from all `N` indices alive, each its own representative. -/
inductive Reach (S : ℕ → ℕ → V) (θ : V) (N : ℕ) : ℕ → Finset ℕ → (ℕ → ℕ) → Prop
  | zero : Reach S θ N 0 (Finset.range N) id
  | succ {n : ℕ} {A A' : Finset ℕ} {M M' : ℕ → ℕ} (h : Reach S θ N n A M) (hs : Step S θ A M A' M') : Reach S θ N (n + 1) A' M'

theorem Reach.det {S : ℕ → ℕ → V} {θ : V} {N n : ℕ} {A₁ A₂ : Finset ℕ} {M₁ M₂ : ℕ → ℕ} (h₁ : Reach S θ N n A₁ M₁) (h₂ : Reach S θ N n A₂ M₂) :
    A₁ = A₂ ∧ M₁ = M₂ := by
  induction n generalizing A₁ A₂ M₁ M₂ with
  | zero => cases h₁; cases h₂; exact ⟨rfl, rfl⟩
  | succ n ih =>
    cases h₁ with
    | succ h hs =>
      cases h₂ with
      | succ h' hs' => obtain ⟨rfl, rfl⟩ := ih h h'; exact hs.det hs'

theorem Reach.sub {S : ℕ → ℕ → V} {θ : V} {N n : ℕ} {A : Finset ℕ} {M : ℕ → ℕ} (h : Reach S θ N n A M) : A ⊆ Finset.range N := by
  induction h with
  | zero => exact subset_rfl
  | succ h hs ih =>
    cases hs with
    | merge hb hθ => exact (Finset.erase_subset _ _).trans ih
    | stay h => exact ih

theorem Reach.lt {S : ℕ → ℕ → V} {θ : V} {N n : ℕ} {A : Finset ℕ} {M : ℕ → ℕ} (h : Reach S θ N n A M) : ∀ i < N, M i < N := by
  induction h with
  | zero => exact fun i hi => hi
  | succ h hs ih =>
    cases hs with
    | @merge r c hb hθ =>
      intro i hi
      have hr : r < N := Finset.mem_range.mp (h.sub hb.hr)
      by_cases e : i = max r c
      · subst e; rw [Function.update_self]; exact lt_of_le_of_lt (min_le_left _ _) hr
      · rw [Function.update_of_ne e]; exact ih i hi
    | stay h => exact ih

theorem Reach.id_off {S : ℕ → ℕ → V} {θ : V} {N n : ℕ} {A : Finset ℕ} {M : ℕ → ℕ} (h : Reach S θ N n A M) : ∀ i, N ≤ i → M i = i := by
  induction h with
  | zero => exact fun i _ => rfl
  | succ h hs ih =>
    cases hs with
    | @merge r c hb hθ =>
      intro i hi
      have hr : r < N := Finset.mem_range.mp (h.sub hb.hr)
      have hc : c < N := Finset.mem_range.mp (h.sub hb.hc)
      have e : i ≠ max r c := by rcases max_choice r c with h | h <;> rw [h] <;> omega
      rw [Function.update_of_ne e]; exact ih i hi
    | stay h => exact ih

/-! ## The scan in sixteen lanes -/

/-- What lane `l` holds after `k` chunks: `a` bounds the values of the marked places seen, and is `z` (with index zero)
    or the value at the place `g`, the first of that value in the lane. -/
def Lane (p : ℕ → Prop) (w : ℕ → V) (z : V) (l k : ℕ) (a : V) (g : ℕ) : Prop :=
  (∀ j < k, p (16 * j + l) → w (16 * j + l) ≤ a) ∧ z ≤ a
    ∧ ((a = z ∧ g = 0) ∨ ∃ j < k, g = 16 * j + l ∧ p g ∧ w g = a ∧ z < a ∧ ∀ j' < j, p (16 * j' + l) → w (16 * j' + l) < a)

theorem Lane.zero (p : ℕ → Prop) (w : ℕ → V) (z : V) (l : ℕ) : Lane p w z l 0 z 0 :=
  ⟨fun _ h => absurd h (Nat.not_lt_zero _), le_rfl, .inl ⟨rfl, rfl⟩⟩

theorem Lane.take {p : ℕ → Prop} {w : ℕ → V} {z a : V} {l k g : ℕ} (h : Lane p w z l k a g) (hp : p (16 * k + l)) (hw : a < w (16 * k + l)) :
    Lane p w z l (k + 1) (w (16 * k + l)) (16 * k + l) := by
  obtain ⟨h1, h2, -⟩ := h
  refine ⟨fun j hj hpj => ?_, h2.trans hw.le, .inr ⟨k, Nat.lt_succ_self k, rfl, hp, rfl, lt_of_le_of_lt h2 hw, fun j' hj' hpj => lt_of_le_of_lt (h1 j' hj' hpj) hw⟩⟩
  rcases Nat.lt_succ_iff_lt_or_eq.mp hj with hj | rfl
  · exact (h1 j hj hpj).trans hw.le
  · exact le_rfl

theorem Lane.keep {p : ℕ → Prop} {w : ℕ → V} {z a : V} {l k g : ℕ} (h : Lane p w z l k a g) (hn : ¬ (p (16 * k + l) ∧ a < w (16 * k + l))) :
    Lane p w z l (k + 1) a g := by
  obtain ⟨h1, h2, h3⟩ := h
  refine ⟨fun j hj hpj => ?_, h2, ?_⟩
  · rcases Nat.lt_succ_iff_lt_or_eq.mp hj with hj | rfl
    · exact h1 j hj hpj
    · exact not_lt.mp fun h => hn ⟨hpj, h⟩
  · rcases h3 with h3 | ⟨j, hj, h3⟩
    · exact .inl h3
    · exact .inr ⟨j, hj.trans (Nat.lt_succ_self k), h3⟩

theorem Lane.lt {p : ℕ → Prop} {w : ℕ → V} {z a : V} {l k g n : ℕ} (h : Lane p w z l k a g) (hl : l < 16) (hn : 16 * k ≤ n) (h0 : 0 < n) : g < n := by
  rcases h.2.2 with ⟨-, rfl⟩ | ⟨j, hj, rfl, -⟩
  · exact h0
  · omega

/-- The lanes together after all `n` chunks: `m` the greatest of the lanes' values, `r` the least index of the lanes that
    hold it. -/
theorem Lane.all {p : ℕ → Prop} {w : ℕ → V} {z : V} {n : ℕ} {a : ℕ → V} {g : ℕ → ℕ} (h : ∀ l < 16, Lane p w z l n (a l) (g l)) {m : V} {r : ℕ}
    (hm : ∀ l < 16, a l ≤ m) (hr : ∃ l < 16, a l = m ∧ r = g l) (hmin : ∀ l < 16, a l = m → r ≤ g l) :
    (∀ i < 16 * n, p i → w i ≤ m) ∧ z ≤ m ∧ (z < m → r < 16 * n ∧ p r ∧ w r = m ∧ ∀ i < r, p i → w i < m) := by
  have key : ∀ i < 16 * n, p i → w i ≤ a (i % 16) := fun i hi hp => by
    have e : 16 * (i / 16) + i % 16 = i := Nat.div_add_mod i 16
    have := (h (i % 16) (Nat.mod_lt _ (by norm_num))).1 (i / 16) (by omega) (by rwa [e])
    rwa [e] at this
  obtain ⟨l₀, hl₀, ha₀, hg₀⟩ := hr
  refine ⟨fun i hi hp => (key i hi hp).trans (hm _ (Nat.mod_lt _ (by norm_num))), ha₀ ▸ (h l₀ hl₀).2.1, fun hz => ?_⟩
  rcases (h l₀ hl₀).2.2 with ⟨e, -⟩ | ⟨j, hj, eg, hp, hw, -, hf⟩
  · exact absurd (ha₀.symm.trans e) hz.ne'
  have hr' : r < 16 * n := by omega
  refine ⟨hr', hg₀ ▸ hp, by rw [hg₀, hw, ha₀], fun i hi hpi => ?_⟩
  have hi' : i < 16 * n := hi.trans hr'
  have hl : i % 16 < 16 := Nat.mod_lt _ (by norm_num)
  rcases lt_or_eq_of_le ((key i hi' hpi).trans (hm _ hl)) with hlt | heq
  · exact hlt
  exfalso
  have ha : a (i % 16) = m := le_antisymm (hm _ hl) (heq ▸ key i hi' hpi)
  have hle := hmin _ hl ha
  rcases (h _ hl).2.2 with ⟨e, -⟩ | ⟨j', hj', eg', -, -, -, hf'⟩
  · exact absurd (ha.symm.trans e) hz.ne'
  have e : 16 * (i / 16) + i % 16 = i := Nat.div_add_mod i 16
  have : i / 16 < j' := by omega
  have := hf' (i / 16) this (by rwa [e])
  rw [e, heq, ha] at this
  exact lt_irrefl _ this

/-! ## The rows' maxima -/

/-- Row `i`'s entry in the tables of maxima: a bound of the row over the alive columns, and the first column that attains
    it where it exceeds the threshold. -/
def Weak (S : ℕ → ℕ → V) (θ : V) (A : Finset ℕ) (u : V) (g i : ℕ) : Prop :=
  (∀ j ∈ A, S i j ≤ u) ∧ (θ < u → g ∈ A ∧ S i g = u ∧ ∀ j ∈ A, j < g → S i j < u)

theorem Weak.mono {S : ℕ → ℕ → V} {θ u : V} {A A' : Finset ℕ} {g i : ℕ} (h : Weak S θ A u g i) (hA : A' ⊆ A) (hg : g ∈ A → g ∈ A') : Weak S θ A' u g i :=
  ⟨fun j hj => h.1 j (hA hj), fun hu => ⟨hg (h.2 hu).1, (h.2 hu).2.1, fun j hj => (h.2 hu).2.2 j (hA hj)⟩⟩

/-- The tables while a round's rescan stands at row `p`: the rows below `p` are right for the alive set `A`; one at or
    above it may still name the column `src` just removed. -/
structure Tables (S : ℕ → ℕ → V) (θ : V) (N : ℕ) (A : Finset ℕ) (u : ℕ → V) (g : ℕ → ℕ) (src p : ℕ) : Prop where
  dead : ∀ i < N, i ∉ A → u i ≤ θ
  ub : ∀ i ∈ A, ∀ j ∈ A, S i j ≤ u i
  row : ∀ i ∈ A, Weak S θ A (u i) (g i) i ∨ (p ≤ i ∧ g i = src)

theorem Tables.weak {S : ℕ → ℕ → V} {θ : V} {N src p : ℕ} {A : Finset ℕ} {u : ℕ → V} {g : ℕ → ℕ} (h : Tables S θ N A u g src p)
    (hA : ∀ i ∈ A, i < p) : ∀ i ∈ A, Weak S θ A (u i) (g i) i := fun i hi =>
  (h.row i hi).resolve_right fun hh => absurd (hA i hi) (not_lt.mpr hh.1)

/-- The greatest of the rows' maxima, above the threshold, is the greatest similarity, and its row and column the best pair. -/
theorem Tables.best {S : ℕ → ℕ → V} {θ : V} {N src p : ℕ} {A : Finset ℕ} {u : ℕ → V} {g : ℕ → ℕ} (h : Tables S θ N A u g src p)
    (hA : ∀ i ∈ A, i < N ∧ i < p) {r : ℕ} (hr : r < N) (hub : ∀ i < N, u i ≤ u r) (hf : ∀ i < r, u i < u r) (hθ : θ < u r) :
    Best S A r (g r) ∧ S r (g r) = u r := by
  have hw := h.weak fun i hi => (hA i hi).2
  have hrA : r ∈ A := by
    by_contra hn; exact absurd hθ (not_lt.mpr (h.dead r hr hn))
  obtain ⟨hg, hv, hfirst⟩ := (hw r hrA).2 hθ
  refine ⟨⟨hrA, hg, fun i hi j hj => hv ▸ ((hw i hi).1 j hj).trans (hub i (hA i hi).1), fun i hi j hj e => ?_⟩, hv⟩
  rw [hv] at e
  have hui : u i = u r := le_antisymm (hub i (hA i hi).1) (e ▸ (hw i hi).1 j hj)
  rcases lt_trichotomy r i with hlt | rfl | hgt
  · exact .inl hlt
  · refine .inr ⟨rfl, not_lt.mp fun hj' => ?_⟩
    exact absurd e (hfirst j hj hj').ne
  · exact absurd hui (hf i hgt).ne

theorem Tables.small {S : ℕ → ℕ → V} {θ m : V} {N src p : ℕ} {A : Finset ℕ} {u : ℕ → V} {g : ℕ → ℕ} (h : Tables S θ N A u g src p)
    (hA : ∀ i ∈ A, i < N) (hub : ∀ i < N, u i ≤ m) (hθ : ¬ θ < m) : ∀ i ∈ A, ∀ j ∈ A, S i j ≤ θ := fun i hi j hj =>
  (h.ub i hi j hj).trans ((hub i (hA i hi)).trans (not_lt.mp hθ))

/-- A merge removes the column `src`: its row's maximum is lowered to `v`, and the rescan starts at row zero. -/
theorem Tables.merge {S : ℕ → ℕ → V} {θ v : V} {N src₀ p : ℕ} {A : Finset ℕ} {u : ℕ → V} {g : ℕ → ℕ} (h : Tables S θ N A u g src₀ p)
    (hA : ∀ i ∈ A, i < p) (src : ℕ) (hv : v ≤ θ) : Tables S θ N (A.erase src) (Function.update u src v) g src 0 where
  dead i hi hn := by
    by_cases e : i = src
    · subst e; rw [Function.update_self]; exact hv
    · rw [Function.update_of_ne e]; exact h.dead i hi fun hA => hn (Finset.mem_erase.mpr ⟨e, hA⟩)
  ub i hi j hj := by
    rw [Function.update_of_ne (Finset.ne_of_mem_erase hi)]
    exact h.ub i (Finset.mem_of_mem_erase hi) j (Finset.mem_of_mem_erase hj)
  row i hi := by
    rw [Function.update_of_ne (Finset.ne_of_mem_erase hi)]
    by_cases e : g i = src
    · exact .inr ⟨Nat.zero_le _, e⟩
    · exact .inl ((h.weak hA i (Finset.mem_of_mem_erase hi)).mono (Finset.erase_subset _ _) fun hg => Finset.mem_erase.mpr ⟨e, hg⟩)

/-- Rows that do not name the removed column are passed over. -/
theorem Tables.skip {S : ℕ → ℕ → V} {θ : V} {N src p : ℕ} {A : Finset ℕ} {u : ℕ → V} {g : ℕ → ℕ} (h : Tables S θ N A u g src p) (p' : ℕ)
    (hn : ∀ i, p ≤ i → i < p' → ¬ (g i = src ∧ i ∈ A)) : Tables S θ N A u g src p' :=
  ⟨h.dead, h.ub, fun i hi => (h.row i hi).imp_right fun ⟨h1, h2⟩ => ⟨not_lt.mp fun hlt => hn i h1 hlt ⟨h2, hi⟩, h2⟩⟩

/-- A row found afresh. -/
theorem Tables.scan {S : ℕ → ℕ → V} {θ : V} {N src p : ℕ} {A : Finset ℕ} {u : ℕ → V} {g : ℕ → ℕ} (h : Tables S θ N A u g src p) (hp : p ∈ A)
    {a : V} {b : ℕ} (hw : Weak S θ A a b p) : Tables S θ N A (Function.update u p a) (Function.update g p b) src (p + 1) where
  dead i hi hn := by
    rw [Function.update_of_ne (show i ≠ p from fun e => hn (by rw [e]; exact hp))]; exact h.dead i hi hn
  ub i hi j hj := by
    by_cases e : i = p
    · subst e; rw [Function.update_self]; exact hw.1 j hj
    · rw [Function.update_of_ne e]; exact h.ub i hi j hj
  row i hi := by
    by_cases e : i = p
    · subst e; rw [Function.update_self, Function.update_self]; exact .inl hw
    · rw [Function.update_of_ne e, Function.update_of_ne e]
      exact (h.row i hi).imp_right fun ⟨h1, h2⟩ => ⟨by omega, h2⟩

theorem Tables.start {S : ℕ → ℕ → V} {θ : V} {N src : ℕ} {A : Finset ℕ} {u : ℕ → V} {g : ℕ → ℕ} (hd : ∀ i < N, i ∉ A → u i ≤ θ)
    (hw : ∀ i ∈ A, Weak S θ A (u i) (g i) i) (p : ℕ) : Tables S θ N A u g src p :=
  ⟨hd, fun i hi => (hw i hi).1, fun i hi => .inl (hw i hi)⟩

theorem Tables.done {S : ℕ → ℕ → V} {θ : V} {N src p : ℕ} {A : Finset ℕ} {u : ℕ → V} {g : ℕ → ℕ} (h : Tables S θ N A u g src p)
    (hA : ∀ i ∈ A, i < p) (src' p' : ℕ) : Tables S θ N A u g src' p' :=
  ⟨h.dead, h.ub, fun i hi => .inl (h.weak hA i hi)⟩

end Cert.Proof.Greedy

end
-- ==== Proof.Vec.lean ====
/-
  The vector operations of a sixteen-lane kernel read lane by lane: slices of a table named by a function of the
  natural numbers, one-lane scatters, the least and the greatest lane, a count of set lanes, and the literals.
-/
module

public import Idealize.ShloMosaic.Lib.Pointwise.Index
public import Idealize.ShloMosaic.Lib.Pointwise.ShapeOpsCore
public import Idealize.ShloMosaic.Lib.Scf
public import Idealize.ShloMosaic.PureOps.Ideal
public import Idealize.ShloMosaic.Lib.Memref
public import Idealize.ShloMosaic.Lib.SparseCore.Ops
public import proofs.«01_k».proof.Proof.Greedy

@[expose] public section

noncomputable section

namespace Cert.Proof.Vec

open Idealize.ShloMosaic Cert.Proof.Greedy

/-- The shape of a vector of sixteen lanes. -/
abbrev L16 : Shape := ⟨1, ![16]⟩

/-- A rank-one array whose entries a function of the natural numbers gives. -/
def at1 {α : Type} {n : ℕ} (f : ℕ → α) : (⟨1, ![n]⟩ : Shape).Idx → α := fun j => f (j 0).val

/-- A rank-two array likewise. -/
def at2 {α : Type} {n m : ℕ} (f : ℕ → ℕ → α) : (⟨2, ![n, m]⟩ : Shape).Idx → α := fun j => f (j 0).val (j 1).val

/-- A rank-three array likewise. -/
def at3 {α : Type} {n m p : ℕ} (f : ℕ → ℕ → ℕ → α) : (⟨3, ![n, m, p]⟩ : Shape).Idx → α := fun j => f (j 0).val (j 1).val (j 2).val

/-- The entries of an array as a function of the natural numbers, beyond its end anything. -/
def of1 {α : Type} [Inhabited α] {n : ℕ} (X : (⟨1, ![n]⟩ : Shape).Idx → α) : ℕ → α :=
  fun k => if h : k < n then X (ix1 ⟨k, h⟩) else default

theorem of1_at {α : Type} [Inhabited α] {n : ℕ} (X : (⟨1, ![n]⟩ : Shape).Idx → α) (l : Fin n) : of1 X l.val = X (ix1 l) := by
  unfold of1; rw [dif_pos l.isLt]

theorem at1_of1 {α : Type} [Inhabited α] {n : ℕ} (X : (⟨1, ![n]⟩ : Shape).Idx → α) : at1 (of1 X) = X := by
  funext j
  have := of1_at X (j 0)
  unfold at1; rw [this]; exact congrArg X (ix1_eta j)

/-- Two tables with the same entries below the extent are the same array. -/
theorem at1_congr {α : Type} {n : ℕ} {f g : ℕ → α} (h : ∀ i < n, f i = g i) : (at1 f : (⟨1, ![n]⟩ : Shape).Idx → α) = at1 g :=
  funext fun j => h _ (j 0).isLt

theorem at2_congr {α : Type} {n m : ℕ} {f g : ℕ → ℕ → α} (h : ∀ i < n, ∀ j < m, f i j = g i j) :
    (at2 f : (⟨2, ![n, m]⟩ : Shape).Idx → α) = at2 g :=
  funext fun j => h _ (j 0).isLt _ (j 1).isLt

/-- A chunk of a table: lane `l` is the entry `l` places on. -/
theorem load_at1 {α : Type} {n k : ℕ} (f : ℕ → α) (off : Fin 1 → ℕ) (h) :
    (fun j => (at1 f : (⟨1, ![n]⟩ : Shape).Idx → α) ((Rect.unit (s := ⟨1, ![n]⟩) off (⟨1, ![k]⟩ : Shape).size h).emb j)) = at1 fun l => f (off 0 + l) := by
  funext j
  show f (_ : ℕ) = f _
  congr 1
  exact (Rect.emb_apply _ _ _).trans (by simp [Rect.unit])

/-- A chunk of a table written: the entries of the chunk are the lanes. -/
theorem store_at1 {α : Type} {n k : ℕ} (f w : ℕ → α) (off : Fin 1 → ℕ) (h) :
    (Rect.unit (s := ⟨1, ![n]⟩) off (⟨1, ![k]⟩ : Shape).size h).overlay (at1 f) (at1 w)
      = at1 fun i => if off 0 ≤ i ∧ i < off 0 + k then w (i - off 0) else f i := by
  funext j
  by_cases hj : j ∈ (Rect.unit (s := ⟨1, ![n]⟩) off (⟨1, ![k]⟩ : Shape).size h).set
  · obtain ⟨i, hi⟩ := LoadRect.exists_idx_of_mem (Rect.toLoadRect _) hj
    obtain rfl : (Rect.unit (s := ⟨1, ![n]⟩) off (⟨1, ![k]⟩ : Shape).size h).emb i = j := hi
    rw [Rect.overlay_emb]
    have e : ((Rect.unit (s := ⟨1, ![n]⟩) off (⟨1, ![k]⟩ : Shape).size h).emb i 0 : ℕ) = off 0 + (i 0).val :=
      (Rect.emb_apply _ _ _).trans (by simp [Rect.unit])
    have hi : (i 0).val < k := (i 0).isLt
    show w _ = if off 0 ≤ _ ∧ _ < _ then w _ else f _
    rw [if_pos ⟨by rw [e]; omega, by rw [e]; omega⟩, e, Nat.add_sub_cancel_left]
  · rw [Rect.overlay_of_not_mem _ _ _ hj]
    show f _ = if off 0 ≤ _ ∧ _ < _ then w _ else f _
    rw [if_neg]
    intro hh
    apply hj
    have : (Rect.unit (s := ⟨1, ![n]⟩) off (⟨1, ![k]⟩ : Shape).size h).emb (ix1 ⟨(j 0).val - off 0, by omega⟩) = j := by
      funext a; fin_cases a
      refine Fin.ext ((Rect.emb_apply _ _ _).trans ?_)
      simp [Rect.unit]
      have := hh.1
      omega
    rw [← this, ← Rect.map_emb_univ]; exact Finset.mem_map_of_mem _ (Finset.mem_univ _)

/-- A gather whose lanes all name one entry. -/
theorem gather_at1 {F : FTy → Type} {e : EltTy} {n : ℕ} (f : ℕ → Elt F e) (b : BitVec 32) (h) :
    loadIdx (at1 f : Vec F ⟨1, ![n]⟩ e) ![broadcast L16 b] h = fun _ => f b.toNat := rfl

theorem lanes_list : List.finRange 16 = [0,1,2,3,4,5,6,7,8,9,10,11,12,13,14,15] := by decide

theorem lanes_tail : (List.finRange 16).filter (fun k => decide (0 < k.val ∧ k.val ≤ 15)) = [1,2,3,4,5,6,7,8,9,10,11,12,13,14,15] := by decide

theorem mem_tail : ∀ l : Fin 16, ¬ l = 0 → l ∈ ([1,2,3,4,5,6,7,8,9,10,11,12,13,14,15] : List (Fin 16)) := by decide

theorem ofLane_eq (l : Fin 16) : (Shape.ofLane (d := ![16]) l) = ix1 l := by funext a; fin_cases a; rfl

/-- One lane of a scatter. -/
def put {F : FTy → Type} [FloatOps F] {e : EltTy} {n : ℕ} (b : BitVec 32) (v : Elt F e) (mask : IVec L16 1) (add : Bool)
    (h : ∀ a x, ((![broadcast L16 b] : Fin 1 → IVec L16 32) a x).toNat < (⟨1, ![n]⟩ : Shape).size a) (g : Vec F ⟨1, ![n]⟩ e) (k : Fin 16) : Vec F ⟨1, ![n]⟩ e :=
  if mask (Shape.ofLane (d := ![16]) k) = 1 then
    fun j => if (∀ a, (j a).val = (idxAt (s := ⟨1, ![n]⟩) ![broadcast L16 b] h (Shape.ofLane (d := ![16]) k) a).val) then
      (if add then Elt.idxAdd e (g (idxAt (s := ⟨1, ![n]⟩) ![broadcast L16 b] h (Shape.ofLane (d := ![16]) k))) v else v) else g j
  else g

theorem put_dead {F : FTy → Type} [FloatOps F] {e : EltTy} {n : ℕ} (b : BitVec 32) (v : Elt F e) (mask : IVec L16 1) (add : Bool) (h)
    (hmask : ∀ l : Fin 16, mask (ix1 l) = if l = 0 then 1#1 else 0#1) (L : List (Fin 16)) :
    (0 : Fin 16) ∉ L → ∀ g : Vec F ⟨1, ![n]⟩ e, L.foldl (put b v mask add h) g = g := by
  induction L with
  | nil => intro _ g; rfl
  | cons k L ih =>
    intro hL g
    have hk : k ≠ 0 := fun h => hL (h ▸ List.mem_cons_self)
    rw [List.foldl_cons]
    have e1 : put b v mask add h g k = g := by
      unfold put; rw [ofLane_eq, hmask, if_neg hk]; rfl
    rw [e1]
    exact ih (fun h => hL (List.mem_cons_of_mem _ h)) g

/-- A scatter whose first lane alone is live, and whose lanes all name one entry. -/
theorem scatter_at1 {F : FTy → Type} [FloatOps F] {e : EltTy} {n : ℕ} (f : ℕ → Elt F e) (b : BitVec 32) (v : Elt F e) (mask : IVec L16 1)
    (hmask : ∀ l : Fin 16, mask (ix1 l) = if l = 0 then 1#1 else 0#1) (h) :
    storeIdx (at1 f : Vec F ⟨1, ![n]⟩ e) ![broadcast L16 b] (broadcast L16 v) mask false h = at1 (Function.update f b.toNat v) := by
  have e1 : storeIdx (at1 f : Vec F ⟨1, ![n]⟩ e) ![broadcast L16 b] (broadcast L16 v) mask false h
      = (List.finRange 16).foldl (put b v mask false h) (at1 f) := by
    unfold storeIdx
    refine congrArg (fun st : Vec F ⟨1, ![n]⟩ e → Fin 16 → Vec F ⟨1, ![n]⟩ e => (List.finRange 16).foldl st (at1 f)) ?_
    funext g k
    show (if mask (Shape.ofLane (d := ![16]) k) = 1 then _ else _) = if mask (Shape.ofLane (d := ![16]) k) = 1 then _ else _
    by_cases hm : mask (Shape.ofLane (d := ![16]) k) = 1
    · rw [if_pos hm, if_pos hm]
      funext j
      congr 1
    · rw [if_neg hm, if_neg hm]
  rw [e1, lanes_list, List.foldl_cons, put_dead b v mask false h hmask _ (by decide)]
  funext j
  unfold put
  rw [ofLane_eq, hmask, if_pos rfl, if_pos (show (1#1 : BitVec 1) = 1 from rfl)]
  show (if (∀ a, (j a).val = (idxAt ![broadcast L16 b] h (ix1 0) a).val) then v else f (j 0).val) = Function.update f b.toNat v (j 0).val
  by_cases hj : (j 0).val = b.toNat
  · rw [if_pos (fun a => by fin_cases a; exact hj), hj, Function.update_self]
  · rw [if_neg (fun hh => hj (hh 0)), Function.update_of_ne hj]

/-- The first lane alone. -/
theorem lane0 : ∀ l : Fin 16, (cmpi .eq (iota .scVector L16 32 [0] (by decide)) (broadcast L16 0#32) : IVec L16 1) (ix1 l) = if l = 0 then 1#1 else 0#1 := by
  decide

/-! ## The greatest lane -/

theorem foldl_max_mem {V : Type} [LinearOrder V] (L : List V) : ∀ a : V, L.foldl max a = a ∨ L.foldl max a ∈ L := by
  induction L with
  | nil => intro a; exact .inl rfl
  | cons x L ih =>
    intro a
    rcases ih (max a x) with h | h
    · rw [List.foldl_cons, h]
      rcases max_choice a x with h' | h'
      · exact .inl h'
      · exact .inr (by rw [h']; exact List.mem_cons_self)
    · exact .inr (List.mem_cons_of_mem _ h)

theorem foldl_max_le {V : Type} [LinearOrder V] (L : List V) : ∀ a : V, a ≤ L.foldl max a ∧ ∀ x ∈ L, x ≤ L.foldl max a := by
  induction L with
  | nil => intro a; exact ⟨le_rfl, fun x hx => absurd hx List.not_mem_nil⟩
  | cons x L ih =>
    intro a
    obtain ⟨h1, h2⟩ := ih (max a x)
    exact ⟨(le_max_left _ _).trans h1, fun y hy => by
      rcases List.mem_cons.mp hy with rfl | hy
      · exact (le_max_right _ _).trans h1
      · exact h2 y hy⟩

/-- The lanes' maximum, one after the other. -/
def top {V : Type} [LinearOrder V] (v : L16.Idx → V) : V :=
  ([v (ix1 1), v (ix1 2), v (ix1 3), v (ix1 4), v (ix1 5), v (ix1 6), v (ix1 7), v (ix1 8), v (ix1 9), v (ix1 10), v (ix1 11), v (ix1 12),
    v (ix1 13), v (ix1 14), v (ix1 15)] : List V).foldl max (v (ix1 0))

theorem le_top {V : Type} [LinearOrder V] (v : L16.Idx → V) (l : Fin 16) : v (ix1 l) ≤ top v := by
  obtain ⟨h1, h2⟩ := foldl_max_le [v (ix1 1), v (ix1 2), v (ix1 3), v (ix1 4), v (ix1 5), v (ix1 6), v (ix1 7), v (ix1 8), v (ix1 9), v (ix1 10), v (ix1 11), v (ix1 12),
    v (ix1 13), v (ix1 14), v (ix1 15)] (v (ix1 0))
  fin_cases l
  · exact h1
  all_goals exact h2 _ (by simp)

theorem top_mem {V : Type} [LinearOrder V] (v : L16.Idx → V) : ∃ l : Fin 16, v (ix1 l) = top v := by
  rcases foldl_max_mem [v (ix1 1), v (ix1 2), v (ix1 3), v (ix1 4), v (ix1 5), v (ix1 6), v (ix1 7), v (ix1 8), v (ix1 9), v (ix1 10), v (ix1 11), v (ix1 12),
    v (ix1 13), v (ix1 14), v (ix1 15)] (v (ix1 0)) with h | h
  · exact ⟨0, h.symm⟩
  · simp only [List.mem_cons, List.not_mem_nil, or_false] at h
    unfold top
    rcases h with h | h | h | h | h | h | h | h | h | h | h | h | h | h | h
    all_goals exact ⟨_, h.symm⟩

/-- A slice of one lane, and its one entry. -/
theorem ext1 {α : Type} (v : L16.Idx → α) (k : ℕ) (hk : k < 16) (h) (h') :
    extractAt ![0] (extractStridedSlice (s := L16) ⟨1, ![1]⟩ ![k] v h) h' = v (ix1 ⟨k, hk⟩) := by
  unfold extractAt extractStridedSlice
  congr 1
  funext a; fin_cases a; rfl

/-! ## The least lane -/

theorem flip_toNat (x : BitVec 32) (h : x.toNat < 2 ^ 31) : (x ^^^ 0x80000000#32).toNat = x.toNat + 2 ^ 31 := by
  have e : x ^^^ 0x80000000#32 = x + 0x80000000#32 := by
    have hx : x &&& 0x80000000#32 = 0#32 := by
      apply BitVec.eq_of_toNat_eq
      rw [BitVec.toNat_and]
      show x.toNat &&& 2 ^ 31 = 0
      apply Nat.eq_of_testBit_eq
      intro i
      rw [Nat.testBit_and, Nat.testBit_two_pow, Nat.zero_testBit]
      by_cases hi : 31 = i
      · subst hi; rw [Nat.testBit_lt_two_pow h]; rfl
      · simp [hi]
    have h2 := BitVec.add_eq_or_of_and_eq_zero x 0x80000000#32 hx
    have h3 : x ^^^ 0x80000000#32 = x ||| 0x80000000#32 := by
      ext i hi
      have := congrArg (fun b => b.getLsbD i) hx
      simp only [BitVec.getLsbD_and, BitVec.getLsbD_zero] at this
      simp only [BitVec.getElem_xor, BitVec.getElem_or]
      rw [BitVec.getLsbD_eq_getElem hi, BitVec.getLsbD_eq_getElem hi] at this
      revert this
      cases x[i] <;> cases (0x80000000#32 : BitVec 32)[i] <;> simp
    rw [h3, ← h2]
  rw [e, BitVec.toNat_add]
  simp only [BitVec.toNat_ofNat]
  omega

theorem flip_flip (x k : BitVec 32) : (x ^^^ k) ^^^ k = x := by
  rw [BitVec.xor_assoc, BitVec.xor_self, BitVec.xor_zero]

theorem foldl_min (L : List (BitVec 32)) : ∀ a : BitVec 32, (L.foldl IntOp.minui a = a ∨ L.foldl IntOp.minui a ∈ L)
    ∧ (L.foldl IntOp.minui a).toNat ≤ a.toNat ∧ ∀ x ∈ L, (L.foldl IntOp.minui a).toNat ≤ x.toNat := by
  induction L with
  | nil => intro a; exact ⟨.inl rfl, le_rfl, fun x hx => absurd hx List.not_mem_nil⟩
  | cons x L ih =>
    intro a
    obtain ⟨h0, h1, h2⟩ := ih (IntOp.minui a x)
    have hm : (IntOp.minui a x = a ∨ IntOp.minui a x = x) ∧ (IntOp.minui a x).toNat ≤ a.toNat ∧ (IntOp.minui a x).toNat ≤ x.toNat := by
      unfold IntOp.minui
      by_cases hc : a.ult x = true
      · rw [if_pos hc]
        have : a.toNat < x.toNat := by simpa [BitVec.ult] using hc
        exact ⟨.inl rfl, le_rfl, this.le⟩
      · rw [if_neg hc]
        have : ¬ a.toNat < x.toNat := by simpa [BitVec.ult] using hc
        exact ⟨.inr rfl, not_lt.mp this, le_rfl⟩
    rw [List.foldl_cons]
    refine ⟨?_, h1.trans hm.2.1, fun y hy => ?_⟩
    · rcases h0 with h0 | h0
      · rw [h0]
        rcases hm.1 with h | h
        · exact .inl h
        · exact .inr (by rw [h]; exact List.mem_cons_self)
      · exact .inr (List.mem_cons_of_mem _ h0)
    · rcases List.mem_cons.mp hy with rfl | hy
      · exact h1.trans hm.2.2
      · exact h2 y hy

/-- The least of the lanes, as the kernel computes it: a running minimum of the words with the sign bit flipped, the last
    lane of it taken, flipped back. -/
def low (v : IVec L16 32) (h : ∀ a, (![15] : Fin 1 → ℕ) a < L16.size a := by decide) : BitVec 32 :=
  extractAt ![15] (xori (scan .min (xori v (broadcast L16 2147483648#32))) (broadcast L16 2147483648#32)) h

theorem low_spec (v : IVec L16 32) (h) (hv : ∀ l : Fin 16, (v (ix1 l)).toNat < 2 ^ 31) :
    (∃ l : Fin 16, v (ix1 l) = low v h) ∧ ∀ l : Fin 16, (low v h).toNat ≤ (v (ix1 l)).toNat := by
  obtain ⟨h0, h1, h2⟩ := foldl_min (([1,2,3,4,5,6,7,8,9,10,11,12,13,14,15] : List (Fin 16)).map fun l => v (ix1 l) ^^^ 0x80000000#32) (v (ix1 0) ^^^ 0x80000000#32)
  set z := (([1,2,3,4,5,6,7,8,9,10,11,12,13,14,15] : List (Fin 16)).map fun l => v (ix1 l) ^^^ 0x80000000#32).foldl IntOp.minui (v (ix1 0) ^^^ 0x80000000#32) with hz
  have e : low v h = z ^^^ 0x80000000#32 := by
    rw [hz, List.foldl_map, ← lanes_tail]
    simp only [← ofLane_eq]
    rfl
  have hmem : ∃ l : Fin 16, z = v (ix1 l) ^^^ 0x80000000#32 := by
    rcases h0 with h0 | h0
    · exact ⟨0, h0⟩
    · obtain ⟨l, -, hl⟩ := List.mem_map.mp h0; exact ⟨l, hl.symm⟩
  obtain ⟨l, hl⟩ := hmem
  have hlow : low v h = v (ix1 l) := by rw [e, hl, flip_flip]
  refine ⟨⟨l, hlow.symm⟩, fun l' => ?_⟩
  have hle : z.toNat ≤ (v (ix1 l') ^^^ 0x80000000#32).toNat := by
    by_cases h' : l' = 0
    · subst h'; exact h1
    · exact h2 _ (List.mem_map.mpr ⟨l', mem_tail l' h', rfl⟩)
  rw [hl, flip_toNat _ (hv l), flip_toNat _ (hv l')] at hle
  rw [hlow]; omega

theorem low_const (b : BitVec 32) (h) (hb : b.toNat < 2 ^ 31) : low (fun _ => b) h = b := by
  obtain ⟨⟨l, hl⟩, -⟩ := low_spec (fun _ => b) h fun _ => hb
  exact hl.symm

/-! ## The number of set lanes -/

theorem foldl_add (L : List (BitVec 32)) (hL : ∀ x ∈ L, x.toNat ≤ 1) : ∀ a : BitVec 32, a.toNat + L.length < 2 ^ 31 →
    a.toNat ≤ (L.foldl IntOp.addi a).toNat ∧ (L.foldl IntOp.addi a).toNat ≤ a.toNat + L.length ∧ ∀ x ∈ L, x.toNat ≤ (L.foldl IntOp.addi a).toNat := by
  induction L with
  | nil => intro a _; exact ⟨le_rfl, le_rfl, fun x hx => absurd hx List.not_mem_nil⟩
  | cons x L ih =>
    intro a ha
    have hx := hL x List.mem_cons_self
    rw [List.length_cons] at ha
    have e : (IntOp.addi a x).toNat = a.toNat + x.toNat := by
      unfold IntOp.addi; rw [BitVec.toNat_add]; omega
    obtain ⟨h1, h2, h3⟩ := ih (fun y hy => hL y (List.mem_cons_of_mem _ hy)) (IntOp.addi a x) (by rw [e]; omega)
    rw [e] at h1 h2
    rw [List.foldl_cons, List.length_cons]
    refine ⟨by omega, by omega, fun y hy => ?_⟩
    rcases List.mem_cons.mp hy with rfl | hy
    · omega
    · exact h3 y hy

/-- The lanes set, counted by a running sum. -/
theorem count_pos (b : IVec L16 1) (h₁) (h) (l : Fin 16) (hl : b (ix1 l) = 1#1) :
    (0#32).slt (extractAt ![15] (scan .sum (extui 32 b h₁)) h) = true := by
  have hb : ∀ l : Fin 16, (extui 32 b h₁ (ix1 l)).toNat ≤ 1 := fun l => by
    show ((b (ix1 l)).setWidth 32).toNat ≤ 1
    rw [BitVec.toNat_setWidth]
    have := (b (ix1 l)).isLt
    omega
  obtain ⟨h1, h2, h3⟩ := foldl_add (([1,2,3,4,5,6,7,8,9,10,11,12,13,14,15] : List (Fin 16)).map fun l => extui 32 b h₁ (ix1 l))
    (fun x hx => by obtain ⟨l, -, rfl⟩ := List.mem_map.mp hx; exact hb l) (extui 32 b h₁ (ix1 0))
    (by have := hb 0; simp only [List.length_map, List.length_cons, List.length_nil]; omega)
  set z := (([1,2,3,4,5,6,7,8,9,10,11,12,13,14,15] : List (Fin 16)).map fun l => extui 32 b h₁ (ix1 l)).foldl IntOp.addi (extui 32 b h₁ (ix1 0)) with hz
  have e : extractAt ![15] (scan .sum (extui 32 b h₁)) h = z := by
    rw [hz, List.foldl_map, ← lanes_tail]
    simp only [← ofLane_eq]
    rfl
  have hone : (extui 32 b h₁ (ix1 l)).toNat = 1 := by
    show ((b (ix1 l)).setWidth 32).toNat = 1
    rw [hl]; rfl
  have hz1 : 1 ≤ z.toNat := by
    by_cases h' : l = 0
    · subst h'; omega
    · have := h3 _ (List.mem_map.mpr ⟨l, mem_tail l h', rfl⟩)
      omega
  have hz2 : z.toNat < 2 ^ 31 := by
    have := hb 0
    simp only [List.length_map, List.length_cons, List.length_nil] at h2
    omega
  rw [e, BitVec.slt_eq_decide, decide_eq_true_iff, BitVec.toInt_eq_toNat_of_lt (by simp), BitVec.toInt_eq_toNat_of_lt (by omega)]
  simp only [BitVec.toNat_ofNat, Nat.zero_mod]; omega

/-! ## Selections, counters and literals -/

theorem ofBool_eq_one (b : Bool) : BitVec.ofBool b = 1#1 ↔ b = true := by cases b <;> decide

/-- A flag widened and compared with zero is the flag. -/
theorem ne_zero_iff (b : BitVec 1) : Scalar.cmpi .ne (Scalar.extui b) 0#32 = 1#1 ↔ b = 1#1 := by
  revert b; decide

/-- The counter of a loop from zero by ones. -/
theorem iv_toNat (k : ℕ) (h : k < 2 ^ 31) : (Scf.iv 0#32 1#32 k).toNat = k := by
  unfold Scf.iv
  rw [BitVec.zero_add, BitVec.mul_one, BitVec.toNat_ofNat]
  omega

theorem iv_mul (k : ℕ) (h : k < 2 ^ 20) : (Scalar.muli (Scf.iv 0#32 1#32 k) 16#32).toNat = 16 * k := by
  show ((Scf.iv 0#32 1#32 k) * 16#32).toNat = _
  rw [BitVec.toNat_mul, iv_toNat k (by omega)]
  show k * 16 % 2 ^ 32 = _
  omega

/-- Sixteen lane numbers and a chunk's offset. -/
theorem lane_add (l : Fin 16) (b : BitVec 32) (hb : b.toNat < 2 ^ 20) :
    (addi (iota .scVector L16 32 [0] (by decide)) (broadcast L16 b) (ix1 l)).toNat = b.toNat + l.val := by
  show ((iota .scVector L16 32 [0] (by decide) : IVec L16 32) (ix1 l) + b).toNat = _
  have e : ((iota .scVector L16 32 [0] (by decide) : IVec L16 32) (ix1 l)).toNat = l.val := by revert l; decide
  rw [BitVec.toNat_add, e]
  have := l.isLt
  omega

/-- The kernel's literals. -/
abbrev two : EReal := ((-2 : ℝ) : EReal)
abbrev three : EReal := ((-3 : ℝ) : EReal)
abbrev half : EReal := ((1 / 2 : ℝ) : EReal)
/-- The threshold of a merge. -/
abbrev theta : EReal := ((15099494 / 16777216 : ℝ) : EReal)

theorem lit_two : (Ideal.ofBits .f32 0xC0000000#32 : EReal) = two := by
  simp [Ideal.ofBits, Ideal.ieee, -EReal.coe_mul, -EReal.coe_neg]; try norm_num
theorem lit_three : (Ideal.ofBits .f32 0xC0400000#32 : EReal) = three := by
  simp [Ideal.ofBits, Ideal.ieee, -EReal.coe_mul, -EReal.coe_neg]; try norm_num
theorem lit_half : (Ideal.ofBits .f32 0x3F000000#32 : EReal) = half := by
  simp [Ideal.ofBits, Ideal.ieee, -EReal.coe_mul, -EReal.coe_neg]; try norm_num
theorem lit_theta : (Ideal.ofBits .f32 0x3F666666#32 : EReal) = theta := by
  simp [Ideal.ofBits, Ideal.ieee, -EReal.coe_mul, -EReal.coe_neg]; try norm_num
theorem two_lt_theta : two < theta := EReal.coe_lt_coe_iff.mpr (by norm_num)
theorem three_lt_theta : three < theta := EReal.coe_lt_coe_iff.mpr (by norm_num)
theorem three_lt_two : three < two := EReal.coe_lt_coe_iff.mpr (by norm_num)
theorem half_lt_one : half < 1 := by rw [← EReal.coe_one]; exact EReal.coe_lt_coe_iff.mpr (by norm_num)
theorem zero_lt_half : (0 : EReal) < half := by rw [← EReal.coe_zero]; exact EReal.coe_lt_coe_iff.mpr (by norm_num)

/-- The lanes after all the chunks, over vectors: the greatest lane, and the least index of the lanes that hold it. -/
theorem lanes {w : ℕ → EReal} {z : EReal} {n : ℕ} {vm : L16.Idx → EReal} {vi : L16.Idx → BitVec 32}
    (h : ∀ l : Fin 16, Lane (fun _ => True) w z l.val n (vm (ix1 l)) (vi (ix1 l)).toNat) (hn : 0 < n) (hn' : n < 2 ^ 20) {r : BitVec 32}
    (hr : ∃ l : Fin 16, vm (ix1 l) = top vm ∧ r = vi (ix1 l)) (hmin : ∀ l : Fin 16, vm (ix1 l) = top vm → r.toNat ≤ (vi (ix1 l)).toNat) :
    (∀ i < 16 * n, w i ≤ top vm) ∧ z ≤ top vm ∧ r.toNat < 16 * n ∧ (z < top vm → w r.toNat = top vm ∧ ∀ i < r.toNat, w i < top vm) := by
  have h' : ∀ l < 16, Lane (fun _ => True) w z l n (of1 (n := 16) vm l) (of1 (n := 16) vi l).toNat := fun l hl => by
    have := h ⟨l, hl⟩
    rw [← of1_at (n := 16) vm, ← of1_at (n := 16) vi] at this; exact this
  obtain ⟨l, hl1, hl2⟩ := hr
  have H := Lane.all h' (m := top vm) (r := r.toNat) (fun l hl => by rw [of1_at (n := 16) vm ⟨l, hl⟩]; exact le_top vm _)
    ⟨l.val, l.isLt, by rw [of1_at (n := 16) vm l]; exact hl1, by rw [of1_at (n := 16) vi l, hl2]⟩
    (fun l hl e => by rw [of1_at (n := 16) vi ⟨l, hl⟩]; exact hmin _ (by rw [← of1_at (n := 16) vm]; exact e))
  refine ⟨fun i hi => H.1 i hi trivial, H.2.1, ?_, fun hz => ⟨(H.2.2 hz).2.2.1, fun i hi => (H.2.2 hz).2.2.2 i hi trivial⟩⟩
  rw [hl2]; exact (h l).lt l.isLt le_rfl (by omega)

/-- A search's outcome: the greatest entry below `n` is `m`, or `z` if no entry exceeds it; `r` is then the first such entry. -/
def Found (w : ℕ → EReal) (z : EReal) (n : ℕ) (m : EReal) (r : ℕ) : Prop :=
  (∀ i < n, w i ≤ m) ∧ z ≤ m ∧ r < n ∧ (z < m → w r = m ∧ ∀ i < r, w i < m)

/-- The greatest lane, and the least index of the lanes that hold it as the kernel computes it. -/
theorem lanes_low {w : ℕ → EReal} {z : EReal} {n : ℕ} {vm : L16.Idx → EReal} {vi : L16.Idx → BitVec 32}
    (h : ∀ l : Fin 16, Lane (fun _ => True) w z l.val n (vm (ix1 l)) (vi (ix1 l)).toNat) (hn : 0 < n) (hn' : n < 2 ^ 20)
    (v : IVec L16 32) (hv : ∀ l : Fin 16, v (ix1 l) = if vm (ix1 l) = top vm then vi (ix1 l) else 2147483647#32) (hh) :
    Found w z (16 * n) (top vm) (low v hh).toNat := by
  have hlt : ∀ l : Fin 16, (vi (ix1 l)).toNat < 16 * n := fun l => (h l).lt l.isLt le_rfl (by omega)
  obtain ⟨⟨l, hl⟩, hmin⟩ := low_spec v hh fun l => by
    rw [hv]; split
    · have := hlt l; omega
    · decide
  obtain ⟨l₀, hl₀⟩ := top_mem vm
  have h0 : (low v hh).toNat ≤ (vi (ix1 l₀)).toNat := by
    have := hmin l₀; rwa [hv, if_pos hl₀] at this
  have hlt' : vm (ix1 l) = top vm := by
    by_contra hne
    rw [hv, if_neg hne] at hl
    have := hlt l₀
    rw [← hl] at h0
    have e : (2147483647#32 : BitVec 32).toNat = 2147483647 := rfl
    rw [e] at h0; omega
  refine lanes h hn hn' ⟨l, hlt', by rw [← hl, hv, if_pos hlt']⟩ fun l' hl' => ?_
  have := hmin l'; rwa [hv, if_pos hl'] at this

theorem cmp_ogt (x y : EReal) : Ideal.cmp .ogt x y = 1#1 ↔ y < x := by
  simp only [Ideal.cmp, ofBool_eq_one, decide_eq_true_eq]

theorem cmp_oeq (x y : EReal) : Ideal.cmp .oeq x y = 1#1 ↔ x = y := by
  simp only [Ideal.cmp, ofBool_eq_one, decide_eq_true_eq]

/-- A choice by a comparison, lane by lane. -/
theorem sel_ogt {s : Shape} {β : Type} (x y : FVec Ideal s .f32) (a b : s.Idx → β) (l : s.Idx) :
    select (cmpf .ogt x y) a b l = if y l < x l then a l else b l := by
  show (if Ideal.cmp .ogt (x l) (y l) = 1#1 then a l else b l) = _
  exact if_congr (cmp_ogt _ _) rfl rfl

theorem sel_oeq {s : Shape} {β : Type} (x y : FVec Ideal s .f32) (a b : s.Idx → β) (l : s.Idx) :
    select (cmpf .oeq x y) a b l = if x l = y l then a l else b l := by
  show (if Ideal.cmp .oeq (x l) (y l) = 1#1 then a l else b l) = _
  exact if_congr (cmp_oeq _ _) rfl rfl

end Cert.Proof.Vec

end
-- ==== Proof.Scan.lean ====
/-
  The two searches of the greedy phase: the greatest row maximum with its first row, and the greatest similarity of a
  row over the columns still alive with its first column.
-/
module

public import proofs.«01_k».proof.Proof.Rules
public import proofs.«01_k».proof.Proof.Vec
public import proofs.«01_k».proof.Proof.Gen.KernelIdeal.Skeleton

@[expose] public section

noncomputable section

namespace Cert.Proof.Scan

open Cert.KernelIdeal Cert.KernelIdeal.Gen Cert.Proof.Rules Cert.Proof.Vec Cert.Proof.Greedy
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

/-- The lanes of the running search after a chunk: a lane that is exceeded takes the new value and its index. -/
theorem lane_step {w : ℕ → EReal} {z : EReal} {k : ℕ} (hk : k < 2 ^ 10) {vm : L16.Idx → EReal} {vi : L16.Idx → BitVec 32}
    (h : ∀ l : Fin 16, Lane (fun _ => True) w z l.val k (vm (ix1 l)) (vi (ix1 l)).toNat)
    {vm' : L16.Idx → EReal} {vi' : L16.Idx → BitVec 32}
    (hm : ∀ l : Fin 16, vm' (ix1 l) = if vm (ix1 l) < w (16 * k + l.val) then w (16 * k + l.val) else vm (ix1 l))
    (hi : ∀ l : Fin 16, (vi' (ix1 l)).toNat = if vm (ix1 l) < w (16 * k + l.val) then 16 * k + l.val else (vi (ix1 l)).toNat) :
    ∀ l : Fin 16, Lane (fun _ => True) w z l.val (k + 1) (vm' (ix1 l)) (vi' (ix1 l)).toNat := fun l => by
  rw [hm, hi]
  by_cases hc : vm (ix1 l) < w (16 * k + l.val)
  · rw [if_pos hc, if_pos hc]; exact (h l).take trivial hc
  · rw [if_neg hc, if_neg hc]; exact (h l).keep fun hh => hc hh.2

variable {Ix : Type} [DecidableEq Ix] {Name : Type} [DecidableEq Name]
variable {U : Type} [URA U] {Lvl : Type} [Preorder Lvl]
variable {defs : Defs nD τ sig (Elt Ideal) Λ₀} (𝒱 : Variants) (d : Fin nD) (i : grid1.Coords) (bd : Option 𝒱.V)

local notation "𝕄" => MT nD τ sig Ix (Elt Ideal) Name U Lvl

/-- The subcore the body runs on. -/
abbrev thr : Thread nD τ := (d, .scVector ((i 0).castLE hcore1) ((i 1).castLE hsub1))

/-- The lane numbers. -/
abbrev lanesNo : IVec S16 32 := iota .scVector S16 32 [0] iota_S16_d0_w32_scVector

variable {α : Type} {Q : α → sProp 𝕄}

variable (arg2 : Memref sig .scVector .hbm S4x1000x1008 .f32) (harg2 : arg2.IsWhole) (arg3 : Memref sig .scVector .hbm S4x1008 .f32) (harg3 : arg3.IsWhole)
  (arg4 : Memref sig .scVector .hbm S4x1008 .i32) (harg4 : arg4.IsWhole) (arg5 : Memref sig .scVector .hbm S4x1000x256 .f32) (harg5 : arg5.IsWhole)
  (arg6 : Memref sig .scVector .hbm S4x1008 .i32) (harg6 : arg6.IsWhole) (arg7 : Memref sig .scVector .hbm S4x1000x256 .f32) (harg7 : arg7.IsWhole)
  (arg8 : Memref sig .scVector .vmem S1008 .f32) (harg8 : arg8.IsWhole) (arg9 : Memref sig .scVector .vmem S1008 .i32) (harg9 : arg9.IsWhole)
  (arg10 : Memref sig .scVector .vmem S1008 .f32) (harg10 : arg10.IsWhole) (arg11 : Memref sig .scVector .vmem S1008 .i32) (harg11 : arg11.IsWhole)
  (arg12 : Memref sig .scVector .vmem S1008 .f32) (harg12 : arg12.IsWhole) (arg13 : Memref sig .scVector .vmem S1008 .f32) (harg13 : arg13.IsWhole)
  (arg14 : Memref sig .scVector .vmem S256x256 .f32) (harg14 : arg14.IsWhole) (arg15 : Memref sig .scVector .vmem S256 .f32) (harg15 : arg15.IsWhole)
  (arg16 : Memref sig .scVector .smem S1 .i32) (harg16 : arg16.IsWhole)
  (arg17 arg18 arg19 arg20 arg21 arg22 arg23 : DmaSems sig S_) (k1_h1 : k1_cond1 i = 1#1)

theorem pay28_top (vm : FVec Ideal S16 .f32) : (k1_pay28 (F := Ideal) vm : EReal) = top vm := by
  unfold k1_pay28
  simp only [ext1 vm 0 (by decide), ext1 vm 1 (by decide), ext1 vm 2 (by decide), ext1 vm 3 (by decide), ext1 vm 4 (by decide), ext1 vm 5 (by decide), ext1 vm 6 (by decide), ext1 vm 7 (by decide), ext1 vm 8 (by decide), ext1 vm 9 (by decide), ext1 vm 10 (by decide), ext1 vm 11 (by decide), ext1 vm 12 (by decide), ext1 vm 13 (by decide), ext1 vm 14 (by decide), ext1 vm 15 (by decide)]
  rfl

theorem pay52_top (vm : FVec Ideal S16 .f32) :
    (k1_pay52 (F := Ideal) (k1_pay11 vm) (k1_pay12 vm) (k1_pay13 vm) (k1_pay14 vm) (k1_pay15 vm) (k1_pay16 vm) (k1_pay17 vm) (k1_pay18 vm)
      (k1_pay19 vm) (k1_pay20 vm) (k1_pay21 vm) (k1_pay22 vm) : EReal) = top vm := by
  unfold k1_pay52 k1_pay11 k1_pay12 k1_pay13 k1_pay14 k1_pay15 k1_pay16 k1_pay17 k1_pay18 k1_pay19 k1_pay20 k1_pay21 k1_pay22
  simp only [ext1 vm 0 (by decide), ext1 vm 1 (by decide), ext1 vm 2 (by decide), ext1 vm 3 (by decide), ext1 vm 4 (by decide), ext1 vm 5 (by decide), ext1 vm 6 (by decide), ext1 vm 7 (by decide), ext1 vm 8 (by decide), ext1 vm 9 (by decide), ext1 vm 10 (by decide), ext1 vm 11 (by decide), ext1 vm 12 (by decide), ext1 vm 13 (by decide), ext1 vm 14 (by decide), ext1 vm 15 (by decide)]
  rfl

set_option maxHeartbeats 2000000 in
/-- The search over the row maxima. -/
theorem part2_wp {w : ℕ → EReal} {q : PosShare TreeShare}
    {R : (Σ' (_ : IVec S16 32) (_ : Ideal .f32) (_ : IVec S16 1), BitVec 32) → sProp 𝕄} :
    (owns (thr d i) arg8 q (at1 w) : sProp 𝕄)
      ⊢ iprop((∀ (vi : IVec S16 32) (m : Ideal .f32) (b : IVec S16 1),
          ⌜Found w three 1008 m (extractAt ![15] (k1_pay44 vi b 2147483647#32) inpos_S16_p15).toNat⌝
            -∗ owns (thr d i) arg8 q (at1 w) -∗ R ⟨vi, m, b, 2147483647#32⟩)
        -∗ wp frame (wpE defs 𝒱 (thr d i) bd) Set.univ
          (k1_part2_skel (F := Ideal) i arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 arg18 arg19 arg20 arg21 arg22 arg23 lanesNo k1_h1) R) := by
  unfold k1_part2_skel
  iintro H Hk
  iapply (Scf.wp_for_bind frame (wpE defs 𝒱 (thr d i) bd) Set.univ 0#32 (Scalar.addi 0#32 63#32) 1#32 (k1_t3_ok i k1_h1) _ _
    (fun k acc => iprop(⌜∀ l : Fin 16, Lane (fun _ => True) w three l.val k (acc.1 (ix1 l)) (acc.2 (ix1 l)).toNat⌝ ∗ owns (thr d i) arg8 q (at1 w))) ?trip) $$ [H]
  case trip =>
    intro k acc
    rcases acc with ⟨vm, vi⟩
    have hk : k.val < 63 := k.isLt
    unfold k1_t3_body
    iintro ⟨%hl, H⟩
    iapply (wp_loadO 𝒱 (thr d i) bd) $$ H
    iintro H
    rw [load_at1]
    iapply (wp_doneO 𝒱 (thr d i) bd)
    isplitr
    · ipureintro
      have e : (k1_off3 k : Fin 1 → ℕ) 0 = 16 * k.val := iv_mul k.val (by omega)
      refine lane_step (by omega) hl ?_ ?_
      · intro l
        refine (sel_ogt _ _ _ _ _).trans ?_
        show (if vm (ix1 l) < w (k1_off3 k 0 + l.val) then w (k1_off3 k 0 + l.val) else vm (ix1 l)) = _
        rw [e]
      · intro l
        refine (congrArg BitVec.toNat (sel_ogt _ _ _ _ _)).trans ?_
        show BitVec.toNat (if vm (ix1 l) < w (k1_off3 k 0 + l.val) then _ else vi (ix1 l)) = _
        rw [e]
        by_cases hc : vm (ix1 l) < w (16 * k.val + l.val)
        · rw [if_pos hc, if_pos hc]
          refine (lane_add l _ ?_).trans ?_
          · rw [iv_mul k.val (by omega)]; omega
          · rw [iv_mul k.val (by omega)]
        · rw [if_neg hc, if_neg hc]
    · iexact H
  · isplitr
    · ipureintro; intro l
      show Lane _ w three l.val 0 (Ideal.ofBits .f32 0xC0400000#32) (0#32).toNat
      rw [lit_three]; exact Lane.zero _ _ _ _
    · iexact H
  iintro %acc ⟨%hl, H⟩
  rcases acc with ⟨vm, vi⟩
  iapply (wp_doneO 𝒱 (thr d i) bd)
  iapply Hk $$ [] H
  ipureintro
  have e : Scf.trips 0#32 (Scalar.addi 0#32 63#32) 1#32 = 63 := by decide
  rw [e] at hl
  have em := pay28_top vm
  have := lanes_low hl (by norm_num) (by norm_num) (select (k1_pay29 (F := Ideal) vm) vi (broadcast S16 2147483647#32)) (fun l => by
    refine (sel_oeq _ _ _ _ _).trans ?_
    show (if vm (ix1 l) = k1_pay28 (F := Ideal) vm then vi (ix1 l) else 2147483647#32) = _
    rw [em]) inpos_S16_p15
  show Found w three 1008 (k1_pay28 vm : EReal) _
  rw [em]; exact this

end Cert.Proof.Scan

end
-- ==== Proof.Carve.lean ====
/-
  Ownership of some of a memref's elements, and the part of it that a slice of the memref names taken out and put back.
-/
module

public import proofs.«01_k».proof.Proof.Rules

@[expose] public section

noncomputable section

namespace Cert.Proof.Rules

open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

variable {nD : Nat} {τ : Topo} {sig : RefSig} {Ix : Type} [DecidableEq Ix]
variable {F : FTy → Type} [FloatOps F] {Name : Type} [DecidableEq Name]
variable {U : Type} [URA U] {Lvl : Type} [Preorder Lvl] (c : Thread nD τ)
variable {sp : Space} {s s' : Shape} {e : EltTy}

local notation "𝕄" => MT nD τ sig Ix (Elt F) Name U Lvl

/-- Core `c` owns the memref's elements at the indices `D`, and reads `X` there. -/
def ownsOn (m : Memref sig c.2.kind sp s e) (q : PosShare TreeShare) (D : Finset s.Idx) (X : s.Idx → Elt F e) : sProp 𝕄 :=
  iprop(∃ f, ⌜∀ j ∈ D, m.view.read (Elt F) f j = X j⌝ ∗ (m.view.loc c ↦[D.map m.view.emb]{q} f))

theorem ownsOn_open (m : Memref sig c.2.kind sp s e) (q : PosShare TreeShare) (D : Finset s.Idx) (X : s.Idx → Elt F e) :
    (ownsOn c m q D X : sProp 𝕄) ⊢ iprop(∃ f, ⌜∀ j ∈ D, m.view.read (Elt F) f j = X j⌝ ∗ (m.view.loc c ↦[D.map m.view.emb]{q} f)) := .rfl

theorem ownsOn_close (m : Memref sig c.2.kind sp s e) (q : PosShare TreeShare) {D : Finset s.Idx} {X : s.Idx → Elt F e} {f : m.view.ty.Contents (Elt F)}
    (h : ∀ j ∈ D, m.view.read (Elt F) f j = X j) : (m.view.loc c ↦[D.map m.view.emb]{q} f : sProp 𝕄) ⊢ ownsOn c m q D X := by
  unfold ownsOn
  iintro H
  iexists f
  isplitr
  · ipureintro; exact h
  · iexact H

theorem ownsOn_congr (m : Memref sig c.2.kind sp s e) (q : PosShare TreeShare) {D : Finset s.Idx} {X Y : s.Idx → Elt F e} (h : ∀ j ∈ D, X j = Y j) :
    (ownsOn c m q D X : sProp 𝕄) ⊢ ownsOn c m q D Y := by
  iintro H
  ihave H' := (ownsOn_open c m q D X) $$ H
  icases H' with ⟨%f, %hf, H⟩
  iapply (ownsOn_close c m q (fun j hj => (hf j hj).trans (h j hj))) $$ H

/-- What a slice with its unit axes dropped names, out of the elements held; it comes back at any contents. -/
theorem ownsOn_carve (m : Memref sig c.2.kind sp s e) (q : PosShare TreeShare) {D : Finset s.Idx} {X : s.Idx → Elt F e} (r : Rect s)
    (hr : ∀ a, r.stride a = 1) (hs : r.shape.Squeezes s') (φ : s'.Idx → s.Idx) (hφ : ∀ j, r.emb (Shape.reshapeEquiv hs.numel_eq j) = φ j) (hD : ∀ j, φ j ∈ D) :
    (ownsOn c m q D X : sProp 𝕄) ⊢ iprop(owns c ((m.slice r hr).squeeze s' hs) q (fun j => X (φ j))
      ∗ (∀ (Y : s'.Idx → Elt F e) (X' : s.Idx → Elt F e), ⌜(∀ j, X' (φ j) = Y j) ∧ ∀ i ∈ D, (∀ j, φ j ≠ i) → X' i = X i⌝
          -∗ owns c ((m.slice r hr).squeeze s' hs) q Y -∗ ownsOn c m q D X')) := by
  have hsub : ((m.slice r hr).squeeze s' hs).view.set ⊆ D.map m.view.emb := by
    intro x hx
    obtain ⟨j, -, rfl⟩ := Finset.mem_map.mp hx
    exact Finset.mem_map.mpr ⟨φ j, hD j, congrArg m.view.emb (hφ j).symm⟩
  have hread : ∀ (f : m.view.ty.Contents (Elt F)) (j : s'.Idx), ((m.slice r hr).squeeze s' hs).view.read (Elt F) f j = m.view.read (Elt F) f (φ j) := fun f j => by
    rw [← hφ]; rfl
  iintro H
  ihave H' := (ownsOn_open c m q D X) $$ H
  icases H' with ⟨%f, %hf, H⟩
  ihave H' := (pointsTo_split_subset hsub).1 $$ H
  icases H' with ⟨H1, H2⟩
  isplitl [H1]
  · iapply (owns_close c ((m.slice r hr).squeeze s' hs) q (f := f) ?_) $$ H1
    funext j; rw [hread]; exact hf _ (hD j)
  · iintro %Y %X' %hX' HY
    ihave HY' := (owns_open c ((m.slice r hr).squeeze s' hs) q Y) $$ HY
    icases HY' with ⟨%g, %hg, HY⟩
    ihave H' := (pointsTo_join_subset (ℓ := m.view.loc c) (g := g) (f := f) hsub) $$ [HY H2]
    · isplitl [HY]; · iexact HY
      iexact H2
    iapply (ownsOn_close c m q ?_) $$ H'
    intro i hi
    by_cases hex : ∃ j, φ j = i
    · obtain ⟨j, rfl⟩ := hex
      rw [hX'.1 j, ← hg, hread]
      refine View.read_congr_at _ (Finset.piecewise_eq_of_mem _ _ _ ?_)
      exact Finset.mem_map.mpr ⟨j, Finset.mem_univ _, congrArg m.view.emb (hφ j)⟩
    · push Not at hex
      rw [hX'.2 i hi hex, ← hf i hi]
      refine View.read_congr_at _ (Finset.piecewise_eq_of_notMem _ _ _ ?_)
      intro hm
      obtain ⟨j, -, hj⟩ := Finset.mem_map.mp hm
      exact hex j ((hφ j).symm.trans (m.view.emb.injective hj))

/-- What a slice names likewise. -/
theorem ownsOn_slice (m : Memref sig c.2.kind sp s e) (q : PosShare TreeShare) {D : Finset s.Idx} {X : s.Idx → Elt F e} (r : Rect s)
    (hr : ∀ a, r.stride a = 1) (hD : ∀ j, r.emb j ∈ D) :
    (ownsOn c m q D X : sProp 𝕄) ⊢ iprop(owns c (m.slice r hr) q (fun j => X (r.emb j))
      ∗ (∀ (Y : r.shape.Idx → Elt F e) (X' : s.Idx → Elt F e), ⌜(∀ j, X' (r.emb j) = Y j) ∧ ∀ i ∈ D, (∀ j, r.emb j ≠ i) → X' i = X i⌝
          -∗ owns c (m.slice r hr) q Y -∗ ownsOn c m q D X')) := by
  have hsub : (m.slice r hr).view.set ⊆ D.map m.view.emb := by
    intro x hx
    obtain ⟨j, -, rfl⟩ := Finset.mem_map.mp hx
    exact Finset.mem_map.mpr ⟨r.emb j, hD j, rfl⟩
  have hread : ∀ (f : m.view.ty.Contents (Elt F)) (j : r.shape.Idx), (m.slice r hr).view.read (Elt F) f j = m.view.read (Elt F) f (r.emb j) := fun f j => rfl
  iintro H
  ihave H' := (ownsOn_open c m q D X) $$ H
  icases H' with ⟨%f, %hf, H⟩
  ihave H' := (pointsTo_split_subset hsub).1 $$ H
  icases H' with ⟨H1, H2⟩
  isplitl [H1]
  · iapply (owns_close c (m.slice r hr) q (f := f) ?_) $$ H1
    funext j; rw [hread]; exact hf _ (hD j)
  · iintro %Y %X' %hX' HY
    ihave HY' := (owns_open c (m.slice r hr) q Y) $$ HY
    icases HY' with ⟨%g, %hg, HY⟩
    ihave H' := (pointsTo_join_subset (ℓ := m.view.loc c) (g := g) (f := f) hsub) $$ [HY H2]
    · isplitl [HY]; · iexact HY
      iexact H2
    iapply (ownsOn_close c m q ?_) $$ H'
    intro i hi
    by_cases hex : ∃ j, r.emb j = i
    · obtain ⟨j, rfl⟩ := hex
      rw [hX'.1 j, ← hg, hread]
      refine View.read_congr_at _ (Finset.piecewise_eq_of_mem _ _ _ ?_)
      exact Finset.mem_map.mpr ⟨j, Finset.mem_univ _, rfl⟩
    · push Not at hex
      rw [hX'.2 i hi hex, ← hf i hi]
      refine View.read_congr_at _ (Finset.piecewise_eq_of_notMem _ _ _ ?_)
      intro hm
      obtain ⟨j, -, hj⟩ := Finset.mem_map.mp hm
      exact hex j (m.view.emb.injective hj)

/-- All the elements. -/
theorem owns_all (m : Memref sig c.2.kind sp s e) (q : PosShare TreeShare) (X : s.Idx → Elt F e) :
    (owns c m q X : sProp 𝕄) ⊢ ownsOn c m q Finset.univ X := by
  iintro H
  ihave H' := (owns_open c m q X) $$ H
  icases H' with ⟨%f, %hf, H⟩
  iapply (show (m.view.loc c ↦[m.view.set]{q} f : sProp 𝕄) ⊢ ownsOn c m q Finset.univ X from ownsOn_close c m q (D := Finset.univ) (f := f) (fun j _ => congrFun hf j)) $$ H

theorem all_owns (m : Memref sig c.2.kind sp s e) (q : PosShare TreeShare) (X : s.Idx → Elt F e) :
    (ownsOn c m q Finset.univ X : sProp 𝕄) ⊢ owns c m q X := by
  iintro H
  ihave H' := (ownsOn_open c m q Finset.univ X) $$ H
  icases H' with ⟨%f, %hf, H⟩
  iapply (show (m.view.loc c ↦[Finset.univ.map m.view.emb]{q} f : sProp 𝕄) ⊢ owns c m q X from owns_close c m q (f := f) (funext fun j => hf j (Finset.mem_univ j))) $$ H

end Cert.Proof.Rules

end
-- ==== Proof.Slices.lean ====
/-
  The slices the kernel's copies name, out of one batch's share of an array: a row of a rank-two array, a row and a block
  of rows of a rank-three array.
-/
module

public import proofs.«01_k».proof.Proof.Carve
public import proofs.«01_k».proof.Proof.Vec

@[expose] public section

noncomputable section

namespace Cert.Proof.Rules

open Cert.Proof.Vec
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

variable {nD : Nat} {τ : Topo} {sig : RefSig} {Ix : Type} [DecidableEq Ix]
variable {F : FTy → Type} [FloatOps F] {Name : Type} [DecidableEq Name]
variable {U : Type} [URA U] {Lvl : Type} [Preorder Lvl] (c : Thread nD τ)
variable {sp : Space} {e : EltTy}

local notation "𝕄" => MT nD τ sig Ix (Elt F) Name U Lvl

/-- The indices of batch `b`. -/
def part {n : ℕ} (sz : Fin (n + 1) → ℕ) (b : ℕ) : Finset (⟨n + 1, sz⟩ : Shape).Idx := Finset.univ.filter fun j => (j 0).val = b

theorem mem_part {n : ℕ} {sz : Fin (n + 1) → ℕ} {b : ℕ} {j : (⟨n + 1, sz⟩ : Shape).Idx} : j ∈ part sz b ↔ (j 0).val = b := by
  simp [part]

/-- Batch `b`'s row of a rank-two array. -/
theorem carve_row2 {A C b : ℕ} (m : Memref sig c.2.kind sp ⟨2, ![A, C]⟩ e) (q : PosShare TreeShare) (G : ℕ → ℕ → Elt F e) (off : Fin 2 → ℕ)
    (h) (hr) (hs : (⟨2, ![1, C]⟩ : Shape).Squeezes ⟨1, ![C]⟩) (h0 : off 0 = b) (h1 : off 1 = 0) :
    (ownsOn c m q (part ![A, C] b) (at2 G) : sProp 𝕄) ⊢ iprop(
      owns c ((m.slice (Rect.unit (s := ⟨2, ![A, C]⟩) off (⟨2, ![1, C]⟩ : Shape).size h) hr).squeeze ⟨1, ![C]⟩ hs) q (at1 (G b))
      ∗ (∀ Y : ℕ → Elt F e, owns c ((m.slice (Rect.unit (s := ⟨2, ![A, C]⟩) off (⟨2, ![1, C]⟩ : Shape).size h) hr).squeeze ⟨1, ![C]⟩ hs) q (at1 Y)
          -∗ ownsOn c m q (part ![A, C] b) (at2 fun _ => Y))) := by
  have hb : b < A := by have := h 0; rw [h0] at this; exact this
  have hφ : ∀ j : (⟨1, ![C]⟩ : Shape).Idx, (Rect.unit (s := ⟨2, ![A, C]⟩) off (⟨2, ![1, C]⟩ : Shape).size h).emb (Shape.reshapeEquiv hs.numel_eq j)
      = ix2 (⟨b, hb⟩ : Fin A) (j 0) := fun j => by
    rw [Shape.reshapeEquiv_cons_one]
    funext a
    refine Fin.ext ((Rect.emb_apply _ _ _).trans ?_)
    match a with
    | ⟨0, _⟩ => show off 0 + 1 * 0 = b; omega
    | ⟨1, _⟩ => show off 1 + 1 * (j 0).val = (j 0).val; omega
  iintro H
  ihave H' := (ownsOn_carve c m q (D := part ![A, C] b) (X := at2 G) (Rect.unit (s := ⟨2, ![A, C]⟩) off (⟨2, ![1, C]⟩ : Shape).size h) hr hs
    (fun j => ix2 (⟨b, hb⟩ : Fin A) (j 0)) hφ (fun j => mem_part.mpr rfl)) $$ H
  icases H' with ⟨H, Hb⟩
  isplitl [H]
  · iexact H
  · iintro %Y H
    iapply Hb $$ %(at1 Y) %(at2 fun _ => Y) [] H
    ipureintro
    refine ⟨fun j => rfl, fun i hi hn => absurd ?_ (hn (ix1 (i 1)))⟩
    have := mem_part.mp hi
    funext a
    match a with
    | ⟨0, _⟩ => exact Fin.ext this.symm
    | ⟨1, _⟩ => rfl

/-- A row of batch `b` of a rank-three array, read. -/
theorem carve_row3 {A B C b r : ℕ} (m : Memref sig c.2.kind sp ⟨3, ![A, B, C]⟩ e) (q : PosShare TreeShare) (G : ℕ → ℕ → ℕ → Elt F e) (off : Fin 3 → ℕ)
    (h) (hr) (hs : (⟨3, ![1, 1, C]⟩ : Shape).Squeezes ⟨1, ![C]⟩) (h0 : off 0 = b) (h1 : off 1 = r) (h2 : off 2 = 0) :
    (ownsOn c m q (part ![A, B, C] b) (at3 G) : sProp 𝕄) ⊢ iprop(
      owns c ((m.slice (Rect.unit (s := ⟨3, ![A, B, C]⟩) off (⟨3, ![1, 1, C]⟩ : Shape).size h) hr).squeeze ⟨1, ![C]⟩ hs) q (at1 (G b r))
      ∗ (owns c ((m.slice (Rect.unit (s := ⟨3, ![A, B, C]⟩) off (⟨3, ![1, 1, C]⟩ : Shape).size h) hr).squeeze ⟨1, ![C]⟩ hs) q (at1 (G b r))
          -∗ ownsOn c m q (part ![A, B, C] b) (at3 G))) := by
  have hb : b < A := by have := h 0; rw [h0] at this; exact this
  have hr' : r < B := by have := h 1; rw [h1] at this; exact this
  have hφ : ∀ j : (⟨1, ![C]⟩ : Shape).Idx, (Rect.unit (s := ⟨3, ![A, B, C]⟩) off (⟨3, ![1, 1, C]⟩ : Shape).size h).emb (Shape.reshapeEquiv hs.numel_eq j)
      = ix3 (⟨b, hb⟩ : Fin A) (⟨r, hr'⟩ : Fin B) (j 0) := fun j => by
    have e : Shape.reshapeEquiv hs.numel_eq j = (ix3 (0 : Fin 1) (0 : Fin 1) (j 0) : (⟨3, ![1, 1, C]⟩ : Shape).Idx) := by
      refine Shape.reshapeEquiv_eq_of_rowMajor _ ?_
      show ((Shape.rowMajorPi ![1, 1, C] _ : Fin _) : ℕ) = (Shape.rowMajorPi ![C] j : ℕ)
      rw [Shape.rowMajorPi_succ_val]
      show 0 * _ + _ = _
      rw [Nat.zero_mul, Nat.zero_add, Shape.rowMajorPi_succ_val]
      show 0 * _ + _ = _
      rw [Nat.zero_mul, Nat.zero_add]
      congr 1
    rw [e]
    funext a
    refine Fin.ext ((Rect.emb_apply _ _ _).trans ?_)
    match a with
    | ⟨0, _⟩ => show off 0 + 1 * 0 = b; omega
    | ⟨1, _⟩ => show off 1 + 1 * 0 = r; omega
    | ⟨2, _⟩ => show off 2 + 1 * (j 0).val = (j 0).val; omega
  iintro H
  ihave H' := (ownsOn_carve c m q (D := part ![A, B, C] b) (X := at3 G) (Rect.unit (s := ⟨3, ![A, B, C]⟩) off (⟨3, ![1, 1, C]⟩ : Shape).size h) hr hs
    (fun j => ix3 (⟨b, hb⟩ : Fin A) (⟨r, hr'⟩ : Fin B) (j 0)) hφ (fun j => mem_part.mpr rfl)) $$ H
  icases H' with ⟨H, Hb⟩
  isplitl [H]
  · iexact H
  · iintro H
    iapply Hb $$ %(at1 (G b r)) %(at3 G) [] H
    ipureintro
    exact ⟨fun j => rfl, fun i hi hn => rfl⟩

/-- A block of rows of batch `b` of a rank-three array. -/
theorem carve_block3 {A B C b r k : ℕ} (m : Memref sig c.2.kind sp ⟨3, ![A, B, C]⟩ e) (q : PosShare TreeShare) (G : ℕ → ℕ → ℕ → Elt F e) (off : Fin 3 → ℕ)
    (h) (hr) (hs : (⟨3, ![1, k, C]⟩ : Shape).Squeezes ⟨2, ![k, C]⟩) (h0 : off 0 = b) (h1 : off 1 = r) (h2 : off 2 = 0) :
    (ownsOn c m q (part ![A, B, C] b) (at3 G) : sProp 𝕄) ⊢ iprop(
      owns c ((m.slice (Rect.unit (s := ⟨3, ![A, B, C]⟩) off (⟨3, ![1, k, C]⟩ : Shape).size h) hr).squeeze ⟨2, ![k, C]⟩ hs) q (at2 fun i j => G b (r + i) j)
      ∗ (∀ Y : ℕ → ℕ → Elt F e, owns c ((m.slice (Rect.unit (s := ⟨3, ![A, B, C]⟩) off (⟨3, ![1, k, C]⟩ : Shape).size h) hr).squeeze ⟨2, ![k, C]⟩ hs) q (at2 Y)
          -∗ ownsOn c m q (part ![A, B, C] b) (at3 fun a i j => if r ≤ i ∧ i < r + k then Y (i - r) j else G a i j))) := by
  have hb : b < A := by have := h 0; rw [h0] at this; exact this
  have hr' : r + k ≤ B := by have := h 1; rw [h1] at this; exact this
  have hφ : ∀ j : (⟨2, ![k, C]⟩ : Shape).Idx, (Rect.unit (s := ⟨3, ![A, B, C]⟩) off (⟨3, ![1, k, C]⟩ : Shape).size h).emb (Shape.reshapeEquiv hs.numel_eq j)
      = ix3 (⟨b, hb⟩ : Fin A) (⟨r + (j 0).val, lt_of_lt_of_le (Nat.add_lt_add_left (j 0).isLt r) hr'⟩ : Fin B) (j 1) := fun j => by
    rw [Shape.reshapeEquiv_cons_one]
    funext a
    refine Fin.ext ((Rect.emb_apply _ _ _).trans ?_)
    match a with
    | ⟨0, _⟩ => show off 0 + 1 * 0 = b; omega
    | ⟨1, _⟩ => show off 1 + 1 * (j 0).val = r + (j 0).val; omega
    | ⟨2, _⟩ => show off 2 + 1 * (j 1).val = (j 1).val; omega
  iintro H
  ihave H' := (ownsOn_carve c m q (D := part ![A, B, C] b) (X := at3 G) (Rect.unit (s := ⟨3, ![A, B, C]⟩) off (⟨3, ![1, k, C]⟩ : Shape).size h) hr hs
    (fun j => ix3 (⟨b, hb⟩ : Fin A) (⟨r + (j 0).val, lt_of_lt_of_le (Nat.add_lt_add_left (j 0).isLt r) hr'⟩ : Fin B) (j 1)) hφ (fun j => mem_part.mpr rfl)) $$ H
  icases H' with ⟨H, Hb⟩
  isplitl [H]
  · iexact H
  · iintro %Y H
    iapply Hb $$ %(at2 Y) %(at3 fun a i j => if r ≤ i ∧ i < r + k then Y (i - r) j else G a i j) [] H
    ipureintro
    refine ⟨fun j => ?_, fun i hi hn => ?_⟩
    · have : (j 0).val < k := (j 0).isLt
      show (if r ≤ r + (j 0).val ∧ r + (j 0).val < r + k then Y (r + (j 0).val - r) (j 1).val else _) = Y (j 0).val (j 1).val
      rw [if_pos ⟨by omega, by omega⟩, Nat.add_sub_cancel_left]
    · show (if r ≤ (i 1).val ∧ (i 1).val < r + k then Y ((i 1).val - r) (i 2).val else _) = _
      rw [if_neg]
      · rfl
      rintro ⟨h3, h4⟩
      refine hn (ix2 (⟨(i 1).val - r, by omega⟩ : Fin k) (i 2)) ?_
      have := mem_part.mp hi
      funext a
      match a with
      | ⟨0, _⟩ => exact Fin.ext this.symm
      | ⟨1, _⟩ => refine Fin.ext ?_; show r + ((i 1).val - r) = (i 1).val; omega
      | ⟨2, _⟩ => rfl

end Cert.Proof.Rules

end
-- ==== Proof.Rescan.lean ====
/-
  A row rescanned: the row of the similarity matrix is copied into the tile's memory, and its greatest entry over the
  columns still alive is found, with the first column that holds it.
-/
module

public import proofs.«01_k».proof.Proof.Scan
public import proofs.«01_k».proof.Proof.Slices

@[expose] public section

noncomputable section

namespace Cert.Proof.Scan

open Cert.KernelIdeal Cert.KernelIdeal.Gen Cert.Proof.Rules Cert.Proof.Vec Cert.Proof.Greedy
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

/-- The batch a subcore works on. -/
def wid (i : grid1.Coords) : ℕ := (i 1).val * 2 + (i 0).val

theorem off5_0 (i : grid1.Coords) (k1_t4 k1_t5) : k1_off5 i k1_t4 k1_t5 0 = wid i := by
  have h0 : (i 0).val < 2 := (i 0).isLt
  have h1 : (i 1).val < 16 := (i 1).isLt
  show (BitVec.ofNat 32 (i 1).val * 2#32 + BitVec.ofNat 32 (i 0).val).toNat = (i 1).val * 2 + (i 0).val
  rw [BitVec.toNat_add, BitVec.toNat_mul, BitVec.toNat_ofNat, BitVec.toNat_ofNat]
  show ((i 1).val % 2 ^ 32 * 2 % 2 ^ 32 + (i 0).val % 2 ^ 32) % 2 ^ 32 = _
  omega

/-- The number of a row from its chunk and its place there. -/
theorem row_toNat {k l : ℕ} (hk : k < 63) (hl : l < 16) :
    (Scalar.addi (Scalar.muli (Scf.iv 0#32 1#32 k) 16#32) (Scf.iv 0#32 1#32 l)).toNat = 16 * k + l := by
  show (Scalar.muli (Scf.iv 0#32 1#32 k) 16#32 + Scf.iv 0#32 1#32 l).toNat = _
  rw [BitVec.toNat_add, iv_mul k (by omega), iv_toNat l (by omega)]
  omega

theorem off5_1 (i : grid1.Coords) (k1_t4 : Fin k1_t4_loop.trips) (k1_t5 : Fin k1_t5_loop.trips) : k1_off5 i k1_t4 k1_t5 1 = 16 * k1_t4.val + k1_t5.val :=
  row_toNat k1_t4.isLt k1_t5.isLt

variable {Ix : Type} [DecidableEq Ix] {Name : Type} [DecidableEq Name]
variable {U : Type} [URA U] {Lvl : Type} [Preorder Lvl]
variable {defs : Defs nD τ sig (Elt Ideal) Λ₀} (𝒱 : Variants) (d : Fin nD) (i : grid1.Coords) (bd : Option 𝒱.V)

local notation "𝕄" => MT nD τ sig Ix (Elt Ideal) Name U Lvl

variable (EC : UEmb Counters (MT nD τ sig Ix (Elt Ideal) Name U Lvl)) [Infinite Name] [EC.LandsIn (upEmb : UEmb _ (MT nD τ sig Ix (Elt Ideal) Name U Lvl))] (O : CellTallies nD τ sig Ix) (W : Waits sig Ix) (ι : Ix)

variable (arg2 : Memref sig .scVector .hbm S4x1000x1008 .f32) (harg2 : arg2.IsWhole) (arg3 : Memref sig .scVector .hbm S4x1008 .f32) (harg3 : arg3.IsWhole)
  (arg4 : Memref sig .scVector .hbm S4x1008 .i32) (harg4 : arg4.IsWhole) (arg5 : Memref sig .scVector .hbm S4x1000x256 .f32) (harg5 : arg5.IsWhole)
  (arg6 : Memref sig .scVector .hbm S4x1008 .i32) (harg6 : arg6.IsWhole) (arg7 : Memref sig .scVector .hbm S4x1000x256 .f32) (harg7 : arg7.IsWhole)
  (arg8 : Memref sig .scVector .vmem S1008 .f32) (harg8 : arg8.IsWhole) (arg9 : Memref sig .scVector .vmem S1008 .i32) (harg9 : arg9.IsWhole)
  (arg10 : Memref sig .scVector .vmem S1008 .f32) (harg10 : arg10.IsWhole) (arg11 : Memref sig .scVector .vmem S1008 .i32) (harg11 : arg11.IsWhole)
  (arg12 : Memref sig .scVector .vmem S1008 .f32) (harg12 : arg12.IsWhole) (arg13 : Memref sig .scVector .vmem S1008 .f32) (harg13 : arg13.IsWhole)
  (arg14 : Memref sig .scVector .vmem S256x256 .f32) (harg14 : arg14.IsWhole) (arg15 : Memref sig .scVector .vmem S256 .f32) (harg15 : arg15.IsWhole)
  (arg16 : Memref sig .scVector .smem S1 .i32) (harg16 : arg16.IsWhole)
  (arg17 arg18 arg19 arg20 arg21 arg22 arg23 : DmaSems sig S_) (k1_h1 : k1_cond1 i = 1#1)

/-- What a rescan of a row needs besides the alive marks: room for the row, the batch's part of the matrix, the copies'
    counter, and leave to wait. -/
def Row (q : PosShare TreeShare) (G : ℕ → ℕ → ℕ → EReal) : sProp 𝕄 :=
  iprop((∃ Y, owns (thr d i) arg12 fullShare Y) ∗ ownsOn (thr d i) arg2 q (part ![4, 1000, 1008] (wid i)) (at3 G)
    ∗ semVal (thr d i, .dma arg17.sem) 0 ∗ Env (thr d i) O W ι)

theorem Row_open (q : PosShare TreeShare) (G : ℕ → ℕ → ℕ → EReal) : (Row d i O W ι arg2 arg12 arg17 q G : sProp 𝕄)
    ⊢ iprop((∃ Y, owns (thr d i) arg12 fullShare Y) ∗ ownsOn (thr d i) arg2 q (part ![4, 1000, 1008] (wid i)) (at3 G)
      ∗ semVal (thr d i, .dma arg17.sem) 0 ∗ Env (thr d i) O W ι) := .rfl

theorem Row_close (q : PosShare TreeShare) (G : ℕ → ℕ → ℕ → EReal) :
    iprop((∃ Y, owns (thr d i) arg12 fullShare Y) ∗ ownsOn (thr d i) arg2 q (part ![4, 1000, 1008] (wid i)) (at3 G)
      ∗ semVal (thr d i, .dma arg17.sem) 0 ∗ Env (thr d i) O W ι) ⊢ (Row d i O W ι arg2 arg12 arg17 q G : sProp 𝕄) := .rfl

/-- The entry of a row as the search sees it: a column no longer alive counts as minus two. -/
def seen (al : ℕ → EReal) (row : ℕ → EReal) : ℕ → EReal := fun j => if half < al j then row j else two

include EC in
set_option maxHeartbeats 4000000 in
/-- A row rescanned. -/
theorem part1_wp {al : ℕ → EReal} {q q' : PosShare TreeShare} {G : ℕ → ℕ → ℕ → EReal}
    (arg25 : BitVec 32) (k1_h2 : k1_cond2 arg25 = 1#1) (v112 : BitVec 32) (v113 : BitVec 1) (k1_h3 : k1_cond3 v113 = 1#1) (v126 : BitVec 32)
    (k1_t4 : Fin k1_t4_loop.trips) (v151 : BitVec 32) (k1_h4 : k1_cond4 v151 = 1#1) (k1_t5 : Fin k1_t5_loop.trips) (v166 : BitVec 32) (v172 : BitVec 1)
    (k1_hw7 : k1_chk7 i arg25 v112 v113 v126 k1_t4 v151 k1_t5 v166 v172) (k1_h5 : k1_cond5 v112 v126 v166 v172 = 1#1)
    {R : (Σ' (_ : FVec Ideal S16 .f32) (_ : IVec S16 32) (_ : Ideal .f32) (_ : Ideal .f32) (_ : Ideal .f32) (_ : Ideal .f32) (_ : Ideal .f32) (_ : Ideal .f32) (_ : Ideal .f32) (_ : Ideal .f32) (_ : Ideal .f32) (_ : Ideal .f32) (_ : Ideal .f32), Ideal .f32) → sProp 𝕄} :
    iprop(owns (thr d i) arg10 q (at1 al) ∗ Row d i O W ι arg2 arg12 arg17 q' G)
      ⊢ iprop((∀ (vm : FVec Ideal S16 .f32) (vi : IVec S16 32),
          ⌜∃ (m : EReal) (b : BitVec 32), Found (seen al (G (wid i) (16 * k1_t4.val + k1_t5.val))) three 1008 m b.toNat
            ∧ k1_pay53 (F := Ideal) (k1_pay11 vm) (k1_pay12 vm) (k1_pay13 vm) (k1_pay14 vm) (k1_pay15 vm) (k1_pay16 vm) (k1_pay17 vm) (k1_pay18 vm) (k1_pay19 vm) (k1_pay20 vm) (k1_pay21 vm) (k1_pay22 vm) = broadcast L16 m
            ∧ k1_pay54 (F := Ideal) vm vi (k1_pay11 vm) (k1_pay12 vm) (k1_pay13 vm) (k1_pay14 vm) (k1_pay15 vm) (k1_pay16 vm) (k1_pay17 vm) (k1_pay18 vm) (k1_pay19 vm) (k1_pay20 vm) (k1_pay21 vm) (k1_pay22 vm) = broadcast L16 b⌝
            -∗ iprop(owns (thr d i) arg10 q (at1 al) ∗ Row d i O W ι arg2 arg12 arg17 q' G)
            -∗ R ⟨vm, vi, k1_pay11 vm, k1_pay12 vm, k1_pay13 vm, k1_pay14 vm, k1_pay15 vm, k1_pay16 vm, k1_pay17 vm, k1_pay18 vm, k1_pay19 vm, k1_pay20 vm, k1_pay21 vm, k1_pay22 vm⟩)
        -∗ wp frame (wpE defs 𝒱 (thr d i) bd) Set.univ
          (k1_part1_skel (F := Ideal) i arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 arg18 arg19 arg20 arg21 arg22 arg23 lanesNo k1_h1
            arg25 k1_h2 v112 v113 k1_h3 v126 k1_t4 v151 k1_h4 k1_t5 v166 v172 k1_hw7 k1_h5) R) := by
  unfold k1_part1_skel
  iintro ⟨Ha, HR⟩ Hk
  ihave HR' := (Row_open d i O W ι arg2 arg12 arg17 q' G) $$ HR
  icases HR' with ⟨⟨%Y, Hr⟩, Hs, Hv, HE⟩
  ihave Hs' := (carve_row3 (thr d i) (b := wid i) (r := 16 * k1_t4.val + k1_t5.val) arg2 q' G (k1_off5 i k1_t4 k1_t5)
    (k1_off5_inb i arg25 v112 v113 v126 k1_t4 v151 k1_t5 v166 v172 k1_hw7 k1_h1 k1_h2 k1_h3 k1_h4 k1_h5) (fun _ => rfl) squeezes_S1x1x1008_S1008
    (off5_0 i k1_t4 k1_t5) (off5_1 i k1_t4 k1_t5) rfl) $$ Hs
  icases Hs' with ⟨Hs, Hb⟩
  iapply (wp_copyO 𝒱 (thr d i) bd EC (by decide) ι) $$ [Hr Hs Hv HE]
  · isplitl [Hs]; · iexact Hs
    isplitl [Hr]; · iexact Hr
    isplitl [Hv]; · iexact Hv
    iexact HE
  iintro ⟨Hs, Hr, Hv, HE⟩
  ihave Hs := Hb $$ Hs
  iapply (Scf.wp_for_bind frame (wpE defs 𝒱 (thr d i) bd) Set.univ 0#32 (Scalar.addi 0#32 63#32) 1#32 (k1_t6_ok i k1_h1) _ _
    (fun k acc => iprop(⌜∀ l : Fin 16, Lane (fun _ => True) (seen al (G (wid i) (16 * k1_t4.val + k1_t5.val))) three l.val k (acc.1 (ix1 l)) (acc.2 (ix1 l)).toNat⌝
      ∗ owns (thr d i) arg12 fullShare (at1 (G (wid i) (16 * k1_t4.val + k1_t5.val))) ∗ owns (thr d i) arg10 q (at1 al))) ?trip) $$ [Hr Ha]
  case trip =>
    intro k acc
    rcases acc with ⟨vm, vi⟩
    have hk : k.val < 63 := k.isLt
    unfold k1_t6_body
    iintro ⟨%hl, Hr, Ha⟩
    iapply (wp_loadO 𝒱 (thr d i) bd) $$ Hr
    iintro Hr
    iapply (wp_loadO 𝒱 (thr d i) bd) $$ Ha
    iintro Ha
    rw [load_at1, load_at1]
    iapply (wp_doneO 𝒱 (thr d i) bd)
    isplitr
    · ipureintro
      have e : (k1_off6 k : Fin 1 → ℕ) 0 = 16 * k.val := iv_mul k.val (by omega)
      have ew : ∀ l : Fin 16, k1_pay7 (F := Ideal) (at1 fun l => G (wid i) (16 * k1_t4.val + k1_t5.val) (k1_off6 k 0 + l)) (at1 fun l => al (k1_off6 k 0 + l)) (ix1 l)
          = seen al (G (wid i) (16 * k1_t4.val + k1_t5.val)) (16 * k.val + l.val) := fun l => by
        refine (sel_ogt _ _ _ _ _).trans ?_
        show (if (Ideal.ofBits .f32 0x3F000000#32 : EReal) < al (k1_off6 k 0 + l.val) then G (wid i) (16 * k1_t4.val + k1_t5.val) (k1_off6 k 0 + l.val)
          else (Ideal.ofBits .f32 0xC0000000#32 : EReal)) = _
        rw [e, lit_half, lit_two]; rfl
      refine lane_step (by omega) hl ?_ ?_
      · intro l
        refine (sel_ogt _ _ _ _ _).trans ?_
        rw [ew]
      · intro l
        refine (congrArg BitVec.toNat (sel_ogt _ _ _ _ _)).trans ?_
        rw [ew]
        by_cases hc : vm (ix1 l) < seen al (G (wid i) (16 * k1_t4.val + k1_t5.val)) (16 * k.val + l.val)
        · rw [if_pos hc, if_pos hc]
          refine (lane_add l _ ?_).trans ?_
          · rw [iv_mul k.val (by omega)]; omega
          · rw [iv_mul k.val (by omega)]
        · rw [if_neg hc, if_neg hc]
    isplitl [Hr]; · iexact Hr
    iexact Ha
  · isplitr
    · ipureintro; intro l
      show Lane _ _ three l.val 0 (Ideal.ofBits .f32 0xC0400000#32) (0#32).toNat
      rw [lit_three]; exact Lane.zero _ _ _ _
    isplitl [Hr]; · iexact Hr
    iexact Ha
  iintro %acc ⟨%hl, Hr, Ha⟩
  rcases acc with ⟨vm, vi⟩
  iapply (wp_doneO 𝒱 (thr d i) bd)
  iapply Hk $$ %vm %vi [] [Ha Hr Hs Hv HE]
  · ipureintro
    have e : Scf.trips 0#32 (Scalar.addi 0#32 63#32) 1#32 = 63 := by decide
    rw [e] at hl
    have em := pay52_top vm
    refine ⟨top vm, low (select (cmpf .oeq vm (broadcast S16 (k1_pay52 (F := Ideal) (k1_pay11 vm) (k1_pay12 vm) (k1_pay13 vm) (k1_pay14 vm) (k1_pay15 vm) (k1_pay16 vm) (k1_pay17 vm) (k1_pay18 vm)
      (k1_pay19 vm) (k1_pay20 vm) (k1_pay21 vm) (k1_pay22 vm)))) vi (broadcast S16 2147483647#32)) inpos_S16_p15, ?_, ?_, ?_⟩
    · refine lanes_low hl (by norm_num) (by norm_num) _ (fun l => ?_) _
      refine (sel_oeq _ _ _ _ _).trans ?_
      show (if vm (ix1 l) = k1_pay52 (F := Ideal) (k1_pay11 vm) (k1_pay12 vm) (k1_pay13 vm) (k1_pay14 vm) (k1_pay15 vm) (k1_pay16 vm) (k1_pay17 vm) (k1_pay18 vm)
        (k1_pay19 vm) (k1_pay20 vm) (k1_pay21 vm) (k1_pay22 vm) then vi (ix1 l) else 2147483647#32) = _
      rw [em]
    · exact congrArg (broadcast L16) em
    · rfl
  · isplitl [Ha]; · iexact Ha
    iapply (Row_close d i O W ι arg2 arg12 arg17 q' G)
    isplitl [Hr]; · iexists _; iexact Hr
    isplitl [Hs]; · iexact Hs
    isplitl [Hv]; · iexact Hv
    iexact HE

end Cert.Proof.Scan

end
-- ==== Proof.Round.lean ====
/-
  One round of the greedy phase on a subcore: the pair found is merged, and the rows whose best column it removed are
  searched again.
-/
module

public import proofs.«01_k».proof.Proof.Rescan

@[expose] public section

noncomputable section

namespace Cert.Proof.Scan

open Cert.KernelIdeal Cert.KernelIdeal.Gen Cert.Proof.Rules Cert.Proof.Vec Cert.Proof.Greedy
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

/-! ## Words -/

theorem slt_iff {a b : BitVec 32} (ha : a.toNat < 2 ^ 31) (hb : b.toNat < 2 ^ 31) : a.slt b = true ↔ a.toNat < b.toNat := by
  rw [BitVec.slt_eq_decide, decide_eq_true_eq, BitVec.toInt_eq_toNat_of_lt (by omega), BitVec.toInt_eq_toNat_of_lt (by omega)]
  omega

theorem maxsi_toNat {a b : BitVec 32} (ha : a.toNat < 2 ^ 31) (hb : b.toNat < 2 ^ 31) : (Scalar.maxsi a b).toNat = max a.toNat b.toNat := by
  show (if b.slt a then a else b).toNat = _
  by_cases h : b.slt a = true
  · rw [if_pos h]; have := (slt_iff hb ha).mp h; omega
  · rw [if_neg h]; have := mt (slt_iff hb ha).mpr h; omega

theorem minsi_toNat {a b : BitVec 32} (ha : a.toNat < 2 ^ 31) (hb : b.toNat < 2 ^ 31) : (Scalar.minsi a b).toNat = min a.toNat b.toNat := by
  show (if a.slt b then a else b).toNat = _
  by_cases h : a.slt b = true
  · rw [if_pos h]; have := (slt_iff ha hb).mp h; omega
  · rw [if_neg h]; have := mt (slt_iff ha hb).mpr h; omega

theorem cond5_iff {v112 v126 v166 : BitVec 32} {v172 : BitVec 1} :
    k1_cond5 v112 v126 v166 v172 = 1#1 ↔ v166 = Scalar.maxsi v112 v126 ∧ v172 = 1#1 := by
  refine (ne_zero_iff _).trans ?_
  show BitVec.ofBool (v166 == Scalar.maxsi v112 v126) &&& v172 = 1#1 ↔ _
  have key : ∀ v : BitVec 1, (BitVec.ofBool true &&& v = 1#1 ↔ v = 1#1) ∧ ¬ BitVec.ofBool false &&& v = 1#1 := by decide
  by_cases h : v166 = Scalar.maxsi v112 v126
  · rw [beq_iff_eq.mpr h]; exact (key v172).1.trans ⟨fun e => ⟨h, e⟩, fun e => e.2⟩
  · rw [beq_eq_false_iff_ne.mpr h]; exact ⟨fun e => absurd e (key v172).2, fun e => absurd e.1 h⟩

theorem cond4_iff {v : BitVec 32} : k1_cond4 v = 1#1 ↔ (0#32).slt v = true := by
  refine (ne_zero_iff _).trans ?_
  exact ofBool_eq_one _

theorem wid_lt (i : grid1.Coords) (h : k1_cond1 i = 1#1) : wid i < 4 := by
  have h0 : (i 0).val < 2 := (i 0).isLt
  have h1 : (i 1).val < 16 := (i 1).isLt
  have e : (BitVec.ofNat 32 (i 1).val * 2#32 + BitVec.ofNat 32 (i 0).val).toNat = (i 1).val * 2 + (i 0).val := by
    rw [BitVec.toNat_add, BitVec.toNat_mul, BitVec.toNat_ofNat, BitVec.toNat_ofNat]
    show ((i 1).val % 2 ^ 32 * 2 % 2 ^ 32 + (i 0).val % 2 ^ 32) % 2 ^ 32 = _
    omega
  have := (ofBool_eq_one _).mp ((ne_zero_iff _).mp h)
  have := (slt_iff (b := 4#32) (by rw [show Scalar.addi (Scalar.muli (BitVec.ofNat 32 (i 1).val) 2#32) (BitVec.ofNat 32 (i 0).val) = BitVec.ofNat 32 (i 1).val * 2#32 + BitVec.ofNat 32 (i 0).val from rfl, e]; omega) (by decide)).mp this
  have e4 : (4#32).toNat = 4 := rfl
  rw [e4] at this
  exact lt_of_eq_of_lt e.symm this

/-- The tables while the rows from `p` on are still to be searched again, with the columns named in range. -/
structure Mid (S : ℕ → ℕ → EReal) (A : Finset ℕ) (u : ℕ → EReal) (gw : ℕ → BitVec 32) (src p : ℕ) : Prop where
  tables : Tables S theta 1008 A u (fun i => (gw i).toNat) src p
  cols : ∀ i ∈ A, (gw i).toNat < 1008

theorem Mid.skip {S : ℕ → ℕ → EReal} {A : Finset ℕ} {u : ℕ → EReal} {gw : ℕ → BitVec 32} {src p : ℕ} (h : Mid S A u gw src p) (p' : ℕ)
    (hn : ∀ i, p ≤ i → i < p' → ¬ ((gw i).toNat = src ∧ i ∈ A)) : Mid S A u gw src p' := ⟨h.tables.skip p' hn, h.cols⟩

/-- The alive marks: one at the alive columns, zero elsewhere. -/
def Marks (A : Finset ℕ) (al : ℕ → EReal) : Prop := ∀ i < 1008, al i = if i ∈ A then 1 else 0

theorem Marks.iff {A : Finset ℕ} {al : ℕ → EReal} (h : Marks A al) {i : ℕ} (hi : i < 1008) : half < al i ↔ i ∈ A := by
  rw [h i hi]
  by_cases hA : i ∈ A
  · rw [if_pos hA]; exact ⟨fun _ => hA, fun _ => half_lt_one⟩
  · rw [if_neg hA]; exact ⟨fun h => absurd h (not_lt.mpr zero_lt_half.le), fun h => absurd h hA⟩

theorem Mid.scan {S : ℕ → ℕ → EReal} {A : Finset ℕ} {u : ℕ → EReal} {gw : ℕ → BitVec 32} {src p : ℕ} (h : Mid S A u gw src p) {al row : ℕ → EReal}
    (ha : Marks A al) (hA : A ⊆ Finset.range 1000) (hp : p ∈ A) (hr : ∀ j < 1000, row j = S p j) {m : EReal} {b : BitVec 32}
    (hf : Found (seen al row) three 1008 m b.toNat) : Mid S A (Function.update u p m) (Function.update gw p b) src (p + 1) := by
  have hA' : ∀ j ∈ A, j < 1000 := fun j hj => Finset.mem_range.mp (hA hj)
  have hs : ∀ j ∈ A, seen al row j = S p j := fun j hj => by
    unfold seen; rw [if_pos ((ha.iff (by have := hA' j hj; omega)).mpr hj), hr j (hA' j hj)]
  obtain ⟨h1, h2, h3, h4⟩ := hf
  have hw : Weak S theta A m b.toNat p := by
    refine ⟨fun j hj => by rw [← hs j hj]; exact h1 j (by have := hA' j hj; omega), fun hm => ?_⟩
    obtain ⟨h5, h6⟩ := h4 (lt_trans three_lt_theta hm)
    have hb : b.toNat ∈ A := by
      by_contra hn
      unfold seen at h5
      rw [if_neg fun hh => hn ((ha.iff h3).mp hh)] at h5
      exact absurd hm (not_lt.mpr (h5 ▸ two_lt_theta.le))
    exact ⟨hb, by rw [← hs _ hb]; exact h5, fun j hj hlt => by rw [← hs j hj]; exact h6 j hlt⟩
  refine ⟨?_, fun i hi => ?_⟩
  · have := h.tables.scan hp hw
    have e : (fun i => (Function.update gw p b i).toNat) = Function.update (fun i => (gw i).toNat) p b.toNat := by
      funext i
      by_cases hi : i = p
      · subst hi; rw [Function.update_self, Function.update_self]
      · rw [Function.update_of_ne hi, Function.update_of_ne hi]
    rw [e]; exact this
  · by_cases hi' : i = p
    · subst hi'; rw [Function.update_self]; exact h3
    · rw [Function.update_of_ne hi']; exact h.cols i hi

/-- The lanes' mask that lets the first lane alone through. -/
abbrev firstLane : IVec S16 1 := cmpi .eq lanesNo (broadcast S16 0#32)

variable {Ix : Type} [DecidableEq Ix] {Name : Type} [DecidableEq Name]
variable {U : Type} [URA U] {Lvl : Type} [Preorder Lvl]
variable {defs : Defs nD τ sig (Elt Ideal) Λ₀} (𝒱 : Variants) (d : Fin nD) (i : grid1.Coords) (bd : Option 𝒱.V)

local notation "𝕄" => MT nD τ sig Ix (Elt Ideal) Name U Lvl

variable (EC : UEmb Counters (MT nD τ sig Ix (Elt Ideal) Name U Lvl)) [Infinite Name] [EC.LandsIn (upEmb : UEmb _ (MT nD τ sig Ix (Elt Ideal) Name U Lvl))] (O : CellTallies nD τ sig Ix) (W : Waits sig Ix) (ι : Ix)

variable (arg2 : Memref sig .scVector .hbm S4x1000x1008 .f32) (harg2 : arg2.IsWhole) (arg3 : Memref sig .scVector .hbm S4x1008 .f32) (harg3 : arg3.IsWhole)
  (arg4 : Memref sig .scVector .hbm S4x1008 .i32) (harg4 : arg4.IsWhole) (arg5 : Memref sig .scVector .hbm S4x1000x256 .f32) (harg5 : arg5.IsWhole)
  (arg6 : Memref sig .scVector .hbm S4x1008 .i32) (harg6 : arg6.IsWhole) (arg7 : Memref sig .scVector .hbm S4x1000x256 .f32) (harg7 : arg7.IsWhole)
  (arg8 : Memref sig .scVector .vmem S1008 .f32) (harg8 : arg8.IsWhole) (arg9 : Memref sig .scVector .vmem S1008 .i32) (harg9 : arg9.IsWhole)
  (arg10 : Memref sig .scVector .vmem S1008 .f32) (harg10 : arg10.IsWhole) (arg11 : Memref sig .scVector .vmem S1008 .i32) (harg11 : arg11.IsWhole)
  (arg12 : Memref sig .scVector .vmem S1008 .f32) (harg12 : arg12.IsWhole) (arg13 : Memref sig .scVector .vmem S1008 .f32) (harg13 : arg13.IsWhole)
  (arg14 : Memref sig .scVector .vmem S256x256 .f32) (harg14 : arg14.IsWhole) (arg15 : Memref sig .scVector .vmem S256 .f32) (harg15 : arg15.IsWhole)
  (arg16 : Memref sig .scVector .smem S1 .i32) (harg16 : arg16.IsWhole)
  (arg17 arg18 arg19 arg20 arg21 arg22 arg23 : DmaSems sig S_) (k1_h1 : k1_cond1 i = 1#1)

/-- The number of row `l` of chunk `k`, as the kernel computes it. -/
abbrev rowNo (k l : ℕ) : BitVec 32 := Scalar.addi (Scalar.muli (Scf.iv 0#32 1#32 k) 16#32) (Scf.iv 0#32 1#32 l)

/-- The column a row names, and whether the row is alive, as the kernel reads them. -/
abbrev colW (gw : ℕ → BitVec 32) (p : BitVec 32) : BitVec 32 := extractAt ![15] (k1_pay50 (F := Ideal) fun _ => gw p.toNat) inpos_S16_p15

abbrev aliveW (al : ℕ → EReal) (p : BitVec 32) : BitVec 1 := Scalar.cmpf .ogt (k1_pay51 (F := Ideal) fun _ => al p.toNat) (Scalar.ofBits (F := Ideal) .f32 0x3F000000#32)

include EC in
set_option maxHeartbeats 4000000 in
/-- One row looked at again. -/
theorem t5_wp {S : ℕ → ℕ → EReal} {A : Finset ℕ} {al : ℕ → EReal} {src : ℕ} {q' : PosShare TreeShare} {G : ℕ → ℕ → ℕ → EReal}
    (ha : Marks A al) (hA : A ⊆ Finset.range 1000) (hG : ∀ i' < 1000, ∀ j < 1000, G (wid i) i' j = S i' j)
    (arg25 : BitVec 32) (k1_h2 : k1_cond2 arg25 = 1#1) (v112 : BitVec 32) (v113 : BitVec 1) (k1_h3 : k1_cond3 v113 = 1#1) (v126 : BitVec 32)
    (k1_t4 : Fin k1_t4_loop.trips) (v151 : BitVec 32) (k1_h4 : k1_cond4 v151 = 1#1) (k1_t5 : Fin k1_t5_loop.trips)
    (hsrc : (Scalar.maxsi v112 v126).toNat = src) (acc : BitVec 32) {R : BitVec 32 → sProp 𝕄} {u : ℕ → EReal} {gw : ℕ → BitVec 32} (h : Mid S A u gw src (16 * k1_t4.val + k1_t5.val)) :
    iprop(owns (thr d i) arg8 fullShare (at1 u) ∗ owns (thr d i) arg9 fullShare (at1 gw) ∗ owns (thr d i) arg10 fullShare (at1 al)
        ∗ Row d i O W ι arg2 arg12 arg17 q' G)
      ⊢ iprop((∀ (u : ℕ → EReal) (gw : ℕ → BitVec 32) acc, ⌜Mid S A u gw src (16 * k1_t4.val + (k1_t5.val + 1))⌝
            -∗ iprop(owns (thr d i) arg8 fullShare (at1 u) ∗ owns (thr d i) arg9 fullShare (at1 gw) ∗ owns (thr d i) arg10 fullShare (at1 al)
              ∗ Row d i O W ι arg2 arg12 arg17 q' G)
            -∗ R acc)
        -∗ wp frame (wpE defs 𝒱 (thr d i) bd) Set.univ
          (k1_t5_body (F := Ideal) i arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 arg18 arg19 arg20 arg21 arg22 arg23 lanesNo firstLane k1_h1
            arg25 k1_h2 v112 v113 k1_h3 v126 k1_t4 (Scf.iv 0#32 1#32 k1_t4) v151 k1_h4 k1_t5 acc) R) := by
  have hk4 : k1_t4.val < 63 := k1_t4.isLt
  have hk5 : k1_t5.val < 16 := k1_t5.isLt
  have hrow := row_toNat hk4 hk5
  have hlt : (Scalar.addi (Scalar.muli (Scf.iv 0#32 1#32 k1_t4.val) 16#32) (Scf.iv 0#32 1#32 k1_t5.val)).toNat < 1008 := by rw [hrow]; omega
  have hp : 16 * k1_t4.val + k1_t5.val < 1008 := by omega
  unfold k1_t5_body
  iintro ⟨H8, H9, H10, HR⟩ Hk
  iapply (wp_assume 𝒱 (thr d i) bd Set.univ (show k1_chk5 i arg25 v113 v151 _ from fun _ _ _ _ a x => by match a with | ⟨0, _⟩ => exact hlt))
  iapply (wp_gatherO 𝒱 (thr d i) bd (hl := View.loads_vmem h_S1008)) $$ H9
  iintro H9
  rw [gather_at1]
  iapply (wp_assume 𝒱 (thr d i) bd Set.univ (show k1_chk6 i arg25 v113 v151 _ from fun _ _ _ _ a x => by match a with | ⟨0, _⟩ => exact hlt))
  iapply (wp_gatherO 𝒱 (thr d i) bd (hl := View.loads_vmem h_S1008)) $$ H10
  iintro H10
  rw [gather_at1]
  have e2 : aliveW al (rowNo k1_t4.val k1_t5.val) = 1#1 ↔ 16 * k1_t4.val + k1_t5.val ∈ A := by
    refine (cmp_ogt _ _).trans ?_
    show (Ideal.ofBits .f32 0x3F000000#32 : EReal) < al (rowNo k1_t4.val k1_t5.val).toNat ↔ _
    rw [hrow, lit_half]; exact ha.iff hp
  have e3 : (gw (16 * k1_t4.val + k1_t5.val)).toNat < 1008 → colW gw (rowNo k1_t4.val k1_t5.val) = gw (16 * k1_t4.val + k1_t5.val) := fun hlt => by
    show extractAt ![15] (k1_pay50 (F := Ideal) fun _ => gw (rowNo k1_t4.val k1_t5.val).toNat) inpos_S16_p15 = _
    rw [hrow]
    exact low_const _ _ (by omega)
  have e4 : k1_cond5 v112 v126 (colW gw (rowNo k1_t4.val k1_t5.val)) (aliveW al (rowNo k1_t4.val k1_t5.val)) = 1#1 → 16 * k1_t4.val + k1_t5.val ∈ A := fun h5 => e2.mp (cond5_iff.mp h5).2
  iapply (wp_assume 𝒱 (thr d i) bd Set.univ (show k1_chk7 i arg25 v112 v113 v126 k1_t4 v151 k1_t5 (colW gw (rowNo k1_t4.val k1_t5.val)) (aliveW al (rowNo k1_t4.val k1_t5.val)) from fun _ _ _ _ h5 a => by
    have := Finset.mem_range.mp (hA (e4 h5))
    have h0 : wid i < 4 := wid_lt i k1_h1
    have h1 := off5_0 i k1_t4 k1_t5
    have h2 := off5_1 i k1_t4 k1_t5
    match a with
    | ⟨0, _⟩ => show k1_off5 i k1_t4 k1_t5 0 + 1 ≤ 4; omega
    | ⟨1, _⟩ => show k1_off5 i k1_t4 k1_t5 1 + 1 ≤ 1000; omega
    | ⟨2, _⟩ => show 0 + 1008 ≤ 1008; omega))
  by_cases h5 : k1_cond5 v112 v126 (colW gw (rowNo k1_t4.val k1_t5.val)) (aliveW al (rowNo k1_t4.val k1_t5.val)) = 1#1
  · iapply (wp_posO 𝒱 (thr d i) bd h5)
    iapply (wp_bindO 𝒱 (thr d i) bd)
    rw [k1_part1_eq_skeleton]
    iapply (part1_wp (al := al) (q := fullShare) 𝒱 d i bd EC O W ι) $$ [H10 HR]
    · isplitl [H10]; · iexact H10
      iexact HR
    iintro %vm %vi %hf ⟨H10, HR⟩
    obtain ⟨m, b, hf, e53, e54⟩ := hf
    iapply (wp_assume 𝒱 (thr d i) bd Set.univ (show k1_chk8 i arg25 v112 v113 v126 v151 (colW gw (rowNo k1_t4.val k1_t5.val)) (aliveW al (rowNo k1_t4.val k1_t5.val)) _ from fun _ _ _ _ _ a x => by match a with | ⟨0, _⟩ => exact hlt))
    iapply (wp_scatterO 𝒱 (thr d i) bd) $$ H8
    iintro H8
    iapply (wp_assume 𝒱 (thr d i) bd Set.univ (show k1_chk9 i arg25 v112 v113 v126 v151 (colW gw (rowNo k1_t4.val k1_t5.val)) (aliveW al (rowNo k1_t4.val k1_t5.val)) _ from fun _ _ _ _ _ a x => by match a with | ⟨0, _⟩ => exact hlt))
    iapply (wp_scatterO 𝒱 (thr d i) bd) $$ H9
    iintro H9
    iapply (wp_doneO 𝒱 (thr d i) bd)
    ihave H8 := (owns_congr (thr d i) arg8 fullShare (Y := at1 (Function.update u (16 * k1_t4.val + k1_t5.val) m)) (by
      rw [e53, scatter_at1 _ _ _ _ lane0, hrow])) $$ H8
    ihave H9 := (owns_congr (thr d i) arg9 fullShare (Y := at1 (Function.update gw (16 * k1_t4.val + k1_t5.val) b)) (by
      rw [e54, scatter_at1 _ _ _ _ lane0, hrow])) $$ H9
    iapply Hk $$ %(Function.update u (16 * k1_t4.val + k1_t5.val) m) %(Function.update gw (16 * k1_t4.val + k1_t5.val) b) %(0#32) [] [H8 H9 H10 HR]
    · ipureintro
      have hpA := e4 h5
      exact h.scan ha hA hpA (hG _ (Finset.mem_range.mp (hA hpA))) hf
    · isplitl [H8]; · iexact H8
      isplitl [H9]; · iexact H9
      isplitl [H10]; · iexact H10
      iexact HR
  · iapply (wp_negO 𝒱 (thr d i) bd h5)
    iapply (wp_doneO 𝒱 (thr d i) bd)
    iapply Hk $$ %u %gw %(0#32) [] [H8 H9 H10 HR]
    · ipureintro
      refine h.skip _ fun i' h1 h2 => ?_
      obtain rfl : i' = 16 * k1_t4.val + k1_t5.val := by omega
      rintro ⟨h3, h4⟩
      refine h5 (cond5_iff.mpr ⟨?_, e2.mpr h4⟩)
      rw [e3 (h.cols _ h4)]
      exact BitVec.eq_of_toNat_eq (h3.trans hsrc.symm)
    · isplitl [H8]; · iexact H8
      isplitl [H9]; · iexact H9
      isplitl [H10]; · iexact H10
      iexact HR

/-- The number of rows of a chunk that name the column removed and are alive, as the kernel counts them. -/
abbrev hits (v55_1 : IVec S16 32) (v104 : IVec S16 1) (cM : BitVec 32) (v120 : IVec S16 32) (gw : ℕ → BitVec 32) (al : ℕ → EReal) (o : ℕ) : BitVec 32 :=
  extractAt ![15] (k1_pay49 (F := Ideal) v55_1 v104 cM v120 (at1 fun l => gw (o + l)) (at1 fun l => al (o + l))) inpos_S16_p15

theorem hits_pos (v55_1 : IVec S16 32) (v104 : IVec S16 1) (cM : BitVec 32) (v120 : IVec S16 32) (gw : ℕ → BitVec 32) (al : ℕ → EReal) (o : ℕ) (v127 : BitVec 32)
    (hv : Scalar.maxsi (extractAt ![15] (k1_pay44 v55_1 v104 cM) inpos_S16_p15) (extractAt ![15] (k1_pay45 (F := Ideal) v120) inpos_S16_p15) = v127)
    (l : Fin 16) (h1 : gw (o + l.val) = v127) (h2 : half < al (o + l.val)) : (0#32).slt (hits v55_1 v104 cM v120 gw al o) = true := by
  refine count_pos _ _ _ l ?_
  show IntOp.cmpi .eq (gw (o + l.val)) (Scalar.maxsi (extractAt ![15] (k1_pay44 v55_1 v104 cM) inpos_S16_p15) (extractAt ![15] (k1_pay45 (F := Ideal) v120) inpos_S16_p15))
    &&& Ideal.cmp .ogt (al (o + l.val)) (Ideal.ofBits .f32 0x3F000000#32) = 1#1
  rw [hv, h1, (cmp_ogt _ _).mpr (lit_half.symm ▸ h2)]
  show BitVec.ofBool (v127 == v127) &&& 1#1 = 1#1
  rw [beq_self_eq_true]; rfl

include EC in
set_option maxHeartbeats 4000000 in
/-- One chunk of rows looked at again. -/
theorem t4_wp {S : ℕ → ℕ → EReal} {A : Finset ℕ} {al : ℕ → EReal} {src : ℕ} {q' : PosShare TreeShare} {G : ℕ → ℕ → ℕ → EReal}
    (ha : Marks A al) (hA : A ⊆ Finset.range 1000) (hG : ∀ i' < 1000, ∀ j < 1000, G (wid i) i' j = S i' j)
    (arg25 : BitVec 32) (k1_h2 : k1_cond2 arg25 = 1#1) (v55_1 : IVec S16 32) (v104 : IVec S16 1) (cM : BitVec 32) (v112 : BitVec 32) (v113 : BitVec 1)
    (k1_h3 : k1_cond3 v113 = 1#1) (v120 : IVec S16 32) (v126 : BitVec 32) (k1_t4 : Fin k1_t4_loop.trips)
    (hv : Scalar.maxsi (extractAt ![15] (k1_pay44 v55_1 v104 cM) inpos_S16_p15) (extractAt ![15] (k1_pay45 (F := Ideal) v120) inpos_S16_p15) = Scalar.maxsi v112 v126)
    (hsrc : (Scalar.maxsi v112 v126).toNat = src) (acc : BitVec 32) {R : BitVec 32 → sProp 𝕄} {u : ℕ → EReal} {gw : ℕ → BitVec 32} (h : Mid S A u gw src (16 * k1_t4.val)) :
    iprop(owns (thr d i) arg8 fullShare (at1 u) ∗ owns (thr d i) arg9 fullShare (at1 gw) ∗ owns (thr d i) arg10 fullShare (at1 al)
        ∗ Row d i O W ι arg2 arg12 arg17 q' G)
      ⊢ iprop((∀ (u : ℕ → EReal) (gw : ℕ → BitVec 32) acc, ⌜Mid S A u gw src (16 * (k1_t4.val + 1))⌝
            -∗ iprop(owns (thr d i) arg8 fullShare (at1 u) ∗ owns (thr d i) arg9 fullShare (at1 gw) ∗ owns (thr d i) arg10 fullShare (at1 al)
              ∗ Row d i O W ι arg2 arg12 arg17 q' G)
            -∗ R acc)
        -∗ wp frame (wpE defs 𝒱 (thr d i) bd) Set.univ
          (k1_t4_body (F := Ideal) i arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 arg18 arg19 arg20 arg21 arg22 arg23 lanesNo firstLane k1_h1
            arg25 k1_h2 v55_1 v104 cM v112 v113 k1_h3 v120 v126 k1_t4 acc) R) := by
  have hk4 : k1_t4.val < 63 := k1_t4.isLt
  have e4 : (k1_off4 k1_t4 : Fin 1 → ℕ) 0 = 16 * k1_t4.val := iv_mul k1_t4.val (by omega)
  unfold k1_t4_body
  iintro ⟨H8, H9, H10, HR⟩ Hk
  iapply (wp_loadO 𝒱 (thr d i) bd) $$ H9
  iintro H9
  iapply (wp_loadO 𝒱 (thr d i) bd) $$ H10
  iintro H10
  rw [load_at1, load_at1]
  by_cases h4 : k1_cond4 (hits v55_1 v104 cM v120 gw al (k1_off4 k1_t4 0)) = 1#1
  · iapply (wp_posO 𝒱 (thr d i) bd h4)
    iapply (Scf.wp_for_bind frame (wpE defs 𝒱 (thr d i) bd) Set.univ 0#32 (Scalar.addi 0#32 16#32) 1#32 (k1_t5_ok i k1_h1) _ _
      (fun k acc => iprop(∃ (u : ℕ → EReal) (gw : ℕ → BitVec 32), ⌜Mid S A u gw src (16 * k1_t4.val + k)⌝ ∗ owns (thr d i) arg8 fullShare (at1 u) ∗ owns (thr d i) arg9 fullShare (at1 gw)
        ∗ owns (thr d i) arg10 fullShare (at1 al) ∗ Row d i O W ι arg2 arg12 arg17 q' G)) ?trip) $$ [H8 H9 H10 HR]
    case trip =>
      intro k acc
      iintro ⟨%u, %gw', %hm, H⟩
      iapply (t5_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 (S := S) (A := A) (al := al) (src := src) ha hA hG arg25 k1_h2 v112 v113 k1_h3 v126 k1_t4
        (hits v55_1 v104 cM v120 gw al (k1_off4 k1_t4 0)) h4 k hsrc acc hm) $$ H
      iintro %u' %gw' %acc' %hm' H
      iexists u'; iexists gw'
      isplitr
      · ipureintro; exact hm'
      · iexact H
    · iexists u; iexists gw
      isplitr
      · ipureintro; exact h
      isplitl [H8]; · iexact H8
      isplitl [H9]; · iexact H9
      isplitl [H10]; · iexact H10
      iexact HR
    iintro %acc' ⟨%u, %gw', %hm, H⟩
    iapply (wp_doneO 𝒱 (thr d i) bd)
    iapply Hk $$ %u %gw' %(0#32) [] H
    ipureintro
    have e : Scf.trips 0#32 (Scalar.addi 0#32 16#32) 1#32 = 16 := by decide
    rw [e] at hm
    have e' : 16 * (k1_t4.val + 1) = 16 * k1_t4.val + 16 := by ring
    rw [e']; exact hm
  · iapply (wp_negO 𝒱 (thr d i) bd h4)
    iapply (wp_doneO 𝒱 (thr d i) bd)
    iapply Hk $$ %u %gw %(0#32) [] [H8 H9 H10 HR]
    · ipureintro
      refine h.skip _ fun i' h1 h2 => ?_
      rintro ⟨h3, h5⟩
      refine h4 (cond4_iff.mpr (hits_pos v55_1 v104 cM v120 gw al _ _ hv ⟨i' - 16 * k1_t4.val, by omega⟩ ?_ ?_))
      · show gw (k1_off4 k1_t4 0 + (i' - 16 * k1_t4.val)) = _
        rw [e4, Nat.add_sub_cancel' h1]
        exact BitVec.eq_of_toNat_eq (h3.trans hsrc.symm)
      · show half < al (k1_off4 k1_t4 0 + (i' - 16 * k1_t4.val))
        rw [e4, Nat.add_sub_cancel' h1]
        exact (ha.iff (by omega)).mpr h5
    · isplitl [H8]; · iexact H8
      isplitl [H9]; · iexact H9
      isplitl [H10]; · iexact H10
      iexact HR

end Cert.Proof.Scan

end
-- ==== Proof.Phase.lean ====
/-
  The greedy phase of a subcore: a thousand rounds from the row maxima and the first columns that hold them, each merging
  the best pair if it exceeds the threshold.
-/
module

public import proofs.«01_k».proof.Proof.Round

@[expose] public section

noncomputable section

namespace Cert.Proof.Scan

open Cert.KernelIdeal Cert.KernelIdeal.Gen Cert.Proof.Rules Cert.Proof.Vec Cert.Proof.Greedy
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

/-- What the greedy phase knows after `n` rounds: the alive set and the map are those of the rounds, and the tables are right
    unless nothing exceeds the threshold. -/
structure Greed (S : ℕ → ℕ → EReal) (row : ℕ → ℕ → EReal) (n : ℕ) (st fl : BitVec 32) (A : Finset ℕ) (M : ℕ → ℕ) (u : ℕ → EReal)
    (gw : ℕ → BitVec 32) (al : ℕ → EReal) (mt : ℕ → BitVec 32) : Prop where
  reach : Reach S theta 1000 n A M
  marks : Marks A al
  map : ∀ i < 1008, mt i = BitVec.ofNat 32 (M i)
  flag : fl = 0#32 → M = id
  stop : st = 0#32 → ∀ i ∈ A, ∀ j ∈ A, S i j ≤ theta
  mid : ((∀ i' < 1000, ∀ j < 1000, row i' j = S i' j) ∧ ∃ src, Mid S A u gw src 1008) ∨ ((∀ i < 1008, u i ≤ theta) ∧ ∀ i ∈ A, ∀ j ∈ A, S i j ≤ theta)

theorem marks_erase {A : Finset ℕ} {al : ℕ → EReal} (h : Marks A al) (x : ℕ) : Marks (A.erase x) (Function.update al x 0) := fun i hi => by
  by_cases e : i = x
  · rw [e, Function.update_self, if_neg (Finset.notMem_erase _ _)]
  · rw [Function.update_of_ne e, h i hi]
    exact if_congr (by rw [Finset.mem_erase]; exact ⟨fun h => ⟨e, h⟩, fun h => h.2⟩) rfl rfl

section
variable {S row : ℕ → ℕ → EReal} {n : ℕ} {st fl : BitVec 32} {A : Finset ℕ} {M : ℕ → ℕ} {u : ℕ → EReal} {gw : ℕ → BitVec 32} {al : ℕ → EReal} {mt : ℕ → BitVec 32}

theorem Greed.sub (h : Greed S row n st fl A M u gw al mt) : ∀ i ∈ A, i < 1000 := fun i hi => Finset.mem_range.mp (h.reach.sub hi)

/-- A round that finds nothing above the threshold. -/
theorem Greed.stay (h : Greed S row n st fl A M u gw al mt) (hs : ∀ i ∈ A, ∀ j ∈ A, S i j ≤ theta) (st' : BitVec 32) : Greed S row (n + 1) st' fl A M u gw al mt :=
  ⟨h.reach.succ (.stay hs), h.marks, h.map, h.flag, fun _ => hs, h.mid⟩

theorem Greed.small (h : Greed S row n st fl A M u gw al mt) {m : EReal} {r : ℕ} (hf : Found u three 1008 m r) (hm : ¬ theta < m) : ∀ i ∈ A, ∀ j ∈ A, S i j ≤ theta := by
  rcases h.mid with ⟨-, src, hmid⟩ | ⟨-, hs⟩
  · exact hmid.tables.small (fun i hi => by have := h.sub i hi; omega) hf.1 hm
  · exact hs

/-- A round that finds a pair above the threshold. -/
theorem Greed.found (h : Greed S row n st fl A M u gw al mt) {m : EReal} {r : ℕ} (hf : Found u three 1008 m r) (hm : theta < m) :
    (∀ i' < 1000, ∀ j < 1000, row i' j = S i' j) ∧ r < 1000 ∧ (gw r).toNat < 1000 ∧ Best S A r (gw r).toNat ∧ theta < S r (gw r).toNat
      ∧ Mid S (A.erase (max r (gw r).toNat)) (Function.update u (max r (gw r).toNat) two) gw (max r (gw r).toNat) 0 := by
  obtain ⟨h1, h2, h3, h4⟩ := hf
  obtain ⟨h5, h6⟩ := h4 (lt_trans three_lt_theta hm)
  rcases h.mid with ⟨hg, src, hmid⟩ | ⟨hs, -⟩
  · have hsub : ∀ i ∈ A, i < 1008 ∧ i < 1008 := fun i hi => by have := h.sub i hi; omega
    obtain ⟨hb, hv⟩ := hmid.tables.best hsub h3 (fun i hi => by rw [h5]; exact h1 i hi) (fun i hi => by rw [h5]; exact h6 i hi) (by rw [h5]; exact hm)
    refine ⟨hg, h.sub _ hb.hr, h.sub _ hb.hc, hb, by rw [hv, h5]; exact hm, ?_, fun i hi => hmid.cols i (Finset.mem_of_mem_erase hi)⟩
    exact hmid.tables.merge (fun i hi => (hsub i hi).2) _ two_lt_theta.le
  · exact absurd hm (not_lt.mpr (h5 ▸ hs r h3))

/-- The state after the pair is merged. -/
theorem Greed.merge (h : Greed S row n st fl A M u gw al mt) (hg : ∀ i' < 1000, ∀ j < 1000, row i' j = S i' j) {r c : ℕ} (hb : Best S A r c) (hθ : theta < S r c)
    {u' : ℕ → EReal} {gw' : ℕ → BitVec 32} (hm : Mid S (A.erase (max r c)) u' gw' (max r c) 1008) {b : BitVec 32} (hbv : b = BitVec.ofNat 32 (min r c)) :
    Greed S row (n + 1) 1#32 1#32 (A.erase (max r c)) (Function.update M (max r c) (min r c)) u' gw' (Function.update al (max r c) 0) (Function.update mt (max r c) b) := by
  refine ⟨h.reach.succ (.merge hb hθ), marks_erase h.marks _, fun i hi => ?_, fun e => absurd e (by decide), fun e => absurd e (by decide), .inl ⟨hg, _, hm⟩⟩
  by_cases e : i = max r c
  · rw [e, Function.update_self, Function.update_self, hbv]
  · rw [Function.update_of_ne e, Function.update_of_ne e, h.map i hi]

end

theorem idx_lt {v : BitVec 32} (h : v.toNat < 1008) : ∀ a x, ((![broadcast S16 v] : Fin 1 → IVec S16 32) a x).toNat < S1008.size a := fun a x => by
  match a with | ⟨0, _⟩ => exact h

theorem lit_zero : (Ideal.ofBits .f32 0x00000000#32 : EReal) = 0 := by
  simp [Ideal.ofBits, Ideal.ieee, -EReal.coe_mul, -EReal.coe_neg]
theorem lit_one : (Ideal.ofBits .f32 0x3F800000#32 : EReal) = 1 := by
  simp [Ideal.ofBits, Ideal.ieee, -EReal.coe_mul, -EReal.coe_neg]; try norm_num

theorem flag_store (fl v : BitVec 32) (h) :
    (Rect.unit (s := S1) ![0] S1.size h).overlay (at1 fun _ => fl : S1.Idx → BitVec 32) (fun _ => v) = at1 fun _ => v := by
  refine (store_at1 (n := 1) (k := 1) (fun _ => fl) (fun _ => v) ![0] h).trans ?_
  exact at1_congr fun i hi => if_pos ⟨by simp, by simp; omega⟩

theorem cond3_iff {v : BitVec 1} : k1_cond3 v = 1#1 ↔ v = 1#1 := ne_zero_iff v

theorem cond2_iff {v : BitVec 32} : k1_cond2 v = 1#1 ↔ v ≠ 0#32 := by
  refine (ne_zero_iff _).trans ?_
  show BitVec.ofBool (v != 0#32) = 1#1 ↔ _
  rw [ofBool_eq_one, bne_iff_ne]

variable {Ix : Type} [DecidableEq Ix] {Name : Type} [DecidableEq Name]
variable {U : Type} [URA U] {Lvl : Type} [Preorder Lvl]
variable {defs : Defs nD τ sig (Elt Ideal) Λ₀} (𝒱 : Variants) (d : Fin nD) (i : grid1.Coords) (bd : Option 𝒱.V)

local notation "𝕄" => MT nD τ sig Ix (Elt Ideal) Name U Lvl

variable (EC : UEmb Counters (MT nD τ sig Ix (Elt Ideal) Name U Lvl)) [Infinite Name] [EC.LandsIn (upEmb : UEmb _ (MT nD τ sig Ix (Elt Ideal) Name U Lvl))] (O : CellTallies nD τ sig Ix) (W : Waits sig Ix) (ι : Ix)

variable (arg2 : Memref sig .scVector .hbm S4x1000x1008 .f32) (harg2 : arg2.IsWhole) (arg3 : Memref sig .scVector .hbm S4x1008 .f32) (harg3 : arg3.IsWhole)
  (arg4 : Memref sig .scVector .hbm S4x1008 .i32) (harg4 : arg4.IsWhole) (arg5 : Memref sig .scVector .hbm S4x1000x256 .f32) (harg5 : arg5.IsWhole)
  (arg6 : Memref sig .scVector .hbm S4x1008 .i32) (harg6 : arg6.IsWhole) (arg7 : Memref sig .scVector .hbm S4x1000x256 .f32) (harg7 : arg7.IsWhole)
  (arg8 : Memref sig .scVector .vmem S1008 .f32) (harg8 : arg8.IsWhole) (arg9 : Memref sig .scVector .vmem S1008 .i32) (harg9 : arg9.IsWhole)
  (arg10 : Memref sig .scVector .vmem S1008 .f32) (harg10 : arg10.IsWhole) (arg11 : Memref sig .scVector .vmem S1008 .i32) (harg11 : arg11.IsWhole)
  (arg12 : Memref sig .scVector .vmem S1008 .f32) (harg12 : arg12.IsWhole) (arg13 : Memref sig .scVector .vmem S1008 .f32) (harg13 : arg13.IsWhole)
  (arg14 : Memref sig .scVector .vmem S256x256 .f32) (harg14 : arg14.IsWhole) (arg15 : Memref sig .scVector .vmem S256 .f32) (harg15 : arg15.IsWhole)
  (arg16 : Memref sig .scVector .smem S1 .i32) (harg16 : arg16.IsWhole)
  (arg17 arg18 arg19 arg20 arg21 arg22 arg23 : DmaSems sig S_) (k1_h1 : k1_cond1 i = 1#1)

/-- The state of the greedy phase after `n` rounds. -/
def GState (q' : PosShare TreeShare) (G : ℕ → ℕ → ℕ → EReal) (S : ℕ → ℕ → EReal) (n : ℕ) (st : BitVec 32) : sProp 𝕄 :=
  iprop(∃ A M u gw al mt fl, ⌜Greed S (G (wid i)) n st fl A M u gw al mt⌝ ∗ owns (thr d i) arg8 fullShare (at1 u) ∗ owns (thr d i) arg9 fullShare (at1 gw)
    ∗ owns (thr d i) arg10 fullShare (at1 al) ∗ owns (thr d i) arg11 fullShare (at1 mt) ∗ owns (thr d i) arg16 fullShare (at1 fun _ => fl)
    ∗ Row d i O W ι arg2 arg12 arg17 q' G)

theorem GState_open (q' : PosShare TreeShare) (G : ℕ → ℕ → ℕ → EReal) (S : ℕ → ℕ → EReal) (n : ℕ) (st : BitVec 32) :
    (GState d i O W ι arg2 arg8 arg9 arg10 arg11 arg12 arg16 arg17 q' G S n st : sProp 𝕄) ⊢
      iprop(∃ A M u gw al mt fl, ⌜Greed S (G (wid i)) n st fl A M u gw al mt⌝ ∗ owns (thr d i) arg8 fullShare (at1 u) ∗ owns (thr d i) arg9 fullShare (at1 gw)
        ∗ owns (thr d i) arg10 fullShare (at1 al) ∗ owns (thr d i) arg11 fullShare (at1 mt) ∗ owns (thr d i) arg16 fullShare (at1 fun _ => fl)
        ∗ Row d i O W ι arg2 arg12 arg17 q' G) := .rfl

theorem GState_close {q' : PosShare TreeShare} {G : ℕ → ℕ → ℕ → EReal} {S : ℕ → ℕ → EReal} {n : ℕ} {st : BitVec 32} {fl : BitVec 32} {A : Finset ℕ} {M : ℕ → ℕ} {u : ℕ → EReal} {gw : ℕ → BitVec 32} {al : ℕ → EReal} {mt : ℕ → BitVec 32}
    (h : Greed S (G (wid i)) n st fl A M u gw al mt) : iprop(owns (thr d i) arg8 fullShare (at1 u) ∗ owns (thr d i) arg9 fullShare (at1 gw)
        ∗ owns (thr d i) arg10 fullShare (at1 al) ∗ owns (thr d i) arg11 fullShare (at1 mt) ∗ owns (thr d i) arg16 fullShare (at1 fun _ => fl)
        ∗ Row d i O W ι arg2 arg12 arg17 q' G) ⊢ (GState d i O W ι arg2 arg8 arg9 arg10 arg11 arg12 arg16 arg17 q' G S n st : sProp 𝕄) := by
  unfold GState
  iintro H
  iexists A; iexists M; iexists u; iexists gw; iexists al; iexists mt; iexists fl
  isplitr
  · ipureintro; exact h
  · iexact H

/-- The word of the row a merge removes. -/
abbrev srcW (vi : IVec S16 32) (b : IVec S16 1) (c : BitVec 32) : BitVec 32 :=
  Scalar.maxsi (extractAt ![15] (k1_pay44 vi b 2147483647#32) inpos_S16_p15) (extractAt ![15] (k1_pay45 (F := Ideal) fun _ => c) inpos_S16_p15)

/-- The word of the row it keeps. -/
abbrev dstW (vi : IVec S16 32) (b : IVec S16 1) (c : BitVec 32) : BitVec 32 :=
  Scalar.minsi (extractAt ![15] (k1_pay44 vi b 2147483647#32) inpos_S16_p15) (extractAt ![15] (k1_pay45 (F := Ideal) fun _ => c) inpos_S16_p15)

theorem upd_map (mt : ℕ → BitVec 32) (vi : IVec S16 32) (b : IVec S16 1) (c : BitVec 32) (h) :
    storeIdx (at1 mt : Vec Ideal S1008 .i32) ![broadcast S16 (srcW vi b c)] (k1_pay46 (F := Ideal) vi b 2147483647#32 fun _ => c) firstLane false h
      = at1 (Function.update mt (srcW vi b c).toNat (dstW vi b c)) := by
  have e : k1_pay46 (F := Ideal) vi b 2147483647#32 (fun _ => c) = broadcast S16 (dstW vi b c) := rfl
  rw [e, scatter_at1 _ _ _ _ lane0]

theorem upd_alive (al : ℕ → EReal) (v : BitVec 32) (h) :
    storeIdx (at1 al : Vec Ideal S1008 .f32) ![broadcast S16 v] (k1_pay47 (F := Ideal)) firstLane false h = at1 (Function.update al v.toNat 0) := by
  have e : k1_pay47 (F := Ideal) = broadcast S16 (0 : EReal) := congrArg (broadcast S16) lit_zero
  rw [e, scatter_at1 _ _ _ _ lane0]

theorem upd_max (u : ℕ → EReal) (v : BitVec 32) (h) :
    storeIdx (at1 u : Vec Ideal S1008 .f32) ![broadcast S16 v] (k1_pay48 (F := Ideal)) firstLane false h = at1 (Function.update u v.toNat two) := by
  have e : k1_pay48 (F := Ideal) = broadcast S16 two := congrArg (broadcast S16) lit_two
  rw [e, scatter_at1 _ _ _ _ lane0]

include EC in
/-- One chunk of rows looked at again, at the words a round computes. -/
theorem t4_at {S : ℕ → ℕ → EReal} {A : Finset ℕ} {al : ℕ → EReal} {src : ℕ} {q' : PosShare TreeShare} {G : ℕ → ℕ → ℕ → EReal}
    (ha : Marks A al) (hA : A ⊆ Finset.range 1000) (hG : ∀ i' < 1000, ∀ j < 1000, G (wid i) i' j = S i' j)
    (arg25 : BitVec 32) (k1_h2 : k1_cond2 arg25 = 1#1) (vi : IVec S16 32) (b : IVec S16 1) (c : BitVec 32) (v113 : BitVec 1)
    (k1_h3 : k1_cond3 v113 = 1#1) (k1_t4 : Fin k1_t4_loop.trips)
    (hsrc : (srcW vi b c).toNat = src) (acc : BitVec 32) {R : BitVec 32 → sProp 𝕄} {u : ℕ → EReal} {gw : ℕ → BitVec 32} (h : Mid S A u gw src (16 * k1_t4.val)) :
    iprop(owns (thr d i) arg8 fullShare (at1 u) ∗ owns (thr d i) arg9 fullShare (at1 gw) ∗ owns (thr d i) arg10 fullShare (at1 al)
        ∗ Row d i O W ι arg2 arg12 arg17 q' G)
      ⊢ iprop((∀ (u : ℕ → EReal) (gw : ℕ → BitVec 32) acc, ⌜Mid S A u gw src (16 * (k1_t4.val + 1))⌝
            -∗ iprop(owns (thr d i) arg8 fullShare (at1 u) ∗ owns (thr d i) arg9 fullShare (at1 gw) ∗ owns (thr d i) arg10 fullShare (at1 al)
              ∗ Row d i O W ι arg2 arg12 arg17 q' G)
            -∗ R acc)
        -∗ wp frame (wpE defs 𝒱 (thr d i) bd) Set.univ
          (k1_t4_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 lanesNo firstLane k1_h1
            arg25 k1_h2 vi b 2147483647#32 (extractAt ![15] (k1_pay44 vi b 2147483647#32) inpos_S16_p15) v113 k1_h3 (fun _ => c) (extractAt ![15] (k1_pay45 (F := Ideal) fun _ => c) inpos_S16_p15) k1_t4 acc) R) :=
by
  have := t4_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 ha hA hG arg25 k1_h2 vi b 2147483647#32 (extractAt ![15] (k1_pay44 vi b 2147483647#32) inpos_S16_p15) v113 k1_h3 (fun _ => c) (extractAt ![15] (k1_pay45 (F := Ideal) fun _ => c) inpos_S16_p15) k1_t4
    (by with_reducible exact rfl) (by with_reducible exact hsrc) acc h (R := R) (defs := defs) (q' := q') (G := G) (S := S) (A := A) (al := al) (src := src) (u := u) (gw := gw)
  with_reducible exact this

include EC in
set_option maxHeartbeats 800000 in
/-- One round. -/
theorem t2_wp {S : ℕ → ℕ → EReal} {q' : PosShare TreeShare} {G : ℕ → ℕ → ℕ → EReal} (k : Fin k1_t2_loop.trips) (st : BitVec 32) {R : BitVec 32 → sProp 𝕄} {n : ℕ} :
    (GState d i O W ι arg2 arg8 arg9 arg10 arg11 arg12 arg16 arg17 q' G S n st : sProp 𝕄)
      ⊢ iprop((∀ st', GState d i O W ι arg2 arg8 arg9 arg10 arg11 arg12 arg16 arg17 q' G S (n + 1) st' -∗ R st')
        -∗ wp frame (wpE defs 𝒱 (thr d i) bd) Set.univ
          (k1_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 lanesNo firstLane k1_h1 k st) R) := by
  unfold k1_t2_body
  iintro H Hk
  ihave H' := (GState_open d i O W ι arg2 arg8 arg9 arg10 arg11 arg12 arg16 arg17 q' G S n st) $$ H
  icases H' with ⟨%A, %M, %u, %gw, %al, %mt, %fl, %hg, H8, H9, H10, H11, H16, HR⟩
  by_cases h2 : k1_cond2 st = 1#1
  · iapply (wp_posO 𝒱 (thr d i) bd h2)
    iapply (wp_bindO 𝒱 (thr d i) bd)
    rw [k1_part2_eq_skeleton]
    iapply (part2_wp 𝒱 d i bd) $$ H8
    iintro %vi %m %b %hf H8
    by_cases h3 : k1_cond3 (Scalar.cmpf .ogt m (Scalar.ofBits (F := Ideal) .f32 0x3F666666#32)) = 1#1
    · iapply (wp_posO 𝒱 (thr d i) bd h3)
      iapply (wp_smemO 𝒱 (thr d i) bd) $$ H16
      iintro H16
      iapply (wp_storeO 𝒱 (thr d i) bd) $$ H16
      iintro H16
      rw [flag_store]
      have hm : theta < m := by
        have := (cmp_ogt _ _).mp (cond3_iff.mp h3)
        exact lit_theta.symm.trans_lt this
      obtain ⟨hgood, hr, hc, hb, hθ, hmid⟩ := hg.found hf hm
      have hr' : (extractAt ![15] (k1_pay44 vi b 2147483647#32) inpos_S16_p15).toNat < 1008 := by omega
      iapply (wp_assume 𝒱 (thr d i) bd Set.univ (show k1_chk1 i st _ (broadcast S16 (extractAt ![15] (k1_pay44 vi b 2147483647#32) inpos_S16_p15)) from fun _ _ _ => idx_lt hr'))
      iapply (wp_gatherO 𝒱 (thr d i) bd (hl := View.loads_vmem h_S1008)) $$ H9
      iintro H9
      rw [gather_at1]
      have e126 : extractAt ![15] (k1_pay45 (F := Ideal) fun _ => gw (extractAt ![15] (k1_pay44 vi b 2147483647#32) inpos_S16_p15).toNat) inpos_S16_p15
          = gw (extractAt ![15] (k1_pay44 vi b 2147483647#32) inpos_S16_p15).toNat := low_const _ _ (by omega)
      have hmax : (srcW vi b (gw (extractAt ![15] (k1_pay44 vi b 2147483647#32) inpos_S16_p15).toNat)).toNat
          = max (extractAt ![15] (k1_pay44 vi b 2147483647#32) inpos_S16_p15).toNat (gw (extractAt ![15] (k1_pay44 vi b 2147483647#32) inpos_S16_p15).toNat).toNat := by
        unfold srcW; rw [e126]; exact maxsi_toNat (by omega) (by omega)
      have hlt : (srcW vi b (gw (extractAt ![15] (k1_pay44 vi b 2147483647#32) inpos_S16_p15).toNat)).toNat < 1008 := by
        rw [hmax]; omega
      iapply (wp_assume 𝒱 (thr d i) bd Set.univ (show k1_chk2 i st _ (broadcast S16 (srcW vi b (gw (extractAt ![15] (k1_pay44 vi b 2147483647#32) inpos_S16_p15).toNat))) from fun _ _ _ => idx_lt hlt))
      iapply (wp_scatterO 𝒱 (thr d i) bd) $$ H11
      iintro H11
      iapply (wp_assume 𝒱 (thr d i) bd Set.univ (show k1_chk3 i st _ (broadcast S16 (srcW vi b (gw (extractAt ![15] (k1_pay44 vi b 2147483647#32) inpos_S16_p15).toNat))) from fun _ _ _ => idx_lt hlt))
      iapply (wp_scatterO 𝒱 (thr d i) bd) $$ H10
      iintro H10
      iapply (wp_assume 𝒱 (thr d i) bd Set.univ (show k1_chk4 i st _ (broadcast S16 (srcW vi b (gw (extractAt ![15] (k1_pay44 vi b 2147483647#32) inpos_S16_p15).toNat))) from fun _ _ _ => idx_lt hlt))
      iapply (wp_scatterO 𝒱 (thr d i) bd) $$ H8
      iintro H8
      ihave H11 := (owns_congr (thr d i) arg11 fullShare (Y := at1 (Function.update mt (max (extractAt ![15] (k1_pay44 vi b 2147483647#32) inpos_S16_p15).toNat (gw (extractAt ![15] (k1_pay44 vi b 2147483647#32) inpos_S16_p15).toNat).toNat) (dstW vi b (gw (extractAt ![15] (k1_pay44 vi b 2147483647#32) inpos_S16_p15).toNat)))) (by
        rw [← hmax]; exact upd_map mt vi b _ _)) $$ H11
      ihave H10 := (owns_congr (thr d i) arg10 fullShare (Y := at1 (Function.update al (max (extractAt ![15] (k1_pay44 vi b 2147483647#32) inpos_S16_p15).toNat (gw (extractAt ![15] (k1_pay44 vi b 2147483647#32) inpos_S16_p15).toNat).toNat) 0)) (by
        rw [← hmax]; exact upd_alive al _ _)) $$ H10
      ihave H8 := (owns_congr (thr d i) arg8 fullShare (Y := at1 (Function.update u (max (extractAt ![15] (k1_pay44 vi b 2147483647#32) inpos_S16_p15).toNat (gw (extractAt ![15] (k1_pay44 vi b 2147483647#32) inpos_S16_p15).toNat).toNat) two)) (by
        rw [← hmax]; exact upd_max u _ _)) $$ H8
      have hmin : dstW vi b (gw (extractAt ![15] (k1_pay44 vi b 2147483647#32) inpos_S16_p15).toNat) = BitVec.ofNat 32 (min (extractAt ![15] (k1_pay44 vi b 2147483647#32) inpos_S16_p15).toNat (gw (extractAt ![15] (k1_pay44 vi b 2147483647#32) inpos_S16_p15).toNat).toNat) := by
        unfold dstW; rw [e126, ← minsi_toNat (by omega) (by omega)]; exact BitVec.eq_of_toNat_eq (by rw [BitVec.toNat_ofNat]; have := (Scalar.minsi (extractAt ![15] (k1_pay44 vi b 2147483647#32) inpos_S16_p15) (gw (extractAt ![15] (k1_pay44 vi b 2147483647#32) inpos_S16_p15).toNat)).isLt; omega)
      have hA : A.erase (max (extractAt ![15] (k1_pay44 vi b 2147483647#32) inpos_S16_p15).toNat (gw (extractAt ![15] (k1_pay44 vi b 2147483647#32) inpos_S16_p15).toNat).toNat) ⊆ Finset.range 1000 := fun i' h => hg.reach.sub (Finset.mem_of_mem_erase h)
      have ha : Marks (A.erase (max (extractAt ![15] (k1_pay44 vi b 2147483647#32) inpos_S16_p15).toNat (gw (extractAt ![15] (k1_pay44 vi b 2147483647#32) inpos_S16_p15).toNat).toNat)) (Function.update al (max (extractAt ![15] (k1_pay44 vi b 2147483647#32) inpos_S16_p15).toNat (gw (extractAt ![15] (k1_pay44 vi b 2147483647#32) inpos_S16_p15).toNat).toNat) 0) := marks_erase hg.marks _
      iapply (Scf.wp_for_bind frame (wpE defs 𝒱 (thr d i) bd) Set.univ 0#32 (Scalar.addi 0#32 63#32) 1#32 (k1_t4_ok i k1_h1) _ _
        (fun k acc => iprop(∃ (u : ℕ → EReal) (gw' : ℕ → BitVec 32), ⌜Mid S (A.erase (max (extractAt ![15] (k1_pay44 vi b 2147483647#32) inpos_S16_p15).toNat (gw (extractAt ![15] (k1_pay44 vi b 2147483647#32) inpos_S16_p15).toNat).toNat)) u gw' (max (extractAt ![15] (k1_pay44 vi b 2147483647#32) inpos_S16_p15).toNat (gw (extractAt ![15] (k1_pay44 vi b 2147483647#32) inpos_S16_p15).toNat).toNat) (16 * k)⌝ ∗ owns (thr d i) arg8 fullShare (at1 u) ∗ owns (thr d i) arg9 fullShare (at1 gw')
          ∗ owns (thr d i) arg10 fullShare (at1 (Function.update al (max (extractAt ![15] (k1_pay44 vi b 2147483647#32) inpos_S16_p15).toNat (gw (extractAt ![15] (k1_pay44 vi b 2147483647#32) inpos_S16_p15).toNat).toNat) 0)) ∗ Row d i O W ι arg2 arg12 arg17 q' G)) ?trip) $$ [H8 H9 H10 HR]
      case trip =>
        intro k acc
        iintro ⟨%u1, %gw1, %hm1, H⟩
        iapply (t4_at 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 ha hA hgood st h2 vi b (gw (extractAt ![15] (k1_pay44 vi b 2147483647#32) inpos_S16_p15).toNat) (Scalar.cmpf .ogt m (Scalar.ofBits (F := Ideal) .f32 0x3F666666#32)) h3
          k (by with_reducible exact hmax) acc hm1) $$ H
        iintro %u' %gw' %acc' %hm' H
        iexists u'; iexists gw'
        isplitr
        · ipureintro; exact hm'
        · iexact H
      · iexists (Function.update u (max (extractAt ![15] (k1_pay44 vi b 2147483647#32) inpos_S16_p15).toNat (gw (extractAt ![15] (k1_pay44 vi b 2147483647#32) inpos_S16_p15).toNat).toNat) two); iexists gw
        isplitr
        · ipureintro; exact hmid
        isplitl [H8]; · iexact H8
        isplitl [H9]; · iexact H9
        isplitl [H10]; · iexact H10
        iexact HR
      iintro %acc' ⟨%u1, %gw1, %hm1, H8, H9, H10, HR⟩
      iapply (wp_doneO 𝒱 (thr d i) bd)
      have hst : (Scalar.extui (Scalar.cmpf .ogt m (Scalar.ofBits (F := Ideal) .f32 0x3F666666#32)) : BitVec 32) = 1#32 := by
        rw [cond3_iff.mp h3]; rfl
      ihave Hk := Hk $$ %(1#32)
      rw [hst]
      iapply Hk
      iapply (GState_close d i O W ι arg2 arg8 arg9 arg10 arg11 arg12 arg16 arg17 (hg.merge hgood hb hθ hm1 hmin)) $$ [H8 H9 H10 H11 H16 HR]
      isplitl [H8]; · iexact H8
      isplitl [H9]; · iexact H9
      isplitl [H10]; · iexact H10
      isplitl [H11]; · iexact H11
      isplitl [H16]; · iexact H16
      iexact HR
    · iapply (wp_negO 𝒱 (thr d i) bd h3)
      iapply (wp_doneO 𝒱 (thr d i) bd)
      iapply Hk
      iapply (GState_close d i O W ι arg2 arg8 arg9 arg10 arg11 arg12 arg16 arg17 (hg.stay (hg.small hf ?_) _)) $$ [H8 H9 H10 H11 H16 HR]
      · intro hm
        exact h3 (cond3_iff.mpr ((cmp_ogt _ _).mpr (lit_theta.trans_lt hm)))
      · isplitl [H8]; · iexact H8
        isplitl [H9]; · iexact H9
        isplitl [H10]; · iexact H10
        isplitl [H11]; · iexact H11
        isplitl [H16]; · iexact H16
        iexact HR
  · iapply (wp_negO 𝒱 (thr d i) bd h2)
    iapply (wp_doneO 𝒱 (thr d i) bd)
    iapply Hk
    iapply (GState_close d i O W ι arg2 arg8 arg9 arg10 arg11 arg12 arg16 arg17 (hg.stay (hg.stop (by_contra fun e => h2 (cond2_iff.mpr e))) _)) $$ [H8 H9 H10 H11 H16 HR]
    isplitl [H8]; · iexact H8
    isplitl [H9]; · iexact H9
    isplitl [H10]; · iexact H10
    isplitl [H11]; · iexact H11
    isplitl [H16]; · iexact H16
    iexact HR

/-- What the first phase needs of the row maxima and their columns. -/
def Init (S row : ℕ → ℕ → EReal) (u : ℕ → EReal) (gw : ℕ → BitVec 32) : Prop :=
  ((∀ i' < 1000, ∀ j < 1000, row i' j = S i' j) ∧ ∃ src, Mid S (Finset.range 1000) u gw src 1008)
    ∨ ((∀ i < 1008, u i ≤ theta) ∧ ∀ i ∈ Finset.range 1000, ∀ j ∈ Finset.range 1000, S i j ≤ theta)

theorem Greed.init {S row : ℕ → ℕ → EReal} {u : ℕ → EReal} {gw : ℕ → BitVec 32} (h : Init S row u gw) {al : ℕ → EReal} {mt : ℕ → BitVec 32}
    (ha : ∀ i < 1008, al i = if i < 1000 then 1 else 0) (hm : ∀ i < 1008, mt i = BitVec.ofNat 32 i) : Greed S row 0 1#32 0#32 (Finset.range 1000) id u gw al mt :=
  ⟨.zero, fun i hi => (ha i hi).trans (if_congr Finset.mem_range.symm rfl rfl), hm, fun _ => rfl, fun e => absurd e (by decide), h⟩

theorem pay42_at (k : Fin k1_t1_loop.trips) : k1_pay42 lanesNo k = at1 fun l => BitVec.ofNat 32 (16 * k.val + l) := by
  have hk : k.val < 63 := k.isLt
  funext j
  obtain ⟨l, rfl⟩ : ∃ l : Fin 16, j = ix1 l := ⟨j 0, funext fun a => by match a with | ⟨0, _⟩ => rfl⟩
  have h := lane_add l (Scalar.muli (Scf.iv 0#32 1#32 k.val) 16#32) (by rw [iv_mul _ (by omega)]; omega)
  rw [iv_mul _ (by omega)] at h
  refine BitVec.eq_of_toNat_eq (h.trans ?_)
  show _ = (BitVec.ofNat 32 (16 * k.val + l.val)).toNat
  rw [BitVec.toNat_ofNat]
  have := l.isLt; omega

theorem pay43_at (k : Fin k1_t1_loop.trips) : k1_pay43 (F := Ideal) lanesNo k = at1 fun l => if 16 * k.val + l < 1000 then (1 : EReal) else 0 := by
  have hk : k.val < 63 := k.isLt
  funext j
  obtain ⟨l, rfl⟩ : ∃ l : Fin 16, j = ix1 l := ⟨j 0, funext fun a => by match a with | ⟨0, _⟩ => rfl⟩
  show (if BitVec.ofBool ((k1_pay42 lanesNo k (ix1 l)).slt 1000#32) = 1#1 then Ideal.ofBits .f32 0x3F800000#32 else Ideal.ofBits .f32 0x00000000#32) = if 16 * k.val + l.val < 1000 then (1 : EReal) else 0
  rw [pay42_at, lit_one, lit_zero]
  refine if_congr ?_ rfl rfl
  have hl := l.isLt
  have e : (BitVec.ofNat 32 (16 * k.val + l.val)).toNat = 16 * k.val + l.val := by rw [BitVec.toNat_ofNat]; omega
  rw [ofBool_eq_one]
  refine (slt_iff (by show (BitVec.ofNat 32 (16 * k.val + l.val)).toNat < _; omega) (by decide)).trans ?_
  show (BitVec.ofNat 32 (16 * k.val + l.val)).toNat < 1000 ↔ _
  rw [e]

set_option maxHeartbeats 800000 in
/-- One chunk of the alive marks and of the map set. -/
theorem t1_wp (k : Fin k1_t1_loop.trips) (acc : BitVec 32) {R : BitVec 32 → sProp 𝕄} {al : ℕ → EReal} {mt : ℕ → BitVec 32}
    (ha : ∀ i < 16 * k.val, al i = if i < 1000 then 1 else 0) (hm : ∀ i < 16 * k.val, mt i = BitVec.ofNat 32 i) :
    iprop(owns (thr d i) arg10 fullShare (at1 al) ∗ owns (thr d i) arg11 fullShare (at1 mt))
      ⊢ iprop((∀ (al : ℕ → EReal) (mt : ℕ → BitVec 32) acc, ⌜(∀ i < 16 * (k.val + 1), al i = if i < 1000 then 1 else 0) ∧ ∀ i < 16 * (k.val + 1), mt i = BitVec.ofNat 32 i⌝
            -∗ iprop(owns (thr d i) arg10 fullShare (at1 al) ∗ owns (thr d i) arg11 fullShare (at1 mt)) -∗ R acc)
        -∗ wp frame (wpE defs 𝒱 (thr d i) bd) Set.univ (k1_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 lanesNo firstLane k1_h1 k acc) R) := by
  have hk : k.val < 63 := k.isLt
  have e2 : (k1_off2 k : Fin 1 → ℕ) 0 = 16 * k.val := iv_mul k.val (by omega)
  unfold k1_t1_body
  iintro ⟨H10, H11⟩ Hk
  iapply (wp_loadO 𝒱 (thr d i) bd) $$ H10
  iintro H10
  iapply (wp_storeO 𝒱 (thr d i) bd) $$ H10
  iintro H10
  iapply (wp_loadO 𝒱 (thr d i) bd) $$ H11
  iintro H11
  iapply (wp_storeO 𝒱 (thr d i) bd) $$ H11
  iintro H11
  iapply (wp_doneO 𝒱 (thr d i) bd)
  rw [pay42_at, pay43_at, store_at1, store_at1]
  iapply Hk $$ %_ %_ %(0#32) [] [H10 H11]
  rotate_left
  · isplitl [H10]; · iexact H10
    iexact H11
  · ipureintro
    rw [e2]
    constructor
    · intro i' hi'
      by_cases h : 16 * k.val ≤ i' ∧ i' < 16 * k.val + 16
      · rw [if_pos h, Nat.add_sub_cancel' h.1]
      · rw [if_neg h]; exact ha _ (by omega)
    · intro i' hi'
      by_cases h : 16 * k.val ≤ i' ∧ i' < 16 * k.val + 16
      · rw [if_pos h, Nat.add_sub_cancel' h.1]
      · rw [if_neg h]; exact hm _ (by omega)

/-- The subcore's row of the map. -/
abbrev mapRow : Memref sig .scVector .hbm S1008 .i32 :=
  (arg6.slice (Rect.unit (s := S4x1008) (k1_off1 i) S1x1008.size (k1_off1_inb i k1_h1)) (fun _ => rfl)).squeeze S1008 squeezes_S1x1008_S1008

theorem off1_0 : k1_off1 i 0 = wid i := by rw [k1_off1_eq]; unfold wid; simp; omega
theorem off1_1 : k1_off1 i 1 = 0 := by rw [k1_off1_eq]; rfl

include EC in
set_option maxHeartbeats 800000 in
/-- The first phase, to the issue of the map's copy. -/
theorem part11_wp {S : ℕ → ℕ → EReal} {q' : PosShare TreeShare} {G : ℕ → ℕ → ℕ → EReal} {U : ℕ → ℕ → EReal} {GW B : ℕ → ℕ → BitVec 32} {R : PUnit → sProp 𝕄}
    {Y8 Y9} {al : ℕ → EReal} {mt : ℕ → BitVec 32} {fl : BitVec 32} (hI : Init S (G (wid i)) (U (wid i)) (GW (wid i))) :
    iprop(ownsOn (thr d i) arg3 fullShare (part ![4, 1008] (wid i)) (at2 U) ∗ ownsOn (thr d i) arg4 fullShare (part ![4, 1008] (wid i)) (at2 GW)
        ∗ ownsOn (thr d i) arg6 fullShare (part ![4, 1008] (wid i)) (at2 B)
        ∗ owns (thr d i) arg8 fullShare Y8 ∗ owns (thr d i) arg9 fullShare Y9 ∗ owns (thr d i) arg10 fullShare (at1 al) ∗ owns (thr d i) arg11 fullShare (at1 mt)
        ∗ owns (thr d i) arg16 fullShare (at1 fun _ => fl) ∗ Row d i O W ι arg2 arg12 arg17 q' G ∗ semVal (thr d i, .dma arg18.sem) 0)
      ⊢ iprop((∀ (A : Finset ℕ) (M : ℕ → ℕ) (u : ℕ → EReal) (gw : ℕ → BitVec 32) (al : ℕ → EReal) (mt : ℕ → BitVec 32) (fl : BitVec 32),
            ⌜Reach S theta 1000 1000 A M ∧ (∀ i < 1008, mt i = BitVec.ofNat 32 (M i)) ∧ (fl = 0#32 → M = id)⌝
            -∗ iprop(ownsOn (thr d i) arg3 fullShare (part ![4, 1008] (wid i)) (at2 fun _ => U (wid i)) ∗ ownsOn (thr d i) arg4 fullShare (part ![4, 1008] (wid i)) (at2 fun _ => GW (wid i))
              ∗ Sent (thr d i) EC arg11 (mapRow i arg6 k1_h1) arg18.sem ι fullShare (at1 mt)
              ∗ (∀ Y : ℕ → BitVec 32, owns (thr d i) (mapRow i arg6 k1_h1) fullShare (at1 Y) -∗ ownsOn (thr d i) arg6 fullShare (part ![4, 1008] (wid i)) (at2 fun _ => Y))
              ∗ owns (thr d i) arg8 fullShare (at1 u) ∗ owns (thr d i) arg9 fullShare (at1 gw) ∗ owns (thr d i) arg10 fullShare (at1 al)
              ∗ owns (thr d i) arg16 fullShare (at1 fun _ => fl) ∗ Row d i O W ι arg2 arg12 arg17 q' G) -∗ R ⟨⟩)
        -∗ wp frame (wpE defs 𝒱 (thr d i) bd) Set.univ (k1_part11_skel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 lanesNo firstLane k1_h1) R) := by
  unfold k1_part11_skel
  iintro ⟨H3, H4, H6, H8, H9, H10, H11, H16, HR, H18⟩ Hk
  ihave H3' := (carve_row2 (thr d i) (b := wid i) arg3 fullShare U (k1_off1 i) (k1_off1_inb i k1_h1) (fun _ => rfl) squeezes_S1x1008_S1008 (off1_0 i) (off1_1 i)) $$ H3
  icases H3' with ⟨H3, H3b⟩
  ihave H4' := (carve_row2 (thr d i) (b := wid i) arg4 fullShare GW (k1_off1 i) (k1_off1_inb i k1_h1) (fun _ => rfl) squeezes_S1x1008_S1008 (off1_0 i) (off1_1 i)) $$ H4
  icases H4' with ⟨H4, H4b⟩
  ihave H6' := (carve_row2 (thr d i) (b := wid i) arg6 fullShare B (k1_off1 i) (k1_off1_inb i k1_h1) (fun _ => rfl) squeezes_S1x1008_S1008 (off1_0 i) (off1_1 i)) $$ H6
  icases H6' with ⟨H6, H6b⟩
  ihave HR' := (Row_open d i O W ι arg2 arg12 arg17 q' G) $$ HR
  icases HR' with ⟨H12, H2, Hv, HE⟩
  iapply (wp_copyO 𝒱 (thr d i) bd EC (by decide) ι) $$ [H3 H8 Hv HE]
  · isplitl [H3]; · iexact H3
    isplitl [H8]; · iexact H8
    isplitl [Hv]; · iexact Hv
    iexact HE
  iintro ⟨H3, H8, Hv, HE⟩
  iapply (wp_copyO 𝒱 (thr d i) bd EC (by decide) ι) $$ [H4 H9 Hv HE]
  · isplitl [H4]; · iexact H4
    isplitl [H9]; · iexact H9
    isplitl [Hv]; · iexact Hv
    iexact HE
  iintro ⟨H4, H9, Hv, HE⟩
  ihave HR := (Row_close d i O W ι arg2 arg12 arg17 q' G) $$ [H12 H2 Hv HE]
  · isplitl [H12]; · iexact H12
    isplitl [H2]; · iexact H2
    isplitl [Hv]; · iexact Hv
    iexact HE
  iapply (Scf.wp_for_bind frame (wpE defs 𝒱 (thr d i) bd) Set.univ 0#32 (Scalar.addi 0#32 63#32) 1#32 (k1_t1_ok i k1_h1) _ _
    (fun k acc => iprop(∃ (al : ℕ → EReal) (mt : ℕ → BitVec 32), ⌜(∀ i < 16 * k, al i = if i < 1000 then 1 else 0) ∧ ∀ i < 16 * k, mt i = BitVec.ofNat 32 i⌝
      ∗ owns (thr d i) arg10 fullShare (at1 al) ∗ owns (thr d i) arg11 fullShare (at1 mt))) ?trip) $$ [H10 H11]
  case trip =>
    intro k acc
    iintro ⟨%al1, %mt1, %h, H⟩
    iapply (t1_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 k acc h.1 h.2) $$ H
    iintro %al2 %mt2 %acc2 %h2 H
    iexists al2; iexists mt2
    isplitr
    · ipureintro; exact h2
    · iexact H
  · iexists al; iexists mt
    isplitr
    · ipureintro; exact ⟨fun i h => by omega, fun i h => by omega⟩
    isplitl [H10]; · iexact H10
    iexact H11
  iintro %acc ⟨%al1, %mt1, %h1, H10, H11⟩
  have et1 : Scf.trips 0#32 (Scalar.addi 0#32 63#32) 1#32 = 63 := by decide
  rw [et1] at h1
  iapply (wp_smemO 𝒱 (thr d i) bd) $$ H16
  iintro H16
  iapply (wp_storeO 𝒱 (thr d i) bd) $$ H16
  iintro H16
  rw [flag_store]
  iapply (Scf.wp_for_bind frame (wpE defs 𝒱 (thr d i) bd) Set.univ 0#32 (Scalar.addi 0#32 1000#32) 1#32 (k1_t2_ok i k1_h1) _ _
    (fun k acc => GState d i O W ι arg2 arg8 arg9 arg10 arg11 arg12 arg16 arg17 q' G S k acc) ?trip2) $$ [H8 H9 H10 H11 H16 HR]
  case trip2 =>
    intro k acc
    iintro H
    iapply (t2_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 k acc) $$ H
    iintro %acc2 H
    iexact H
  · iapply (GState_close d i O W ι arg2 arg8 arg9 arg10 arg11 arg12 arg16 arg17 (Greed.init hI h1.1 h1.2))
    isplitl [H8]; · iexact H8
    isplitl [H9]; · iexact H9
    isplitl [H10]; · iexact H10
    isplitl [H11]; · iexact H11
    isplitl [H16]; · iexact H16
    iexact HR
  iintro %acc HG
  have et2 : Scf.trips 0#32 (Scalar.addi 0#32 1000#32) 1#32 = 1000 := by decide
  rw [et2]
  ihave HG' := (GState_open d i O W ι arg2 arg8 arg9 arg10 arg11 arg12 arg16 arg17 q' G S 1000 acc) $$ HG
  icases HG' with ⟨%A, %M, %u, %gw, %al2, %mt2, %fl2, %hg, H8, H9, H10, H11, H16, HR⟩
  iapply (wp_enqO 𝒱 (thr d i) bd EC (by decide) ι) $$ [H11 H6 H18]
  · isplitl [H11]; · iexact H11
    isplitl [H6]; · iexact H6
    iexact H18
  iintro HS
  iapply (wp_doneO 𝒱 (thr d i) bd)
  iapply Hk $$ %A %M %u %gw %al2 %mt2 %fl2 [] [H3 H3b H4 H4b HS H6b H8 H9 H10 H16 HR]
  · ipureintro; exact ⟨hg.reach, hg.map, hg.flag⟩
  isplitl [H3 H3b]; · iapply H3b $$ H3
  isplitl [H4 H4b]; · iapply H4b $$ H4
  isplitl [HS]; · iexact HS
  isplitl [H6b]; · iexact H6b
  isplitl [H8]; · iexact H8
  isplitl [H9]; · iexact H9
  isplitl [H10]; · iexact H10
  isplitl [H16]; · iexact H16
  iexact HR

end Cert.Proof.Scan

end
-- ==== Proof.Rows.lean ====
/-
  The rows of the merge accumulator: chunks of sixteen entries written one after another, the sums a slot's rows give,
  and the counts a scatter accumulates.
-/
module

public import Idealize.ShloMosaic.Lib.Pipeline.Value
public import proofs.«01_k».proof.Proof.Phase

@[expose] public section

noncomputable section

namespace Cert.Proof.Scan

open Cert.KernelIdeal Cert.KernelIdeal.Gen Cert.Proof.Rules Cert.Proof.Vec Cert.Proof.Greedy
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

/-- Row `r` of a table replaced by another's in its first `16 c` columns. -/
def rowTo (f g : ℕ → ℕ → EReal) (r c : ℕ) : ℕ → ℕ → EReal := fun r' d => if r' = r ∧ d < 16 * c then g r' d else f r' d

theorem rowTo_zero (f g : ℕ → ℕ → EReal) (r : ℕ) : rowTo f g r 0 = f := by
  funext r' d; unfold rowTo; rw [if_neg (by omega)]

/-- A chunk of a row read. -/
theorem load_row (f : ℕ → ℕ → EReal) (off : Fin 2 → ℕ) (h) (hc : (S1x16 : Shape).ShapeCasts S16) :
    shapeCast S16 (fun j => (at2 f : S256x256.Idx → EReal) ((Rect.unit (s := S256x256) off S1x16.size h).emb j)) hc = at1 fun l => f (off 0) (off 1 + l) := by
  funext j
  refine (shapeCast_dropUnit_apply (![16]) _ hc j).trans ?_
  show f (_ : ℕ) (_ : ℕ) = f _ _
  refine congrArg₂ f ?_ ?_
  · refine (Rect.emb_apply _ _ _).trans ?_
    show off 0 + 1 * 0 = _
    omega
  · refine (Rect.emb_apply _ _ _).trans ?_
    show off 1 + 1 * (j 0).val = off 1 + (j 0).val
    omega

/-- A chunk of a row written. -/
theorem store_row (f w) (off : Fin 2 → ℕ) (h) (hc : (S16 : Shape).ShapeCasts S1x16) :
    (Rect.unit (s := S256x256) off S1x16.size h).overlay (at2 f : S256x256.Idx → EReal) (shapeCast S1x16 (at1 w) hc)
      = at2 fun r d => if r = off 0 ∧ off 1 ≤ d ∧ d < off 1 + 16 then w (d - off 1) else f r d := by
  have e1 : shapeCast S1x16 (at1 w : S16.Idx → EReal) hc = fun j => w (j 1).val := by
    funext j; exact shapeCast_addUnit_apply (![16]) (at1 w) hc j
  rw [e1]
  funext j
  by_cases hj : j ∈ (Rect.unit (s := S256x256) off S1x16.size h).set
  · obtain ⟨i, hi⟩ := LoadRect.exists_idx_of_mem (Rect.toLoadRect _) hj
    obtain rfl : (Rect.unit (s := S256x256) off S1x16.size h).emb i = j := hi
    rw [Rect.overlay_emb]
    have hi0 : (i 0).val < 1 := (i 0).isLt
    have hi1 : (i 1).val < 16 := (i 1).isLt
    have e0 : ((Rect.unit (s := S256x256) off S1x16.size h).emb i 0 : ℕ) = off 0 := by
      refine (Rect.emb_apply _ _ _).trans ?_
      show off 0 + 1 * (i 0).val = _
      omega
    have e1 : ((Rect.unit (s := S256x256) off S1x16.size h).emb i 1 : ℕ) = off 1 + (i 1).val := by
      refine (Rect.emb_apply _ _ _).trans ?_
      show off 1 + 1 * (i 1).val = _
      omega
    show w _ = if _ = off 0 ∧ off 1 ≤ _ ∧ _ < _ then w _ else f _ _
    rw [if_pos ⟨e0, by rw [e1]; omega, by rw [e1]; omega⟩, e1, Nat.add_sub_cancel_left]
  · rw [Rect.overlay_of_not_mem _ _ _ hj]
    show f _ _ = if _ = off 0 ∧ off 1 ≤ _ ∧ _ < _ then w _ else f _ _
    rw [if_neg]
    intro hh
    apply hj
    have : (Rect.unit (s := S256x256) off S1x16.size h).emb (ix2 (0 : Fin 1) (⟨(j 1).val - off 1, by have := hh.2; omega⟩ : Fin 16)) = j := by
      funext a
      refine Fin.ext ((Rect.emb_apply _ _ _).trans ?_)
      match a with
      | ⟨0, _⟩ => show off 0 + 1 * 0 = (j 0).val; have := hh.1; omega
      | ⟨1, _⟩ => show off 1 + 1 * ((j 1).val - off 1) = (j 1).val; have := hh.2.1; omega
    rw [← this, ← Rect.map_emb_univ]; exact Finset.mem_map_of_mem _ (Finset.mem_univ _)

/-- The next chunk of a row written. -/
theorem rowTo_step (f g : ℕ → ℕ → EReal) (w : ℕ → EReal) (r c : ℕ) (off : Fin 2 → ℕ) (h) (hc : (S16 : Shape).ShapeCasts S1x16) (h0 : off 0 = r) (h1 : off 1 = 16 * c)
    (hw : ∀ l < 16, w l = g r (16 * c + l)) :
    (Rect.unit (s := S256x256) off S1x16.size h).overlay (at2 (rowTo f g r c) : S256x256.Idx → EReal) (shapeCast S1x16 (at1 w) hc) = at2 (rowTo f g r (c + 1)) := by
  rw [store_row, h0, h1]
  refine at2_congr fun r' _ d _ => ?_
  unfold rowTo
  by_cases h2 : r' = r ∧ 16 * c ≤ d ∧ d < 16 * c + 16
  · rw [if_pos h2, if_pos ⟨h2.1, by omega⟩, hw _ (by omega), h2.1, Nat.add_sub_cancel' h2.2.1]
  · rw [if_neg h2]
    by_cases h3 : r' = r ∧ d < 16 * c
    · rw [if_pos h3, if_pos ⟨h3.1, by omega⟩]
    · rw [if_neg h3, if_neg (by omega)]

theorem zero_step (f : ℕ → ℕ → EReal) (r c : ℕ) (off : Fin 2 → ℕ) (h) (h0 : off 0 = r) (h1 : off 1 = 16 * c) :
    (Rect.unit (s := S256x256) off S1x16.size h).overlay (at2 (rowTo f (fun _ _ => 0) r c) : S256x256.Idx → EReal)
      (shapeCast S1x16 (k1_pay31 (F := Ideal)) shapeCasts_S16_S1x16) = at2 (rowTo f (fun _ _ => 0) r (c + 1)) := by
  have e : (k1_pay31 (F := Ideal) : S16.Idx → EReal) = at1 fun _ => 0 := funext fun _ => lit_zero
  rw [e]
  exact rowTo_step _ _ _ _ _ _ _ _ h0 h1 fun _ _ => rfl

theorem add_step (f : ℕ → ℕ → EReal) (w : ℕ → EReal) (r c : ℕ) (off : Fin 2 → ℕ) (h) (h0 : off 0 = r) (h1 : off 1 = 16 * c) :
    (Rect.unit (s := S256x256) off S1x16.size h).overlay (at2 (rowTo f (fun r d => f r d + w d) r c) : S256x256.Idx → EReal)
      (shapeCast S1x16 (k1_pay34 (F := Ideal) (fun j => (at2 (rowTo f (fun r d => f r d + w d) r c) : S256x256.Idx → EReal) ((Rect.unit (s := S256x256) off S1x16.size h).emb j))
        (at1 fun l => w (16 * c + l))) shapeCasts_S16_S1x16) = at2 (rowTo f (fun r d => f r d + w d) r (c + 1)) := by
  have e : k1_pay34 (F := Ideal) (fun j => (at2 (rowTo f (fun r d => f r d + w d) r c) : S256x256.Idx → EReal) ((Rect.unit (s := S256x256) off S1x16.size h).emb j))
      (at1 fun l => w (16 * c + l)) = at1 fun l => rowTo f (fun r d => f r d + w d) r c r (16 * c + l) + w (16 * c + l) := by
    show addf (F := Ideal) (shapeCast S16 (fun j => (at2 (rowTo f (fun r d => f r d + w d) r c) : S256x256.Idx → EReal) ((Rect.unit (s := S256x256) off S1x16.size h).emb j)) _) _ = _
    rw [load_row, h0, h1]
    rfl
  rw [e]
  refine rowTo_step _ _ _ _ _ _ _ _ h0 h1 fun l _ => ?_
  have : rowTo f (fun r d => f r d + w d) r c r (16 * c + l) = f r (16 * c + l) := by unfold rowTo; rw [if_neg (by omega)]
  rw [this]

/-- What a row is multiplied by: one over its count, or one if it counts nothing. -/
def recip (n : EReal) : EReal := Ideal.div 1 (max n 1)

theorem mul_step (f : ℕ → ℕ → EReal) (n : EReal) (r c : ℕ) (off : Fin 2 → ℕ) (h) (h0 : off 0 = r) (h1 : off 1 = 16 * c) :
    (Rect.unit (s := S256x256) off S1x16.size h).overlay (at2 (rowTo f (fun r d => f r d * recip n) r c) : S256x256.Idx → EReal)
      (shapeCast S1x16 (k1_pay35 (F := Ideal) (fun _ => n) (fun j => (at2 (rowTo f (fun r d => f r d * recip n) r c) : S256x256.Idx → EReal) ((Rect.unit (s := S256x256) off S1x16.size h).emb j)))
        shapeCasts_S16_S1x16) = at2 (rowTo f (fun r d => f r d * recip n) r (c + 1)) := by
  have e : k1_pay35 (F := Ideal) (fun _ => n) (fun j => (at2 (rowTo f (fun r d => f r d * recip n) r c) : S256x256.Idx → EReal) ((Rect.unit (s := S256x256) off S1x16.size h).emb j))
      = at1 fun l => rowTo f (fun r d => f r d * recip n) r c r (16 * c + l) * recip n := by
    show mulf (F := Ideal) (shapeCast S16 (fun j => (at2 (rowTo f (fun r d => f r d * recip n) r c) : S256x256.Idx → EReal) ((Rect.unit (s := S256x256) off S1x16.size h).emb j)) _)
      (fun _ => Ideal.div (Ideal.ofBits .f32 0x3F800000#32) (max n (Ideal.ofBits .f32 0x3F800000#32))) = _
    rw [load_row, h0, h1, show (Ideal.ofBits .f32 0x3F800000#32 : EReal) = 1 from lit_one]
    rfl
  rw [e]
  refine rowTo_step _ _ _ _ _ _ _ _ h0 h1 fun l _ => ?_
  have : rowTo f (fun r d => f r d * recip n) r c r (16 * c + l) = f r (16 * c + l) := by unfold rowTo; rw [if_neg (by omega)]
  rw [this]

/-- The sums of the first `k` rows, each at the row it merges into. -/
def sums (M : ℕ → ℕ) (x : ℕ → ℕ → EReal) (k t dd : ℕ) : EReal := ∑ i ∈ Finset.range k, if M i = t then x i dd else 0

/-- The number of the first `k` rows that merge into a row. -/
def counts (M : ℕ → ℕ) (k t : ℕ) : EReal := ∑ i ∈ Finset.range k, if M i = t then 1 else 0

theorem sums_take (M : ℕ → ℕ) (x : ℕ → ℕ → EReal) (base k : ℕ) (hb : base ≤ M k) :
    (at2 (rowTo (fun r dd => sums M x k (base + r) dd) (fun r dd => sums M x k (base + r) dd + x k dd) (M k - base) 16) : S256x256.Idx → EReal)
      = at2 fun r dd => sums M x (k + 1) (base + r) dd := by
  refine at2_congr fun r _ dd hd => ?_
  unfold rowTo
  have e : sums M x (k + 1) (base + r) dd = sums M x k (base + r) dd + if M k = base + r then x k dd else 0 := Finset.sum_range_succ _ _
  rw [e]
  by_cases h : r = M k - base
  · rw [if_pos ⟨h, by omega⟩, if_pos (by omega)]
  · rw [if_neg (fun hh => h hh.1), if_neg (by omega), add_zero]

theorem sums_skip (M : ℕ → ℕ) (x : ℕ → ℕ → EReal) (base k : ℕ) (hb : ¬ (base ≤ M k ∧ M k < base + 256)) :
    (at2 (fun r dd => sums M x k (base + r) dd) : S256x256.Idx → EReal) = at2 fun r dd => sums M x (k + 1) (base + r) dd := by
  refine at2_congr fun r hr dd hd => ?_
  have e : sums M x (k + 1) (base + r) dd = sums M x k (base + r) dd + if M k = base + r then x k dd else 0 := Finset.sum_range_succ _ _
  rw [e, if_neg (by omega), add_zero]

/-- A word between two bounds, as the kernel tests it. -/
theorem within_iff {v lo hi : BitVec 32} (hv : v.toNat < 2 ^ 31) (hl : lo.toNat < 2 ^ 31) (hh : hi.toNat < 2 ^ 31) :
    Scalar.cmpi .ne (Scalar.extui (Scalar.andi (Scalar.cmpi .sge v lo) (Scalar.cmpi .slt v hi))) 0#32 = 1#1 ↔ lo.toNat ≤ v.toNat ∧ v.toNat < hi.toNat := by
  refine (ne_zero_iff _).trans ?_
  have e1 : Scalar.cmpi .sge v lo = BitVec.ofBool (decide (lo.toNat ≤ v.toNat)) := by
    show BitVec.ofBool (lo.sle v) = _
    rw [BitVec.sle_eq_decide, BitVec.toInt_eq_toNat_of_lt (by omega), BitVec.toInt_eq_toNat_of_lt (by omega)]
    simp only [Nat.cast_le]
  have e2 : Scalar.cmpi .slt v hi = BitVec.ofBool (decide (v.toNat < hi.toNat)) := by
    show BitVec.ofBool (v.slt hi) = _
    rw [BitVec.slt_eq_decide, BitVec.toInt_eq_toNat_of_lt (by omega), BitVec.toInt_eq_toNat_of_lt (by omega)]
    simp only [Nat.cast_lt]
  rw [e1, e2]
  by_cases h1 : lo.toNat ≤ v.toNat <;> by_cases h2 : v.toNat < hi.toNat <;> simp only [h1, h2] <;> decide

theorem sub_toNat {v lo : BitVec 32} (h : lo.toNat ≤ v.toNat) : (Scalar.subi v lo).toNat = v.toNat - lo.toNat := by
  show (v - lo).toNat = _
  rw [BitVec.toNat_sub]
  have := v.isLt
  have := lo.isLt
  omega

theorem base_toNat (b k : ℕ) (hb : b < 2 ^ 20) (hk : k < 2 ^ 20) : (Scalar.addi (BitVec.ofNat 32 b) (Scf.iv 0#32 1#32 k)).toNat = b + k := by
  show (BitVec.ofNat 32 b + Scf.iv 0#32 1#32 k).toNat = _
  rw [BitVec.toNat_add, iv_toNat k (by omega), BitVec.toNat_ofNat]
  omega

/-! ## The counts -/

/-- One lane of a scatter that adds. -/
def bump (live : Fin 16 → Prop) [DecidablePred live] (tgt : Fin 16 → ℕ) (g : ℕ → EReal) (l : Fin 16) : ℕ → EReal :=
  if live l then fun t => if t = tgt l then g (tgt l) + 1 else g t else g

theorem bump_sum (live : Fin 16 → Prop) [DecidablePred live] (tgt : Fin 16 → ℕ) (L : List (Fin 16)) : ∀ g : ℕ → EReal,
    L.foldl (bump live tgt) g = fun t => g t + (L.map fun l => if live l ∧ tgt l = t then (1 : EReal) else 0).sum := by
  induction L with
  | nil => intro g; funext t; simp
  | cons l L ih =>
    intro g
    rw [List.foldl_cons, ih]
    funext t
    rw [List.map_cons, List.sum_cons, ← add_assoc]
    congr 1
    unfold bump
    by_cases hl : live l
    · rw [if_pos hl]
      by_cases ht : t = tgt l
      · rw [if_pos ht, if_pos ⟨hl, ht.symm⟩, ht]
      · rw [if_neg ht, if_neg (fun h => ht h.2.symm), add_zero]
    · rw [if_neg hl, if_neg (fun h => hl h.1), add_zero]

theorem count_scatter (c : ℕ → EReal) (v : IVec S16 32) (mask : IVec S16 1) (live : Fin 16 → Prop) [DecidablePred live]
    (hm : ∀ l : Fin 16, mask (ix1 l) = 1#1 ↔ live l) (h) :
    storeIdx (at1 c : Vec Ideal S1008 .f32) ![v] (k1_pay30 (F := Ideal)) mask true h
      = at1 fun t => c t + ∑ l : Fin 16, if live l ∧ (v (ix1 l)).toNat = t then (1 : EReal) else 0 := by
  have e : ∀ (L : List (Fin 16)) (g : ℕ → EReal),
      L.foldl (fun (g : Vec Ideal S1008 .f32) (k : Fin 16) =>
        if mask (Shape.ofLane (d := ![16]) k) = 1 then
          fun j => if (∀ a, (j a).val = (idxAt (s := S1008) ![v] h (Shape.ofLane (d := ![16]) k) a).val) then
            (if true then Elt.idxAdd .f32 (g (idxAt (s := S1008) ![v] h (Shape.ofLane (d := ![16]) k))) (k1_pay30 (F := Ideal) (Shape.ofLane (d := ![16]) k)) else k1_pay30 (F := Ideal) (Shape.ofLane (d := ![16]) k)) else g j
        else g) (at1 g) = at1 (L.foldl (bump live fun l => (v (ix1 l)).toNat) g) := by
    intro L
    induction L with
    | nil => intro g; rfl
    | cons l L ih =>
      intro g
      rw [List.foldl_cons, List.foldl_cons, ← ih]
      congr 1
      unfold bump
      by_cases hl : live l
      · rw [if_pos hl, if_pos (by rw [ofLane_eq]; exact (hm l).mpr hl)]
        funext j
        rw [ofLane_eq]
        show (if (∀ a, (j a).val = (idxAt (s := S1008) ![v] h (ix1 l) a).val) then g ((v (ix1 l)).toNat) + (Ideal.ofBits .f32 0x3F800000#32 : EReal) else g (j 0).val)
          = if (j 0).val = (v (ix1 l)).toNat then g ((v (ix1 l)).toNat) + 1 else g (j 0).val
        rw [show (Ideal.ofBits .f32 0x3F800000#32 : EReal) = 1 from lit_one]
        refine if_congr ⟨fun hh => hh 0, fun hh a => ?_⟩ rfl rfl
        fin_cases a; exact hh
      · rw [if_neg hl, if_neg (by rw [ofLane_eq]; exact fun hh => hl ((hm l).mp hh))]
  have e2 : storeIdx (at1 c : Vec Ideal S1008 .f32) ![v] (k1_pay30 (F := Ideal)) mask true h
      = at1 ((List.finRange 16).foldl (bump live fun l => (v (ix1 l)).toNat) c) := by
    rw [← e (List.finRange 16) c]
    unfold storeIdx
    refine congrArg (fun st : Vec Ideal S1008 .f32 → Fin 16 → Vec Ideal S1008 .f32 => (List.finRange 16).foldl st (at1 c)) ?_
    funext g k
    show (if mask (Shape.ofLane (d := ![16]) k) = 1 then _ else _) = if mask (Shape.ofLane (d := ![16]) k) = 1 then _ else _
    by_cases hm : mask (Shape.ofLane (d := ![16]) k) = 1
    · rw [if_pos hm, if_pos hm]
      funext j
      congr 1
    · rw [if_neg hm, if_neg hm]
  rw [e2, bump_sum]
  simp only [Fin.sum_univ_def]

theorem counts_step (M : ℕ → ℕ) (k t : ℕ) :
    counts M (min (16 * k) 1000) t + (∑ l : Fin 16, if 16 * k + l.val < 1000 ∧ M (16 * k + l.val) = t then (1 : EReal) else 0) = counts M (min (16 * (k + 1)) 1000) t := by
  have e : ∀ n, counts M (min n 1000) t = ∑ i ∈ Finset.range n, if i < 1000 ∧ M i = t then (1 : EReal) else 0 := fun n => by
    induction n with
    | zero => rfl
    | succ n ih =>
      rw [Finset.sum_range_succ, ← ih]
      by_cases hn : n < 1000
      · rw [show min (n + 1) 1000 = min n 1000 + 1 by omega, show min n 1000 = n by omega]
        refine (Finset.sum_range_succ _ _).trans ?_
        congr 1
        exact if_congr ⟨fun h => ⟨hn, h⟩, fun h => h.2⟩ rfl rfl
      · rw [show min (n + 1) 1000 = min n 1000 by omega, if_neg (fun h => hn h.1), add_zero]
  rw [e, e, show 16 * (k + 1) = 16 * k + 16 by ring, Finset.sum_range_add, Finset.sum_range (n := 16)]

theorem count_step (M : ℕ → ℕ) (mt : ℕ → BitVec 32) (hmt : ∀ i < 1008, mt i = BitVec.ofNat 32 (M i)) (hM : ∀ i < 1008, M i < 1008)
    (k1_t8 : Fin k1_t8_loop.trips) (h) :
    storeIdx (at1 (counts M (min (16 * k1_t8.val) 1000)) : Vec Ideal S1008 .f32) ![at1 fun l => mt (16 * k1_t8.val + l)] (k1_pay30 (F := Ideal)) (k1_pay32 lanesNo k1_t8) true h
      = at1 (counts M (min (16 * (k1_t8.val + 1)) 1000)) := by
  have hk : k1_t8.val < 63 := k1_t8.isLt
  rw [count_scatter _ _ _ (fun l => 16 * k1_t8.val + l.val < 1000) (fun l => by
    have e : (addi lanesNo (broadcast S16 (Scalar.muli (Scf.iv 0#32 1#32 k1_t8.val) 16#32)) (ix1 l)).toNat = 16 * k1_t8.val + l.val := by
      rw [← iv_mul k1_t8.val (by omega)]
      exact lane_add l _ (by rw [iv_mul k1_t8.val (by omega)]; omega)
    have hl := l.isLt
    show BitVec.ofBool ((addi lanesNo (broadcast S16 (Scalar.muli (Scf.iv 0#32 1#32 k1_t8.val) 16#32)) (ix1 l)).slt 1000#32) = 1#1 ↔ _
    rw [ofBool_eq_one, slt_iff (by rw [e]; omega) (by decide), e]
    exact Iff.rfl)]
  refine at1_congr fun t _ => ?_
  rw [← counts_step]
  congr 1
  refine Finset.sum_congr rfl fun l _ => ?_
  have hl := l.isLt
  have e : ((at1 fun l => mt (16 * k1_t8.val + l) : S16.Idx → BitVec 32) (ix1 l)).toNat = M (16 * k1_t8.val + l.val) := by
    show (mt (16 * k1_t8.val + l.val)).toNat = _
    rw [hmt _ (by omega), BitVec.toNat_ofNat]
    have := hM (16 * k1_t8.val + l.val) (by omega)
    omega
  rw [e]

end Cert.Proof.Scan

end
-- ==== Proof.Pass0.lean ====
/-
  Pass 0 of the merge: rows 0 to 255 of the merged slots are cleared, summed and divided by their counts.
-/
module

public import proofs.«01_k».proof.Proof.Rows

@[expose] public section

noncomputable section

namespace Cert.Proof.Scan

open Cert.KernelIdeal Cert.KernelIdeal.Gen Cert.Proof.Rules Cert.Proof.Vec Cert.Proof.Greedy
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

variable {Ix : Type} [DecidableEq Ix] {Name : Type} [DecidableEq Name]
variable {U : Type} [URA U] {Lvl : Type} [Preorder Lvl]
variable {defs : Defs nD τ sig (Elt Ideal) Λ₀} (𝒱 : Variants) (d : Fin nD) (i : grid1.Coords) (bd : Option 𝒱.V)

local notation "𝕄" => MT nD τ sig Ix (Elt Ideal) Name U Lvl

variable (EC : UEmb Counters (MT nD τ sig Ix (Elt Ideal) Name U Lvl)) [Infinite Name] [EC.LandsIn (upEmb : UEmb _ (MT nD τ sig Ix (Elt Ideal) Name U Lvl))] (O : CellTallies nD τ sig Ix) (W : Waits sig Ix) (ι : Ix)

variable (arg2 : Memref sig .scVector .hbm S4x1000x1008 .f32) (harg2 : arg2.IsWhole) (arg3 : Memref sig .scVector .hbm S4x1008 .f32) (harg3 : arg3.IsWhole)
  (arg4 : Memref sig .scVector .hbm S4x1008 .i32) (harg4 : arg4.IsWhole) (arg5 : Memref sig .scVector .hbm S4x1000x256 .f32) (harg5 : arg5.IsWhole)
  (arg6 : Memref sig .scVector .hbm S4x1008 .i32) (harg6 : arg6.IsWhole) (arg7 : Memref sig .scVector .hbm S4x1000x256 .f32) (harg7 : arg7.IsWhole)
  (arg8 : Memref sig .scVector .vmem S1008 .f32) (harg8 : arg8.IsWhole) (arg9 : Memref sig .scVector .vmem S1008 .i32) (harg9 : arg9.IsWhole)
  (arg10 : Memref sig .scVector .vmem S1008 .f32) (harg10 : arg10.IsWhole) (arg11 : Memref sig .scVector .vmem S1008 .i32) (harg11 : arg11.IsWhole)
  (arg12 : Memref sig .scVector .vmem S1008 .f32) (harg12 : arg12.IsWhole) (arg13 : Memref sig .scVector .vmem S1008 .f32) (harg13 : arg13.IsWhole)
  (arg14 : Memref sig .scVector .vmem S256x256 .f32) (harg14 : arg14.IsWhole) (arg15 : Memref sig .scVector .vmem S256 .f32) (harg15 : arg15.IsWhole)
  (arg16 : Memref sig .scVector .smem S1 .i32) (harg16 : arg16.IsWhole)
  (arg17 arg18 arg19 arg20 arg21 arg22 arg23 : DmaSems sig S_) (k1_h1 : k1_cond1 i = 1#1)

variable (v44 : BitVec 32) (k1_h7 : k1_cond7 v44 = 1#1)

set_option maxHeartbeats 800000 in
/-- A row of the accumulator is cleared. -/
theorem t9_wp (k : Fin k1_t9_loop.trips) (acc : BitVec 32) {R : BitVec 32 → sProp 𝕄} {f : ℕ → ℕ → EReal} :
    (owns (thr d i) arg14 fullShare (at2 f) : sProp 𝕄)
      ⊢ iprop((∀ acc, owns (thr d i) arg14 fullShare (at2 (rowTo f (fun _ _ => 0) k.val 16)) -∗ R acc)
        -∗ wp frame (wpE defs 𝒱 (thr d i) bd) Set.univ (k1_t9_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 lanesNo k1_h1 v44 k1_h7 k acc) R) := by
  unfold k1_t9_body
  iintro H Hk
  iapply (Scf.wp_for_bind frame (wpE defs 𝒱 (thr d i) bd) Set.univ 0#32 (Scalar.addi 0#32 16#32) 1#32 (k1_t10_ok i k1_h1) _ _
    (fun c acc => owns (thr d i) arg14 fullShare (at2 (rowTo f (fun _ _ => 0) k.val c))) ?trip) $$ [H]
  case trip =>
    intro c acc
    unfold k1_t10_body
    iintro H
    iapply (wp_loadO 𝒱 (thr d i) bd) $$ H
    iintro H
    iapply (wp_storeO 𝒱 (thr d i) bd) $$ H
    iintro H
    iapply (wp_doneO 𝒱 (thr d i) bd)
    iapply (owns_congr (thr d i) arg14 fullShare (zero_step f k.val c.val _ _ (by rw [k1_off14_eq]; rfl) (by rw [k1_off14_eq]; rfl))) $$ H
  · rw [rowTo_zero]; iexact H
  iintro %acc H
  iapply (wp_doneO 𝒱 (thr d i) bd)
  have e : Scf.trips 0#32 (Scalar.addi 0#32 16#32) 1#32 = 16 := by decide
  rw [e]
  iapply Hk $$ %(0#32) H

set_option maxHeartbeats 800000 in
/-- A chunk of a slot is added to its row. -/
theorem t12_wp {r : ℕ} (v133 : BitVec 32) (hv : (Scalar.subi v133 0#32).toNat = r) (hw) (hc : k1_cond8 v133 = 1#1) (c : Fin k1_t12_loop.trips) (acc : BitVec 32) {R : BitVec 32 → sProp 𝕄}
    {f : ℕ → ℕ → EReal} {w : ℕ → EReal} :
    iprop(owns (thr d i) arg14 fullShare (at2 (rowTo f (fun r dd => f r dd + w dd) r c.val)) ∗ owns (thr d i) arg15 fullShare (at1 w))
      ⊢ iprop((∀ acc, iprop(owns (thr d i) arg14 fullShare (at2 (rowTo f (fun r dd => f r dd + w dd) r (c.val + 1))) ∗ owns (thr d i) arg15 fullShare (at1 w)) -∗ R acc)
        -∗ wp frame (wpE defs 𝒱 (thr d i) bd) Set.univ (k1_t12_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 lanesNo k1_h1 v44 k1_h7 v133 hw hc c acc) R) := by
  have hcc : c.val < 16 := c.isLt
  unfold k1_t12_body
  iintro ⟨H14, H15⟩ Hk
  iapply (wp_loadO 𝒱 (thr d i) bd) $$ H14
  iintro H14
  iapply (wp_loadO 𝒱 (thr d i) bd) $$ H15
  iintro H15
  iapply (wp_loadO 𝒱 (thr d i) bd) $$ H14
  iintro H14
  iapply (wp_storeO 𝒱 (thr d i) bd) $$ H14
  iintro H14
  have e0 : k1_off17 c 0 = 16 * c.val := by rw [k1_off17_eq]; rfl
  rw [load_at1, e0]
  ihave H14 := (owns_congr (thr d i) arg14 fullShare (add_step f w r c.val _ _ hv (iv_mul c.val (by omega)))) $$ H14
  iapply (wp_doneO 𝒱 (thr d i) bd)
  iapply Hk $$ %(0#32) [H14 H15]
  isplitl [H14]; · iexact H14
  iexact H15

theorem soff15 (k : Fin k1_t11_loop.trips) : k1_off15 i k 0 = wid i ∧ k1_off15 i k 1 = k.val ∧ k1_off15 i k 2 = 0 := by
  rw [k1_off15_eq]; unfold wid
  refine ⟨?_, rfl, rfl⟩
  show 2 * (i 1).val + (i 0).val = _
  omega

/-- The row a slot merges into, as the pass reads it. -/
abbrev word11 (m : BitVec 32) : BitVec 32 := extractAt ![15] (k1_pay33 (F := Ideal) fun _ => m) inpos_S16_p15

theorem word11_eq (m : BitVec 32) (h : m.toNat < 2 ^ 31) : word11 m = m := low_const m _ h

include EC in
set_option maxHeartbeats 1600000 in
/-- A slot is added to the row it merges into, if the pass holds that row. -/
theorem t11_wp {M : ℕ → ℕ} {mt : ℕ → BitVec 32} {x : ℕ → ℕ → ℕ → EReal} {q' : PosShare TreeShare} (hmt : ∀ i < 1008, mt i = BitVec.ofNat 32 (M i)) (hM : ∀ i < 1000, M i < 1000)
    (k : Fin k1_t11_loop.trips) (acc : BitVec 32) {R : BitVec 32 → sProp 𝕄} :
    iprop(owns (thr d i) arg11 fullShare (at1 mt) ∗ owns (thr d i) arg14 fullShare (at2 fun r dd => sums M (x (wid i)) k.val (0 + r) dd) ∗ (∃ w : ℕ → EReal, owns (thr d i) arg15 fullShare (at1 w))
        ∗ ownsOn (thr d i) arg5 q' (part ![4, 1000, 256] (wid i)) (at3 x) ∗ semVal (thr d i, .dma arg21.sem) 0 ∗ Env (thr d i) O W ι)
      ⊢ iprop((∀ acc, iprop(owns (thr d i) arg11 fullShare (at1 mt) ∗ owns (thr d i) arg14 fullShare (at2 fun r dd => sums M (x (wid i)) (k.val + 1) (0 + r) dd) ∗ (∃ w : ℕ → EReal, owns (thr d i) arg15 fullShare (at1 w))
            ∗ ownsOn (thr d i) arg5 q' (part ![4, 1000, 256] (wid i)) (at3 x) ∗ semVal (thr d i, .dma arg21.sem) 0 ∗ Env (thr d i) O W ι) -∗ R acc)
        -∗ wp frame (wpE defs 𝒱 (thr d i) bd) Set.univ (k1_t11_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 lanesNo k1_h1 v44 k1_h7 k acc) R) := by
  have hk : k.val < 1000 := k.isLt
  have hiv : (Scf.iv 0#32 1#32 k.val).toNat = k.val := iv_toNat _ (by omega)
  have hMk := hM k.val hk
  have hmk0 : (mt k.val).toNat = M k.val := by rw [hmt _ (by omega), BitVec.toNat_ofNat]; omega
  have hmk : (word11 (mt k.val)).toNat = M k.val := by rw [word11_eq _ (by omega)]; exact hmk0
  have hcond : k1_cond8 (word11 (mt k.val)) = 1#1 ↔ 0 ≤ M k.val ∧ M k.val < 0+256 := by
    have := within_iff (v := word11 (mt k.val)) (lo := 0#32) (hi := 256#32) (by omega) (by decide) (by decide)
    rw [hmk] at this
    exact this
  unfold k1_t11_body
  iintro ⟨H11, H14, ⟨%w, H15⟩, H5, Hv, HE⟩ Hk
  iapply (wp_assume 𝒱 (thr d i) bd Set.univ (show k1_chk11 i v44 (broadcast S16 (Scf.iv 0#32 1#32 k.val)) from fun _ _ => idx_lt (by omega)))
  iapply (wp_gatherO 𝒱 (thr d i) bd (hl := View.loads_vmem h_S1008)) $$ H11
  iintro H11
  rw [gather_at1, hiv]
  have hchk : k1_chk12 i v44 (word11 (mt k.val)) := fun c _ _ h8 a => by
    have hcc : c.val < 16 := c.isLt
    have h := hcond.mp h8
    have e0 : k1_off16 (word11 (mt k.val)) c 0 = M k.val - 0 := by
      have := sub_toNat (v := (word11 (mt k.val))) (lo := 0#32) (by rw [hmk]; exact h.1)
      rw [hmk] at this; exact this
    have e1 : k1_off16 (word11 (mt k.val)) c 1 = 16 * c.val := iv_mul c.val (by omega)
    match a with
    | ⟨0, _⟩ => show k1_off16 (word11 (mt k.val)) c 0 + 1 ≤ 256; omega
    | ⟨1, _⟩ => show k1_off16 (word11 (mt k.val)) c 1 + 16 ≤ 256; omega
  iapply (wp_assume 𝒱 (thr d i) bd Set.univ hchk)
  by_cases h : k1_cond8 (word11 (mt k.val)) = 1#1
  · iapply (wp_posO 𝒱 (thr d i) bd h)
    have hb := hcond.mp h
    have hsub : (Scalar.subi (word11 (mt k.val)) 0#32).toNat = M k.val - 0 := by
      have := sub_toNat (v := (word11 (mt k.val))) (lo := 0#32) (by rw [hmk]; exact hb.1)
      rw [hmk] at this; exact this
    ihave H5' := (carve_row3 (thr d i) (b := wid i) (r := k.val) arg5 q' x (k1_off15 i k)
      (k1_off15_inb i k k1_h1) (fun _ => rfl) squeezes_S1x1x256_S256 (soff15 i k).1 (soff15 i k).2.1 (soff15 i k).2.2) $$ H5
    icases H5' with ⟨H5, H5b⟩
    iapply (wp_copyO 𝒱 (thr d i) bd EC (by decide) ι) $$ [H5 H15 Hv HE]
    · isplitl [H5]; · iexact H5
      isplitl [H15]; · iexact H15
      isplitl [Hv]; · iexact Hv
      iexact HE
    iintro ⟨H5, H15, Hv, HE⟩
    ihave H5 := H5b $$ H5
    iapply (Scf.wp_for_bind frame (wpE defs 𝒱 (thr d i) bd) Set.univ 0#32 (Scalar.addi 0#32 16#32) 1#32 (k1_t12_ok i k1_h1) _ _
      (fun c acc => iprop(owns (thr d i) arg14 fullShare (at2 (rowTo (fun r dd => sums M (x (wid i)) k.val (0 + r) dd) (fun r dd => sums M (x (wid i)) k.val (0 + r) dd + x (wid i) k.val dd) (M k.val - 0) c))
        ∗ owns (thr d i) arg15 fullShare (at1 (x (wid i) k.val)))) ?trip) $$ [H14 H15]
    case trip =>
      intro c acc
      iintro H
      iapply (t12_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (word11 (mt k.val)) hsub hchk h c acc) $$ H
      iintro %acc2 H
      iexact H
    · rw [rowTo_zero]
      isplitl [H14]; · iexact H14
      iexact H15
    iintro %acc ⟨H14, H15⟩
    iapply (wp_doneO 𝒱 (thr d i) bd)
    have e : Scf.trips 0#32 (Scalar.addi 0#32 16#32) 1#32 = 16 := by decide
    rw [e]
    ihave H14 := (owns_congr (thr d i) arg14 fullShare (sums_take M (x (wid i)) 0 k.val hb.1)) $$ H14
    iapply Hk $$ %(0#32) [H11 H14 H15 H5 Hv HE]
    isplitl [H11]; · iexact H11
    isplitl [H14]; · iexact H14
    isplitl [H15]; · iexists _; iexact H15
    isplitl [H5]; · iexact H5
    isplitl [Hv]; · iexact Hv
    iexact HE
  · iapply (wp_negO 𝒱 (thr d i) bd h)
    iapply (wp_doneO 𝒱 (thr d i) bd)
    ihave H14 := (owns_congr (thr d i) arg14 fullShare (sums_skip M (x (wid i)) 0 k.val (fun hh => h (hcond.mpr hh)))) $$ H14
    iapply Hk $$ %(0#32) [H11 H14 H15 H5 Hv HE]
    isplitl [H11]; · iexact H11
    isplitl [H14]; · iexact H14
    isplitl [H15]; · iexists w; iexact H15
    isplitl [H5]; · iexact H5
    isplitl [Hv]; · iexact Hv
    iexact HE

set_option maxHeartbeats 800000 in
/-- A row is divided by its count. -/
theorem t13_wp {cn : ℕ → EReal} (k : Fin k1_t13_loop.trips) (acc : BitVec 32) {R : BitVec 32 → sProp 𝕄} {f : ℕ → ℕ → EReal} :
    iprop(owns (thr d i) arg13 fullShare (at1 cn) ∗ owns (thr d i) arg14 fullShare (at2 f))
      ⊢ iprop((∀ acc, iprop(owns (thr d i) arg13 fullShare (at1 cn) ∗ owns (thr d i) arg14 fullShare (at2 (rowTo f (fun r dd => f r dd * recip (cn (0 + k.val))) k.val 16))) -∗ R acc)
        -∗ wp frame (wpE defs 𝒱 (thr d i) bd) Set.univ (k1_t13_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 lanesNo k1_h1 v44 k1_h7 k acc) R) := by
  have hk : k.val < 256 := k.isLt
  have hiv : (Scalar.addi 0#32 (Scf.iv 0#32 1#32 k.val)).toNat = 0 + k.val := base_toNat 0 k.val (by decide) (by omega)
  unfold k1_t13_body
  iintro ⟨H13, H⟩ Hk
  iapply (wp_assume 𝒱 (thr d i) bd Set.univ (show k1_chk13 i v44 (broadcast S16 (Scalar.addi 0#32 (Scf.iv 0#32 1#32 k.val))) from fun _ _ => idx_lt (by omega)))
  iapply (wp_gatherO 𝒱 (thr d i) bd (hl := View.loads_vmem h_S1008)) $$ H13
  iintro H13
  rw [gather_at1, hiv]
  iapply (Scf.wp_for_bind frame (wpE defs 𝒱 (thr d i) bd) Set.univ 0#32 (Scalar.addi 0#32 16#32) 1#32 (k1_t14_ok i k1_h1) _ _
    (fun c acc => owns (thr d i) arg14 fullShare (at2 (rowTo f (fun r dd => f r dd * recip (cn (0 + k.val))) k.val c))) ?trip) $$ [H]
  case trip =>
    intro c acc
    unfold k1_t14_body
    iintro H
    iapply (wp_loadO 𝒱 (thr d i) bd) $$ H
    iintro H
    iapply (wp_loadO 𝒱 (thr d i) bd) $$ H
    iintro H
    iapply (wp_storeO 𝒱 (thr d i) bd) $$ H
    iintro H
    iapply (wp_doneO 𝒱 (thr d i) bd)
    iapply (owns_congr (thr d i) arg14 fullShare (mul_step f (cn (0 + k.val)) k.val c.val _ _ (by rw [k1_off18_eq]; rfl) (by rw [k1_off18_eq]; rfl))) $$ H
  · rw [rowTo_zero]; iexact H
  iintro %acc H
  iapply (wp_doneO 𝒱 (thr d i) bd)
  have e : Scf.trips 0#32 (Scalar.addi 0#32 16#32) 1#32 = 16 := by decide
  rw [e]
  iapply Hk $$ %(0#32) [H13 H]
  isplitl [H13]; · iexact H13
  iexact H

end Cert.Proof.Scan

end
-- ==== Proof.Pass1.lean ====
/-
  Pass 1 of the merge: rows 256 to 511 of the merged slots are cleared, summed and divided by their counts.
-/
module

public import proofs.«01_k».proof.Proof.Rows

@[expose] public section

noncomputable section

namespace Cert.Proof.Scan

open Cert.KernelIdeal Cert.KernelIdeal.Gen Cert.Proof.Rules Cert.Proof.Vec Cert.Proof.Greedy
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

variable {Ix : Type} [DecidableEq Ix] {Name : Type} [DecidableEq Name]
variable {U : Type} [URA U] {Lvl : Type} [Preorder Lvl]
variable {defs : Defs nD τ sig (Elt Ideal) Λ₀} (𝒱 : Variants) (d : Fin nD) (i : grid1.Coords) (bd : Option 𝒱.V)

local notation "𝕄" => MT nD τ sig Ix (Elt Ideal) Name U Lvl

variable (EC : UEmb Counters (MT nD τ sig Ix (Elt Ideal) Name U Lvl)) [Infinite Name] [EC.LandsIn (upEmb : UEmb _ (MT nD τ sig Ix (Elt Ideal) Name U Lvl))] (O : CellTallies nD τ sig Ix) (W : Waits sig Ix) (ι : Ix)

variable (arg2 : Memref sig .scVector .hbm S4x1000x1008 .f32) (harg2 : arg2.IsWhole) (arg3 : Memref sig .scVector .hbm S4x1008 .f32) (harg3 : arg3.IsWhole)
  (arg4 : Memref sig .scVector .hbm S4x1008 .i32) (harg4 : arg4.IsWhole) (arg5 : Memref sig .scVector .hbm S4x1000x256 .f32) (harg5 : arg5.IsWhole)
  (arg6 : Memref sig .scVector .hbm S4x1008 .i32) (harg6 : arg6.IsWhole) (arg7 : Memref sig .scVector .hbm S4x1000x256 .f32) (harg7 : arg7.IsWhole)
  (arg8 : Memref sig .scVector .vmem S1008 .f32) (harg8 : arg8.IsWhole) (arg9 : Memref sig .scVector .vmem S1008 .i32) (harg9 : arg9.IsWhole)
  (arg10 : Memref sig .scVector .vmem S1008 .f32) (harg10 : arg10.IsWhole) (arg11 : Memref sig .scVector .vmem S1008 .i32) (harg11 : arg11.IsWhole)
  (arg12 : Memref sig .scVector .vmem S1008 .f32) (harg12 : arg12.IsWhole) (arg13 : Memref sig .scVector .vmem S1008 .f32) (harg13 : arg13.IsWhole)
  (arg14 : Memref sig .scVector .vmem S256x256 .f32) (harg14 : arg14.IsWhole) (arg15 : Memref sig .scVector .vmem S256 .f32) (harg15 : arg15.IsWhole)
  (arg16 : Memref sig .scVector .smem S1 .i32) (harg16 : arg16.IsWhole)
  (arg17 arg18 arg19 arg20 arg21 arg22 arg23 : DmaSems sig S_) (k1_h1 : k1_cond1 i = 1#1)

variable (v44 : BitVec 32) (k1_h7 : k1_cond7 v44 = 1#1)

set_option maxHeartbeats 800000 in
/-- A row of the accumulator is cleared. -/
theorem t15_wp (k : Fin k1_t15_loop.trips) (acc : BitVec 32) {R : BitVec 32 → sProp 𝕄} {f : ℕ → ℕ → EReal} :
    (owns (thr d i) arg14 fullShare (at2 f) : sProp 𝕄)
      ⊢ iprop((∀ acc, owns (thr d i) arg14 fullShare (at2 (rowTo f (fun _ _ => 0) k.val 16)) -∗ R acc)
        -∗ wp frame (wpE defs 𝒱 (thr d i) bd) Set.univ (k1_t15_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) (k1_pay31 (F := Ideal)) k acc) R) := by
  unfold k1_t15_body
  iintro H Hk
  iapply (Scf.wp_for_bind frame (wpE defs 𝒱 (thr d i) bd) Set.univ 0#32 (Scalar.addi 0#32 16#32) 1#32 (k1_t16_ok i k1_h1) _ _
    (fun c acc => owns (thr d i) arg14 fullShare (at2 (rowTo f (fun _ _ => 0) k.val c))) ?trip) $$ [H]
  case trip =>
    intro c acc
    unfold k1_t16_body
    iintro H
    iapply (wp_loadO 𝒱 (thr d i) bd) $$ H
    iintro H
    iapply (wp_storeO 𝒱 (thr d i) bd) $$ H
    iintro H
    iapply (wp_doneO 𝒱 (thr d i) bd)
    iapply (owns_congr (thr d i) arg14 fullShare (zero_step f k.val c.val _ _ (by rw [k1_off20_eq]; rfl) (by rw [k1_off20_eq]; rfl))) $$ H
  · rw [rowTo_zero]; iexact H
  iintro %acc H
  iapply (wp_doneO 𝒱 (thr d i) bd)
  have e : Scf.trips 0#32 (Scalar.addi 0#32 16#32) 1#32 = 16 := by decide
  rw [e]
  iapply Hk $$ %(0#32) H

set_option maxHeartbeats 800000 in
/-- A chunk of a slot is added to its row. -/
theorem t18_wp {r : ℕ} (v133 : BitVec 32) (hv : (Scalar.subi v133 256#32).toNat = r) (hw) (hc : k1_cond9 v133 = 1#1) (c : Fin k1_t18_loop.trips) (acc : BitVec 32) {R : BitVec 32 → sProp 𝕄}
    {f : ℕ → ℕ → EReal} {w : ℕ → EReal} :
    iprop(owns (thr d i) arg14 fullShare (at2 (rowTo f (fun r dd => f r dd + w dd) r c.val)) ∗ owns (thr d i) arg15 fullShare (at1 w))
      ⊢ iprop((∀ acc, iprop(owns (thr d i) arg14 fullShare (at2 (rowTo f (fun r dd => f r dd + w dd) r (c.val + 1))) ∗ owns (thr d i) arg15 fullShare (at1 w)) -∗ R acc)
        -∗ wp frame (wpE defs 𝒱 (thr d i) bd) Set.univ (k1_t18_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) (k1_pay31 (F := Ideal)) v133 hw hc c acc) R) := by
  have hcc : c.val < 16 := c.isLt
  unfold k1_t18_body
  iintro ⟨H14, H15⟩ Hk
  iapply (wp_loadO 𝒱 (thr d i) bd) $$ H14
  iintro H14
  iapply (wp_loadO 𝒱 (thr d i) bd) $$ H15
  iintro H15
  iapply (wp_loadO 𝒱 (thr d i) bd) $$ H14
  iintro H14
  iapply (wp_storeO 𝒱 (thr d i) bd) $$ H14
  iintro H14
  have e0 : k1_off23 c 0 = 16 * c.val := by rw [k1_off23_eq]; rfl
  rw [load_at1, e0]
  ihave H14 := (owns_congr (thr d i) arg14 fullShare (add_step f w r c.val _ _ hv (iv_mul c.val (by omega)))) $$ H14
  iapply (wp_doneO 𝒱 (thr d i) bd)
  iapply Hk $$ %(0#32) [H14 H15]
  isplitl [H14]; · iexact H14
  iexact H15

theorem soff21 (k : Fin k1_t17_loop.trips) : k1_off21 i k 0 = wid i ∧ k1_off21 i k 1 = k.val ∧ k1_off21 i k 2 = 0 := by
  rw [k1_off21_eq]; unfold wid
  refine ⟨?_, rfl, rfl⟩
  show 2 * (i 1).val + (i 0).val = _
  omega

/-- The row a slot merges into, as the pass reads it. -/
abbrev word17 (m : BitVec 32) : BitVec 32 := extractAt ![15] (k1_pay36 (F := Ideal) fun _ => m) inpos_S16_p15

theorem word17_eq (m : BitVec 32) (h : m.toNat < 2 ^ 31) : word17 m = m := low_const m _ h

include EC in
set_option maxHeartbeats 1600000 in
/-- A slot is added to the row it merges into, if the pass holds that row. -/
theorem t17_wp {M : ℕ → ℕ} {mt : ℕ → BitVec 32} {x : ℕ → ℕ → ℕ → EReal} {q' : PosShare TreeShare} (hmt : ∀ i < 1008, mt i = BitVec.ofNat 32 (M i)) (hM : ∀ i < 1000, M i < 1000)
    (k : Fin k1_t17_loop.trips) (acc : BitVec 32) {R : BitVec 32 → sProp 𝕄} :
    iprop(owns (thr d i) arg11 fullShare (at1 mt) ∗ owns (thr d i) arg14 fullShare (at2 fun r dd => sums M (x (wid i)) k.val (256 + r) dd) ∗ (∃ w : ℕ → EReal, owns (thr d i) arg15 fullShare (at1 w))
        ∗ ownsOn (thr d i) arg5 q' (part ![4, 1000, 256] (wid i)) (at3 x) ∗ semVal (thr d i, .dma arg21.sem) 0 ∗ Env (thr d i) O W ι)
      ⊢ iprop((∀ acc, iprop(owns (thr d i) arg11 fullShare (at1 mt) ∗ owns (thr d i) arg14 fullShare (at2 fun r dd => sums M (x (wid i)) (k.val + 1) (256 + r) dd) ∗ (∃ w : ℕ → EReal, owns (thr d i) arg15 fullShare (at1 w))
            ∗ ownsOn (thr d i) arg5 q' (part ![4, 1000, 256] (wid i)) (at3 x) ∗ semVal (thr d i, .dma arg21.sem) 0 ∗ Env (thr d i) O W ι) -∗ R acc)
        -∗ wp frame (wpE defs 𝒱 (thr d i) bd) Set.univ (k1_t17_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) (k1_pay31 (F := Ideal)) k acc) R) := by
  have hk : k.val < 1000 := k.isLt
  have hiv : (Scf.iv 0#32 1#32 k.val).toNat = k.val := iv_toNat _ (by omega)
  have hMk := hM k.val hk
  have hmk0 : (mt k.val).toNat = M k.val := by rw [hmt _ (by omega), BitVec.toNat_ofNat]; omega
  have hmk : (word17 (mt k.val)).toNat = M k.val := by rw [word17_eq _ (by omega)]; exact hmk0
  have hcond : k1_cond9 (word17 (mt k.val)) = 1#1 ↔ 256 ≤ M k.val ∧ M k.val < 256+256 := by
    have := within_iff (v := word17 (mt k.val)) (lo := 256#32) (hi := 512#32) (by omega) (by decide) (by decide)
    rw [hmk] at this
    exact this
  unfold k1_t17_body
  iintro ⟨H11, H14, ⟨%w, H15⟩, H5, Hv, HE⟩ Hk
  iapply (wp_assume 𝒱 (thr d i) bd Set.univ (show k1_chk14 i v44 (broadcast S16 (Scf.iv 0#32 1#32 k.val)) from fun _ _ => idx_lt (by omega)))
  iapply (wp_gatherO 𝒱 (thr d i) bd (hl := View.loads_vmem h_S1008)) $$ H11
  iintro H11
  rw [gather_at1, hiv]
  have hchk : k1_chk15 i v44 (word17 (mt k.val)) := fun c _ _ h8 a => by
    have hcc : c.val < 16 := c.isLt
    have h := hcond.mp h8
    have e0 : k1_off22 (word17 (mt k.val)) c 0 = M k.val - 256 := by
      have := sub_toNat (v := (word17 (mt k.val))) (lo := 256#32) (by rw [hmk]; exact h.1)
      rw [hmk] at this; exact this
    have e1 : k1_off22 (word17 (mt k.val)) c 1 = 16 * c.val := iv_mul c.val (by omega)
    match a with
    | ⟨0, _⟩ => show k1_off22 (word17 (mt k.val)) c 0 + 1 ≤ 256; omega
    | ⟨1, _⟩ => show k1_off22 (word17 (mt k.val)) c 1 + 16 ≤ 256; omega
  iapply (wp_assume 𝒱 (thr d i) bd Set.univ hchk)
  by_cases h : k1_cond9 (word17 (mt k.val)) = 1#1
  · iapply (wp_posO 𝒱 (thr d i) bd h)
    have hb := hcond.mp h
    have hsub : (Scalar.subi (word17 (mt k.val)) 256#32).toNat = M k.val - 256 := by
      have := sub_toNat (v := (word17 (mt k.val))) (lo := 256#32) (by rw [hmk]; exact hb.1)
      rw [hmk] at this; exact this
    ihave H5' := (carve_row3 (thr d i) (b := wid i) (r := k.val) arg5 q' x (k1_off21 i k)
      (k1_off21_inb i k k1_h1) (fun _ => rfl) squeezes_S1x1x256_S256 (soff21 i k).1 (soff21 i k).2.1 (soff21 i k).2.2) $$ H5
    icases H5' with ⟨H5, H5b⟩
    iapply (wp_copyO 𝒱 (thr d i) bd EC (by decide) ι) $$ [H5 H15 Hv HE]
    · isplitl [H5]; · iexact H5
      isplitl [H15]; · iexact H15
      isplitl [Hv]; · iexact Hv
      iexact HE
    iintro ⟨H5, H15, Hv, HE⟩
    ihave H5 := H5b $$ H5
    iapply (Scf.wp_for_bind frame (wpE defs 𝒱 (thr d i) bd) Set.univ 0#32 (Scalar.addi 0#32 16#32) 1#32 (k1_t18_ok i k1_h1) _ _
      (fun c acc => iprop(owns (thr d i) arg14 fullShare (at2 (rowTo (fun r dd => sums M (x (wid i)) k.val (256 + r) dd) (fun r dd => sums M (x (wid i)) k.val (256 + r) dd + x (wid i) k.val dd) (M k.val - 256) c))
        ∗ owns (thr d i) arg15 fullShare (at1 (x (wid i) k.val)))) ?trip) $$ [H14 H15]
    case trip =>
      intro c acc
      iintro H
      iapply (t18_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (word17 (mt k.val)) hsub hchk h c acc) $$ H
      iintro %acc2 H
      iexact H
    · rw [rowTo_zero]
      isplitl [H14]; · iexact H14
      iexact H15
    iintro %acc ⟨H14, H15⟩
    iapply (wp_doneO 𝒱 (thr d i) bd)
    have e : Scf.trips 0#32 (Scalar.addi 0#32 16#32) 1#32 = 16 := by decide
    rw [e]
    ihave H14 := (owns_congr (thr d i) arg14 fullShare (sums_take M (x (wid i)) 256 k.val hb.1)) $$ H14
    iapply Hk $$ %(0#32) [H11 H14 H15 H5 Hv HE]
    isplitl [H11]; · iexact H11
    isplitl [H14]; · iexact H14
    isplitl [H15]; · iexists _; iexact H15
    isplitl [H5]; · iexact H5
    isplitl [Hv]; · iexact Hv
    iexact HE
  · iapply (wp_negO 𝒱 (thr d i) bd h)
    iapply (wp_doneO 𝒱 (thr d i) bd)
    ihave H14 := (owns_congr (thr d i) arg14 fullShare (sums_skip M (x (wid i)) 256 k.val (fun hh => h (hcond.mpr hh)))) $$ H14
    iapply Hk $$ %(0#32) [H11 H14 H15 H5 Hv HE]
    isplitl [H11]; · iexact H11
    isplitl [H14]; · iexact H14
    isplitl [H15]; · iexists w; iexact H15
    isplitl [H5]; · iexact H5
    isplitl [Hv]; · iexact Hv
    iexact HE

set_option maxHeartbeats 800000 in
/-- A row is divided by its count. -/
theorem t19_wp {cn : ℕ → EReal} (k : Fin k1_t19_loop.trips) (acc : BitVec 32) {R : BitVec 32 → sProp 𝕄} {f : ℕ → ℕ → EReal} :
    iprop(owns (thr d i) arg13 fullShare (at1 cn) ∗ owns (thr d i) arg14 fullShare (at2 f))
      ⊢ iprop((∀ acc, iprop(owns (thr d i) arg13 fullShare (at1 cn) ∗ owns (thr d i) arg14 fullShare (at2 (rowTo f (fun r dd => f r dd * recip (cn (256 + k.val))) k.val 16))) -∗ R acc)
        -∗ wp frame (wpE defs 𝒱 (thr d i) bd) Set.univ (k1_t19_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) (k1_pay31 (F := Ideal)) k acc) R) := by
  have hk : k.val < 256 := k.isLt
  have hiv : (Scalar.addi 256#32 (Scf.iv 0#32 1#32 k.val)).toNat = 256 + k.val := base_toNat 256 k.val (by decide) (by omega)
  unfold k1_t19_body
  iintro ⟨H13, H⟩ Hk
  iapply (wp_assume 𝒱 (thr d i) bd Set.univ (show k1_chk16 i v44 (broadcast S16 (Scalar.addi 256#32 (Scf.iv 0#32 1#32 k.val))) from fun _ _ => idx_lt (by omega)))
  iapply (wp_gatherO 𝒱 (thr d i) bd (hl := View.loads_vmem h_S1008)) $$ H13
  iintro H13
  rw [gather_at1, hiv]
  iapply (Scf.wp_for_bind frame (wpE defs 𝒱 (thr d i) bd) Set.univ 0#32 (Scalar.addi 0#32 16#32) 1#32 (k1_t20_ok i k1_h1) _ _
    (fun c acc => owns (thr d i) arg14 fullShare (at2 (rowTo f (fun r dd => f r dd * recip (cn (256 + k.val))) k.val c))) ?trip) $$ [H]
  case trip =>
    intro c acc
    unfold k1_t20_body
    iintro H
    iapply (wp_loadO 𝒱 (thr d i) bd) $$ H
    iintro H
    iapply (wp_loadO 𝒱 (thr d i) bd) $$ H
    iintro H
    iapply (wp_storeO 𝒱 (thr d i) bd) $$ H
    iintro H
    iapply (wp_doneO 𝒱 (thr d i) bd)
    iapply (owns_congr (thr d i) arg14 fullShare (mul_step f (cn (256 + k.val)) k.val c.val _ _ (by rw [k1_off24_eq]; rfl) (by rw [k1_off24_eq]; rfl))) $$ H
  · rw [rowTo_zero]; iexact H
  iintro %acc H
  iapply (wp_doneO 𝒱 (thr d i) bd)
  have e : Scf.trips 0#32 (Scalar.addi 0#32 16#32) 1#32 = 16 := by decide
  rw [e]
  iapply Hk $$ %(0#32) [H13 H]
  isplitl [H13]; · iexact H13
  iexact H

end Cert.Proof.Scan

end
-- ==== Proof.Pass2.lean ====
/-
  Pass 2 of the merge: rows 512 to 767 of the merged slots are cleared, summed and divided by their counts.
-/
module

public import proofs.«01_k».proof.Proof.Rows

@[expose] public section

noncomputable section

namespace Cert.Proof.Scan

open Cert.KernelIdeal Cert.KernelIdeal.Gen Cert.Proof.Rules Cert.Proof.Vec Cert.Proof.Greedy
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

variable {Ix : Type} [DecidableEq Ix] {Name : Type} [DecidableEq Name]
variable {U : Type} [URA U] {Lvl : Type} [Preorder Lvl]
variable {defs : Defs nD τ sig (Elt Ideal) Λ₀} (𝒱 : Variants) (d : Fin nD) (i : grid1.Coords) (bd : Option 𝒱.V)

local notation "𝕄" => MT nD τ sig Ix (Elt Ideal) Name U Lvl

variable (EC : UEmb Counters (MT nD τ sig Ix (Elt Ideal) Name U Lvl)) [Infinite Name] [EC.LandsIn (upEmb : UEmb _ (MT nD τ sig Ix (Elt Ideal) Name U Lvl))] (O : CellTallies nD τ sig Ix) (W : Waits sig Ix) (ι : Ix)

variable (arg2 : Memref sig .scVector .hbm S4x1000x1008 .f32) (harg2 : arg2.IsWhole) (arg3 : Memref sig .scVector .hbm S4x1008 .f32) (harg3 : arg3.IsWhole)
  (arg4 : Memref sig .scVector .hbm S4x1008 .i32) (harg4 : arg4.IsWhole) (arg5 : Memref sig .scVector .hbm S4x1000x256 .f32) (harg5 : arg5.IsWhole)
  (arg6 : Memref sig .scVector .hbm S4x1008 .i32) (harg6 : arg6.IsWhole) (arg7 : Memref sig .scVector .hbm S4x1000x256 .f32) (harg7 : arg7.IsWhole)
  (arg8 : Memref sig .scVector .vmem S1008 .f32) (harg8 : arg8.IsWhole) (arg9 : Memref sig .scVector .vmem S1008 .i32) (harg9 : arg9.IsWhole)
  (arg10 : Memref sig .scVector .vmem S1008 .f32) (harg10 : arg10.IsWhole) (arg11 : Memref sig .scVector .vmem S1008 .i32) (harg11 : arg11.IsWhole)
  (arg12 : Memref sig .scVector .vmem S1008 .f32) (harg12 : arg12.IsWhole) (arg13 : Memref sig .scVector .vmem S1008 .f32) (harg13 : arg13.IsWhole)
  (arg14 : Memref sig .scVector .vmem S256x256 .f32) (harg14 : arg14.IsWhole) (arg15 : Memref sig .scVector .vmem S256 .f32) (harg15 : arg15.IsWhole)
  (arg16 : Memref sig .scVector .smem S1 .i32) (harg16 : arg16.IsWhole)
  (arg17 arg18 arg19 arg20 arg21 arg22 arg23 : DmaSems sig S_) (k1_h1 : k1_cond1 i = 1#1)

variable (v44 : BitVec 32) (k1_h7 : k1_cond7 v44 = 1#1)

set_option maxHeartbeats 800000 in
/-- A row of the accumulator is cleared. -/
theorem t21_wp (k : Fin k1_t21_loop.trips) (acc : BitVec 32) {R : BitVec 32 → sProp 𝕄} {f : ℕ → ℕ → EReal} :
    (owns (thr d i) arg14 fullShare (at2 f) : sProp 𝕄)
      ⊢ iprop((∀ acc, owns (thr d i) arg14 fullShare (at2 (rowTo f (fun _ _ => 0) k.val 16)) -∗ R acc)
        -∗ wp frame (wpE defs 𝒱 (thr d i) bd) Set.univ (k1_t21_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) (k1_pay31 (F := Ideal)) k acc) R) := by
  unfold k1_t21_body
  iintro H Hk
  iapply (Scf.wp_for_bind frame (wpE defs 𝒱 (thr d i) bd) Set.univ 0#32 (Scalar.addi 0#32 16#32) 1#32 (k1_t22_ok i k1_h1) _ _
    (fun c acc => owns (thr d i) arg14 fullShare (at2 (rowTo f (fun _ _ => 0) k.val c))) ?trip) $$ [H]
  case trip =>
    intro c acc
    unfold k1_t22_body
    iintro H
    iapply (wp_loadO 𝒱 (thr d i) bd) $$ H
    iintro H
    iapply (wp_storeO 𝒱 (thr d i) bd) $$ H
    iintro H
    iapply (wp_doneO 𝒱 (thr d i) bd)
    iapply (owns_congr (thr d i) arg14 fullShare (zero_step f k.val c.val _ _ (by rw [k1_off26_eq]; rfl) (by rw [k1_off26_eq]; rfl))) $$ H
  · rw [rowTo_zero]; iexact H
  iintro %acc H
  iapply (wp_doneO 𝒱 (thr d i) bd)
  have e : Scf.trips 0#32 (Scalar.addi 0#32 16#32) 1#32 = 16 := by decide
  rw [e]
  iapply Hk $$ %(0#32) H

set_option maxHeartbeats 800000 in
/-- A chunk of a slot is added to its row. -/
theorem t24_wp {r : ℕ} (v133 : BitVec 32) (hv : (Scalar.subi v133 512#32).toNat = r) (hw) (hc : k1_cond10 v133 = 1#1) (c : Fin k1_t24_loop.trips) (acc : BitVec 32) {R : BitVec 32 → sProp 𝕄}
    {f : ℕ → ℕ → EReal} {w : ℕ → EReal} :
    iprop(owns (thr d i) arg14 fullShare (at2 (rowTo f (fun r dd => f r dd + w dd) r c.val)) ∗ owns (thr d i) arg15 fullShare (at1 w))
      ⊢ iprop((∀ acc, iprop(owns (thr d i) arg14 fullShare (at2 (rowTo f (fun r dd => f r dd + w dd) r (c.val + 1))) ∗ owns (thr d i) arg15 fullShare (at1 w)) -∗ R acc)
        -∗ wp frame (wpE defs 𝒱 (thr d i) bd) Set.univ (k1_t24_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) (k1_pay31 (F := Ideal)) v133 hw hc c acc) R) := by
  have hcc : c.val < 16 := c.isLt
  unfold k1_t24_body
  iintro ⟨H14, H15⟩ Hk
  iapply (wp_loadO 𝒱 (thr d i) bd) $$ H14
  iintro H14
  iapply (wp_loadO 𝒱 (thr d i) bd) $$ H15
  iintro H15
  iapply (wp_loadO 𝒱 (thr d i) bd) $$ H14
  iintro H14
  iapply (wp_storeO 𝒱 (thr d i) bd) $$ H14
  iintro H14
  have e0 : k1_off29 c 0 = 16 * c.val := by rw [k1_off29_eq]; rfl
  rw [load_at1, e0]
  ihave H14 := (owns_congr (thr d i) arg14 fullShare (add_step f w r c.val _ _ hv (iv_mul c.val (by omega)))) $$ H14
  iapply (wp_doneO 𝒱 (thr d i) bd)
  iapply Hk $$ %(0#32) [H14 H15]
  isplitl [H14]; · iexact H14
  iexact H15

theorem soff27 (k : Fin k1_t23_loop.trips) : k1_off27 i k 0 = wid i ∧ k1_off27 i k 1 = k.val ∧ k1_off27 i k 2 = 0 := by
  rw [k1_off27_eq]; unfold wid
  refine ⟨?_, rfl, rfl⟩
  show 2 * (i 1).val + (i 0).val = _
  omega

/-- The row a slot merges into, as the pass reads it. -/
abbrev word23 (m : BitVec 32) : BitVec 32 := extractAt ![15] (k1_pay39 (F := Ideal) fun _ => m) inpos_S16_p15

theorem word23_eq (m : BitVec 32) (h : m.toNat < 2 ^ 31) : word23 m = m := low_const m _ h

include EC in
set_option maxHeartbeats 1600000 in
/-- A slot is added to the row it merges into, if the pass holds that row. -/
theorem t23_wp {M : ℕ → ℕ} {mt : ℕ → BitVec 32} {x : ℕ → ℕ → ℕ → EReal} {q' : PosShare TreeShare} (hmt : ∀ i < 1008, mt i = BitVec.ofNat 32 (M i)) (hM : ∀ i < 1000, M i < 1000)
    (k : Fin k1_t23_loop.trips) (acc : BitVec 32) {R : BitVec 32 → sProp 𝕄} :
    iprop(owns (thr d i) arg11 fullShare (at1 mt) ∗ owns (thr d i) arg14 fullShare (at2 fun r dd => sums M (x (wid i)) k.val (512 + r) dd) ∗ (∃ w : ℕ → EReal, owns (thr d i) arg15 fullShare (at1 w))
        ∗ ownsOn (thr d i) arg5 q' (part ![4, 1000, 256] (wid i)) (at3 x) ∗ semVal (thr d i, .dma arg21.sem) 0 ∗ Env (thr d i) O W ι)
      ⊢ iprop((∀ acc, iprop(owns (thr d i) arg11 fullShare (at1 mt) ∗ owns (thr d i) arg14 fullShare (at2 fun r dd => sums M (x (wid i)) (k.val + 1) (512 + r) dd) ∗ (∃ w : ℕ → EReal, owns (thr d i) arg15 fullShare (at1 w))
            ∗ ownsOn (thr d i) arg5 q' (part ![4, 1000, 256] (wid i)) (at3 x) ∗ semVal (thr d i, .dma arg21.sem) 0 ∗ Env (thr d i) O W ι) -∗ R acc)
        -∗ wp frame (wpE defs 𝒱 (thr d i) bd) Set.univ (k1_t23_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) (k1_pay31 (F := Ideal)) k acc) R) := by
  have hk : k.val < 1000 := k.isLt
  have hiv : (Scf.iv 0#32 1#32 k.val).toNat = k.val := iv_toNat _ (by omega)
  have hMk := hM k.val hk
  have hmk0 : (mt k.val).toNat = M k.val := by rw [hmt _ (by omega), BitVec.toNat_ofNat]; omega
  have hmk : (word23 (mt k.val)).toNat = M k.val := by rw [word23_eq _ (by omega)]; exact hmk0
  have hcond : k1_cond10 (word23 (mt k.val)) = 1#1 ↔ 512 ≤ M k.val ∧ M k.val < 512+256 := by
    have := within_iff (v := word23 (mt k.val)) (lo := 512#32) (hi := 768#32) (by omega) (by decide) (by decide)
    rw [hmk] at this
    exact this
  unfold k1_t23_body
  iintro ⟨H11, H14, ⟨%w, H15⟩, H5, Hv, HE⟩ Hk
  iapply (wp_assume 𝒱 (thr d i) bd Set.univ (show k1_chk17 i v44 (broadcast S16 (Scf.iv 0#32 1#32 k.val)) from fun _ _ => idx_lt (by omega)))
  iapply (wp_gatherO 𝒱 (thr d i) bd (hl := View.loads_vmem h_S1008)) $$ H11
  iintro H11
  rw [gather_at1, hiv]
  have hchk : k1_chk18 i v44 (word23 (mt k.val)) := fun c _ _ h8 a => by
    have hcc : c.val < 16 := c.isLt
    have h := hcond.mp h8
    have e0 : k1_off28 (word23 (mt k.val)) c 0 = M k.val - 512 := by
      have := sub_toNat (v := (word23 (mt k.val))) (lo := 512#32) (by rw [hmk]; exact h.1)
      rw [hmk] at this; exact this
    have e1 : k1_off28 (word23 (mt k.val)) c 1 = 16 * c.val := iv_mul c.val (by omega)
    match a with
    | ⟨0, _⟩ => show k1_off28 (word23 (mt k.val)) c 0 + 1 ≤ 256; omega
    | ⟨1, _⟩ => show k1_off28 (word23 (mt k.val)) c 1 + 16 ≤ 256; omega
  iapply (wp_assume 𝒱 (thr d i) bd Set.univ hchk)
  by_cases h : k1_cond10 (word23 (mt k.val)) = 1#1
  · iapply (wp_posO 𝒱 (thr d i) bd h)
    have hb := hcond.mp h
    have hsub : (Scalar.subi (word23 (mt k.val)) 512#32).toNat = M k.val - 512 := by
      have := sub_toNat (v := (word23 (mt k.val))) (lo := 512#32) (by rw [hmk]; exact hb.1)
      rw [hmk] at this; exact this
    ihave H5' := (carve_row3 (thr d i) (b := wid i) (r := k.val) arg5 q' x (k1_off27 i k)
      (k1_off27_inb i k k1_h1) (fun _ => rfl) squeezes_S1x1x256_S256 (soff27 i k).1 (soff27 i k).2.1 (soff27 i k).2.2) $$ H5
    icases H5' with ⟨H5, H5b⟩
    iapply (wp_copyO 𝒱 (thr d i) bd EC (by decide) ι) $$ [H5 H15 Hv HE]
    · isplitl [H5]; · iexact H5
      isplitl [H15]; · iexact H15
      isplitl [Hv]; · iexact Hv
      iexact HE
    iintro ⟨H5, H15, Hv, HE⟩
    ihave H5 := H5b $$ H5
    iapply (Scf.wp_for_bind frame (wpE defs 𝒱 (thr d i) bd) Set.univ 0#32 (Scalar.addi 0#32 16#32) 1#32 (k1_t24_ok i k1_h1) _ _
      (fun c acc => iprop(owns (thr d i) arg14 fullShare (at2 (rowTo (fun r dd => sums M (x (wid i)) k.val (512 + r) dd) (fun r dd => sums M (x (wid i)) k.val (512 + r) dd + x (wid i) k.val dd) (M k.val - 512) c))
        ∗ owns (thr d i) arg15 fullShare (at1 (x (wid i) k.val)))) ?trip) $$ [H14 H15]
    case trip =>
      intro c acc
      iintro H
      iapply (t24_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (word23 (mt k.val)) hsub hchk h c acc) $$ H
      iintro %acc2 H
      iexact H
    · rw [rowTo_zero]
      isplitl [H14]; · iexact H14
      iexact H15
    iintro %acc ⟨H14, H15⟩
    iapply (wp_doneO 𝒱 (thr d i) bd)
    have e : Scf.trips 0#32 (Scalar.addi 0#32 16#32) 1#32 = 16 := by decide
    rw [e]
    ihave H14 := (owns_congr (thr d i) arg14 fullShare (sums_take M (x (wid i)) 512 k.val hb.1)) $$ H14
    iapply Hk $$ %(0#32) [H11 H14 H15 H5 Hv HE]
    isplitl [H11]; · iexact H11
    isplitl [H14]; · iexact H14
    isplitl [H15]; · iexists _; iexact H15
    isplitl [H5]; · iexact H5
    isplitl [Hv]; · iexact Hv
    iexact HE
  · iapply (wp_negO 𝒱 (thr d i) bd h)
    iapply (wp_doneO 𝒱 (thr d i) bd)
    ihave H14 := (owns_congr (thr d i) arg14 fullShare (sums_skip M (x (wid i)) 512 k.val (fun hh => h (hcond.mpr hh)))) $$ H14
    iapply Hk $$ %(0#32) [H11 H14 H15 H5 Hv HE]
    isplitl [H11]; · iexact H11
    isplitl [H14]; · iexact H14
    isplitl [H15]; · iexists w; iexact H15
    isplitl [H5]; · iexact H5
    isplitl [Hv]; · iexact Hv
    iexact HE

set_option maxHeartbeats 800000 in
/-- A row is divided by its count. -/
theorem t25_wp {cn : ℕ → EReal} (k : Fin k1_t25_loop.trips) (acc : BitVec 32) {R : BitVec 32 → sProp 𝕄} {f : ℕ → ℕ → EReal} :
    iprop(owns (thr d i) arg13 fullShare (at1 cn) ∗ owns (thr d i) arg14 fullShare (at2 f))
      ⊢ iprop((∀ acc, iprop(owns (thr d i) arg13 fullShare (at1 cn) ∗ owns (thr d i) arg14 fullShare (at2 (rowTo f (fun r dd => f r dd * recip (cn (512 + k.val))) k.val 16))) -∗ R acc)
        -∗ wp frame (wpE defs 𝒱 (thr d i) bd) Set.univ (k1_t25_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) (k1_pay31 (F := Ideal)) k acc) R) := by
  have hk : k.val < 256 := k.isLt
  have hiv : (Scalar.addi 512#32 (Scf.iv 0#32 1#32 k.val)).toNat = 512 + k.val := base_toNat 512 k.val (by decide) (by omega)
  unfold k1_t25_body
  iintro ⟨H13, H⟩ Hk
  iapply (wp_assume 𝒱 (thr d i) bd Set.univ (show k1_chk19 i v44 (broadcast S16 (Scalar.addi 512#32 (Scf.iv 0#32 1#32 k.val))) from fun _ _ => idx_lt (by omega)))
  iapply (wp_gatherO 𝒱 (thr d i) bd (hl := View.loads_vmem h_S1008)) $$ H13
  iintro H13
  rw [gather_at1, hiv]
  iapply (Scf.wp_for_bind frame (wpE defs 𝒱 (thr d i) bd) Set.univ 0#32 (Scalar.addi 0#32 16#32) 1#32 (k1_t26_ok i k1_h1) _ _
    (fun c acc => owns (thr d i) arg14 fullShare (at2 (rowTo f (fun r dd => f r dd * recip (cn (512 + k.val))) k.val c))) ?trip) $$ [H]
  case trip =>
    intro c acc
    unfold k1_t26_body
    iintro H
    iapply (wp_loadO 𝒱 (thr d i) bd) $$ H
    iintro H
    iapply (wp_loadO 𝒱 (thr d i) bd) $$ H
    iintro H
    iapply (wp_storeO 𝒱 (thr d i) bd) $$ H
    iintro H
    iapply (wp_doneO 𝒱 (thr d i) bd)
    iapply (owns_congr (thr d i) arg14 fullShare (mul_step f (cn (512 + k.val)) k.val c.val _ _ (by rw [k1_off30_eq]; rfl) (by rw [k1_off30_eq]; rfl))) $$ H
  · rw [rowTo_zero]; iexact H
  iintro %acc H
  iapply (wp_doneO 𝒱 (thr d i) bd)
  have e : Scf.trips 0#32 (Scalar.addi 0#32 16#32) 1#32 = 16 := by decide
  rw [e]
  iapply Hk $$ %(0#32) [H13 H]
  isplitl [H13]; · iexact H13
  iexact H

end Cert.Proof.Scan

end
-- ==== Proof.Pass3.lean ====
/-
  Pass 3 of the merge: rows 768 to 999 of the merged slots are cleared, summed and divided by their counts.
-/
module

public import proofs.«01_k».proof.Proof.Rows

@[expose] public section

noncomputable section

namespace Cert.Proof.Scan

open Cert.KernelIdeal Cert.KernelIdeal.Gen Cert.Proof.Rules Cert.Proof.Vec Cert.Proof.Greedy
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

variable {Ix : Type} [DecidableEq Ix] {Name : Type} [DecidableEq Name]
variable {U : Type} [URA U] {Lvl : Type} [Preorder Lvl]
variable {defs : Defs nD τ sig (Elt Ideal) Λ₀} (𝒱 : Variants) (d : Fin nD) (i : grid1.Coords) (bd : Option 𝒱.V)

local notation "𝕄" => MT nD τ sig Ix (Elt Ideal) Name U Lvl

variable (EC : UEmb Counters (MT nD τ sig Ix (Elt Ideal) Name U Lvl)) [Infinite Name] [EC.LandsIn (upEmb : UEmb _ (MT nD τ sig Ix (Elt Ideal) Name U Lvl))] (O : CellTallies nD τ sig Ix) (W : Waits sig Ix) (ι : Ix)

variable (arg2 : Memref sig .scVector .hbm S4x1000x1008 .f32) (harg2 : arg2.IsWhole) (arg3 : Memref sig .scVector .hbm S4x1008 .f32) (harg3 : arg3.IsWhole)
  (arg4 : Memref sig .scVector .hbm S4x1008 .i32) (harg4 : arg4.IsWhole) (arg5 : Memref sig .scVector .hbm S4x1000x256 .f32) (harg5 : arg5.IsWhole)
  (arg6 : Memref sig .scVector .hbm S4x1008 .i32) (harg6 : arg6.IsWhole) (arg7 : Memref sig .scVector .hbm S4x1000x256 .f32) (harg7 : arg7.IsWhole)
  (arg8 : Memref sig .scVector .vmem S1008 .f32) (harg8 : arg8.IsWhole) (arg9 : Memref sig .scVector .vmem S1008 .i32) (harg9 : arg9.IsWhole)
  (arg10 : Memref sig .scVector .vmem S1008 .f32) (harg10 : arg10.IsWhole) (arg11 : Memref sig .scVector .vmem S1008 .i32) (harg11 : arg11.IsWhole)
  (arg12 : Memref sig .scVector .vmem S1008 .f32) (harg12 : arg12.IsWhole) (arg13 : Memref sig .scVector .vmem S1008 .f32) (harg13 : arg13.IsWhole)
  (arg14 : Memref sig .scVector .vmem S256x256 .f32) (harg14 : arg14.IsWhole) (arg15 : Memref sig .scVector .vmem S256 .f32) (harg15 : arg15.IsWhole)
  (arg16 : Memref sig .scVector .smem S1 .i32) (harg16 : arg16.IsWhole)
  (arg17 arg18 arg19 arg20 arg21 arg22 arg23 : DmaSems sig S_) (k1_h1 : k1_cond1 i = 1#1)

variable (v44 : BitVec 32) (k1_h7 : k1_cond7 v44 = 1#1)

set_option maxHeartbeats 800000 in
/-- A row of the accumulator is cleared. -/
theorem t27_wp (k : Fin k1_t27_loop.trips) (acc : BitVec 32) {R : BitVec 32 → sProp 𝕄} {f : ℕ → ℕ → EReal} :
    (owns (thr d i) arg14 fullShare (at2 f) : sProp 𝕄)
      ⊢ iprop((∀ acc, owns (thr d i) arg14 fullShare (at2 (rowTo f (fun _ _ => 0) k.val 16)) -∗ R acc)
        -∗ wp frame (wpE defs 𝒱 (thr d i) bd) Set.univ (k1_t27_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) (k1_pay31 (F := Ideal)) k acc) R) := by
  unfold k1_t27_body
  iintro H Hk
  iapply (Scf.wp_for_bind frame (wpE defs 𝒱 (thr d i) bd) Set.univ 0#32 (Scalar.addi 0#32 16#32) 1#32 (k1_t28_ok i k1_h1) _ _
    (fun c acc => owns (thr d i) arg14 fullShare (at2 (rowTo f (fun _ _ => 0) k.val c))) ?trip) $$ [H]
  case trip =>
    intro c acc
    unfold k1_t28_body
    iintro H
    iapply (wp_loadO 𝒱 (thr d i) bd) $$ H
    iintro H
    iapply (wp_storeO 𝒱 (thr d i) bd) $$ H
    iintro H
    iapply (wp_doneO 𝒱 (thr d i) bd)
    iapply (owns_congr (thr d i) arg14 fullShare (zero_step f k.val c.val _ _ (by rw [k1_off32_eq]; rfl) (by rw [k1_off32_eq]; rfl))) $$ H
  · rw [rowTo_zero]; iexact H
  iintro %acc H
  iapply (wp_doneO 𝒱 (thr d i) bd)
  have e : Scf.trips 0#32 (Scalar.addi 0#32 16#32) 1#32 = 16 := by decide
  rw [e]
  iapply Hk $$ %(0#32) H

set_option maxHeartbeats 800000 in
/-- A chunk of a slot is added to its row. -/
theorem t30_wp {r : ℕ} (v133 : BitVec 32) (hv : (Scalar.subi v133 768#32).toNat = r) (hw) (hc : k1_cond11 v133 = 1#1) (c : Fin k1_t30_loop.trips) (acc : BitVec 32) {R : BitVec 32 → sProp 𝕄}
    {f : ℕ → ℕ → EReal} {w : ℕ → EReal} :
    iprop(owns (thr d i) arg14 fullShare (at2 (rowTo f (fun r dd => f r dd + w dd) r c.val)) ∗ owns (thr d i) arg15 fullShare (at1 w))
      ⊢ iprop((∀ acc, iprop(owns (thr d i) arg14 fullShare (at2 (rowTo f (fun r dd => f r dd + w dd) r (c.val + 1))) ∗ owns (thr d i) arg15 fullShare (at1 w)) -∗ R acc)
        -∗ wp frame (wpE defs 𝒱 (thr d i) bd) Set.univ (k1_t30_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 v133 hw hc c acc) R) := by
  have hcc : c.val < 16 := c.isLt
  unfold k1_t30_body
  iintro ⟨H14, H15⟩ Hk
  iapply (wp_loadO 𝒱 (thr d i) bd) $$ H14
  iintro H14
  iapply (wp_loadO 𝒱 (thr d i) bd) $$ H15
  iintro H15
  iapply (wp_loadO 𝒱 (thr d i) bd) $$ H14
  iintro H14
  iapply (wp_storeO 𝒱 (thr d i) bd) $$ H14
  iintro H14
  have e0 : k1_off35 c 0 = 16 * c.val := by rw [k1_off35_eq]; rfl
  rw [load_at1, e0]
  ihave H14 := (owns_congr (thr d i) arg14 fullShare (add_step f w r c.val _ _ hv (iv_mul c.val (by omega)))) $$ H14
  iapply (wp_doneO 𝒱 (thr d i) bd)
  iapply Hk $$ %(0#32) [H14 H15]
  isplitl [H14]; · iexact H14
  iexact H15

theorem soff33 (k : Fin k1_t29_loop.trips) : k1_off33 i k 0 = wid i ∧ k1_off33 i k 1 = k.val ∧ k1_off33 i k 2 = 0 := by
  rw [k1_off33_eq]; unfold wid
  refine ⟨?_, rfl, rfl⟩
  show 2 * (i 1).val + (i 0).val = _
  omega

/-- The row a slot merges into, as the pass reads it. -/
abbrev word29 (m : BitVec 32) : BitVec 32 := extractAt ![15] (k1_pay2 (F := Ideal) fun _ => m) inpos_S16_p15

theorem word29_eq (m : BitVec 32) (h : m.toNat < 2 ^ 31) : word29 m = m := low_const m _ h

include EC in
set_option maxHeartbeats 1600000 in
/-- A slot is added to the row it merges into, if the pass holds that row. -/
theorem t29_wp {M : ℕ → ℕ} {mt : ℕ → BitVec 32} {x : ℕ → ℕ → ℕ → EReal} {q' : PosShare TreeShare} (hmt : ∀ i < 1008, mt i = BitVec.ofNat 32 (M i)) (hM : ∀ i < 1000, M i < 1000)
    (k : Fin k1_t29_loop.trips) (acc : BitVec 32) {R : BitVec 32 → sProp 𝕄} :
    iprop(owns (thr d i) arg11 fullShare (at1 mt) ∗ owns (thr d i) arg14 fullShare (at2 fun r dd => sums M (x (wid i)) k.val (768 + r) dd) ∗ (∃ w : ℕ → EReal, owns (thr d i) arg15 fullShare (at1 w))
        ∗ ownsOn (thr d i) arg5 q' (part ![4, 1000, 256] (wid i)) (at3 x) ∗ semVal (thr d i, .dma arg21.sem) 0 ∗ Env (thr d i) O W ι)
      ⊢ iprop((∀ acc, iprop(owns (thr d i) arg11 fullShare (at1 mt) ∗ owns (thr d i) arg14 fullShare (at2 fun r dd => sums M (x (wid i)) (k.val + 1) (768 + r) dd) ∗ (∃ w : ℕ → EReal, owns (thr d i) arg15 fullShare (at1 w))
            ∗ ownsOn (thr d i) arg5 q' (part ![4, 1000, 256] (wid i)) (at3 x) ∗ semVal (thr d i, .dma arg21.sem) 0 ∗ Env (thr d i) O W ι) -∗ R acc)
        -∗ wp frame (wpE defs 𝒱 (thr d i) bd) Set.univ (k1_t29_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 0#32 k acc) R) := by
  have hk : k.val < 1000 := k.isLt
  have hiv : (Scf.iv 0#32 1#32 k.val).toNat = k.val := iv_toNat _ (by omega)
  have hMk := hM k.val hk
  have hmk0 : (mt k.val).toNat = M k.val := by rw [hmt _ (by omega), BitVec.toNat_ofNat]; omega
  have hmk : (word29 (mt k.val)).toNat = M k.val := by rw [word29_eq _ (by omega)]; exact hmk0
  have hcond : k1_cond11 (word29 (mt k.val)) = 1#1 ↔ 768 ≤ M k.val ∧ M k.val < 768+256 := by
    have := within_iff (v := word29 (mt k.val)) (lo := 768#32) (hi := 1024#32) (by omega) (by decide) (by decide)
    rw [hmk] at this
    exact this
  unfold k1_t29_body
  iintro ⟨H11, H14, ⟨%w, H15⟩, H5, Hv, HE⟩ Hk
  iapply (wp_assume 𝒱 (thr d i) bd Set.univ (show k1_chk20 i v44 (broadcast S16 (Scf.iv 0#32 1#32 k.val)) from fun _ _ => idx_lt (by omega)))
  iapply (wp_gatherO 𝒱 (thr d i) bd (hl := View.loads_vmem h_S1008)) $$ H11
  iintro H11
  rw [gather_at1, hiv]
  have hchk : k1_chk21 i v44 (word29 (mt k.val)) := fun c _ _ h8 a => by
    have hcc : c.val < 16 := c.isLt
    have h := hcond.mp h8
    have e0 : k1_off34 (word29 (mt k.val)) c 0 = M k.val - 768 := by
      have := sub_toNat (v := (word29 (mt k.val))) (lo := 768#32) (by rw [hmk]; exact h.1)
      rw [hmk] at this; exact this
    have e1 : k1_off34 (word29 (mt k.val)) c 1 = 16 * c.val := iv_mul c.val (by omega)
    match a with
    | ⟨0, _⟩ => show k1_off34 (word29 (mt k.val)) c 0 + 1 ≤ 256; omega
    | ⟨1, _⟩ => show k1_off34 (word29 (mt k.val)) c 1 + 16 ≤ 256; omega
  iapply (wp_assume 𝒱 (thr d i) bd Set.univ hchk)
  by_cases h : k1_cond11 (word29 (mt k.val)) = 1#1
  · iapply (wp_posO 𝒱 (thr d i) bd h)
    have hb := hcond.mp h
    have hsub : (Scalar.subi (word29 (mt k.val)) 768#32).toNat = M k.val - 768 := by
      have := sub_toNat (v := (word29 (mt k.val))) (lo := 768#32) (by rw [hmk]; exact hb.1)
      rw [hmk] at this; exact this
    ihave H5' := (carve_row3 (thr d i) (b := wid i) (r := k.val) arg5 q' x (k1_off33 i k)
      (k1_off33_inb i k k1_h1) (fun _ => rfl) squeezes_S1x1x256_S256 (soff33 i k).1 (soff33 i k).2.1 (soff33 i k).2.2) $$ H5
    icases H5' with ⟨H5, H5b⟩
    iapply (wp_copyO 𝒱 (thr d i) bd EC (by decide) ι) $$ [H5 H15 Hv HE]
    · isplitl [H5]; · iexact H5
      isplitl [H15]; · iexact H15
      isplitl [Hv]; · iexact Hv
      iexact HE
    iintro ⟨H5, H15, Hv, HE⟩
    ihave H5 := H5b $$ H5
    iapply (Scf.wp_for_bind frame (wpE defs 𝒱 (thr d i) bd) Set.univ 0#32 (Scalar.addi 0#32 16#32) 1#32 (k1_t30_ok i k1_h1) _ _
      (fun c acc => iprop(owns (thr d i) arg14 fullShare (at2 (rowTo (fun r dd => sums M (x (wid i)) k.val (768 + r) dd) (fun r dd => sums M (x (wid i)) k.val (768 + r) dd + x (wid i) k.val dd) (M k.val - 768) c))
        ∗ owns (thr d i) arg15 fullShare (at1 (x (wid i) k.val)))) ?trip) $$ [H14 H15]
    case trip =>
      intro c acc
      iintro H
      iapply (t30_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (word29 (mt k.val)) hsub hchk h c acc) $$ H
      iintro %acc2 H
      iexact H
    · rw [rowTo_zero]
      isplitl [H14]; · iexact H14
      iexact H15
    iintro %acc ⟨H14, H15⟩
    iapply (wp_doneO 𝒱 (thr d i) bd)
    have e : Scf.trips 0#32 (Scalar.addi 0#32 16#32) 1#32 = 16 := by decide
    rw [e]
    ihave H14 := (owns_congr (thr d i) arg14 fullShare (sums_take M (x (wid i)) 768 k.val hb.1)) $$ H14
    iapply Hk $$ %(0#32) [H11 H14 H15 H5 Hv HE]
    isplitl [H11]; · iexact H11
    isplitl [H14]; · iexact H14
    isplitl [H15]; · iexists _; iexact H15
    isplitl [H5]; · iexact H5
    isplitl [Hv]; · iexact Hv
    iexact HE
  · iapply (wp_negO 𝒱 (thr d i) bd h)
    iapply (wp_doneO 𝒱 (thr d i) bd)
    ihave H14 := (owns_congr (thr d i) arg14 fullShare (sums_skip M (x (wid i)) 768 k.val (fun hh => h (hcond.mpr hh)))) $$ H14
    iapply Hk $$ %(0#32) [H11 H14 H15 H5 Hv HE]
    isplitl [H11]; · iexact H11
    isplitl [H14]; · iexact H14
    isplitl [H15]; · iexists w; iexact H15
    isplitl [H5]; · iexact H5
    isplitl [Hv]; · iexact Hv
    iexact HE

set_option maxHeartbeats 800000 in
/-- A row is divided by its count. -/
theorem t31_wp {cn : ℕ → EReal} (k : Fin k1_t31_loop.trips) (acc : BitVec 32) {R : BitVec 32 → sProp 𝕄} {f : ℕ → ℕ → EReal} :
    iprop(owns (thr d i) arg13 fullShare (at1 cn) ∗ owns (thr d i) arg14 fullShare (at2 f))
      ⊢ iprop((∀ acc, iprop(owns (thr d i) arg13 fullShare (at1 cn) ∗ owns (thr d i) arg14 fullShare (at2 (rowTo f (fun r dd => f r dd * recip (cn (768 + k.val))) k.val 16))) -∗ R acc)
        -∗ wp frame (wpE defs 𝒱 (thr d i) bd) Set.univ (k1_t31_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) k acc) R) := by
  have hk : k.val < 232 := k.isLt
  have hiv : (Scalar.addi 768#32 (Scf.iv 0#32 1#32 k.val)).toNat = 768 + k.val := base_toNat 768 k.val (by decide) (by omega)
  unfold k1_t31_body
  iintro ⟨H13, H⟩ Hk
  iapply (wp_assume 𝒱 (thr d i) bd Set.univ (show k1_chk22 i v44 (broadcast S16 (Scalar.addi 768#32 (Scf.iv 0#32 1#32 k.val))) from fun _ _ => idx_lt (by omega)))
  iapply (wp_gatherO 𝒱 (thr d i) bd (hl := View.loads_vmem h_S1008)) $$ H13
  iintro H13
  rw [gather_at1, hiv]
  iapply (Scf.wp_for_bind frame (wpE defs 𝒱 (thr d i) bd) Set.univ 0#32 (Scalar.addi 0#32 16#32) 1#32 (k1_t32_ok i k1_h1) _ _
    (fun c acc => owns (thr d i) arg14 fullShare (at2 (rowTo f (fun r dd => f r dd * recip (cn (768 + k.val))) k.val c))) ?trip) $$ [H]
  case trip =>
    intro c acc
    unfold k1_t32_body
    iintro H
    iapply (wp_loadO 𝒱 (thr d i) bd) $$ H
    iintro H
    iapply (wp_loadO 𝒱 (thr d i) bd) $$ H
    iintro H
    iapply (wp_storeO 𝒱 (thr d i) bd) $$ H
    iintro H
    iapply (wp_doneO 𝒱 (thr d i) bd)
    iapply (owns_congr (thr d i) arg14 fullShare (mul_step f (cn (768 + k.val)) k.val c.val _ _ (by rw [k1_off36_eq]; rfl) (by rw [k1_off36_eq]; rfl))) $$ H
  · rw [rowTo_zero]; iexact H
  iintro %acc H
  iapply (wp_doneO 𝒱 (thr d i) bd)
  have e : Scf.trips 0#32 (Scalar.addi 0#32 16#32) 1#32 = 16 := by decide
  rw [e]
  iapply Hk $$ %(0#32) [H13 H]
  isplitl [H13]; · iexact H13
  iexact H

end Cert.Proof.Scan

end
-- ==== Proof.Merge.lean ====
/-
  The merge phase of a subcore: the counts, the four passes with their copies out, and the plain copy of a batch in
  which nothing merges.
-/
module

public import proofs.«01_k».proof.Proof.Pass0
public import proofs.«01_k».proof.Proof.Pass1
public import proofs.«01_k».proof.Proof.Pass2
public import proofs.«01_k».proof.Proof.Pass3

@[expose] public section

noncomputable section

namespace Cert.Proof.Scan

open Cert.KernelIdeal Cert.KernelIdeal.Gen Cert.Proof.Rules Cert.Proof.Vec Cert.Proof.Greedy
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

/-- Row `t` of the merged slots: the sum of the slots that merge into it times the reciprocal of their number. -/
def mergedAt (M : ℕ → ℕ) (x : ℕ → ℕ → EReal) (t dd : ℕ) : EReal := sums M x 1000 t dd * recip (counts M 1000 t)

theorem sums_zero (M : ℕ → ℕ) (x : ℕ → ℕ → EReal) (b : ℕ) {f : ℕ → ℕ → EReal} (h : ∀ r < 256, ∀ dd < 256, f r dd = 0) :
    (at2 f : S256x256.Idx → EReal) = at2 fun r dd => sums M x 0 (b + r) dd :=
  at2_congr fun r hr dd hd => (h r hr dd hd).trans (Finset.sum_range_zero _).symm

theorem zero_next {f : ℕ → ℕ → EReal} {k : ℕ} (h : ∀ r < k, ∀ dd < 256, f r dd = 0) : ∀ r < k + 1, ∀ dd < 256, rowTo f (fun _ _ => 0) k 16 r dd = 0 := fun r hr dd hd => by
  unfold rowTo
  by_cases e : r = k
  · rw [if_pos ⟨e, by omega⟩]
  · rw [if_neg (fun hh => e hh.1)]; exact h r (by omega) dd hd

/-- The accumulator with its first `k` rows divided. -/
def divided (M : ℕ → ℕ) (x : ℕ → ℕ → EReal) (b k : ℕ) : ℕ → ℕ → EReal := fun r dd => if r < k then mergedAt M x (b + r) dd else sums M x 1000 (b + r) dd

theorem divided_zero (M : ℕ → ℕ) (x : ℕ → ℕ → EReal) (b : ℕ) : (fun r dd => sums M x 1000 (b + r) dd) = divided M x b 0 := by
  funext r dd; unfold divided; rw [if_neg (by omega)]

theorem divided_next (M : ℕ → ℕ) (x : ℕ → ℕ → EReal) (b k : ℕ) :
    (at2 (rowTo (divided M x b k) (fun r dd => divided M x b k r dd * recip (counts M 1000 (b + k))) k 16) : S256x256.Idx → EReal) = at2 (divided M x b (k + 1)) :=
  at2_congr fun r hr dd hd => by
    unfold rowTo divided
    beta_reduce
    by_cases e : r = k
    · subst e
      rw [if_pos ⟨rfl, by omega⟩, if_neg (Nat.lt_irrefl _), if_pos (Nat.lt_succ_self _)]; rfl
    · rw [if_neg (fun hh => e hh.1)]
      by_cases h : r < k
      · rw [if_pos h, if_pos (by omega)]
      · rw [if_neg h, if_neg (by omega)]

/-- A batch with the rows `b` to `b + n` replaced. -/
abbrev putRows (Z : ℕ → ℕ → ℕ → EReal) (b n : ℕ) (Y : ℕ → ℕ → EReal) : ℕ → ℕ → ℕ → EReal := fun a i j => if b ≤ i ∧ i < b + n then Y (i - b) j else Z a i j

/-- A block of the merged slots written: the rows right so far are the block's too. -/
theorem out_next {T : ℕ → ℕ → EReal} {Z : ℕ → ℕ → ℕ → EReal} {Y : ℕ → ℕ → EReal} {w b n : ℕ} (hZ : ∀ t < b, ∀ dd < 256, Z w t dd = T t dd)
    (hY : ∀ r < n, ∀ dd < 256, Y r dd = T (b + r) dd) :
    ∀ t < b + n, ∀ dd < 256, putRows Z b n Y w t dd = T t dd := fun t ht dd hd => by
  show (if b ≤ t ∧ t < b + n then Y (t - b) dd else Z w t dd) = _
  by_cases h : b ≤ t
  · rw [if_pos ⟨h, ht⟩, hY _ (by omega) _ hd, Nat.add_sub_cancel' h]
  · rw [if_neg (fun hh => h hh.1)]; exact hZ _ (by omega) _ hd

variable {Ix : Type} [DecidableEq Ix] {Name : Type} [DecidableEq Name]
variable {U : Type} [URA U] {Lvl : Type} [Preorder Lvl]
variable {defs : Defs nD τ sig (Elt Ideal) Λ₀} (𝒱 : Variants) (d : Fin nD) (i : grid1.Coords) (bd : Option 𝒱.V)

local notation "𝕄" => MT nD τ sig Ix (Elt Ideal) Name U Lvl

variable (EC : UEmb Counters (MT nD τ sig Ix (Elt Ideal) Name U Lvl)) [Infinite Name] [EC.LandsIn (upEmb : UEmb _ (MT nD τ sig Ix (Elt Ideal) Name U Lvl))] (O : CellTallies nD τ sig Ix) (W : Waits sig Ix) (ι : Ix)

variable (arg2 : Memref sig .scVector .hbm S4x1000x1008 .f32) (harg2 : arg2.IsWhole) (arg3 : Memref sig .scVector .hbm S4x1008 .f32) (harg3 : arg3.IsWhole)
  (arg4 : Memref sig .scVector .hbm S4x1008 .i32) (harg4 : arg4.IsWhole) (arg5 : Memref sig .scVector .hbm S4x1000x256 .f32) (harg5 : arg5.IsWhole)
  (arg6 : Memref sig .scVector .hbm S4x1008 .i32) (harg6 : arg6.IsWhole) (arg7 : Memref sig .scVector .hbm S4x1000x256 .f32) (harg7 : arg7.IsWhole)
  (arg8 : Memref sig .scVector .vmem S1008 .f32) (harg8 : arg8.IsWhole) (arg9 : Memref sig .scVector .vmem S1008 .i32) (harg9 : arg9.IsWhole)
  (arg10 : Memref sig .scVector .vmem S1008 .f32) (harg10 : arg10.IsWhole) (arg11 : Memref sig .scVector .vmem S1008 .i32) (harg11 : arg11.IsWhole)
  (arg12 : Memref sig .scVector .vmem S1008 .f32) (harg12 : arg12.IsWhole) (arg13 : Memref sig .scVector .vmem S1008 .f32) (harg13 : arg13.IsWhole)
  (arg14 : Memref sig .scVector .vmem S256x256 .f32) (harg14 : arg14.IsWhole) (arg15 : Memref sig .scVector .vmem S256 .f32) (harg15 : arg15.IsWhole)
  (arg16 : Memref sig .scVector .smem S1 .i32) (harg16 : arg16.IsWhole)
  (arg17 arg18 arg19 arg20 arg21 arg22 arg23 : DmaSems sig S_) (k1_h1 : k1_cond1 i = 1#1)

theorem forget2 (c : Thread nD τ) (m : Memref sig c.2.kind .vmem S256x256 .f32) (f : ℕ → ℕ → EReal) :
    (owns c m fullShare (at2 f) : sProp 𝕄) ⊢ iprop(∃ f : ℕ → ℕ → EReal, owns c m fullShare (at2 f)) := by
  iintro H
  iexists f
  iexact H

/-- The first rows of the accumulator as the copies name them. -/
theorem carve_top {n : ℕ} (c : Thread nD τ) (m : Memref sig c.2.kind .vmem S256x256 .f32) (f : ℕ → ℕ → EReal) (h) (hr) :
    (owns c m fullShare (at2 f) : sProp 𝕄) ⊢ iprop(owns c (m.slice (Rect.unit (s := S256x256) ![0, 0] (⟨2, ![n, 256]⟩ : Shape).size h) hr) fullShare (at2 f)
      ∗ (∀ Y : ℕ → ℕ → EReal, owns c (m.slice (Rect.unit (s := S256x256) ![0, 0] (⟨2, ![n, 256]⟩ : Shape).size h) hr) fullShare (at2 Y)
        -∗ owns c m fullShare (at2 fun r dd => if r < n then Y r dd else f r dd))) := by
  have e : ∀ g : ℕ → ℕ → EReal, (fun j => (at2 g : S256x256.Idx → EReal) ((Rect.unit (s := S256x256) ![0, 0] (⟨2, ![n, 256]⟩ : Shape).size h).emb j)) = at2 g := fun g => by
    funext j
    refine congrArg₂ g ((Rect.emb_apply _ _ _).trans ?_) ((Rect.emb_apply _ _ _).trans ?_)
    · show 0 + 1 * (j 0).val = _; omega
    · show 0 + 1 * (j 1).val = _; omega
  iintro H
  ihave H := (owns_all c m fullShare (at2 f)) $$ H
  ihave H' := (ownsOn_slice c m fullShare (X := at2 f) (Rect.unit (s := S256x256) ![0, 0] (⟨2, ![n, 256]⟩ : Shape).size h) hr (fun _ => Finset.mem_univ _)) $$ H
  icases H' with ⟨H, Hb⟩
  isplitl [H]
  · iapply (owns_congr c _ fullShare (e f)) $$ H
  · iintro %Y H
    iapply (all_owns c m fullShare (at2 fun r dd => if r < n then Y r dd else f r dd : S256x256.Idx → EReal))
    iapply Hb $$ %(at2 Y) %(at2 fun r dd => if r < n then Y r dd else f r dd) [] H
    ipureintro
    constructor
    · intro j
      have hj : (j 0).val < n := (j 0).isLt
      refine (congrFun (e _) j).trans ?_
      exact if_pos hj
    · intro k _ hk
      refine if_neg fun hlt => hk (ix2 (⟨(k 0).val, hlt⟩ : Fin n) (k 1)) ?_
      funext a
      refine Fin.ext ((Rect.emb_apply _ _ _).trans ?_)
      match a with
      | ⟨0, _⟩ => show 0 + 1 * (k 0).val = (k 0).val; omega
      | ⟨1, _⟩ => show 0 + 1 * (k 1).val = (k 1).val; omega

theorem off7_at : k1_off7 i 0 = wid i ∧ k1_off7 i 1 = 0 ∧ k1_off7 i 2 = 0 := by
  rw [k1_off7_eq]; unfold wid
  refine ⟨?_, rfl, rfl⟩
  show 2 * (i 1).val + (i 0).val = _
  omega

include EC in
set_option maxHeartbeats 800000 in
/-- Rows 0 to 199 of the slots are copied to the merged slots. -/
theorem part3_wp {x Z : ℕ → ℕ → ℕ → EReal} {q' : PosShare TreeShare} {R : PUnit → sProp 𝕄} (hZ : ∀ t < 0, ∀ dd < 256, Z (wid i) t dd = x (wid i) t dd) :
    iprop((∃ f : ℕ → ℕ → EReal, owns (thr d i) arg14 fullShare (at2 f)) ∗ ownsOn (thr d i) arg5 q' (part ![4, 1000, 256] (wid i)) (at3 x) ∗ ownsOn (thr d i) arg7 fullShare (part ![4, 1000, 256] (wid i)) (at3 Z)
        ∗ semVal (thr d i, .dma arg19.sem) 0 ∗ semVal (thr d i, .dma arg20.sem) 0 ∗ Env (thr d i) O W ι)
      ⊢ iprop((∀ Z : ℕ → ℕ → ℕ → EReal, ⌜∀ t < 0 + 200, ∀ dd < 256, Z (wid i) t dd = x (wid i) t dd⌝
          -∗ iprop((∃ f : ℕ → ℕ → EReal, owns (thr d i) arg14 fullShare (at2 f)) ∗ ownsOn (thr d i) arg5 q' (part ![4, 1000, 256] (wid i)) (at3 x) ∗ ownsOn (thr d i) arg7 fullShare (part ![4, 1000, 256] (wid i)) (at3 Z)
            ∗ semVal (thr d i, .dma arg19.sem) 0 ∗ semVal (thr d i, .dma arg20.sem) 0 ∗ Env (thr d i) O W ι) -∗ R ⟨⟩)
        -∗ wp frame (wpE defs 𝒱 (thr d i) bd) Set.univ (k1_part3_skel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1) R) := by
  unfold k1_part3_skel
  iintro ⟨⟨%f, H14⟩, H5, H7, Hv1, Hv2, HE⟩ Hk
  ihave H14' := (carve_top (n := 200) (thr d i) arg14 f inb_S256x256_S200x256_0_0 (fun _ => rfl)) $$ H14
  icases H14' with ⟨H14, H14b⟩
  ihave H5' := (carve_block3 (thr d i) (b := wid i) (r := 0) (k := 200) arg5 q' x (k1_off7 i) (k1_off7_inb i k1_h1) (fun _ => rfl) squeezes_S1x200x256_S200x256 (off7_at i).1 (off7_at i).2.1 (off7_at i).2.2) $$ H5
  icases H5' with ⟨H5, H5b⟩
  ihave H7' := (carve_block3 (thr d i) (b := wid i) (r := 0) (k := 200) arg7 fullShare Z (k1_off7 i) (k1_off7_inb i k1_h1) (fun _ => rfl) squeezes_S1x200x256_S200x256 (off7_at i).1 (off7_at i).2.1 (off7_at i).2.2) $$ H7
  icases H7' with ⟨H7, H7b⟩
  iapply (wp_copyO 𝒱 (thr d i) bd EC (by decide) ι) $$ [H5 H14 Hv1 HE]
  · isplitl [H5]; · iexact H5
    isplitl [H14]; · iexact H14
    isplitl [Hv1]; · iexact Hv1
    iexact HE
  iintro ⟨H5, H14, Hv1, HE⟩
  iapply (wp_copyO 𝒱 (thr d i) bd EC (by decide) ι) $$ [H14 H7 Hv2 HE]
  · isplitl [H14]; · iexact H14
    isplitl [H7]; · iexact H7
    isplitl [Hv2]; · iexact Hv2
    iexact HE
  iintro ⟨H14, H7, Hv2, HE⟩
  iapply (wp_doneO 𝒱 (thr d i) bd)
  ihave H5 := H5b $$ %_ H5
  ihave H5 := (ownsOn_congr (thr d i) arg5 q' (Y := at3 x) (by
    intro j hj
    have hj := mem_part.mp hj
    show (if 0 ≤ (j 1).val ∧ (j 1).val < 0 + 200 then x (wid i) (0 + ((j 1).val - 0)) (j 2).val else x (j 0).val (j 1).val (j 2).val) = x (j 0).val (j 1).val (j 2).val
    by_cases h : 0 ≤ (j 1).val ∧ (j 1).val < 0 + 200
    · rw [if_pos h, Nat.add_sub_cancel' h.1, ← hj]
    · rw [if_neg h])) $$ H5
  ihave H7 := H7b $$ %_ H7
  ihave H14 := H14b $$ %_ H14
  iapply Hk $$ %(putRows Z 0 200 fun i' j => x (wid i) (0 + i') j) %(out_next (n := 200) hZ fun r _ dd _ => rfl) [H14 H5 H7 Hv1 Hv2 HE]
  isplitl [H14]; · iexists _; iexact H14
  isplitl [H5]; · iexact H5
  isplitl [H7]; · iexact H7
  isplitl [Hv1]; · iexact Hv1
  isplitl [Hv2]; · iexact Hv2
  iexact HE

theorem off8_at : k1_off8 i 0 = wid i ∧ k1_off8 i 1 = 200 ∧ k1_off8 i 2 = 0 := by
  rw [k1_off8_eq]; unfold wid
  refine ⟨?_, rfl, rfl⟩
  show 2 * (i 1).val + (i 0).val = _
  omega

include EC in
set_option maxHeartbeats 800000 in
/-- Rows 200 to 399 of the slots are copied to the merged slots. -/
theorem part4_wp {x Z : ℕ → ℕ → ℕ → EReal} {q' : PosShare TreeShare} {R : PUnit → sProp 𝕄} (hZ : ∀ t < 200, ∀ dd < 256, Z (wid i) t dd = x (wid i) t dd) :
    iprop((∃ f : ℕ → ℕ → EReal, owns (thr d i) arg14 fullShare (at2 f)) ∗ ownsOn (thr d i) arg5 q' (part ![4, 1000, 256] (wid i)) (at3 x) ∗ ownsOn (thr d i) arg7 fullShare (part ![4, 1000, 256] (wid i)) (at3 Z)
        ∗ semVal (thr d i, .dma arg19.sem) 0 ∗ semVal (thr d i, .dma arg20.sem) 0 ∗ Env (thr d i) O W ι)
      ⊢ iprop((∀ Z : ℕ → ℕ → ℕ → EReal, ⌜∀ t < 200 + 200, ∀ dd < 256, Z (wid i) t dd = x (wid i) t dd⌝
          -∗ iprop((∃ f : ℕ → ℕ → EReal, owns (thr d i) arg14 fullShare (at2 f)) ∗ ownsOn (thr d i) arg5 q' (part ![4, 1000, 256] (wid i)) (at3 x) ∗ ownsOn (thr d i) arg7 fullShare (part ![4, 1000, 256] (wid i)) (at3 Z)
            ∗ semVal (thr d i, .dma arg19.sem) 0 ∗ semVal (thr d i, .dma arg20.sem) 0 ∗ Env (thr d i) O W ι) -∗ R ⟨⟩)
        -∗ wp frame (wpE defs 𝒱 (thr d i) bd) Set.univ (k1_part4_skel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1) R) := by
  unfold k1_part4_skel
  iintro ⟨⟨%f, H14⟩, H5, H7, Hv1, Hv2, HE⟩ Hk
  ihave H14' := (carve_top (n := 200) (thr d i) arg14 f inb_S256x256_S200x256_0_0 (fun _ => rfl)) $$ H14
  icases H14' with ⟨H14, H14b⟩
  ihave H5' := (carve_block3 (thr d i) (b := wid i) (r := 200) (k := 200) arg5 q' x (k1_off8 i) (k1_off8_inb i k1_h1) (fun _ => rfl) squeezes_S1x200x256_S200x256 (off8_at i).1 (off8_at i).2.1 (off8_at i).2.2) $$ H5
  icases H5' with ⟨H5, H5b⟩
  ihave H7' := (carve_block3 (thr d i) (b := wid i) (r := 200) (k := 200) arg7 fullShare Z (k1_off8 i) (k1_off8_inb i k1_h1) (fun _ => rfl) squeezes_S1x200x256_S200x256 (off8_at i).1 (off8_at i).2.1 (off8_at i).2.2) $$ H7
  icases H7' with ⟨H7, H7b⟩
  iapply (wp_copyO 𝒱 (thr d i) bd EC (by decide) ι) $$ [H5 H14 Hv1 HE]
  · isplitl [H5]; · iexact H5
    isplitl [H14]; · iexact H14
    isplitl [Hv1]; · iexact Hv1
    iexact HE
  iintro ⟨H5, H14, Hv1, HE⟩
  iapply (wp_copyO 𝒱 (thr d i) bd EC (by decide) ι) $$ [H14 H7 Hv2 HE]
  · isplitl [H14]; · iexact H14
    isplitl [H7]; · iexact H7
    isplitl [Hv2]; · iexact Hv2
    iexact HE
  iintro ⟨H14, H7, Hv2, HE⟩
  iapply (wp_doneO 𝒱 (thr d i) bd)
  ihave H5 := H5b $$ %_ H5
  ihave H5 := (ownsOn_congr (thr d i) arg5 q' (Y := at3 x) (by
    intro j hj
    have hj := mem_part.mp hj
    show (if 200 ≤ (j 1).val ∧ (j 1).val < 200 + 200 then x (wid i) (200 + ((j 1).val - 200)) (j 2).val else x (j 0).val (j 1).val (j 2).val) = x (j 0).val (j 1).val (j 2).val
    by_cases h : 200 ≤ (j 1).val ∧ (j 1).val < 200 + 200
    · rw [if_pos h, Nat.add_sub_cancel' h.1, ← hj]
    · rw [if_neg h])) $$ H5
  ihave H7 := H7b $$ %_ H7
  ihave H14 := H14b $$ %_ H14
  iapply Hk $$ %(putRows Z 200 200 fun i' j => x (wid i) (200 + i') j) %(out_next (n := 200) hZ fun r _ dd _ => rfl) [H14 H5 H7 Hv1 Hv2 HE]
  isplitl [H14]; · iexists _; iexact H14
  isplitl [H5]; · iexact H5
  isplitl [H7]; · iexact H7
  isplitl [Hv1]; · iexact Hv1
  isplitl [Hv2]; · iexact Hv2
  iexact HE

theorem off9_at : k1_off9 i 0 = wid i ∧ k1_off9 i 1 = 400 ∧ k1_off9 i 2 = 0 := by
  rw [k1_off9_eq]; unfold wid
  refine ⟨?_, rfl, rfl⟩
  show 2 * (i 1).val + (i 0).val = _
  omega

include EC in
set_option maxHeartbeats 800000 in
/-- Rows 400 to 599 of the slots are copied to the merged slots. -/
theorem part5_wp {x Z : ℕ → ℕ → ℕ → EReal} {q' : PosShare TreeShare} {R : PUnit → sProp 𝕄} (hZ : ∀ t < 400, ∀ dd < 256, Z (wid i) t dd = x (wid i) t dd) :
    iprop((∃ f : ℕ → ℕ → EReal, owns (thr d i) arg14 fullShare (at2 f)) ∗ ownsOn (thr d i) arg5 q' (part ![4, 1000, 256] (wid i)) (at3 x) ∗ ownsOn (thr d i) arg7 fullShare (part ![4, 1000, 256] (wid i)) (at3 Z)
        ∗ semVal (thr d i, .dma arg19.sem) 0 ∗ semVal (thr d i, .dma arg20.sem) 0 ∗ Env (thr d i) O W ι)
      ⊢ iprop((∀ Z : ℕ → ℕ → ℕ → EReal, ⌜∀ t < 400 + 200, ∀ dd < 256, Z (wid i) t dd = x (wid i) t dd⌝
          -∗ iprop((∃ f : ℕ → ℕ → EReal, owns (thr d i) arg14 fullShare (at2 f)) ∗ ownsOn (thr d i) arg5 q' (part ![4, 1000, 256] (wid i)) (at3 x) ∗ ownsOn (thr d i) arg7 fullShare (part ![4, 1000, 256] (wid i)) (at3 Z)
            ∗ semVal (thr d i, .dma arg19.sem) 0 ∗ semVal (thr d i, .dma arg20.sem) 0 ∗ Env (thr d i) O W ι) -∗ R ⟨⟩)
        -∗ wp frame (wpE defs 𝒱 (thr d i) bd) Set.univ (k1_part5_skel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1) R) := by
  unfold k1_part5_skel
  iintro ⟨⟨%f, H14⟩, H5, H7, Hv1, Hv2, HE⟩ Hk
  ihave H14' := (carve_top (n := 200) (thr d i) arg14 f inb_S256x256_S200x256_0_0 (fun _ => rfl)) $$ H14
  icases H14' with ⟨H14, H14b⟩
  ihave H5' := (carve_block3 (thr d i) (b := wid i) (r := 400) (k := 200) arg5 q' x (k1_off9 i) (k1_off9_inb i k1_h1) (fun _ => rfl) squeezes_S1x200x256_S200x256 (off9_at i).1 (off9_at i).2.1 (off9_at i).2.2) $$ H5
  icases H5' with ⟨H5, H5b⟩
  ihave H7' := (carve_block3 (thr d i) (b := wid i) (r := 400) (k := 200) arg7 fullShare Z (k1_off9 i) (k1_off9_inb i k1_h1) (fun _ => rfl) squeezes_S1x200x256_S200x256 (off9_at i).1 (off9_at i).2.1 (off9_at i).2.2) $$ H7
  icases H7' with ⟨H7, H7b⟩
  iapply (wp_copyO 𝒱 (thr d i) bd EC (by decide) ι) $$ [H5 H14 Hv1 HE]
  · isplitl [H5]; · iexact H5
    isplitl [H14]; · iexact H14
    isplitl [Hv1]; · iexact Hv1
    iexact HE
  iintro ⟨H5, H14, Hv1, HE⟩
  iapply (wp_copyO 𝒱 (thr d i) bd EC (by decide) ι) $$ [H14 H7 Hv2 HE]
  · isplitl [H14]; · iexact H14
    isplitl [H7]; · iexact H7
    isplitl [Hv2]; · iexact Hv2
    iexact HE
  iintro ⟨H14, H7, Hv2, HE⟩
  iapply (wp_doneO 𝒱 (thr d i) bd)
  ihave H5 := H5b $$ %_ H5
  ihave H5 := (ownsOn_congr (thr d i) arg5 q' (Y := at3 x) (by
    intro j hj
    have hj := mem_part.mp hj
    show (if 400 ≤ (j 1).val ∧ (j 1).val < 400 + 200 then x (wid i) (400 + ((j 1).val - 400)) (j 2).val else x (j 0).val (j 1).val (j 2).val) = x (j 0).val (j 1).val (j 2).val
    by_cases h : 400 ≤ (j 1).val ∧ (j 1).val < 400 + 200
    · rw [if_pos h, Nat.add_sub_cancel' h.1, ← hj]
    · rw [if_neg h])) $$ H5
  ihave H7 := H7b $$ %_ H7
  ihave H14 := H14b $$ %_ H14
  iapply Hk $$ %(putRows Z 400 200 fun i' j => x (wid i) (400 + i') j) %(out_next (n := 200) hZ fun r _ dd _ => rfl) [H14 H5 H7 Hv1 Hv2 HE]
  isplitl [H14]; · iexists _; iexact H14
  isplitl [H5]; · iexact H5
  isplitl [H7]; · iexact H7
  isplitl [Hv1]; · iexact Hv1
  isplitl [Hv2]; · iexact Hv2
  iexact HE

theorem off10_at : k1_off10 i 0 = wid i ∧ k1_off10 i 1 = 600 ∧ k1_off10 i 2 = 0 := by
  rw [k1_off10_eq]; unfold wid
  refine ⟨?_, rfl, rfl⟩
  show 2 * (i 1).val + (i 0).val = _
  omega

include EC in
set_option maxHeartbeats 800000 in
/-- Rows 600 to 799 of the slots are copied to the merged slots. -/
theorem part6_wp {x Z : ℕ → ℕ → ℕ → EReal} {q' : PosShare TreeShare} {R : PUnit → sProp 𝕄} (hZ : ∀ t < 600, ∀ dd < 256, Z (wid i) t dd = x (wid i) t dd) :
    iprop((∃ f : ℕ → ℕ → EReal, owns (thr d i) arg14 fullShare (at2 f)) ∗ ownsOn (thr d i) arg5 q' (part ![4, 1000, 256] (wid i)) (at3 x) ∗ ownsOn (thr d i) arg7 fullShare (part ![4, 1000, 256] (wid i)) (at3 Z)
        ∗ semVal (thr d i, .dma arg19.sem) 0 ∗ semVal (thr d i, .dma arg20.sem) 0 ∗ Env (thr d i) O W ι)
      ⊢ iprop((∀ Z : ℕ → ℕ → ℕ → EReal, ⌜∀ t < 600 + 200, ∀ dd < 256, Z (wid i) t dd = x (wid i) t dd⌝
          -∗ iprop((∃ f : ℕ → ℕ → EReal, owns (thr d i) arg14 fullShare (at2 f)) ∗ ownsOn (thr d i) arg5 q' (part ![4, 1000, 256] (wid i)) (at3 x) ∗ ownsOn (thr d i) arg7 fullShare (part ![4, 1000, 256] (wid i)) (at3 Z)
            ∗ semVal (thr d i, .dma arg19.sem) 0 ∗ semVal (thr d i, .dma arg20.sem) 0 ∗ Env (thr d i) O W ι) -∗ R ⟨⟩)
        -∗ wp frame (wpE defs 𝒱 (thr d i) bd) Set.univ (k1_part6_skel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1) R) := by
  unfold k1_part6_skel
  iintro ⟨⟨%f, H14⟩, H5, H7, Hv1, Hv2, HE⟩ Hk
  ihave H14' := (carve_top (n := 200) (thr d i) arg14 f inb_S256x256_S200x256_0_0 (fun _ => rfl)) $$ H14
  icases H14' with ⟨H14, H14b⟩
  ihave H5' := (carve_block3 (thr d i) (b := wid i) (r := 600) (k := 200) arg5 q' x (k1_off10 i) (k1_off10_inb i k1_h1) (fun _ => rfl) squeezes_S1x200x256_S200x256 (off10_at i).1 (off10_at i).2.1 (off10_at i).2.2) $$ H5
  icases H5' with ⟨H5, H5b⟩
  ihave H7' := (carve_block3 (thr d i) (b := wid i) (r := 600) (k := 200) arg7 fullShare Z (k1_off10 i) (k1_off10_inb i k1_h1) (fun _ => rfl) squeezes_S1x200x256_S200x256 (off10_at i).1 (off10_at i).2.1 (off10_at i).2.2) $$ H7
  icases H7' with ⟨H7, H7b⟩
  iapply (wp_copyO 𝒱 (thr d i) bd EC (by decide) ι) $$ [H5 H14 Hv1 HE]
  · isplitl [H5]; · iexact H5
    isplitl [H14]; · iexact H14
    isplitl [Hv1]; · iexact Hv1
    iexact HE
  iintro ⟨H5, H14, Hv1, HE⟩
  iapply (wp_copyO 𝒱 (thr d i) bd EC (by decide) ι) $$ [H14 H7 Hv2 HE]
  · isplitl [H14]; · iexact H14
    isplitl [H7]; · iexact H7
    isplitl [Hv2]; · iexact Hv2
    iexact HE
  iintro ⟨H14, H7, Hv2, HE⟩
  iapply (wp_doneO 𝒱 (thr d i) bd)
  ihave H5 := H5b $$ %_ H5
  ihave H5 := (ownsOn_congr (thr d i) arg5 q' (Y := at3 x) (by
    intro j hj
    have hj := mem_part.mp hj
    show (if 600 ≤ (j 1).val ∧ (j 1).val < 600 + 200 then x (wid i) (600 + ((j 1).val - 600)) (j 2).val else x (j 0).val (j 1).val (j 2).val) = x (j 0).val (j 1).val (j 2).val
    by_cases h : 600 ≤ (j 1).val ∧ (j 1).val < 600 + 200
    · rw [if_pos h, Nat.add_sub_cancel' h.1, ← hj]
    · rw [if_neg h])) $$ H5
  ihave H7 := H7b $$ %_ H7
  ihave H14 := H14b $$ %_ H14
  iapply Hk $$ %(putRows Z 600 200 fun i' j => x (wid i) (600 + i') j) %(out_next (n := 200) hZ fun r _ dd _ => rfl) [H14 H5 H7 Hv1 Hv2 HE]
  isplitl [H14]; · iexists _; iexact H14
  isplitl [H5]; · iexact H5
  isplitl [H7]; · iexact H7
  isplitl [Hv1]; · iexact Hv1
  isplitl [Hv2]; · iexact Hv2
  iexact HE

theorem off11_at : k1_off11 i 0 = wid i ∧ k1_off11 i 1 = 800 ∧ k1_off11 i 2 = 0 := by
  rw [k1_off11_eq]; unfold wid
  refine ⟨?_, rfl, rfl⟩
  show 2 * (i 1).val + (i 0).val = _
  omega

include EC in
set_option maxHeartbeats 800000 in
/-- Rows 800 to 999 of the slots are copied to the merged slots. -/
theorem part7_wp {x Z : ℕ → ℕ → ℕ → EReal} {q' : PosShare TreeShare} {R : PUnit → sProp 𝕄} (hZ : ∀ t < 800, ∀ dd < 256, Z (wid i) t dd = x (wid i) t dd) :
    iprop((∃ f : ℕ → ℕ → EReal, owns (thr d i) arg14 fullShare (at2 f)) ∗ ownsOn (thr d i) arg5 q' (part ![4, 1000, 256] (wid i)) (at3 x) ∗ ownsOn (thr d i) arg7 fullShare (part ![4, 1000, 256] (wid i)) (at3 Z)
        ∗ semVal (thr d i, .dma arg19.sem) 0 ∗ semVal (thr d i, .dma arg20.sem) 0 ∗ Env (thr d i) O W ι)
      ⊢ iprop((∀ Z : ℕ → ℕ → ℕ → EReal, ⌜∀ t < 800 + 200, ∀ dd < 256, Z (wid i) t dd = x (wid i) t dd⌝
          -∗ iprop((∃ f : ℕ → ℕ → EReal, owns (thr d i) arg14 fullShare (at2 f)) ∗ ownsOn (thr d i) arg5 q' (part ![4, 1000, 256] (wid i)) (at3 x) ∗ ownsOn (thr d i) arg7 fullShare (part ![4, 1000, 256] (wid i)) (at3 Z)
            ∗ semVal (thr d i, .dma arg19.sem) 0 ∗ semVal (thr d i, .dma arg20.sem) 0 ∗ Env (thr d i) O W ι) -∗ R ⟨⟩)
        -∗ wp frame (wpE defs 𝒱 (thr d i) bd) Set.univ (k1_part7_skel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1) R) := by
  unfold k1_part7_skel
  iintro ⟨⟨%f, H14⟩, H5, H7, Hv1, Hv2, HE⟩ Hk
  ihave H14' := (carve_top (n := 200) (thr d i) arg14 f inb_S256x256_S200x256_0_0 (fun _ => rfl)) $$ H14
  icases H14' with ⟨H14, H14b⟩
  ihave H5' := (carve_block3 (thr d i) (b := wid i) (r := 800) (k := 200) arg5 q' x (k1_off11 i) (k1_off11_inb i k1_h1) (fun _ => rfl) squeezes_S1x200x256_S200x256 (off11_at i).1 (off11_at i).2.1 (off11_at i).2.2) $$ H5
  icases H5' with ⟨H5, H5b⟩
  ihave H7' := (carve_block3 (thr d i) (b := wid i) (r := 800) (k := 200) arg7 fullShare Z (k1_off11 i) (k1_off11_inb i k1_h1) (fun _ => rfl) squeezes_S1x200x256_S200x256 (off11_at i).1 (off11_at i).2.1 (off11_at i).2.2) $$ H7
  icases H7' with ⟨H7, H7b⟩
  iapply (wp_copyO 𝒱 (thr d i) bd EC (by decide) ι) $$ [H5 H14 Hv1 HE]
  · isplitl [H5]; · iexact H5
    isplitl [H14]; · iexact H14
    isplitl [Hv1]; · iexact Hv1
    iexact HE
  iintro ⟨H5, H14, Hv1, HE⟩
  iapply (wp_copyO 𝒱 (thr d i) bd EC (by decide) ι) $$ [H14 H7 Hv2 HE]
  · isplitl [H14]; · iexact H14
    isplitl [H7]; · iexact H7
    isplitl [Hv2]; · iexact Hv2
    iexact HE
  iintro ⟨H14, H7, Hv2, HE⟩
  iapply (wp_doneO 𝒱 (thr d i) bd)
  ihave H5 := H5b $$ %_ H5
  ihave H5 := (ownsOn_congr (thr d i) arg5 q' (Y := at3 x) (by
    intro j hj
    have hj := mem_part.mp hj
    show (if 800 ≤ (j 1).val ∧ (j 1).val < 800 + 200 then x (wid i) (800 + ((j 1).val - 800)) (j 2).val else x (j 0).val (j 1).val (j 2).val) = x (j 0).val (j 1).val (j 2).val
    by_cases h : 800 ≤ (j 1).val ∧ (j 1).val < 800 + 200
    · rw [if_pos h, Nat.add_sub_cancel' h.1, ← hj]
    · rw [if_neg h])) $$ H5
  ihave H7 := H7b $$ %_ H7
  ihave H14 := H14b $$ %_ H14
  iapply Hk $$ %(putRows Z 800 200 fun i' j => x (wid i) (800 + i') j) %(out_next (n := 200) hZ fun r _ dd _ => rfl) [H14 H5 H7 Hv1 Hv2 HE]
  isplitl [H14]; · iexists _; iexact H14
  isplitl [H5]; · iexact H5
  isplitl [H7]; · iexact H7
  isplitl [Hv1]; · iexact Hv1
  isplitl [Hv2]; · iexact Hv2
  iexact HE

variable (v44 : BitVec 32) (k1_h7 : k1_cond7 v44 = 1#1)

theorem off19_at : k1_off19 i 0 = wid i ∧ k1_off19 i 1 = 0 ∧ k1_off19 i 2 = 0 := by
  rw [k1_off19_eq]; unfold wid
  refine ⟨?_, rfl, rfl⟩
  show 2 * (i 1).val + (i 0).val = _
  omega

theorem off25_at : k1_off25 i 0 = wid i ∧ k1_off25 i 1 = 256 ∧ k1_off25 i 2 = 0 := by
  rw [k1_off25_eq]; unfold wid
  refine ⟨?_, rfl, rfl⟩
  show 2 * (i 1).val + (i 0).val = _
  omega

theorem off31_at : k1_off31 i 0 = wid i ∧ k1_off31 i 1 = 512 ∧ k1_off31 i 2 = 0 := by
  rw [k1_off31_eq]; unfold wid
  refine ⟨?_, rfl, rfl⟩
  show 2 * (i 1).val + (i 0).val = _
  omega

theorem off37_at : k1_off37 i 0 = wid i ∧ k1_off37 i 1 = 768 ∧ k1_off37 i 2 = 0 := by
  rw [k1_off37_eq]; unfold wid
  refine ⟨?_, rfl, rfl⟩
  show 2 * (i 1).val + (i 0).val = _
  omega

/-- The block of the merged slots the first pass writes. -/
abbrev outBlock : Memref sig .scVector .hbm S256x256 .f32 :=
  (arg7.slice (Rect.unit (s := S4x1000x256) (k1_off19 i) S1x256x256.size (k1_off19_inb i k1_h1)) (fun _ => rfl)).squeeze S256x256 squeezes_S1x256x256_S256x256

/-- The accumulator as the copies name it. -/
abbrev accAll : Memref sig .scVector .vmem S256x256 .f32 :=
  arg14.slice (Rect.unit (s := S256x256) ![0, 0] S256x256.size inb_S256x256_S256x256_0_0) (fun _ => rfl)

theorem divided_at (M : ℕ → ℕ) (x : ℕ → ℕ → EReal) (b n : ℕ) : ∀ r < n, ∀ dd < 256, divided M x b n r dd = mergedAt M x (b + r) dd :=
  fun r hr dd _ => if_pos hr

set_option maxHeartbeats 800000 in
/-- A chunk of the counts is cleared. -/
theorem t7_wp (k : Fin k1_t7_loop.trips) (acc : BitVec 32) {R : BitVec 32 → sProp 𝕄} {g : ℕ → EReal} (hg : ∀ t < 16 * k.val, g t = 0) :
    (owns (thr d i) arg13 fullShare (at1 g) : sProp 𝕄)
      ⊢ iprop((∀ (g : ℕ → EReal) acc, ⌜∀ t < 16 * (k.val + 1), g t = 0⌝ -∗ owns (thr d i) arg13 fullShare (at1 g) -∗ R acc)
        -∗ wp frame (wpE defs 𝒱 (thr d i) bd) Set.univ (k1_t7_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 lanesNo k1_h1 v44 k1_h7 k acc) R) := by
  unfold k1_t7_body
  iintro H Hk
  iapply (wp_loadO 𝒱 (thr d i) bd) $$ H
  iintro H
  iapply (wp_storeO 𝒱 (thr d i) bd) $$ H
  iintro H
  iapply (wp_doneO 𝒱 (thr d i) bd)
  have e : (k1_pay31 (F := Ideal) : S16.Idx → EReal) = at1 fun _ => 0 := funext fun _ => lit_zero
  rw [e, store_at1]
  iapply Hk $$ %_ %(0#32) [] H
  ipureintro
  intro t ht
  have e0 : k1_off12 k 0 = 16 * k.val := by rw [k1_off12_eq]; rfl
  rw [e0]
  by_cases h : 16 * k.val ≤ t ∧ t < 16 * k.val + 16
  · rw [if_pos h]
  · rw [if_neg h]; exact hg t (by omega)

set_option maxHeartbeats 800000 in
/-- A chunk of the map is counted. -/
theorem t8_wp {M : ℕ → ℕ} {mt : ℕ → BitVec 32} (hmt : ∀ i < 1008, mt i = BitVec.ofNat 32 (M i)) (hM8 : ∀ i < 1008, M i < 1008)
    (k : Fin k1_t8_loop.trips) (acc : BitVec 32) {R : BitVec 32 → sProp 𝕄} :
    iprop(owns (thr d i) arg11 fullShare (at1 mt) ∗ owns (thr d i) arg13 fullShare (at1 (counts M (min (16 * k.val) 1000))))
      ⊢ iprop((∀ acc, iprop(owns (thr d i) arg11 fullShare (at1 mt) ∗ owns (thr d i) arg13 fullShare (at1 (counts M (min (16 * (k.val + 1)) 1000)))) -∗ R acc)
        -∗ wp frame (wpE defs 𝒱 (thr d i) bd) Set.univ (k1_t8_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 lanesNo k1_h1 v44 k1_h7 k acc) R) := by
  have hk : k.val < 63 := k.isLt
  unfold k1_t8_body
  iintro ⟨H11, H13⟩ Hk
  iapply (wp_loadO 𝒱 (thr d i) bd) $$ H11
  iintro H11
  have e0 : k1_off13 k 0 = 16 * k.val := by rw [k1_off13_eq]; rfl
  rw [load_at1, e0]
  have hchk : k1_chk10 i v44 (at1 fun l => mt (16 * k.val + l)) := fun _ _ a y => by
    have hy : (y 0).val < 16 := (y 0).isLt
    have h8 := hM8 (16 * k.val + (y 0).val) (by omega)
    match a with
    | ⟨0, _⟩ =>
      show (mt (16 * k.val + (y 0).val)).toNat < 1008
      rw [hmt _ (by omega), BitVec.toNat_ofNat]
      omega
  iapply (wp_assume 𝒱 (thr d i) bd Set.univ hchk)
  iapply (wp_scatterO 𝒱 (thr d i) bd) $$ H13
  iintro H13
  ihave H13 := (owns_congr (thr d i) arg13 fullShare (count_step M mt hmt hM8 k _)) $$ H13
  iapply (wp_doneO 𝒱 (thr d i) bd)
  iapply Hk $$ %(0#32) [H11 H13]
  isplitl [H11]; · iexact H11
  iexact H13

include EC in
set_option maxHeartbeats 1600000 in
/-- The counts and the first pass, to the issue of its copy. -/
theorem part8_wp {M : ℕ → ℕ} {mt : ℕ → BitVec 32} {cn : ℕ → EReal} {x Z : ℕ → ℕ → ℕ → EReal} {q' : PosShare TreeShare} {R : (Σ' (_ : FVec Ideal S16 .f32), FVec Ideal S16 .f32) → sProp 𝕄}
    (hmt : ∀ i < 1008, mt i = BitVec.ofNat 32 (M i)) (hM : ∀ i < 1000, M i < 1000) (hM8 : ∀ i < 1008, M i < 1008) :
    iprop((owns (thr d i) arg11 fullShare (at1 mt) ∗ owns (thr d i) arg13 fullShare (at1 cn) ∗ (∃ f : ℕ → ℕ → EReal, owns (thr d i) arg14 fullShare (at2 f)) ∗ (∃ w : ℕ → EReal, owns (thr d i) arg15 fullShare (at1 w))
        ∗ ownsOn (thr d i) arg5 q' (part ![4, 1000, 256] (wid i)) (at3 x) ∗ semVal (thr d i, .dma arg21.sem) 0 ∗ semVal (thr d i, .dma arg22.sem) 0 ∗ Env (thr d i) O W ι) ∗ ownsOn (thr d i) arg7 fullShare (part ![4, 1000, 256] (wid i)) (at3 Z))
      ⊢ iprop((iprop((owns (thr d i) arg11 fullShare (at1 mt) ∗ owns (thr d i) arg13 fullShare (at1 (counts M 1000)) ∗ (∃ w : ℕ → EReal, owns (thr d i) arg15 fullShare (at1 w))
        ∗ ownsOn (thr d i) arg5 q' (part ![4, 1000, 256] (wid i)) (at3 x) ∗ semVal (thr d i, .dma arg21.sem) 0 ∗ Env (thr d i) O W ι) ∗ Sent (thr d i) EC (accAll arg14) (outBlock i arg7 k1_h1) arg22.sem ι fullShare (at2 (divided M (x (wid i)) 0 256))
            ∗ (∀ Y : ℕ → ℕ → EReal, owns (thr d i) (accAll arg14) fullShare (at2 Y) -∗ owns (thr d i) arg14 fullShare (at2 fun r dd => if r < 256 then Y r dd else divided M (x (wid i)) 0 256 r dd))
            ∗ (∀ Y : ℕ → ℕ → EReal, owns (thr d i) (outBlock i arg7 k1_h1) fullShare (at2 Y) -∗ ownsOn (thr d i) arg7 fullShare (part ![4, 1000, 256] (wid i)) (at3 fun a i j => if 0 ≤ i ∧ i < 0 + 256 then Y (i - 0) j else Z a i j)))
          -∗ R ⟨k1_pay30 (F := Ideal), k1_pay31 (F := Ideal)⟩)
        -∗ wp frame (wpE defs 𝒱 (thr d i) bd) Set.univ (k1_part8_skel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 lanesNo k1_h1 v44 k1_h7) R) := by
  unfold k1_part8_skel
  iintro ⟨⟨H11, H13, ⟨%f, H14⟩, H15, H5, Hv1, Hv2, HE⟩, H7⟩ Hk
  iapply (Scf.wp_for_bind frame (wpE defs 𝒱 (thr d i) bd) Set.univ 0#32 (Scalar.addi 0#32 63#32) 1#32 (k1_t7_ok i k1_h1) _ _
    (fun k acc => iprop(∃ g : ℕ → EReal, ⌜∀ t < 16 * k, g t = 0⌝ ∗ owns (thr d i) arg13 fullShare (at1 g))) ?trip7) $$ [H13]
  case trip7 =>
    intro k acc
    iintro ⟨%g, %hg, H⟩
    iapply (t7_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 k acc hg) $$ H
    iintro %g2 %acc2 %hg2 H
    iexists g2
    isplitr
    · ipureintro; exact hg2
    · iexact H
  · iexists cn
    isplitr
    · ipureintro; exact fun t ht => by omega
    · iexact H13
  iintro %acc7 ⟨%g, %hg, H13⟩
  have e7 : Scf.trips 0#32 (Scalar.addi 0#32 63#32) 1#32 = 63 := by decide
  rw [e7] at hg
  ihave H13 := (owns_congr (thr d i) arg13 fullShare (Y := at1 (counts M (min (16 * 0) 1000))) (at1_congr fun t ht => (hg t ht).trans (Finset.sum_range_zero _).symm)) $$ H13
  iapply (Scf.wp_for_bind frame (wpE defs 𝒱 (thr d i) bd) Set.univ 0#32 (Scalar.addi 0#32 63#32) 1#32 (k1_t8_ok i k1_h1) _ _
    (fun k acc => iprop(owns (thr d i) arg11 fullShare (at1 mt) ∗ owns (thr d i) arg13 fullShare (at1 (counts M (min (16 * k) 1000))))) ?trip8) $$ [H11 H13]
  case trip8 =>
    intro k acc
    iintro H
    iapply (t8_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 hmt hM8 k acc) $$ H
    iintro %acc2 H
    iexact H
  · isplitl [H11]; · iexact H11
    iexact H13
  iintro %acc8 ⟨H11, H13⟩
  rw [e7]
  ihave H13 := (owns_congr (thr d i) arg13 fullShare (Y := at1 (counts M 1000)) rfl) $$ H13
  iapply (Scf.wp_for_bind frame (wpE defs 𝒱 (thr d i) bd) Set.univ 0#32 (Scalar.addi 0#32 256#32) 1#32 (k1_t9_ok i k1_h1) _ _
    (fun k acc => iprop(∃ f : ℕ → ℕ → EReal, ⌜∀ r < k, ∀ dd < 256, f r dd = 0⌝ ∗ owns (thr d i) arg14 fullShare (at2 f))) ?tripz) $$ [H14]
  case tripz =>
    intro k acc
    iintro ⟨%f, %hf, H⟩
    iapply (t9_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 k acc) $$ H
    iintro %acc2 H
    iexists _
    isplitr
    · ipureintro; exact zero_next hf
    · iexact H
  · iexists f
    isplitr
    · ipureintro; exact fun r hr => absurd hr (Nat.not_lt_zero r)
    · iexact H14
  iintro %accz ⟨%f1, %hf1, H14⟩
  ihave H14 := (owns_congr (thr d i) arg14 fullShare (sums_zero M (x (wid i)) 0 hf1)) $$ H14
  iapply (Scf.wp_for_bind frame (wpE defs 𝒱 (thr d i) bd) Set.univ 0#32 (Scalar.addi 0#32 1000#32) 1#32 (k1_t11_ok i k1_h1) _ _
    (fun k acc => iprop(owns (thr d i) arg11 fullShare (at1 mt) ∗ owns (thr d i) arg14 fullShare (at2 fun r dd => sums M (x (wid i)) k (0 + r) dd) ∗ (∃ w : ℕ → EReal, owns (thr d i) arg15 fullShare (at1 w))
        ∗ ownsOn (thr d i) arg5 q' (part ![4, 1000, 256] (wid i)) (at3 x) ∗ semVal (thr d i, .dma arg21.sem) 0 ∗ Env (thr d i) O W ι)) ?tripa) $$ [H11 H14 H15 H5 Hv1 HE]
  case tripa =>
    intro k acc
    iintro H
    iapply (t11_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 hmt hM k acc) $$ H
    iintro %acc2 H
    iexact H
  · isplitl [H11]; · iexact H11
    isplitl [H14]; · iexact H14
    isplitl [H15]; · iexact H15
    isplitl [H5]; · iexact H5
    isplitl [Hv1]; · iexact Hv1
    iexact HE
  iintro %acca ⟨H11, H14, H15, H5, Hv1, HE⟩
  have ea : Scf.trips 0#32 (Scalar.addi 0#32 1000#32) 1#32 = 1000 := by decide
  rw [ea]
  rw [divided_zero]
  iapply (Scf.wp_for_bind frame (wpE defs 𝒱 (thr d i) bd) Set.univ 0#32 (Scalar.addi 0#32 256#32) 1#32 (k1_t13_ok i k1_h1) _ _
    (fun k acc => iprop(owns (thr d i) arg13 fullShare (at1 (counts M 1000)) ∗ owns (thr d i) arg14 fullShare (at2 (divided M (x (wid i)) 0 k)))) ?tripm) $$ [H13 H14]
  case tripm =>
    intro k acc
    iintro H
    iapply (t13_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 k acc) $$ H
    iintro %acc2 ⟨H13, H14⟩
    isplitl [H13]; · iexact H13
    iapply (owns_congr (thr d i) arg14 fullShare (divided_next M (x (wid i)) 0 k.val)) $$ H14
  · isplitl [H13]; · iexact H13
    iexact H14
  iintro %accm ⟨H13, H14⟩
  have em : Scf.trips 0#32 (Scalar.addi 0#32 256#32) 1#32 = 256 := by decide
  rw [em]
  ihave H14' := (carve_top (n := 256) (thr d i) arg14 (divided M (x (wid i)) 0 256) inb_S256x256_S256x256_0_0 (fun _ => rfl)) $$ H14
  icases H14' with ⟨H14, H14b⟩
  ihave H7' := (carve_block3 (thr d i) (b := wid i) (r := 0) (k := 256) arg7 fullShare _ (k1_off19 i) (k1_off19_inb i k1_h1) (fun _ => rfl) squeezes_S1x256x256_S256x256 (off19_at i).1 (off19_at i).2.1 (off19_at i).2.2) $$ H7
  icases H7' with ⟨H7, H7b⟩
  iapply (wp_enqO 𝒱 (thr d i) bd EC (by decide) ι) $$ [H14 H7 Hv2]
  · isplitl [H14]; · iexact H14
    isplitl [H7]; · iexact H7
    iexact Hv2
  iintro HS
  iapply (wp_doneO 𝒱 (thr d i) bd)
  iapply Hk
  isplitl [H11 H13 H15 H5 Hv1 HE]
  · isplitl [H11]; · iexact H11
    isplitl [H13]; · iexact H13
    isplitl [H15]; · iexact H15
    isplitl [H5]; · iexact H5
    isplitl [Hv1]; · iexact Hv1
    iexact HE
  isplitl [HS]; · iexact HS
  isplitl [H14b]; · iexact H14b
  iexact H7b

include EC in
set_option maxHeartbeats 1600000 in
/-- The wait for the first block and the second pass. -/
theorem part9_wp {M : ℕ → ℕ} {mt : ℕ → BitVec 32} {x Z : ℕ → ℕ → ℕ → EReal} {q' : PosShare TreeShare} {R : PUnit → sProp 𝕄}
    (hmt : ∀ i < 1008, mt i = BitVec.ofNat 32 (M i)) (hM : ∀ i < 1000, M i < 1000) :
    iprop((owns (thr d i) arg11 fullShare (at1 mt) ∗ owns (thr d i) arg13 fullShare (at1 (counts M 1000)) ∗ (∃ w : ℕ → EReal, owns (thr d i) arg15 fullShare (at1 w))
        ∗ ownsOn (thr d i) arg5 q' (part ![4, 1000, 256] (wid i)) (at3 x) ∗ semVal (thr d i, .dma arg21.sem) 0 ∗ Env (thr d i) O W ι) ∗ Sent (thr d i) EC (accAll arg14) (outBlock i arg7 k1_h1) arg22.sem ι fullShare (at2 (divided M (x (wid i)) 0 256))
            ∗ (∀ Y : ℕ → ℕ → EReal, owns (thr d i) (accAll arg14) fullShare (at2 Y) -∗ owns (thr d i) arg14 fullShare (at2 fun r dd => if r < 256 then Y r dd else divided M (x (wid i)) 0 256 r dd))
            ∗ (∀ Y : ℕ → ℕ → EReal, owns (thr d i) (outBlock i arg7 k1_h1) fullShare (at2 Y) -∗ ownsOn (thr d i) arg7 fullShare (part ![4, 1000, 256] (wid i)) (at3 fun a i j => if 0 ≤ i ∧ i < 0 + 256 then Y (i - 0) j else Z a i j)))
      ⊢ iprop((∀ Z : ℕ → ℕ → ℕ → EReal, ⌜∀ t < 512, ∀ dd < 256, Z (wid i) t dd = mergedAt M (x (wid i)) t dd⌝ -∗ iprop((owns (thr d i) arg11 fullShare (at1 mt) ∗ owns (thr d i) arg13 fullShare (at1 (counts M 1000)) ∗ (∃ f : ℕ → ℕ → EReal, owns (thr d i) arg14 fullShare (at2 f)) ∗ (∃ w : ℕ → EReal, owns (thr d i) arg15 fullShare (at1 w))
        ∗ ownsOn (thr d i) arg5 q' (part ![4, 1000, 256] (wid i)) (at3 x) ∗ semVal (thr d i, .dma arg21.sem) 0 ∗ semVal (thr d i, .dma arg22.sem) 0 ∗ Env (thr d i) O W ι) ∗ ownsOn (thr d i) arg7 fullShare (part ![4, 1000, 256] (wid i)) (at3 Z)) -∗ R ⟨⟩)
        -∗ wp frame (wpE defs 𝒱 (thr d i) bd) Set.univ (k1_part9_skel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) (k1_pay31 (F := Ideal))) R) := by
  unfold k1_part9_skel
  iintro ⟨⟨H11, H13, H15, H5, Hv1, HE⟩, HS, H14b, H7b⟩ Hk
  iapply (wp_waitO 𝒱 (thr d i) bd EC ι) $$ [HS HE]
  · isplitl [HS]; · iexact HS
    iexact HE
  iintro ⟨H14, H7, Hv2, HE⟩
  ihave H7 := H7b $$ %_ H7
  ihave H14 := H14b $$ %_ H14
  have hZ := out_next (T := mergedAt M (x (wid i))) (Z := Z) (w := wid i) (b := 0) (fun t ht => absurd ht (Nat.not_lt_zero t)) (divided_at M (x (wid i)) 0 256)
  ihave H14' := (forget2 (thr d i) arg14 _) $$ H14
  icases H14' with ⟨%f2, H14⟩
  iapply (Scf.wp_for_bind frame (wpE defs 𝒱 (thr d i) bd) Set.univ 0#32 (Scalar.addi 0#32 256#32) 1#32 (k1_t15_ok i k1_h1) _ _
    (fun k acc => iprop(∃ f : ℕ → ℕ → EReal, ⌜∀ r < k, ∀ dd < 256, f r dd = 0⌝ ∗ owns (thr d i) arg14 fullShare (at2 f))) ?tripz) $$ [H14]
  case tripz =>
    intro k acc
    iintro ⟨%f, %hf, H⟩
    iapply (t15_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 k acc) $$ H
    iintro %acc2 H
    iexists _
    isplitr
    · ipureintro; exact zero_next hf
    · iexact H
  · iexists f2
    isplitr
    · ipureintro; exact fun r hr => absurd hr (Nat.not_lt_zero r)
    · iexact H14
  iintro %accz ⟨%f1, %hf1, H14⟩
  ihave H14 := (owns_congr (thr d i) arg14 fullShare (sums_zero M (x (wid i)) 256 hf1)) $$ H14
  iapply (Scf.wp_for_bind frame (wpE defs 𝒱 (thr d i) bd) Set.univ 0#32 (Scalar.addi 0#32 1000#32) 1#32 (k1_t17_ok i k1_h1) _ _
    (fun k acc => iprop(owns (thr d i) arg11 fullShare (at1 mt) ∗ owns (thr d i) arg14 fullShare (at2 fun r dd => sums M (x (wid i)) k (256 + r) dd) ∗ (∃ w : ℕ → EReal, owns (thr d i) arg15 fullShare (at1 w))
        ∗ ownsOn (thr d i) arg5 q' (part ![4, 1000, 256] (wid i)) (at3 x) ∗ semVal (thr d i, .dma arg21.sem) 0 ∗ Env (thr d i) O W ι)) ?tripa) $$ [H11 H14 H15 H5 Hv1 HE]
  case tripa =>
    intro k acc
    iintro H
    iapply (t17_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 hmt hM k acc) $$ H
    iintro %acc2 H
    iexact H
  · isplitl [H11]; · iexact H11
    isplitl [H14]; · iexact H14
    isplitl [H15]; · iexact H15
    isplitl [H5]; · iexact H5
    isplitl [Hv1]; · iexact Hv1
    iexact HE
  iintro %acca ⟨H11, H14, H15, H5, Hv1, HE⟩
  have ea : Scf.trips 0#32 (Scalar.addi 0#32 1000#32) 1#32 = 1000 := by decide
  rw [ea]
  rw [divided_zero]
  iapply (Scf.wp_for_bind frame (wpE defs 𝒱 (thr d i) bd) Set.univ 0#32 (Scalar.addi 0#32 256#32) 1#32 (k1_t19_ok i k1_h1) _ _
    (fun k acc => iprop(owns (thr d i) arg13 fullShare (at1 (counts M 1000)) ∗ owns (thr d i) arg14 fullShare (at2 (divided M (x (wid i)) 256 k)))) ?tripm) $$ [H13 H14]
  case tripm =>
    intro k acc
    iintro H
    iapply (t19_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 k acc) $$ H
    iintro %acc2 ⟨H13, H14⟩
    isplitl [H13]; · iexact H13
    iapply (owns_congr (thr d i) arg14 fullShare (divided_next M (x (wid i)) 256 k.val)) $$ H14
  · isplitl [H13]; · iexact H13
    iexact H14
  iintro %accm ⟨H13, H14⟩
  have em : Scf.trips 0#32 (Scalar.addi 0#32 256#32) 1#32 = 256 := by decide
  rw [em]
  ihave H14' := (carve_top (n := 256) (thr d i) arg14 (divided M (x (wid i)) 256 256) inb_S256x256_S256x256_0_0 (fun _ => rfl)) $$ H14
  icases H14' with ⟨H14, H14b⟩
  ihave H7' := (carve_block3 (thr d i) (b := wid i) (r := 256) (k := 256) arg7 fullShare _ (k1_off25 i) (k1_off25_inb i k1_h1) (fun _ => rfl) squeezes_S1x256x256_S256x256 (off25_at i).1 (off25_at i).2.1 (off25_at i).2.2) $$ H7
  icases H7' with ⟨H7, H7b⟩
  iapply (wp_copyO 𝒱 (thr d i) bd EC (by decide) ι) $$ [H14 H7 Hv2 HE]
  · isplitl [H14]; · iexact H14
    isplitl [H7]; · iexact H7
    isplitl [Hv2]; · iexact Hv2
    iexact HE
  iintro ⟨H14, H7, Hv2, HE⟩
  ihave H7 := H7b $$ %_ H7
  ihave H14 := H14b $$ %_ H14
  ihave H14' := (forget2 (thr d i) arg14 _) $$ H14
  icases H14' with ⟨%f2, H14⟩
  iapply (wp_doneO 𝒱 (thr d i) bd)
  iapply Hk $$ %(putRows (putRows Z 0 256 (divided M (x (wid i)) 0 256)) 256 256 (divided M (x (wid i)) 256 256)) %(out_next (n := 256) (b := 256) hZ (divided_at M (x (wid i)) 256 256)) [H11 H13 H14 H15 H5 Hv1 Hv2 HE H7]
  isplitr [H7]
  · isplitl [H11]; · iexact H11
    isplitl [H13]; · iexact H13
    isplitl [H14]; · iexists _; iexact H14
    isplitl [H15]; · iexact H15
    isplitl [H5]; · iexact H5
    isplitl [Hv1]; · iexact Hv1
    isplitl [Hv2]; · iexact Hv2
    iexact HE
  iexact H7

include EC in
set_option maxHeartbeats 1600000 in
/-- The third pass, and the accumulator cleared for the last. -/
theorem part10_wp {M : ℕ → ℕ} {mt : ℕ → BitVec 32} {x Z : ℕ → ℕ → ℕ → EReal} {q' : PosShare TreeShare} {R : (Σ' (_ : BitVec 32), BitVec 32) → sProp 𝕄}
    (hmt : ∀ i < 1008, mt i = BitVec.ofNat 32 (M i)) (hM : ∀ i < 1000, M i < 1000) (hZ : ∀ t < 512, ∀ dd < 256, Z (wid i) t dd = mergedAt M (x (wid i)) t dd) :
    iprop((owns (thr d i) arg11 fullShare (at1 mt) ∗ owns (thr d i) arg13 fullShare (at1 (counts M 1000)) ∗ (∃ f : ℕ → ℕ → EReal, owns (thr d i) arg14 fullShare (at2 f)) ∗ (∃ w : ℕ → EReal, owns (thr d i) arg15 fullShare (at1 w))
        ∗ ownsOn (thr d i) arg5 q' (part ![4, 1000, 256] (wid i)) (at3 x) ∗ semVal (thr d i, .dma arg21.sem) 0 ∗ semVal (thr d i, .dma arg22.sem) 0 ∗ Env (thr d i) O W ι) ∗ ownsOn (thr d i) arg7 fullShare (part ![4, 1000, 256] (wid i)) (at3 Z))
      ⊢ iprop((∀ Z : ℕ → ℕ → ℕ → EReal, ⌜∀ t < 768, ∀ dd < 256, Z (wid i) t dd = mergedAt M (x (wid i)) t dd⌝ -∗ iprop((owns (thr d i) arg11 fullShare (at1 mt) ∗ owns (thr d i) arg13 fullShare (at1 (counts M 1000)) ∗ owns (thr d i) arg14 fullShare (at2 fun r dd => sums M (x (wid i)) 0 (768 + r) dd) ∗ (∃ w : ℕ → EReal, owns (thr d i) arg15 fullShare (at1 w))
        ∗ ownsOn (thr d i) arg5 q' (part ![4, 1000, 256] (wid i)) (at3 x) ∗ semVal (thr d i, .dma arg21.sem) 0 ∗ semVal (thr d i, .dma arg22.sem) 0 ∗ Env (thr d i) O W ι) ∗ ownsOn (thr d i) arg7 fullShare (part ![4, 1000, 256] (wid i)) (at3 Z)) -∗ R ⟨0#32, 0#32⟩)
        -∗ wp frame (wpE defs 𝒱 (thr d i) bd) Set.univ (k1_part10_skel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 (k1_pay30 (F := Ideal)) (k1_pay31 (F := Ideal))) R) := by
  unfold k1_part10_skel
  iintro ⟨⟨H11, H13, ⟨%f, H14⟩, H15, H5, Hv1, Hv2, HE⟩, H7⟩ Hk
  iapply (Scf.wp_for_bind frame (wpE defs 𝒱 (thr d i) bd) Set.univ 0#32 (Scalar.addi 0#32 256#32) 1#32 (k1_t21_ok i k1_h1) _ _
    (fun k acc => iprop(∃ f : ℕ → ℕ → EReal, ⌜∀ r < k, ∀ dd < 256, f r dd = 0⌝ ∗ owns (thr d i) arg14 fullShare (at2 f))) ?tripz) $$ [H14]
  case tripz =>
    intro k acc
    iintro ⟨%f, %hf, H⟩
    iapply (t21_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 k acc) $$ H
    iintro %acc2 H
    iexists _
    isplitr
    · ipureintro; exact zero_next hf
    · iexact H
  · iexists f
    isplitr
    · ipureintro; exact fun r hr => absurd hr (Nat.not_lt_zero r)
    · iexact H14
  iintro %accz ⟨%f1, %hf1, H14⟩
  ihave H14 := (owns_congr (thr d i) arg14 fullShare (sums_zero M (x (wid i)) 512 hf1)) $$ H14
  iapply (Scf.wp_for_bind frame (wpE defs 𝒱 (thr d i) bd) Set.univ 0#32 (Scalar.addi 0#32 1000#32) 1#32 (k1_t23_ok i k1_h1) _ _
    (fun k acc => iprop(owns (thr d i) arg11 fullShare (at1 mt) ∗ owns (thr d i) arg14 fullShare (at2 fun r dd => sums M (x (wid i)) k (512 + r) dd) ∗ (∃ w : ℕ → EReal, owns (thr d i) arg15 fullShare (at1 w))
        ∗ ownsOn (thr d i) arg5 q' (part ![4, 1000, 256] (wid i)) (at3 x) ∗ semVal (thr d i, .dma arg21.sem) 0 ∗ Env (thr d i) O W ι)) ?tripa) $$ [H11 H14 H15 H5 Hv1 HE]
  case tripa =>
    intro k acc
    iintro H
    iapply (t23_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 hmt hM k acc) $$ H
    iintro %acc2 H
    iexact H
  · isplitl [H11]; · iexact H11
    isplitl [H14]; · iexact H14
    isplitl [H15]; · iexact H15
    isplitl [H5]; · iexact H5
    isplitl [Hv1]; · iexact Hv1
    iexact HE
  iintro %acca ⟨H11, H14, H15, H5, Hv1, HE⟩
  have ea : Scf.trips 0#32 (Scalar.addi 0#32 1000#32) 1#32 = 1000 := by decide
  rw [ea]
  rw [divided_zero]
  iapply (Scf.wp_for_bind frame (wpE defs 𝒱 (thr d i) bd) Set.univ 0#32 (Scalar.addi 0#32 256#32) 1#32 (k1_t25_ok i k1_h1) _ _
    (fun k acc => iprop(owns (thr d i) arg13 fullShare (at1 (counts M 1000)) ∗ owns (thr d i) arg14 fullShare (at2 (divided M (x (wid i)) 512 k)))) ?tripm) $$ [H13 H14]
  case tripm =>
    intro k acc
    iintro H
    iapply (t25_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 k acc) $$ H
    iintro %acc2 ⟨H13, H14⟩
    isplitl [H13]; · iexact H13
    iapply (owns_congr (thr d i) arg14 fullShare (divided_next M (x (wid i)) 512 k.val)) $$ H14
  · isplitl [H13]; · iexact H13
    iexact H14
  iintro %accm ⟨H13, H14⟩
  have em : Scf.trips 0#32 (Scalar.addi 0#32 256#32) 1#32 = 256 := by decide
  rw [em]
  ihave H14' := (carve_top (n := 256) (thr d i) arg14 (divided M (x (wid i)) 512 256) inb_S256x256_S256x256_0_0 (fun _ => rfl)) $$ H14
  icases H14' with ⟨H14, H14b⟩
  ihave H7' := (carve_block3 (thr d i) (b := wid i) (r := 512) (k := 256) arg7 fullShare _ (k1_off31 i) (k1_off31_inb i k1_h1) (fun _ => rfl) squeezes_S1x256x256_S256x256 (off31_at i).1 (off31_at i).2.1 (off31_at i).2.2) $$ H7
  icases H7' with ⟨H7, H7b⟩
  iapply (wp_copyO 𝒱 (thr d i) bd EC (by decide) ι) $$ [H14 H7 Hv2 HE]
  · isplitl [H14]; · iexact H14
    isplitl [H7]; · iexact H7
    isplitl [Hv2]; · iexact Hv2
    iexact HE
  iintro ⟨H14, H7, Hv2, HE⟩
  ihave H7 := H7b $$ %_ H7
  ihave H14 := H14b $$ %_ H14
  ihave H14' := (forget2 (thr d i) arg14 _) $$ H14
  icases H14' with ⟨%f2, H14⟩
  iapply (Scf.wp_for_bind frame (wpE defs 𝒱 (thr d i) bd) Set.univ 0#32 (Scalar.addi 0#32 256#32) 1#32 (k1_t27_ok i k1_h1) _ _
    (fun k acc => iprop(∃ f : ℕ → ℕ → EReal, ⌜∀ r < k, ∀ dd < 256, f r dd = 0⌝ ∗ owns (thr d i) arg14 fullShare (at2 f))) ?tripz) $$ [H14]
  case tripz =>
    intro k acc
    iintro ⟨%f, %hf, H⟩
    iapply (t27_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 v44 k1_h7 k acc) $$ H
    iintro %acc2 H
    iexists _
    isplitr
    · ipureintro; exact zero_next hf
    · iexact H
  · iexists f2
    isplitr
    · ipureintro; exact fun r hr => absurd hr (Nat.not_lt_zero r)
    · iexact H14
  iintro %accz ⟨%f1, %hf1, H14⟩
  ihave H14 := (owns_congr (thr d i) arg14 fullShare (sums_zero M (x (wid i)) 768 hf1)) $$ H14
  iapply (wp_doneO 𝒱 (thr d i) bd)
  iapply Hk $$ %(putRows Z 512 256 (divided M (x (wid i)) 512 256)) %(out_next (n := 256) (b := 512) hZ (divided_at M (x (wid i)) 512 256)) [H11 H13 H14 H15 H5 Hv1 Hv2 HE H7]
  isplitr [H7]
  · isplitl [H11]; · iexact H11
    isplitl [H13]; · iexact H13
    isplitl [H14]; · iexact H14
    isplitl [H15]; · iexact H15
    isplitl [H5]; · iexact H5
    isplitl [Hv1]; · iexact Hv1
    isplitl [Hv2]; · iexact Hv2
    iexact HE
  iexact H7

end Cert.Proof.Scan

end
-- ==== Proof.Body.lean ====
/-
  The whole program of a subcore: the greedy phase, the map's copy, and the merged slots of its batch.
-/
module

public import proofs.«01_k».proof.Proof.Merge

@[expose] public section

noncomputable section

namespace Cert.Proof.Scan

open Cert.KernelIdeal Cert.KernelIdeal.Gen Cert.Proof.Rules Cert.Proof.Vec Cert.Proof.Greedy
open Idealize.ShloMosaic
open Idealize.SL
open Idealize.SL.BI (sProp)
open scoped Idealize.SL.BI
open Idealize.SL.BI.BIBase Idealize.SL.BI.Laws Idealize.SL.Sem Idealize.SL.ProofMode
open Idealize.SL.RA Idealize.ShloMosaic.SparseCore Idealize.ShloMosaic.Transfers

/-- A matrix's entries by natural indices. -/
def of2 {α : Type} [Inhabited α] {m n : ℕ} (X : (⟨2, ![m, n]⟩ : Shape).Idx → α) : ℕ → ℕ → α :=
  fun a b => if h : a < m ∧ b < n then X (ix2 ⟨a, h.1⟩ ⟨b, h.2⟩) else default

theorem of2_at {α : Type} [Inhabited α] {m n : ℕ} (X : (⟨2, ![m, n]⟩ : Shape).Idx → α) (a : Fin m) (b : Fin n) : of2 X a.val b.val = X (ix2 a b) := by
  unfold of2; rw [dif_pos ⟨a.isLt, b.isLt⟩]

theorem at2_of2 {α : Type} [Inhabited α] {m n : ℕ} (X : (⟨2, ![m, n]⟩ : Shape).Idx → α) : at2 (of2 X) = X := by
  funext j
  have := of2_at X (j 0) (j 1)
  unfold at2; rw [this]; exact congrArg X (ix2_eta j)

/-- Entries of a rank-three array by natural indices. -/
def of3 {α : Type} [Inhabited α] {l m n : ℕ} (X : (⟨3, ![l, m, n]⟩ : Shape).Idx → α) : ℕ → ℕ → ℕ → α :=
  fun a b c => if h : a < l ∧ b < m ∧ c < n then X (ix3 ⟨a, h.1⟩ ⟨b, h.2.1⟩ ⟨c, h.2.2⟩) else default

theorem of3_at {α : Type} [Inhabited α] {l m n : ℕ} (X : (⟨3, ![l, m, n]⟩ : Shape).Idx → α) (a : Fin l) (b : Fin m) (c : Fin n) : of3 X a.val b.val c.val = X (ix3 a b c) := by
  unfold of3; rw [dif_pos ⟨a.isLt, b.isLt, c.isLt⟩]

theorem at3_of3 {α : Type} [Inhabited α] {l m n : ℕ} (X : (⟨3, ![l, m, n]⟩ : Shape).Idx → α) : at3 (of3 X) = X := by
  funext j
  have := of3_at X (j 0) (j 1) (j 2)
  unfold at3; rw [this]; exact congrArg X (ix3_eta j)

theorem mergedAt_id (x : ℕ → ℕ → EReal) {t : ℕ} (ht : t < 1000) (dd : ℕ) : x t dd = mergedAt id x t dd := by
  have e : ∀ f : ℕ → EReal, (∑ i ∈ Finset.range 1000, if id i = t then f i else 0) = f t := fun f => by
    show (∑ i ∈ Finset.range 1000, if i = t then f i else 0) = f t
    rw [Finset.sum_eq_single t (fun b _ hb => if_neg hb) (fun h => absurd (Finset.mem_range.mpr ht) h)]
    exact if_pos rfl
  unfold mergedAt sums counts recip
  rw [e (fun i => x i dd), e (fun _ => 1), max_self]
  have h1 : Ideal.div 1 1 = 1 := by
    unfold Ideal.div
    rw [if_neg one_ne_zero, one_mul, inv_one]
  rw [h1, mul_one]

variable {Ix : Type} [DecidableEq Ix] {Name : Type} [DecidableEq Name]
variable {U : Type} [URA U] {Lvl : Type} [Preorder Lvl]
variable {defs : Defs nD τ sig (Elt Ideal) Λ₀} (𝒱 : Variants) (d : Fin nD) (i : grid1.Coords) (bd : Option 𝒱.V)

local notation "𝕄" => MT nD τ sig Ix (Elt Ideal) Name U Lvl

variable (EC : UEmb Counters (MT nD τ sig Ix (Elt Ideal) Name U Lvl)) [Infinite Name] [EC.LandsIn (upEmb : UEmb _ (MT nD τ sig Ix (Elt Ideal) Name U Lvl))] (O : CellTallies nD τ sig Ix) (W : Waits sig Ix) (ι : Ix)

variable (arg2 : Memref sig .scVector .hbm S4x1000x1008 .f32) (harg2 : arg2.IsWhole) (arg3 : Memref sig .scVector .hbm S4x1008 .f32) (harg3 : arg3.IsWhole)
  (arg4 : Memref sig .scVector .hbm S4x1008 .i32) (harg4 : arg4.IsWhole) (arg5 : Memref sig .scVector .hbm S4x1000x256 .f32) (harg5 : arg5.IsWhole)
  (arg6 : Memref sig .scVector .hbm S4x1008 .i32) (harg6 : arg6.IsWhole) (arg7 : Memref sig .scVector .hbm S4x1000x256 .f32) (harg7 : arg7.IsWhole)
  (arg8 : Memref sig .scVector .vmem S1008 .f32) (harg8 : arg8.IsWhole) (arg9 : Memref sig .scVector .vmem S1008 .i32) (harg9 : arg9.IsWhole)
  (arg10 : Memref sig .scVector .vmem S1008 .f32) (harg10 : arg10.IsWhole) (arg11 : Memref sig .scVector .vmem S1008 .i32) (harg11 : arg11.IsWhole)
  (arg12 : Memref sig .scVector .vmem S1008 .f32) (harg12 : arg12.IsWhole) (arg13 : Memref sig .scVector .vmem S1008 .f32) (harg13 : arg13.IsWhole)
  (arg14 : Memref sig .scVector .vmem S256x256 .f32) (harg14 : arg14.IsWhole) (arg15 : Memref sig .scVector .vmem S256 .f32) (harg15 : arg15.IsWhole)
  (arg16 : Memref sig .scVector .smem S1 .i32) (harg16 : arg16.IsWhole)
  (arg17 arg18 arg19 arg20 arg21 arg22 arg23 : DmaSems sig S_) (k1_h1 : k1_cond1 i = 1#1)

theorem forget1 {α : EltTy} [Inhabited (Elt Ideal α)] {n : ℕ} {sp : Space} (c : Thread nD τ) (m : Memref sig c.2.kind sp ⟨1, ![n]⟩ α) :
    iprop(∃ Y, owns c m fullShare Y) ⊢ (iprop(∃ f : ℕ → Elt Ideal α, owns c m fullShare (at1 f)) : sProp 𝕄) := by
  iintro ⟨%Y, H⟩
  iexists (of1 Y)
  iapply (owns_congr c m fullShare (at1_of1 Y).symm) $$ H

theorem forgetM {α : EltTy} [Inhabited (Elt Ideal α)] {n k : ℕ} {sp : Space} (c : Thread nD τ) (m : Memref sig c.2.kind sp ⟨2, ![n, k]⟩ α) :
    iprop(∃ Y, owns c m fullShare Y) ⊢ (iprop(∃ f : ℕ → ℕ → Elt Ideal α, owns c m fullShare (at2 f)) : sProp 𝕄) := by
  iintro ⟨%Y, H⟩
  iexists (of2 Y)
  iapply (owns_congr c m fullShare (at2_of2 Y).symm) $$ H

theorem forgetS (c : Thread nD τ) (m : Memref sig c.2.kind .smem S1 .i32) :
    iprop(∃ Y, owns c m fullShare Y) ⊢ (iprop(∃ fl : BitVec 32, owns c m fullShare (at1 fun _ => fl)) : sProp 𝕄) := by
  iintro ⟨%Y, H⟩
  iexists (Y (ix1 0))
  iapply (owns_congr c m fullShare (show Y = at1 fun _ => Y (ix1 0) from funext fun j => congrArg Y (by
    rw [← ix1_eta j]; exact congrArg ix1 (Subsingleton.elim _ _)))) $$ H

/-- The scratch a subcore's program runs over: its buffers at any contents and its transfer semaphores at zero. -/
def Scratch : sProp 𝕄 :=
  iprop((∃ Y, owns (thr d i) arg8 fullShare Y) ∗ (∃ Y, owns (thr d i) arg9 fullShare Y) ∗ (∃ Y, owns (thr d i) arg10 fullShare Y) ∗ (∃ Y, owns (thr d i) arg11 fullShare Y)
    ∗ (∃ Y, owns (thr d i) arg12 fullShare Y) ∗ (∃ Y, owns (thr d i) arg13 fullShare Y) ∗ (∃ Y, owns (thr d i) arg14 fullShare Y) ∗ (∃ Y, owns (thr d i) arg15 fullShare Y)
    ∗ (∃ Y, owns (thr d i) arg16 fullShare Y)
    ∗ semVal (thr d i, .dma arg17.sem) 0 ∗ semVal (thr d i, .dma arg18.sem) 0 ∗ semVal (thr d i, .dma arg19.sem) 0 ∗ semVal (thr d i, .dma arg20.sem) 0
    ∗ semVal (thr d i, .dma arg21.sem) 0 ∗ semVal (thr d i, .dma arg22.sem) 0 ∗ semVal (thr d i, .dma arg23.sem) 0)

theorem Scratch_open : (Scratch d i arg8 arg9 arg10 arg11 arg12 arg13 arg14 arg15 arg16 arg17 arg18 arg19 arg20 arg21 arg22 arg23 : sProp 𝕄) ⊢
  iprop((∃ Y, owns (thr d i) arg8 fullShare Y) ∗ (∃ Y, owns (thr d i) arg9 fullShare Y) ∗ (∃ Y, owns (thr d i) arg10 fullShare Y) ∗ (∃ Y, owns (thr d i) arg11 fullShare Y)
    ∗ (∃ Y, owns (thr d i) arg12 fullShare Y) ∗ (∃ Y, owns (thr d i) arg13 fullShare Y) ∗ (∃ Y, owns (thr d i) arg14 fullShare Y) ∗ (∃ Y, owns (thr d i) arg15 fullShare Y)
    ∗ (∃ Y, owns (thr d i) arg16 fullShare Y)
    ∗ semVal (thr d i, .dma arg17.sem) 0 ∗ semVal (thr d i, .dma arg18.sem) 0 ∗ semVal (thr d i, .dma arg19.sem) 0 ∗ semVal (thr d i, .dma arg20.sem) 0
    ∗ semVal (thr d i, .dma arg21.sem) 0 ∗ semVal (thr d i, .dma arg22.sem) 0 ∗ semVal (thr d i, .dma arg23.sem) 0) := .rfl

theorem Scratch_close :
  iprop((∃ Y, owns (thr d i) arg8 fullShare Y) ∗ (∃ Y, owns (thr d i) arg9 fullShare Y) ∗ (∃ Y, owns (thr d i) arg10 fullShare Y) ∗ (∃ Y, owns (thr d i) arg11 fullShare Y)
    ∗ (∃ Y, owns (thr d i) arg12 fullShare Y) ∗ (∃ Y, owns (thr d i) arg13 fullShare Y) ∗ (∃ Y, owns (thr d i) arg14 fullShare Y) ∗ (∃ Y, owns (thr d i) arg15 fullShare Y)
    ∗ (∃ Y, owns (thr d i) arg16 fullShare Y)
    ∗ semVal (thr d i, .dma arg17.sem) 0 ∗ semVal (thr d i, .dma arg18.sem) 0 ∗ semVal (thr d i, .dma arg19.sem) 0 ∗ semVal (thr d i, .dma arg20.sem) 0
    ∗ semVal (thr d i, .dma arg21.sem) 0 ∗ semVal (thr d i, .dma arg22.sem) 0 ∗ semVal (thr d i, .dma arg23.sem) 0) ⊢ (Scratch d i arg8 arg9 arg10 arg11 arg12 arg13 arg14 arg15 arg16 arg17 arg18 arg19 arg20 arg21 arg22 arg23 : sProp 𝕄) := .rfl

theorem cond7_iff {v : BitVec 32} : k1_cond7 v = 1#1 ↔ v ≠ 0#32 := cond2_iff (v := v)

theorem same_iff {v : BitVec 32} : Scalar.cmpi .ne (Scalar.extui (Scalar.cmpi .eq v 0#32) : BitVec 32) 0#32 = 1#1 ↔ v = 0#32 := by
  refine (ne_zero_iff _).trans ?_
  show BitVec.ofBool (v == 0#32) = 1#1 ↔ _
  rw [ofBool_eq_one, beq_iff_eq]

/-- What a subcore's program leaves of its batch: the map a finished greedy run ends with, and the slots merged by it. -/
def Merged (S x : ℕ → ℕ → EReal) (mt : ℕ → BitVec 32) (z : ℕ → ℕ → EReal) : Prop :=
  ∃ A M, Reach S theta 1000 1000 A M ∧ (∀ i < 1000, mt i = BitVec.ofNat 32 (M i)) ∧ ∀ t < 1000, ∀ dd < 256, z t dd = mergedAt M x t dd

theorem ownsAny {α : EltTy} {s : Shape} {sp : Space} (c : Thread nD τ) (m : Memref sig c.2.kind sp s α) (Y : s.Idx → Elt Ideal α) :
    (owns c m fullShare Y : sProp 𝕄) ⊢ iprop(∃ Y, owns c m fullShare Y) := by
  iintro H
  iexists Y
  iexact H

theorem ownsAny1 {α : EltTy} {n : ℕ} {sp : Space} (c : Thread nD τ) (m : Memref sig c.2.kind sp ⟨1, ![n]⟩ α) :
    iprop(∃ f : ℕ → Elt Ideal α, owns c m fullShare (at1 f)) ⊢ (iprop(∃ Y, owns c m fullShare Y) : sProp 𝕄) := by
  iintro ⟨%f, H⟩
  iexists (at1 f)
  iexact H

theorem ownsAny2 {α : EltTy} {n k : ℕ} {sp : Space} (c : Thread nD τ) (m : Memref sig c.2.kind sp ⟨2, ![n, k]⟩ α) :
    iprop(∃ f : ℕ → ℕ → Elt Ideal α, owns c m fullShare (at2 f)) ⊢ (iprop(∃ Y, owns c m fullShare Y) : sProp 𝕄) := by
  iintro ⟨%f, H⟩
  iexists (at2 f)
  iexact H

include EC k1_h1 in
set_option maxHeartbeats 1600000 in
/-- The subcore's program on its own batch. -/
theorem body_wp {S : ℕ → ℕ → EReal} {q q' : PosShare TreeShare} {G x Z : ℕ → ℕ → ℕ → EReal} {Uu : ℕ → ℕ → EReal} {GW B : ℕ → ℕ → BitVec 32} {R : PUnit → sProp 𝕄}
    (hI : Init S (G (wid i)) (Uu (wid i)) (GW (wid i))) :
    iprop(ownsOn (thr d i) arg2 q (part ![4, 1000, 1008] (wid i)) (at3 G) ∗ ownsOn (thr d i) arg3 fullShare (part ![4, 1008] (wid i)) (at2 Uu) ∗ ownsOn (thr d i) arg4 fullShare (part ![4, 1008] (wid i)) (at2 GW)
        ∗ ownsOn (thr d i) arg5 q' (part ![4, 1000, 256] (wid i)) (at3 x) ∗ ownsOn (thr d i) arg6 fullShare (part ![4, 1008] (wid i)) (at2 B)
        ∗ ownsOn (thr d i) arg7 fullShare (part ![4, 1000, 256] (wid i)) (at3 Z) ∗ Scratch d i arg8 arg9 arg10 arg11 arg12 arg13 arg14 arg15 arg16 arg17 arg18 arg19 arg20 arg21 arg22 arg23 ∗ Env (thr d i) O W ι)
      ⊢ iprop((∀ (mt : ℕ → BitVec 32) (Z : ℕ → ℕ → ℕ → EReal), ⌜Merged S (x (wid i)) mt (Z (wid i))⌝
          -∗ iprop(ownsOn (thr d i) arg2 q (part ![4, 1000, 1008] (wid i)) (at3 G) ∗ ownsOn (thr d i) arg3 fullShare (part ![4, 1008] (wid i)) (at2 fun _ => Uu (wid i)) ∗ ownsOn (thr d i) arg4 fullShare (part ![4, 1008] (wid i)) (at2 fun _ => GW (wid i))
            ∗ ownsOn (thr d i) arg5 q' (part ![4, 1000, 256] (wid i)) (at3 x) ∗ ownsOn (thr d i) arg6 fullShare (part ![4, 1008] (wid i)) (at2 fun _ => mt)
            ∗ ownsOn (thr d i) arg7 fullShare (part ![4, 1000, 256] (wid i)) (at3 Z) ∗ Scratch d i arg8 arg9 arg10 arg11 arg12 arg13 arg14 arg15 arg16 arg17 arg18 arg19 arg20 arg21 arg22 arg23 ∗ Env (thr d i) O W ι) -∗ R ⟨⟩)
        -∗ wp frame (wpE defs 𝒱 (thr d i) bd) Set.univ (cc1__greedy_body_skel (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23) R) := by
  unfold cc1__greedy_body_skel
  iintro ⟨H2, H3, H4, H5, H6, H7, HS, HE⟩ Hk
  ihave HS := (Scratch_open d i arg8 arg9 arg10 arg11 arg12 arg13 arg14 arg15 arg16 arg17 arg18 arg19 arg20 arg21 arg22 arg23) $$ HS
  icases HS with ⟨H8, H9, H10, H11, H12, H13, H14, H15, H16, S17, S18, S19, S20, S21, S22, S23⟩
  icases H8 with ⟨%Y8, H8⟩
  icases H9 with ⟨%Y9, H9⟩
  ihave H10' := (forget1 (thr d i) arg10) $$ H10
  icases H10' with ⟨%al, H10⟩
  ihave H11' := (forget1 (thr d i) arg11) $$ H11
  icases H11' with ⟨%mt0, H11⟩
  ihave H13' := (forget1 (thr d i) arg13) $$ H13
  icases H13' with ⟨%cn, H13⟩
  ihave H14' := (forgetM (thr d i) arg14) $$ H14
  ihave H15 := (forget1 (thr d i) arg15) $$ H15
  ihave H16' := (forgetS (thr d i) arg16) $$ H16
  icases H16' with ⟨%fl0, H16⟩
  iapply (wp_posO 𝒱 (thr d i) bd k1_h1)
  iapply (wp_bindO 𝒱 (thr d i) bd)
  rw [k1_part11_eq_skeleton]
  iapply (part11_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 hI) $$ [H2 H3 H4 H6 H8 H9 H10 H11 H12 H16 S17 S18 HE]
  · isplitl [H3]; · iexact H3
    isplitl [H4]; · iexact H4
    isplitl [H6]; · iexact H6
    isplitl [H8]; · iexact H8
    isplitl [H9]; · iexact H9
    isplitl [H10]; · iexact H10
    isplitl [H11]; · iexact H11
    isplitl [H16]; · iexact H16
    isplitl [H2 H12 S17 HE]
    · iapply (Row_close d i O W ι arg2 arg12 arg17 q G) $$ [H2 H12 S17 HE]
      isplitl [H12]; · iexact H12
      isplitl [H2]; · iexact H2
      isplitl [S17]; · iexact S17
      iexact HE
    iexact S18
  iintro %Aa %M %u %gw %al %mt %fl %hR ⟨H3, H4, HT, H6b, H8, H9, H10, H16, HR⟩
  obtain ⟨hR, hmt, hfl⟩ := hR
  ihave HR' := (Row_open d i O W ι arg2 arg12 arg17 q G) $$ HR
  icases HR' with ⟨H12, H2, S17, HE⟩
  iapply (wp_waitO 𝒱 (thr d i) bd EC ι) $$ [HT HE]
  · isplitl [HT]; · iexact HT
    iexact HE
  iintro ⟨H11, H6, S18, HE⟩
  ihave H6 := H6b $$ %_ H6
  iapply (wp_smemO 𝒱 (thr d i) bd (h1 := numel1_S1) (hp := rfl)) $$ H16
  iintro H16
  by_cases h0 : fl = 0#32
  · iapply (wp_posO 𝒱 (thr d i) bd (same_iff.mpr h0))
    have hz0 : ∀ t < 0, ∀ dd < 256, Z (wid i) t dd = x (wid i) t dd := fun t ht => absurd ht (Nat.not_lt_zero t)
    iapply (wp_bindO 𝒱 (thr d i) bd)
    rw [k1_part3_eq_skeleton]
    iapply (part3_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 hz0) $$ [H14' H5 H7 S19 S20 HE]
    · isplitl [H14']; · iexact H14'
      isplitl [H5]; · iexact H5
      isplitl [H7]; · iexact H7
      isplitl [S19]; · iexact S19
      isplitl [S20]; · iexact S20
      iexact HE
    iintro %Z3 %hz1 ⟨H14', H5, H7, S19, S20, HE⟩
    iapply (wp_bindO 𝒱 (thr d i) bd)
    rw [k1_part4_eq_skeleton]
    iapply (part4_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 hz1) $$ [H14' H5 H7 S19 S20 HE]
    · isplitl [H14']; · iexact H14'
      isplitl [H5]; · iexact H5
      isplitl [H7]; · iexact H7
      isplitl [S19]; · iexact S19
      isplitl [S20]; · iexact S20
      iexact HE
    iintro %Z4 %hz2 ⟨H14', H5, H7, S19, S20, HE⟩
    iapply (wp_bindO 𝒱 (thr d i) bd)
    rw [k1_part5_eq_skeleton]
    iapply (part5_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 hz2) $$ [H14' H5 H7 S19 S20 HE]
    · isplitl [H14']; · iexact H14'
      isplitl [H5]; · iexact H5
      isplitl [H7]; · iexact H7
      isplitl [S19]; · iexact S19
      isplitl [S20]; · iexact S20
      iexact HE
    iintro %Z5 %hz3 ⟨H14', H5, H7, S19, S20, HE⟩
    iapply (wp_bindO 𝒱 (thr d i) bd)
    rw [k1_part6_eq_skeleton]
    iapply (part6_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 hz3) $$ [H14' H5 H7 S19 S20 HE]
    · isplitl [H14']; · iexact H14'
      isplitl [H5]; · iexact H5
      isplitl [H7]; · iexact H7
      isplitl [S19]; · iexact S19
      isplitl [S20]; · iexact S20
      iexact HE
    iintro %Z6 %hz4 ⟨H14', H5, H7, S19, S20, HE⟩
    iapply (wp_bindO 𝒱 (thr d i) bd)
    rw [k1_part7_eq_skeleton]
    iapply (part7_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 hz4) $$ [H14' H5 H7 S19 S20 HE]
    · isplitl [H14']; · iexact H14'
      isplitl [H5]; · iexact H5
      isplitl [H7]; · iexact H7
      isplitl [S19]; · iexact S19
      isplitl [S20]; · iexact S20
      iexact HE
    iintro %Z7 %hz5 ⟨H14', H5, H7, S19, S20, HE⟩
    iapply (wp_smemO 𝒱 (thr d i) bd (h1 := numel1_S1) (hp := rfl)) $$ H16
    iintro H16
    iapply (wp_negO 𝒱 (thr d i) bd (fun h => cond7_iff.mp h h0))
    have hM := hfl h0
    subst hM
    ihave H14 := (ownsAny2 (thr d i) arg14) $$ H14'
    ihave H8 := (ownsAny (thr d i) arg8 _) $$ H8
    ihave H9 := (ownsAny (thr d i) arg9 _) $$ H9
    ihave H10 := (ownsAny (thr d i) arg10 _) $$ H10
    ihave H11 := (ownsAny (thr d i) arg11 _) $$ H11
    ihave H13 := (ownsAny (thr d i) arg13 _) $$ H13
    ihave H16 := (ownsAny (thr d i) arg16 _) $$ H16
    ihave H15 := (ownsAny1 (thr d i) arg15) $$ H15
    iapply (wp_doneO 𝒱 (thr d i) bd)
    iapply Hk $$ %mt %Z7 %(⟨Aa, id, hR, fun i hi => hmt i (by omega), fun t ht dd hd => (hz5 t ht dd hd).trans (mergedAt_id _ ht dd)⟩ : Merged S (x (wid i)) mt (Z7 (wid i))) [H2 H3 H4 H5 H6 H7 H8 H9 H10 H11 H12 H13 H14 H15 H16 S17 S18 S19 S20 S21 S22 S23 HE]
    isplitl [H2]; · iexact H2
    isplitl [H3]; · iexact H3
    isplitl [H4]; · iexact H4
    isplitl [H5]; · iexact H5
    isplitl [H6]; · iexact H6
    isplitl [H7]; · iexact H7
    isplitr [HE]
    · iapply (Scratch_close d i arg8 arg9 arg10 arg11 arg12 arg13 arg14 arg15 arg16 arg17 arg18 arg19 arg20 arg21 arg22 arg23)
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [S17]; · iexact S17
      isplitl [S18]; · iexact S18
      isplitl [S19]; · iexact S19
      isplitl [S20]; · iexact S20
      isplitl [S21]; · iexact S21
      isplitl [S22]; · iexact S22
      iexact S23
    iexact HE
  · iapply (wp_negO 𝒱 (thr d i) bd (fun h => h0 (same_iff.mp h)))
    iapply (wp_smemO 𝒱 (thr d i) bd (h1 := numel1_S1) (hp := rfl)) $$ H16
    iintro H16
    have k1_h7 : k1_cond7 fl = 1#1 := cond7_iff.mpr h0
    have hM : ∀ i < 1000, M i < 1000 := fun i hi => hR.lt i hi
    have hM8 : ∀ i < 1008, M i < 1008 := fun i hi => by
      by_cases h : i < 1000
      · have := hM i h; omega
      · rw [hR.id_off i (by omega)]; exact hi
    iapply (wp_posO 𝒱 (thr d i) bd k1_h7)
    iapply (wp_bindO 𝒱 (thr d i) bd)
    rw [k1_part8_eq_skeleton]
    iapply (part8_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 fl k1_h7 (Z := Z) (x := x) (cn := cn) (q' := q') hmt hM hM8) $$ [H11 H13 H14' H15 H5 S21 S22 HE H7]
    · isplitr [H7]
      · isplitl [H11]; · iexact H11
        isplitl [H13]; · iexact H13
        isplitl [H14']; · iexact H14'
        isplitl [H15]; · iexact H15
        isplitl [H5]; · iexact H5
        isplitl [S21]; · iexact S21
        isplitl [S22]; · iexact S22
        iexact HE
      iexact H7
    iintro H
    iapply (wp_bindO 𝒱 (thr d i) bd)
    rw [k1_part9_eq_skeleton]
    iapply (part9_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 fl k1_h7 (Z := Z) (x := x) (q' := q') hmt hM) $$ H
    iintro %Z1 %hz1 H
    iapply (wp_bindO 𝒱 (thr d i) bd)
    rw [k1_part10_eq_skeleton]
    iapply (part10_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 fl k1_h7 (x := x) (q' := q') hmt hM hz1) $$ H
    iintro %Z %hz2 ⟨⟨H11, H13, H14, H15, H5, Hv1, S22, HE⟩, H7⟩
    iapply (Scf.wp_for_bind frame (wpE defs 𝒱 (thr d i) bd) Set.univ 0#32 (Scalar.addi 0#32 1000#32) 1#32 (k1_t29_ok i k1_h1) _ _
      (fun k acc => iprop(owns (thr d i) arg11 fullShare (at1 mt) ∗ owns (thr d i) arg14 fullShare (at2 fun r dd => sums M (x (wid i)) k (768 + r) dd) ∗ (∃ w : ℕ → EReal, owns (thr d i) arg15 fullShare (at1 w))
          ∗ ownsOn (thr d i) arg5 q' (part ![4, 1000, 256] (wid i)) (at3 x) ∗ semVal (thr d i, .dma arg21.sem) 0 ∗ Env (thr d i) O W ι)) ?tripa) $$ [H11 H14 H15 H5 Hv1 HE]
    case tripa =>
      intro k acc
      iintro H
      iapply (t29_wp 𝒱 d i bd EC O W ι arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 fl k1_h7 hmt hM k acc) $$ H
      iintro %acc2 H
      iexact H
    · isplitl [H11]; · iexact H11
      isplitl [H14]; · iexact H14
      isplitl [H15]; · iexact H15
      isplitl [H5]; · iexact H5
      isplitl [Hv1]; · iexact Hv1
      iexact HE
    iintro %acca ⟨H11, H14, H15, H5, Hv1, HE⟩
    have ea : Scf.trips 0#32 (Scalar.addi 0#32 1000#32) 1#32 = 1000 := by decide
    rw [ea]
    rw [divided_zero]
    iapply (Scf.wp_for_bind frame (wpE defs 𝒱 (thr d i) bd) Set.univ 0#32 (Scalar.addi 0#32 232#32) 1#32 (k1_t31_ok i k1_h1) _ _
      (fun k acc => iprop(owns (thr d i) arg13 fullShare (at1 (counts M 1000)) ∗ owns (thr d i) arg14 fullShare (at2 (divided M (x (wid i)) 768 k)))) ?tripm) $$ [H13 H14]
    case tripm =>
      intro k acc
      iintro H
      iapply (t31_wp 𝒱 d i bd arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 arg23 k1_h1 fl k1_h7 k acc) $$ H
      iintro %acc2 ⟨H13, H14⟩
      isplitl [H13]; · iexact H13
      iapply (owns_congr (thr d i) arg14 fullShare (divided_next M (x (wid i)) 768 k.val)) $$ H14
    · isplitl [H13]; · iexact H13
      iexact H14
    iintro %accm ⟨H13, H14⟩
    have em : Scf.trips 0#32 (Scalar.addi 0#32 232#32) 1#32 = 232 := by decide
    rw [em]
    ihave H14' := (carve_top (n := 232) (thr d i) arg14 (divided M (x (wid i)) 768 232) inb_S256x256_S232x256_0_0 (fun _ => rfl)) $$ H14
    icases H14' with ⟨H14, H14b⟩
    ihave H7' := (carve_block3 (thr d i) (b := wid i) (r := 768) (k := 232) arg7 fullShare _ (k1_off37 i) (k1_off37_inb i k1_h1) (fun _ => rfl) squeezes_S1x232x256_S232x256 (off37_at i).1 (off37_at i).2.1 (off37_at i).2.2) $$ H7
    icases H7' with ⟨H7, H7b⟩
    iapply (wp_copyO 𝒱 (thr d i) bd EC (by decide) ι) $$ [H14 H7 S23 HE]
    · isplitl [H14]; · iexact H14
      isplitl [H7]; · iexact H7
      isplitl [S23]; · iexact S23
      iexact HE
    iintro ⟨H14, H7, S23, HE⟩
    ihave H7 := H7b $$ %_ H7
    ihave H14 := H14b $$ %_ H14
    ihave H14' := (forget2 (thr d i) arg14 _) $$ H14
    icases H14' with ⟨%f2, H14⟩
    ihave H14 := (ownsAny (thr d i) arg14 _) $$ H14
    ihave H8 := (ownsAny (thr d i) arg8 _) $$ H8
    ihave H9 := (ownsAny (thr d i) arg9 _) $$ H9
    ihave H10 := (ownsAny (thr d i) arg10 _) $$ H10
    ihave H11 := (ownsAny (thr d i) arg11 _) $$ H11
    ihave H13 := (ownsAny (thr d i) arg13 _) $$ H13
    ihave H16 := (ownsAny (thr d i) arg16 _) $$ H16
    ihave H15 := (ownsAny1 (thr d i) arg15) $$ H15
    iapply (wp_doneO 𝒱 (thr d i) bd)
    iapply Hk $$ %mt %(putRows Z 768 232 (divided M (x (wid i)) 768 232)) %(⟨Aa, M, hR, fun i hi => hmt i (by omega), out_next (n := 232) (b := 768) hz2 (divided_at M (x (wid i)) 768 232)⟩ : Merged S (x (wid i)) mt (putRows Z 768 232 (divided M (x (wid i)) 768 232) (wid i))) [H2 H3 H4 H5 H6 H7 H8 H9 H10 H11 H12 H13 H14 H15 H16 S17 S18 S19 S20 Hv1 S22 S23 HE]
    isplitl [H2]; · iexact H2
    isplitl [H3]; · iexact H3
    isplitl [H4]; · iexact H4
    isplitl [H5]; · iexact H5
    isplitl [H6]; · iexact H6
    isplitl [H7]; · iexact H7
    isplitr [HE]
    · iapply (Scratch_close d i arg8 arg9 arg10 arg11 arg12 arg13 arg14 arg15 arg16 arg17 arg18 arg19 arg20 arg21 arg22 arg23)
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [S17]; · iexact S17
      isplitl [S18]; · iexact S18
      isplitl [S19]; · iexact S19
      isplitl [S20]; · iexact S20
      isplitl [Hv1]; · iexact Hv1
      isplitl [S22]; · iexact S22
      iexact S23
    iexact HE

end Cert.Proof.Scan

end
-- ==== Proof.Sim.lean ====
/-
  The TensorCore part's values: the similarity matrix of a batch, its column maxima with their first rows, and that these
  are what the greedy phase starts from.
-/
module

public import Idealize.ShloMosaic.PureOps.Reduce
public import Idealize.ShloMosaic.Lib.Pointwise.Reduce
public import Idealize.ShloMosaic.Lib.Pointwise.Contract
public import Idealize.ShloMosaic.Lib.Pointwise.Select
public import Idealize.ShloMosaic.Lib.Pointwise.Reshape
public import Idealize.ShloMosaic.Lib.Pointwise.Tactic
public import proofs.«01_k».proof.Proof.Body

@[expose] public section

noncomputable section

namespace Cert.Proof.Scan

open Cert.KernelIdeal Cert.KernelIdeal.Gen Cert.Proof.Rules Cert.Proof.Vec Cert.Proof.Greedy
open Idealize.ShloMosaic
open Idealize.SL

theorem lit_bot : (Ideal.ofBits .f32 0xFF800000#32 : EReal) = ⊥ := by
  simp [Ideal.ofBits, Ideal.ieee]

/-- The greatest of finitely many values bounds each and is one of them. -/
theorem fold_max {ι : Type} (s : Finset ι) (f : ι → EReal) (hs : s.Nonempty) :
    (∀ i ∈ s, f i ≤ s.fold max ⊥ f) ∧ ∃ i ∈ s, f i = s.fold max ⊥ f := by
  refine ⟨fun i hi => (Finset.le_fold_max _).mpr (.inr ⟨i, hi, le_rfl⟩), ?_⟩
  obtain ⟨i, hi, h⟩ := Finset.exists_max_image s f hs
  exact ⟨i, hi, le_antisymm ((Finset.le_fold_max _).mpr (.inr ⟨i, hi, le_rfl⟩)) ((Finset.fold_max_le _).mpr ⟨bot_le, h⟩)⟩

/-- The least of finitely many signed words bounds each, and is one of them or the starting word. -/
theorem fold_min {ι : Type} [DecidableEq ι] (s : Finset ι) (f : ι → BitVec 32) (b : BitVec 32) :
    (∀ i ∈ s, (s.fold (IKind.op .minsi) b f).toInt ≤ (f i).toInt) ∧ (s.fold (IKind.op .minsi) b f = b ∨ ∃ i ∈ s, f i = s.fold (IKind.op .minsi) b f) := by
  have hm : ∀ x y : BitVec 32, (IKind.op .minsi x y).toInt ≤ x.toInt ∧ (IKind.op .minsi x y).toInt ≤ y.toInt ∧ (IKind.op .minsi x y = x ∨ IKind.op .minsi x y = y) := fun x y => by
    show (IntOp.minsi x y).toInt ≤ x.toInt ∧ (IntOp.minsi x y).toInt ≤ y.toInt ∧ (IntOp.minsi x y = x ∨ IntOp.minsi x y = y)
    unfold IntOp.minsi
    by_cases h : x.slt y
    · have := BitVec.slt_iff_toInt_lt.mp h
      rw [if_pos h]; exact ⟨le_rfl, this.le, .inl rfl⟩
    · have : ¬ x.toInt < y.toInt := fun hh => h (BitVec.slt_iff_toInt_lt.mpr hh)
      rw [if_neg h]; exact ⟨by omega, le_rfl, .inr rfl⟩
  induction s using Finset.induction_on with
  | empty => exact ⟨fun i hi => absurd hi (Finset.notMem_empty i), .inl rfl⟩
  | insert a s ha ih =>
    rw [Finset.fold_insert ha]
    obtain ⟨h1, h2, h3⟩ := hm (f a) (s.fold (IKind.op .minsi) b f)
    refine ⟨fun i hi => ?_, ?_⟩
    · rcases Finset.mem_insert.mp hi with rfl | hi
      · exact h1
      · exact h2.trans (ih.1 i hi)
    · rcases h3 with h3 | h3
      · exact .inr ⟨a, Finset.mem_insert_self _ _, h3.symm⟩
      · rcases ih.2 with h4 | ⟨i, hi, h4⟩
        · exact .inl (h3.trans h4)
        · exact .inr ⟨i, Finset.mem_insert_of_mem hi, h4.trans h3.symm⟩

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

/-- A column's maximum. -/
theorem colMax (X : FVec Ideal S1000x1000 .f32) (j : Fin 1000) {M : EReal}
    (hM : M = multiReduction (F := Ideal) .maximumf [0] S1000 X 0xFF800000#32 reduces_S1000x1000_S1000 (.inl rfl) rfl (ix1 j)) :
    (∀ i : Fin 1000, X (ix2 i j) ≤ M) ∧ ∃ i : Fin 1000, X (ix2 i j) = M := by
  have e : M = (Finset.univ : Finset (Fin 1000)).fold (max : EReal → EReal → EReal) ⊥ (fun i => X (ix2 i j)) := by
    rw [hM]
    refine (multiReduction_maximumf_eq_fold X _ _ _ _ _).trans ?_
    rw [show (FloatOps.ofBits .f32 0xFF800000#32 : Ideal .f32) = (⊥ : EReal) from lit_bot]
    exact Shape.Reduces.fold_fiber_r2_a0 (n0 := 1000) (n1 := 1000) reduces_S1000x1000_S1000 (ix1 j) (FloatOps.maximumf (F := Ideal) (φ := .f32)) _ X
  rw [e]
  obtain ⟨h1, i, hi, h2⟩ := fold_max (Finset.univ : Finset (Fin 1000)) (fun i => X (ix2 i j)) ⟨0, Finset.mem_univ _⟩
  exact ⟨fun i => h1 i (Finset.mem_univ _), i, h2⟩

/-- The least marked row of a column: the first row where the mark is set, if there is one. -/
theorem colFirst (X : IVec S1000x1000 32) (p : Fin 1000 → Prop) [DecidablePred p] (j : Fin 1000) (hX : ∀ i, X (ix2 i j) = if p i then BitVec.ofNat 32 i.val else 2147483647#32)
    (hp : ∃ i, p i) :
    ∃ i : Fin 1000, p i ∧ (∀ i' < i, ¬ p i') ∧ multiReductionI .minsi [0] S1000 X 2147483647#32 reduces_S1000x1000_S1000 rfl (ix1 j) = BitVec.ofNat 32 i.val := by
  have e : multiReductionI .minsi [0] S1000 X 2147483647#32 reduces_S1000x1000_S1000 rfl (ix1 j)
      = (Finset.univ : Finset (Fin 1000)).fold (IKind.op .minsi) 2147483647#32 (fun i => X (ix2 i j)) :=
    (multiReductionI_eq_fold _ _ _ _ _ _).trans (Shape.Reduces.fold_fiber_r2_a0 (n0 := 1000) (n1 := 1000) reduces_S1000x1000_S1000 (ix1 j) (IKind.op .minsi) _ X)
  rw [e]
  obtain ⟨h1, h2⟩ := fold_min (Finset.univ : Finset (Fin 1000)) (fun i => X (ix2 i j)) 2147483647#32
  obtain ⟨k, hk⟩ := hp
  have hti : ∀ i : Fin 1000, (BitVec.ofNat 32 i.val).toInt = i.val := fun i => by
    have := i.isLt
    rw [BitVec.toInt_eq_toNat_of_lt (by rw [BitVec.toNat_ofNat]; omega), BitVec.toNat_ofNat]; omega
  have hk1 := h1 k (Finset.mem_univ _)
  rw [hX k, if_pos hk, hti k] at hk1
  have hbig : (2147483647#32).toInt = 2147483647 := by decide
  have hne : (Finset.univ : Finset (Fin 1000)).fold (IKind.op .minsi) 2147483647#32 (fun i => X (ix2 i j)) ≠ 2147483647#32 := fun hh => by
    rw [hh, hbig] at hk1; have := k.isLt; omega
  obtain ⟨i, -, hi⟩ := h2.resolve_left hne
  have hpi : p i := by
    by_contra hn
    exact hne (hi.symm.trans ((hX i).trans (if_neg hn)))
  have hi' := hi.symm.trans ((hX i).trans (if_pos hpi))
  refine ⟨i, hpi, fun i' hlt hp' => ?_, hi'⟩
  have := h1 i' (Finset.mem_univ _)
  rw [hi', hX i', if_pos hp', hti, hti] at this
  have h3 : i'.val < i.val := hlt
  omega

variable (v0 : FVec Ideal S1x1000x256 .f32)

theorem pay2_at (j : Fin 1000) : k0_pay2 v0 (ix2 0 j) = multiReduction (F := Ideal) .maximumf [0] S1000 (k0_pay1 v0) 0xFF800000#32 reduces_S1000x1000_S1000 (.inl rfl) rfl (ix1 j) := by
  unfold k0_pay2; pointwise

theorem pay3_at (c : Fin 1008) : k0_pay3 (F := Ideal) v0 (ix3 0 0 c) = (if h : c.val < 1000 then k0_pay2 (F := Ideal) v0 (ix2 0 ⟨c.val, h⟩) else two : EReal) := by
  unfold k0_pay3; rw [← lit_two]; pointwise

theorem pay5_at (r : Fin 1000) (c : Fin 1008) : k0_pay5 (F := Ideal) v0 (ix3 0 r c) = (if h : c.val < 1000 then k0_pay1 (F := Ideal) v0 (ix2 r ⟨c.val, h⟩) else two : EReal) := by
  unfold k0_pay5; rw [← lit_two]; pointwise

/-- The rows where a column attains its maximum, each marked by its number. -/
def rowsAt : IVec S1000x1000 32 :=
  select (cmpf (F := Ideal) .oeq (k0_pay1 v0) (broadcastTo S1000x1000 (k0_pay2 v0) broadcasts_S1x1000_S1000x1000)) (iota .tc S1000x1000 32 [0] iota_S1000x1000_d0_w32) (broadcast S1000x1000 2147483647#32)

theorem rowsAt_at (i j : Fin 1000) : rowsAt v0 (ix2 i j) = if k0_pay1 (F := Ideal) v0 (ix2 i j) = k0_pay2 (F := Ideal) v0 (ix2 0 j) then BitVec.ofNat 32 i.val else 2147483647#32 := by
  unfold rowsAt; pointwise

theorem pay6_at (c : Fin 1008) : k0_pay6 (F := Ideal) v0 (ix3 0 0 c)
    = if h : c.val < 1000 then multiReductionI .minsi [0] S1000 (rowsAt v0) 2147483647#32 reduces_S1000x1000_S1000 rfl (ix1 ⟨c.val, h⟩) else 0#32 := by
  unfold k0_pay6 rowsAt; pointwise

theorem pay4_ge (j : Fin 1000) : (k0_pay2 (F := Ideal) v0 (ix2 0 j) : EReal) ≤ k0_pay4 (F := Ideal) v0 := by
  unfold k0_pay4
  pointwise
  exact (Finset.le_fold_max _).mpr (.inr ⟨(0, j), Finset.mem_univ _, le_rfl⟩)

/-- A slot divided by its length, a length below a tiny bound taken as that bound. -/
def unitRow (i : Fin 1000) (k : Fin 256) : EReal :=
  Ideal.div (v0 (ix3 0 i k)) (max (Ideal.sqrt (∑ k : Fin 256, v0 (ix3 0 i k) * v0 (ix3 0 i k))) (Ideal.ofBits .f32 0x2B8CBCCC#32))

theorem pay1_at (i j : Fin 1000) : k0_pay1 (F := Ideal) v0 (ix2 i j)
    = (if i = j then (∑ k : Fin 256, unitRow v0 i k * unitRow v0 j k) - (Ideal.ofBits .f32 0x40000000#32) else ∑ k : Fin 256, unitRow v0 i k * unitRow v0 j k : EReal) := by
  unfold k0_pay1 unitRow
  pointwise
  by_cases h : i = j
  · rw [if_pos h, h, show IntOp.cmpi .eq (BitVec.ofNat 32 j.val) (BitVec.ofNat 32 j.val) = 1#1 from by simp [IntOp.cmpi]]
    rfl
  · have : BitVec.ofNat 32 i.val ≠ BitVec.ofNat 32 j.val := fun e => h (Fin.ext (by
      have hi := i.isLt; have hj := j.isLt
      have := congrArg BitVec.toNat e
      rw [BitVec.toNat_ofNat, BitVec.toNat_ofNat] at this; omega))
    rw [if_neg h, show IntOp.cmpi .eq (BitVec.ofNat 32 i.val) (BitVec.ofNat 32 j.val) = 0#1 from by
      show BitVec.ofBool (BitVec.ofNat 32 i.val == BitVec.ofNat 32 j.val) = 0#1
      rw [beq_false_of_ne this]; rfl]
    rfl

/-- The similarities of a batch's slots, each slot's own lowered by two. -/
def simS : ℕ → ℕ → EReal := of2 (α := EReal) (m := 1000) (n := 1000) (k0_pay1 (F := Ideal) v0)

theorem simS_at (i j : Fin 1000) : simS v0 i.val j.val = k0_pay1 (F := Ideal) v0 (ix2 i j) := of2_at (α := EReal) _ i j

theorem pay1_symm (i j : Fin 1000) : k0_pay1 (F := Ideal) v0 (ix2 i j) = k0_pay1 (F := Ideal) v0 (ix2 j i) := by
  rw [pay1_at, pay1_at]
  have e : (∑ k : Fin 256, unitRow v0 i k * unitRow v0 j k) = ∑ k : Fin 256, unitRow v0 j k * unitRow v0 i k := Finset.sum_congr rfl fun k _ => mul_comm _ _
  by_cases h : i = j
  · rw [if_pos h, if_pos h.symm, e]
  · rw [if_neg h, if_neg (Ne.symm h), e]

/-- What the TensorCore part leaves is what the greedy phase starts from. -/
theorem init_of {G : ℕ → ℕ → EReal} {Uu : ℕ → EReal} {GW : ℕ → BitVec 32} (hU : ∀ c : Fin 1008, Uu c.val = k0_pay3 (F := Ideal) v0 (ix3 0 0 c))
    (hbig : theta < (k0_pay4 (F := Ideal) v0 : EReal) → (∀ (r : Fin 1000) (c : Fin 1008), G r.val c.val = k0_pay5 (F := Ideal) v0 (ix3 0 r c)) ∧ ∀ c : Fin 1008, GW c.val = k0_pay6 (F := Ideal) v0 (ix3 0 0 c)) :
    Init (simS v0) G Uu GW := by
  have hUi : ∀ i : Fin 1000, Uu i.val = k0_pay2 (F := Ideal) v0 (ix2 0 i) := fun i => by
    have := hU ⟨i.val, by have := i.isLt; omega⟩
    rw [pay3_at, dif_pos i.isLt] at this; exact this
  have hUo : ∀ i, 1000 ≤ i → i < 1008 → Uu i = two := fun i h1 h2 => by
    have := hU ⟨i, h2⟩
    rw [pay3_at, dif_neg (by simpa using h1)] at this; exact this
  have hub : ∀ i j : Fin 1000, simS v0 i.val j.val ≤ Uu i.val := fun i j => by
    rw [simS_at, pay1_symm, hUi]
    exact (colMax (k0_pay1 v0) i (pay2_at v0 i)).1 j
  by_cases hθ : theta < (k0_pay4 (F := Ideal) v0 : EReal)
  · obtain ⟨hG, hW⟩ := hbig hθ
    have hcol : ∀ i : Fin 1000, ∃ g : Fin 1000, GW i.val = BitVec.ofNat 32 g.val ∧ simS v0 i.val g.val = Uu i.val ∧ ∀ j < g, simS v0 i.val j.val < Uu i.val := fun i => by
      have hw := hW ⟨i.val, by have := i.isLt; omega⟩
      rw [pay6_at, dif_pos i.isLt] at hw
      obtain ⟨k, hk⟩ := (colMax (k0_pay1 v0) i (pay2_at v0 i)).2
      obtain ⟨g, h1, h2, h3⟩ := colFirst (rowsAt v0) (fun k => k0_pay1 (F := Ideal) v0 (ix2 k i) = k0_pay2 (F := Ideal) v0 (ix2 0 i)) i (fun k => by rw [rowsAt_at]) ⟨k, hk⟩
      refine ⟨g, hw.trans h3, ?_, fun j hj => lt_of_le_of_ne (hub i j) fun e => h2 j hj ?_⟩
      · rw [simS_at, pay1_symm, hUi]; exact h1
      · rw [← pay1_symm, ← simS_at, e, hUi]
    refine .inl ⟨fun i' hi j hj => ?_, 1008, ⟨⟨fun i hi hn => ?_, fun i hi j hj => ?_, fun i hi => .inl ⟨fun j hj => ?_, fun hu => ?_⟩⟩, fun i hi => ?_⟩⟩
    · have := hG ⟨i', hi⟩ ⟨j, by omega⟩
      rw [pay5_at, dif_pos hj] at this
      rw [this]; exact (simS_at v0 ⟨i', hi⟩ ⟨j, hj⟩).symm
    · have : 1000 ≤ i := by by_contra hh; exact hn (Finset.mem_range.mpr (by omega))
      rw [hUo i this hi]; exact two_lt_theta.le
    · exact hub ⟨i, Finset.mem_range.mp hi⟩ ⟨j, Finset.mem_range.mp hj⟩
    · exact hub ⟨i, Finset.mem_range.mp hi⟩ ⟨j, Finset.mem_range.mp hj⟩
    · obtain ⟨g, h1, h2, h3⟩ := hcol ⟨i, Finset.mem_range.mp hi⟩
      have hg : (GW i).toNat = g.val := by
        have := g.isLt
        rw [h1, BitVec.toNat_ofNat]; omega
      refine ⟨Finset.mem_range.mpr (hg ▸ g.isLt), by rw [hg]; exact h2, fun j hj hlt => ?_⟩
      rw [hg] at hlt
      exact h3 ⟨j, Finset.mem_range.mp hj⟩ hlt
    · obtain ⟨g, h1, -⟩ := hcol ⟨i, Finset.mem_range.mp hi⟩
      have := g.isLt
      rw [h1, BitVec.toNat_ofNat]; omega
  · have hle : ∀ i : Fin 1000, Uu i.val ≤ theta := fun i => by
      rw [hUi]; exact (pay4_ge v0 i).trans (not_lt.mp hθ)
    refine .inr ⟨fun i hi => ?_, fun i hi j hj => (hub ⟨i, Finset.mem_range.mp hi⟩ ⟨j, Finset.mem_range.mp hj⟩).trans (hle ⟨i, Finset.mem_range.mp hi⟩)⟩
    by_cases h : i < 1000
    · exact hle ⟨i, h⟩
    · rw [hUo i (by omega) hi]; exact two_lt_theta.le

end Cert.Proof.Scan

end
-- ==== Proof.Region.lean ====
/-
  The TensorCore's region: what its body leaves at each of the four grid points, and what the three result arrays hold
  after the last one: for each batch a state that the greedy phase may start from.
-/
module

public import Idealize.ShloMosaic.Lib.SparseCore.Quiescent
public import Idealize.ShloMosaic.Lib.Pipeline.Kit
public import Idealize.ShloMosaic.Lib.Pipeline.ValueKit
public import Idealize.ShloMosaic.Lib.Pipeline.ArrRel
public import proofs.«01_k».proof.Proof.Gen.KernelIdeal.Launch
public import proofs.«01_k».proof.Proof.Gen.KernelIdeal.Points
public import proofs.«01_k».proof.Proof.Sim

@[expose] public section

noncomputable section

namespace Cert.Proof.Region

open Cert.KernelIdeal Cert.KernelIdeal.Gen Cert.Proof.Rules Cert.Proof.Vec Cert.Proof.Greedy Cert.Proof.Scan
open Idealize.ShloMosaic
open Idealize.ShloMosaic.SparseCore (S V T)
open Idealize.ShloMosaic.SparseCore.Cfg (HIx)
open Idealize.ShloMosaic.Pipeline (RDat Dat)
open Idealize.SL Idealize.SL.RA Idealize.SL.BI
open scoped Idealize.SL.BI
open Idealize.SL.BI.BIBase Idealize.SL.BI.Laws Idealize.SL.ProofMode Idealize.SL.Sem
open Idealize.ShloMosaic.Rounds

abbrev UH : Type := URounds (GSem nD τ sig) ℕ
abbrev UP : Type := URounds (GSem nD τ sig) Unit
abbrev UU : Type := UH × (UP × Counters)

local notation "𝕄" => MT nD τ sig (HIx 1) (Elt Ideal) ℕ UU ℕ

variable (m : (ℓ : Loc nD τ sig) → Buf (Elt Ideal) ℓ)

/-- The block of slots that grid point `t` reads: batch `t`. -/
def V0 (d : Dev nD) (b : ℕ) : FVec Ideal S1x1000x256 .f32 :=
  fun j => if h : b < 4 then (m ((d.tc : Thread nD τ).loc main_arg0) : S4x1000x256.Idx → EReal) (ix3 ⟨b, h⟩ (j 1) (j 2)) else 0

/-- A batch some pair of which lies above the threshold. -/
def cond0 (v0 : FVec Ideal S1x1000x256 .f32) : BitVec 1 :=
  have cst_11 : Ideal .f32 := Scalar.ofBits .f32 0x3F666666#32
  let v28 : BitVec 1 := Scalar.cmpf .ogt (k0_pay4 (F := Ideal) v0) cst_11
  let v29 : BitVec 32 := Scalar.extui v28
  let v30 : BitVec 1 := Scalar.cmpi .ne v29 0#32
  v30

def Big (v0 : FVec Ideal S1x1000x256 .f32) : Prop := cond0 v0 = 1#1

/-- What the body may leave in each window's buffer. -/
def left (d : Dev nD) : (w : Fin cfg0.W) → Fin cfg0.N → (Y X : (cfg0.win w).block.Idx → Elt Ideal (cfg0.win w).elt) → Prop
  | 0, _ => fun Y X => X = Y
  | 1, t => fun _ X => Big (V0 m d t.val) → X = k0_pay5 (F := Ideal) (V0 m d t.val)
  | 2, t => fun _ X => X = k0_pay3 (F := Ideal) (V0 m d t.val)
  | 3, t => fun _ X => Big (V0 m d t.val) → X = k0_pay6 (F := Ideal) (V0 m d t.val)
  | ⟨_ + 4, h⟩, _ => absurd h (by show ¬ _ < 4; omega)

/-- The proof data of the region. -/
def rdat (O : CellTallies nD τ sig (HIx 1)) (R : Set (SemLoc sig × HIx 1)) (d : Dev nD) : RDat τ (Elt Ideal) (HIx 1) ℕ UU ℕ cfg0 d where
  A w := m ((cfg0.win w).arr.view.loc (d.tc : Thread nD τ))
  after := left m d
  Φ _ := iprop(emp)
  q _ := fullShare
  owed _ := O
  recorded _ := R

variable (O : CellTallies nD τ sig (HIx 1)) (R : Set (SemLoc sig × HIx 1))

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)

/-- The first window's buffer holds the point's batch. -/
theorem finds0 (d : Dev nD) (t : Fin cfg0.N) (Y : S1x1000x256.Idx → EReal) (h : (rdat m O R d).Finds 0 t Y) : Y = V0 m d t.val := by
  obtain ⟨y, rfl⟩ := ((rdat m O R d).finds_of_fetch (fetch0_0 t) Y).mp h
  have ht : t.val < 4 := N_0 ▸ t.isLt
  change ((cfg0.win 0).blk t).view.read (Elt Ideal) ((rdat m O R d).A 0) = _
  funext j
  unfold V0
  rw [dif_pos ht]
  change (m ((d.tc : Thread nD τ).loc main_arg0) : S4x1000x256.Idx → EReal) _ = _
  congr 1
  blk_ext [idx0]

/-! ## The body at one point -/

section Whole

variable {Λ : Labels} {defs : Defs nD τ sig (Elt Ideal) Λ} (𝒱 : Variants) (c : Thread nD τ) (bd : Option 𝒱.V)
variable {s : Shape} {e : EltTy} {α : Type} {Q : α → sProp 𝕄}

theorem emb_whole {o : Fin s.rank → ℕ} {h : ∀ a, o a + s.size a ≤ s.size a} (ho : ∀ a, o a = 0) (j : s.Idx) :
    (Rect.unit (s := s) o s.size h).emb j = j := by
  funext k
  apply Fin.ext
  show o k + 1 * (j k).val = (j k).val
  rw [ho k]; omega

/-- A load of a whole buffer. -/
theorem wp_loadW {cs : CoreSpace} {m : Memref sig c.2.kind cs s e} {o : Fin s.rank → ℕ} {h : ∀ a, o a + s.size a ≤ s.size a} (ho : ∀ a, o a = 0)
    {hl : m.view.LoadsAt (Rect.unit (s := s) o s.size h).toLoadRect} {k : (s.Idx → Elt Ideal e) → Prog (TpuEff nD τ sig (Elt Ideal) Λ c.2) α}
    {q : PosShare TreeShare} {X : s.Idx → Elt Ideal e} :
    (owns c m q X : sProp 𝕄)
      ⊢ iprop((owns c m q X -∗ wp frame (wpE defs 𝒱 c bd) Set.univ (k X) Q)
        -∗ wp frame (wpE defs 𝒱 c bd) Set.univ (.op (.load m (Rect.unit (s := s) o s.size h).toLoadRect hl) k) Q) := by
  have e : (fun j : (Rect.unit (s := s) o s.size h).shape.Idx => X ((Rect.unit (s := s) o s.size h).emb j)) = X := funext fun j => by rw [emb_whole ho]
  have h1 := wp_loadO (defs := defs) 𝒱 c bd (Q := Q) (m := m) (r := Rect.unit (s := s) o s.size h) (hl := hl) (k := k) (q := q) (X := X)
  refine h1.trans ?_
  iintro H Hk
  iapply H
  iintro H
  ihave G := Hk $$ H
  rw [show (fun j => X ((Rect.unit (s := s) o s.size h).emb j)) = X from e]
  iexact G

/-- A store of a whole buffer. -/
theorem wp_storeW {cs : CoreSpace} {m : Memref sig c.2.kind cs s e} {o : Fin s.rank → ℕ} {h : ∀ a, o a + s.size a ≤ s.size a} (ho : ∀ a, o a = 0)
    {w : s.Idx → Elt Ideal e}
    {hx : (m.access (Rect.unit (s := s) o s.size h)).Stores Finset.univ} {hm : Finset.univ = Finset.univ ∨ ∀ a, (Rect.unit (s := s) o s.size h).stride a = 1}
    {k : PUnit → Prog (TpuEff nD τ sig (Elt Ideal) Λ c.2) α} {X : s.Idx → Elt Ideal e} :
    (owns c m fullShare X : sProp 𝕄)
      ⊢ iprop((owns c m fullShare w -∗ wp frame (wpE defs 𝒱 c bd) Set.univ (k ⟨⟩) Q)
        -∗ wp frame (wpE defs 𝒱 c bd) Set.univ (.op (.store m (Rect.unit (s := s) o s.size h) w Finset.univ hx hm) k) Q) := by
  have e : (Rect.unit (s := s) o s.size h).overlay X w = w := by
    funext j
    conv_lhs => rw [← emb_whole (h := h) ho j]
    exact Rect.overlay_emb ..
  have h1 := wp_storeO (defs := defs) 𝒱 c bd (Q := Q) (m := m) (r := Rect.unit (s := s) o s.size h) (w := w) (hx := hx) (hm := hm) (k := k) (X := X)
  rw [e] at h1
  exact h1

/-- The same at the head of a sequence. -/
theorem wp_loadB {cs : CoreSpace} {m : Memref sig c.2.kind cs s e} {o : Fin s.rank → ℕ} {h : ∀ a, o a + s.size a ≤ s.size a} (ho : ∀ a, o a = 0)
    {hl : m.view.LoadsAt (Rect.unit (s := s) o s.size h).toLoadRect} {k : (s.Idx → Elt Ideal e) → Prog (TpuEff nD τ sig (Elt Ideal) Λ c.2) α}
    {q : PosShare TreeShare} {X : s.Idx → Elt Ideal e} :
    (owns c m q X : sProp 𝕄)
      ⊢ iprop((owns c m q X -∗ wp frame (wpE defs 𝒱 c bd) Set.univ (k X) Q)
        -∗ wp frame (wpE defs 𝒱 c bd) Set.univ (Prog.lift (.load m (Rect.unit (s := s) o s.size h).toLoadRect hl) >>= k) Q) :=
  wp_loadW 𝒱 c bd ho (hl := hl)

theorem wp_storeB {cs : CoreSpace} {m : Memref sig c.2.kind cs s e} {o : Fin s.rank → ℕ} {h : ∀ a, o a + s.size a ≤ s.size a} (ho : ∀ a, o a = 0)
    {w : s.Idx → Elt Ideal e}
    {hx : (m.access (Rect.unit (s := s) o s.size h)).Stores Finset.univ} {hm : Finset.univ = Finset.univ ∨ ∀ a, (Rect.unit (s := s) o s.size h).stride a = 1}
    {k : PUnit → Prog (TpuEff nD τ sig (Elt Ideal) Λ c.2) α} {X : s.Idx → Elt Ideal e} :
    (owns c m fullShare X : sProp 𝕄)
      ⊢ iprop((owns c m fullShare w -∗ wp frame (wpE defs 𝒱 c bd) Set.univ (k ⟨⟩) Q)
        -∗ wp frame (wpE defs 𝒱 c bd) Set.univ (Prog.lift (.store m (Rect.unit (s := s) o s.size h) w Finset.univ hx hm) >>= k) Q) :=
  wp_storeW 𝒱 c bd ho

theorem wp_iteT {P : Prop} {hd : Decidable P} (h : P) {p p' : Prog (TpuEff nD τ sig (Elt Ideal) Λ c.2) α} :
    (wp frame (wpE defs 𝒱 c bd) Set.univ p Q : sProp 𝕄) ⊢ wp frame (wpE defs 𝒱 c bd) Set.univ (ite P p p') Q := by
  rw [if_pos h]

theorem wp_iteF {P : Prop} {hd : Decidable P} (h : ¬ P) {p p' : Prog (TpuEff nD τ sig (Elt Ideal) Λ c.2) α} :
    (wp frame (wpE defs 𝒱 c bd) Set.univ p' Q : sProp 𝕄) ⊢ wp frame (wpE defs 𝒱 c bd) Set.univ (ite P p p') Q := by
  rw [if_neg h]

end Whole

theorem zero3 (a : Fin 3) : (![0, 0, 0] : Fin 3 → ℕ) a = 0 := by fin_cases a <;> rfl

/-- The body with its values left open. -/
def simProg (p3 : FVec Ideal S1x1000x256 .f32 → FVec Ideal S1x1x1008 .f32) (cd : FVec Ideal S1x1000x256 .f32 → BitVec 1) (p5 : FVec Ideal S1x1000x256 .f32 → FVec Ideal S1x1000x1008 .f32)
    (p6 : FVec Ideal S1x1000x256 .f32 → IVec S1x1x1008 32) (arg1 : Memref sig .tc .vmem S1x1000x256 .f32) (harg1 : arg1.IsWhole) (arg2 : Memref sig .tc .vmem S1x1000x1008 .f32) (harg2 : arg2.IsWhole) (arg3 : Memref sig .tc .vmem S1x1x1008 .f32) (harg3 : arg3.IsWhole) (arg4 : Memref sig .tc .vmem S1x1x1008 .i32) (harg4 : arg4.IsWhole) :
    Prog (TpuEff nD τ sig (Elt Ideal) Λ₀ .tc) PUnit := do
  let v0 : Vec Ideal S1x1000x256 .f32 ← Prog.lift (.load arg1 (Rect.unit (s := S1x1000x256) ![0, 0, 0] S1x1000x256.size inb_S1x1000x256_S1x1000x256_0_0_0).toLoadRect (View.loadsAt_vmem h_S1x1000x256))
  let v21 : Vec Ideal S1x1x1008 .f32 ← Prog.lift (.load arg3 (Rect.unit (s := S1x1x1008) ![0, 0, 0] S1x1x1008.size inb_S1x1x1008_S1x1x1008_0_0_0).toLoadRect (View.loadsAt_vmem h_S1x1x1008))
  Prog.lift (.store arg3 (Rect.unit (s := S1x1x1008) ![0, 0, 0] S1x1x1008.size inb_S1x1x1008_S1x1x1008_0_0_0) (p3 v0) Finset.univ (View.stores_vmem_bits_univ h_S1x1x1008 rfl) (.inl rfl))
  if cd v0 = 1#1 then do
    let v39 : Vec Ideal S1x1000x1008 .f32 ← Prog.lift (.load arg2 (Rect.unit (s := S1x1000x1008) ![0, 0, 0] S1x1000x1008.size inb_S1x1000x1008_S1x1000x1008_0_0_0).toLoadRect (View.loadsAt_vmem h_S1x1000x1008))
    Prog.lift (.store arg2 (Rect.unit (s := S1x1000x1008) ![0, 0, 0] S1x1000x1008.size inb_S1x1000x1008_S1x1000x1008_0_0_0) (p5 v0) Finset.univ (View.stores_vmem_bits_univ h_S1x1000x1008 rfl) (.inl rfl))
    let v44 : Vec Ideal S1x1x1008 .i32 ← Prog.lift (.load arg4 (Rect.unit (s := S1x1x1008) ![0, 0, 0] S1x1x1008.size inb_S1x1x1008_S1x1x1008_0_0_0).toLoadRect (View.loadsAt_vmem h_S1x1x1008))
    Prog.lift (.store arg4 (Rect.unit (s := S1x1x1008) ![0, 0, 0] S1x1x1008.size inb_S1x1x1008_S1x1x1008_0_0_0) (p6 v0) Finset.univ (View.stores_vmem_bits_univ h_S1x1x1008 rfl) (.inl rfl))
    pure ⟨⟩
  else do
    pure ⟨⟩

theorem sim_eq (i : grid0.Coords) : cc0__sim_body (F := Ideal) i = simProg (k0_pay3 (F := Ideal)) cond0 (k0_pay5 (F := Ideal)) (k0_pay6 (F := Ideal)) := by
  rw [cc0__sim_body_eq_skeleton]
  rfl

theorem body_run (d : Dev nD) (p3 : FVec Ideal S1x1000x256 .f32 → FVec Ideal S1x1x1008 .f32) (cd : FVec Ideal S1x1000x256 .f32 → BitVec 1)
    (p5 : FVec Ideal S1x1000x256 .f32 → FVec Ideal S1x1000x1008 .f32) (p6 : FVec Ideal S1x1000x256 .f32 → IVec S1x1x1008 32) (arg1 : Memref sig .tc .vmem S1x1000x256 .f32) (harg1 : arg1.IsWhole)
    (arg2 : Memref sig .tc .vmem S1x1000x1008 .f32) (harg2 : arg2.IsWhole) (arg3 : Memref sig .tc .vmem S1x1x1008 .f32) (harg3 : arg3.IsWhole)
    (arg4 : Memref sig .tc .vmem S1x1x1008 .i32) (harg4 : arg4.IsWhole) (v0 : FVec Ideal S1x1000x256 .f32)
    (Y2 : S1x1000x1008.Idx → EReal) (Y3 : S1x1x1008.Idx → EReal) (Y4 : S1x1x1008.Idx → BitVec 32) (Q : PUnit → sProp 𝕄) :
    iprop(owns (d.tc : Thread nD τ) arg1 fullShare v0 ∗ owns (d.tc : Thread nD τ) arg2 fullShare Y2
        ∗ owns (d.tc : Thread nD τ) arg3 fullShare Y3 ∗ owns (d.tc : Thread nD τ) arg4 fullShare Y4)
      ⊢ iprop((∀ (X2 : S1x1000x1008.Idx → EReal) (X4 : S1x1x1008.Idx → BitVec 32),
          ⌜(cd v0 = 1#1 → X2 = p5 v0) ∧ (cd v0 = 1#1 → X4 = p6 v0)⌝
          -∗ (owns (d.tc : Thread nD τ) arg1 fullShare v0 ∗ owns (d.tc : Thread nD τ) arg2 fullShare X2
            ∗ owns (d.tc : Thread nD τ) arg3 fullShare (p3 v0) ∗ owns (d.tc : Thread nD τ) arg4 fullShare X4) -∗ Q ⟨⟩)
        -∗ wp frame (wpE (defs₀ (F := Ideal)) Variants.none (d.tc : Thread nD τ) none) Set.univ
          (simProg p3 cd p5 p6 arg1 harg1 arg2 harg2 arg3 harg3 arg4 harg4) Q) := by
  unfold simProg
  iintro ⟨H1, H2, H3, H4⟩ Hk
  iapply (wp_loadB Variants.none (d.tc : Thread nD τ) none zero3) $$ H1
  iintro H1
  iapply (wp_loadB Variants.none (d.tc : Thread nD τ) none zero3) $$ H3
  iintro H3
  iapply (wp_storeB Variants.none (d.tc : Thread nD τ) none zero3) $$ H3
  iintro H3
  by_cases hb : cd v0 = 1#1
  · iapply (wp_iteT Variants.none (d.tc : Thread nD τ) none hb)
    iapply (wp_loadB Variants.none (d.tc : Thread nD τ) none zero3) $$ H2
    iintro H2
    iapply (wp_storeB Variants.none (d.tc : Thread nD τ) none zero3) $$ H2
    iintro H2
    iapply (wp_loadB Variants.none (d.tc : Thread nD τ) none zero3) $$ H4
    iintro H4
    iapply (wp_storeB Variants.none (d.tc : Thread nD τ) none zero3) $$ H4
    iintro H4
    iapply (wp_doneO Variants.none (d.tc : Thread nD τ) none)
    iapply Hk $$ %(p5 v0) %(p6 v0) []
    · ipureintro; exact ⟨fun _ => rfl, fun _ => rfl⟩
    isplitl [H1]; · iexact H1
    isplitl [H2]; · iexact H2
    isplitl [H3]; · iexact H3
    iexact H4
  · iapply (wp_iteF Variants.none (d.tc : Thread nD τ) none hb)
    iapply (wp_doneO Variants.none (d.tc : Thread nD τ) none)
    iapply Hk $$ %Y2 %Y4 []
    · ipureintro; exact ⟨fun h => absurd h hb, fun h => absurd h hb⟩
    isplitl [H1]; · iexact H1
    isplitl [H2]; · iexact H2
    isplitl [H3]; · iexact H3
    iexact H4

theorem body_sep (d : Dev nD) (p3 : FVec Ideal S1x1000x256 .f32 → FVec Ideal S1x1x1008 .f32) (cd : FVec Ideal S1x1000x256 .f32 → BitVec 1)
    (p5 : FVec Ideal S1x1000x256 .f32 → FVec Ideal S1x1000x1008 .f32) (p6 : FVec Ideal S1x1000x256 .f32 → IVec S1x1x1008 32) (arg1 : Memref sig .tc .vmem S1x1000x256 .f32) (harg1 : arg1.IsWhole)
    (arg2 : Memref sig .tc .vmem S1x1000x1008 .f32) (harg2 : arg2.IsWhole) (arg3 : Memref sig .tc .vmem S1x1x1008 .f32) (harg3 : arg3.IsWhole)
    (arg4 : Memref sig .tc .vmem S1x1x1008 .i32) (harg4 : arg4.IsWhole) (v0 : FVec Ideal S1x1000x256 .f32)
    (Y2 : S1x1000x1008.Idx → EReal) (Y3 : S1x1x1008.Idx → EReal) (Y4 : S1x1x1008.Idx → BitVec 32) (P : sProp 𝕄) :
    iprop(emp ∗ P ∗ owns (d.tc : Thread nD τ) arg1 fullShare v0 ∗ owns (d.tc : Thread nD τ) arg2 fullShare Y2
        ∗ owns (d.tc : Thread nD τ) arg3 fullShare Y3 ∗ owns (d.tc : Thread nD τ) arg4 fullShare Y4)
      ⊢ wp frame (wpE (defs₀ (F := Ideal)) Variants.none (d.tc : Thread nD τ) none) Set.univ (simProg p3 cd p5 p6 arg1 harg1 arg2 harg2 arg3 harg3 arg4 harg4)
        fun _ => iprop(emp ∗ P ∗ (∃ X : S1x1000x256.Idx → EReal, ⌜X = v0⌝ ∗ owns (d.tc : Thread nD τ) arg1 fullShare X)
          ∗ (∃ X : S1x1000x1008.Idx → EReal, ⌜cd v0 = 1#1 → X = p5 v0⌝ ∗ owns (d.tc : Thread nD τ) arg2 fullShare X)
          ∗ (∃ X : S1x1x1008.Idx → EReal, ⌜X = p3 v0⌝ ∗ owns (d.tc : Thread nD τ) arg3 fullShare X)
          ∗ (∃ X : S1x1x1008.Idx → BitVec 32, ⌜cd v0 = 1#1 → X = p6 v0⌝ ∗ owns (d.tc : Thread nD τ) arg4 fullShare X)) := by
  iintro ⟨HΦ, HO, H1, H2, H3, H4⟩
  iapply (body_run d p3 cd p5 p6 arg1 harg1 arg2 harg2 arg3 harg3 arg4 harg4 v0 Y2 Y3 Y4 _) $$ [H1 H2 H3 H4]
  · isplitl [H1]; · iexact H1
    isplitl [H2]; · iexact H2
    isplitl [H3]; · iexact H3
    iexact H4
  iintro %X2 %X4 %hX ⟨H1, H2, H3, H4⟩
  isplitl [HΦ]; · iexact HΦ
  isplitl [HO]; · iexact HO
  isplitl [H1]
  · iexists v0
    isplitr; · ipureintro; exact rfl
    iexact H1
  isplitl [H2]
  · iexists X2
    isplitr; · ipureintro; exact hX.1
    iexact H2
  isplitl [H3]
  · iexists (p3 v0)
    isplitr; · ipureintro; exact rfl
    iexact H3
  iexists X4
  isplitr; · ipureintro; exact hX.2
  iexact H4

theorem defs₀_row (t : Fin cfg0.N) : defs₀ (F := Ideal) .tc cfg0.body (cfg0.bodyArgs t (cfg0.slots t)) = bodyAt0 t := by
  rfl

abbrev ms0 (t : Fin cfg0.N) : Memref sig .tc .vmem S1x1000x256 .f32 := win0_0.stage (cfg0.slots t 0)
abbrev ms1 (t : Fin cfg0.N) : Memref sig .tc .vmem S1x1000x1008 .f32 := win0_1.stage (cfg0.slots t 1)
abbrev ms2 (t : Fin cfg0.N) : Memref sig .tc .vmem S1x1x1008 .f32 := win0_2.stage (cfg0.slots t 2)
abbrev ms3 (t : Fin cfg0.N) : Memref sig .tc .vmem S1x1x1008 .i32 := win0_3.stage (cfg0.slots t 3)

def bodyPre (d : Dev nD) (t : Fin cfg0.N) (P : sProp 𝕄) (Y1 : S1x1000x256.Idx → EReal) (Y2 : S1x1000x1008.Idx → EReal) (Y3 : S1x1x1008.Idx → EReal) (Y4 : S1x1x1008.Idx → BitVec 32) : sProp 𝕄 :=
  iprop(emp ∗ P ∗ owns (d.tc : Thread nD τ) (ms0 t) fullShare Y1 ∗ owns (d.tc : Thread nD τ) (ms1 t) fullShare Y2
    ∗ owns (d.tc : Thread nD τ) (ms2 t) fullShare Y3 ∗ owns (d.tc : Thread nD τ) (ms3 t) fullShare Y4)

def bodyPost (d : Dev nD) (t : Fin cfg0.N) (P : sProp 𝕄) (Y1 : S1x1000x256.Idx → EReal) : sProp 𝕄 :=
  iprop(emp ∗ P ∗ (∃ X : S1x1000x256.Idx → EReal, ⌜X = Y1⌝ ∗ owns (d.tc : Thread nD τ) (ms0 t) fullShare X)
    ∗ (∃ X : S1x1000x1008.Idx → EReal, ⌜cond0 (V0 m d t.val) = 1#1 → X = k0_pay5 (F := Ideal) (V0 m d t.val)⌝ ∗ owns (d.tc : Thread nD τ) (ms1 t) fullShare X)
    ∗ (∃ X : S1x1x1008.Idx → EReal, ⌜X = k0_pay3 (F := Ideal) (V0 m d t.val)⌝ ∗ owns (d.tc : Thread nD τ) (ms2 t) fullShare X)
    ∗ (∃ X : S1x1x1008.Idx → BitVec 32, ⌜cond0 (V0 m d t.val) = 1#1 → X = k0_pay6 (F := Ideal) (V0 m d t.val)⌝ ∗ owns (d.tc : Thread nD τ) (ms3 t) fullShare X))

theorem sound_body (d : Dev nD) (t : Fin cfg0.N) (P : sProp 𝕄) (Y1 : S1x1000x256.Idx → EReal) (Y2 : S1x1000x1008.Idx → EReal) (Y3 : S1x1x1008.Idx → EReal) (Y4 : S1x1x1008.Idx → BitVec 32)
    (h0 : Y1 = V0 m d t.val) :
    bodyPre d t P Y1 Y2 Y3 Y4 ⊢ wp frame (wpE (defs₀ (F := Ideal)) Variants.none (d.tc : Thread nD τ) none) Set.univ (bodyAt0 t) (fun _ => bodyPost m d t P Y1) := by
  subst h0
  unfold bodyPre bodyPost bodyAt0
  have e := sim_eq (grid0.coords t)
  refine triple_restated (body_sep d (k0_pay3 (F := Ideal)) cond0 (k0_pay5 (F := Ideal)) (k0_pay6 (F := Ideal)) (ms0 t) (hstage0_0 ((cfg0.slots t 0).cast nbuf0_0))
    (ms1 t) (hstage0_1 ((cfg0.slots t 1).cast nbuf0_1)) (ms2 t) (hstage0_2 ((cfg0.slots t 2).cast nbuf0_2)) (ms3 t) (hstage0_3 ((cfg0.slots t 3).cast nbuf0_3))
    (V0 m d t.val) Y2 Y3 Y4 P) ?_ .rfl fun _ => .rfl
  rw [e]

/-- The body obligation at every point. -/
theorem hbody (d : Dev nD) : (rdat m O R d).BodyObligation (defs₀ (F := Ideal)) Variants.none none Set.univ := fun t Y hY => by
  rw [bigSep_W0, bigSep_W0, defs₀_row]
  exact triple_restated (sound_body m d t _ (Y 0) (Y 1) (Y 2) (Y 3) (finds0 m O R d t _ (hY 0))) rfl .rfl fun _ => .rfl

/-! ## What the arrays hold after the region -/

theorem leaves1 (d : Dev nD) (t : Fin cfg0.N) (X : S1x1000x1008.Idx → EReal) (h : (rdat m O R d).Leaves 1 t X) :
    Big (V0 m d t.val) → X = k0_pay5 (F := Ideal) (V0 m d t.val) := by
  obtain ⟨Y, -, h⟩ := h
  exact h

theorem leaves2 (d : Dev nD) (t : Fin cfg0.N) (X : S1x1x1008.Idx → EReal) (h : (rdat m O R d).Leaves 2 t X) :
    X = k0_pay3 (F := Ideal) (V0 m d t.val) := by
  obtain ⟨Y, -, h⟩ := h
  exact h

theorem leaves3 (d : Dev nD) (t : Fin cfg0.N) (X : S1x1x1008.Idx → BitVec 32) (h : (rdat m O R d).Leaves 3 t X) :
    Big (V0 m d t.val) → X = k0_pay6 (F := Ideal) (V0 m d t.val) := by
  obtain ⟨Y, -, h⟩ := h
  exact h

/-- Window 2's array, element by element. -/
theorem arr2 (d : Dev nD) (G : (w : Fin cfg0.W) → Buf (Elt Ideal) ((cfg0.win w).arr.view.loc (d.tc : Thread nD τ)))
    (h : ∀ w, (rdat m O R d).ArrAt w cfg0.N (G w)) (i : S4x1x1008.Idx) :
    (G 2 : S4x1x1008.Idx → EReal) i = k0_pay3 (F := Ideal) (V0 m d (i 0).val) (ix3 0 0 (i 2)) := by
  obtain ⟨af, hl, hG⟩ := Pipeline.RDat.ArrAt.exists_exact_all h
  rw [hG 2]
  refine Dat.arrAt_forall_of_covers ((rdat m O R d).withAfter af) 2
    (fun (i : S4x1x1008.Idx) (v : EReal) => v = k0_pay3 (F := Ideal) (V0 m d (i 0).val) (ix3 0 0 (i 2))) (by decide +kernel) (fun t hf y => ?_) i
  have e := leaves2 m O R d t _ (hl 2 t t.isLt hf)
  have ht : t.val < 4 := N_0 ▸ t.isLt
  have hy : ((cfg0.win 2).blk t).view.emb y = (ix3 ⟨t.val, ht⟩ (y 1) (y 2) : S4x1x1008.Idx) := by
    blk_ext [idx2]
  rw [hy]
  have hx : ((cfg0.win 2).xinj (cfg0.grid.coords t) y : S1x1x1008.Idx) = ix3 0 0 (y 2) := by
    change (y : S1x1x1008.Idx) = _
    funext a
    have h0 : ∀ z : Fin 1, z = 0 := fun z => Subsingleton.elim _ _
    match a with
    | 0 => exact h0 (y 0)
    | 1 => exact h0 (y 1)
    | 2 => rfl
  skip
  exact (congrFun (e) _).trans (congrArg (k0_pay3 (F := Ideal) (V0 m d t.val)) hx)

/-- Window 1's array, element by element. -/
theorem arr1 (d : Dev nD) (G : (w : Fin cfg0.W) → Buf (Elt Ideal) ((cfg0.win w).arr.view.loc (d.tc : Thread nD τ)))
    (h : ∀ w, (rdat m O R d).ArrAt w cfg0.N (G w)) (i : S4x1000x1008.Idx) :
    Big (V0 m d (i 0).val) → (G 1 : S4x1000x1008.Idx → EReal) i = k0_pay5 (F := Ideal) (V0 m d (i 0).val) (ix3 0 (i 1) (i 2)) := by
  obtain ⟨af, hl, hG⟩ := Pipeline.RDat.ArrAt.exists_exact_all h
  rw [hG 1]
  refine Dat.arrAt_forall_of_covers ((rdat m O R d).withAfter af) 1
    (fun (i : S4x1000x1008.Idx) (v : EReal) => Big (V0 m d (i 0).val) → v = k0_pay5 (F := Ideal) (V0 m d (i 0).val) (ix3 0 (i 1) (i 2))) (by decide +kernel) (fun t hf y => ?_) i
  have e := leaves1 m O R d t _ (hl 1 t t.isLt hf)
  have ht : t.val < 4 := N_0 ▸ t.isLt
  have hy : ((cfg0.win 1).blk t).view.emb y = (ix3 ⟨t.val, ht⟩ (y 1) (y 2) : S4x1000x1008.Idx) := by
    blk_ext [idx1]
  rw [hy]
  have hx : ((cfg0.win 1).xinj (cfg0.grid.coords t) y : S1x1000x1008.Idx) = ix3 0 (y 1) (y 2) := by
    change (y : S1x1000x1008.Idx) = _
    funext a
    have h0 : ∀ z : Fin 1, z = 0 := fun z => Subsingleton.elim _ _
    match a with
    | 0 => exact h0 (y 0)
    | 1 => exact rfl
    | 2 => rfl
  intro hb
  exact (congrFun (e hb) _).trans (congrArg (k0_pay5 (F := Ideal) (V0 m d t.val)) hx)

/-- Window 3's array, element by element. -/
theorem arr3 (d : Dev nD) (G : (w : Fin cfg0.W) → Buf (Elt Ideal) ((cfg0.win w).arr.view.loc (d.tc : Thread nD τ)))
    (h : ∀ w, (rdat m O R d).ArrAt w cfg0.N (G w)) (i : S4x1x1008.Idx) :
    Big (V0 m d (i 0).val) → (G 3 : S4x1x1008.Idx → BitVec 32) i = k0_pay6 (F := Ideal) (V0 m d (i 0).val) (ix3 0 0 (i 2)) := by
  obtain ⟨af, hl, hG⟩ := Pipeline.RDat.ArrAt.exists_exact_all h
  rw [hG 3]
  refine Dat.arrAt_forall_of_covers ((rdat m O R d).withAfter af) 3
    (fun (i : S4x1x1008.Idx) (v : BitVec 32) => Big (V0 m d (i 0).val) → v = k0_pay6 (F := Ideal) (V0 m d (i 0).val) (ix3 0 0 (i 2))) (by decide +kernel) (fun t hf y => ?_) i
  have e := leaves3 m O R d t _ (hl 3 t t.isLt hf)
  have ht : t.val < 4 := N_0 ▸ t.isLt
  have hy : ((cfg0.win 3).blk t).view.emb y = (ix3 ⟨t.val, ht⟩ (y 1) (y 2) : S4x1x1008.Idx) := by
    blk_ext [idx3]
  rw [hy]
  have hx : ((cfg0.win 3).xinj (cfg0.grid.coords t) y : S1x1x1008.Idx) = ix3 0 0 (y 2) := by
    change (y : S1x1x1008.Idx) = _
    funext a
    have h0 : ∀ z : Fin 1, z = 0 := fun z => Subsingleton.elim _ _
    match a with
    | 0 => exact h0 (y 0)
    | 1 => exact h0 (y 1)
    | 2 => rfl
  intro hb
  exact (congrFun (e hb) _).trans (congrArg (k0_pay6 (F := Ideal) (V0 m d t.val)) hx)

theorem arr0 (d : Dev nD) (G : (w : Fin cfg0.W) → Buf (Elt Ideal) ((cfg0.win w).arr.view.loc (d.tc : Thread nD τ)))
    (h : ∀ w, (rdat m O R d).ArrAt w cfg0.N (G w)) : G 0 = m ((d.tc : Thread nD τ).loc main_arg0) := by
  have h0 := h 0
  rw [RDat.ArrAt_in (rdat m O R d) 0 rfl] at h0
  exact h0

end Cert.Proof.Region
-- ==== Proof.Tile.lean ====
/-
  What the SparseCore call takes and brings back, and what each of its thirty-two subcores does with its own batch.
-/
module

public import proofs.«01_k».proof.Proof.Region

@[expose] public section

noncomputable section

namespace Cert.Proof.Region

open Cert.KernelIdeal Cert.KernelIdeal.Gen Cert.Proof.Rules Cert.Proof.Vec Cert.Proof.Greedy Cert.Proof.Scan
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

abbrev ΛP : Labels := Pipeline.Sig Λ₀ (Fin 1) fun p => (pcfgs (F := Ideal) p).Adm
abbrev K : SparseCore.Cfg τ sig ΛP 1 := sc (F := Ideal)
abbrev D : Defs nD τ sig (Elt Ideal) ΛP := Pipeline.defs pcfgs (defs₀ (F := Ideal))
abbrev 𝒱₀ : Variants := Variants.none
abbrev 𝒱 : Variants := 𝒱₀.lift
abbrev v₀ : 𝒱.V := Sum.inl none

theorem facts : K.Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev EH : Emb UH (MT nD τ sig (HIx 1) (Elt Ideal) ℕ UU ℕ) := embL

variable (m : (ℓ : Loc nD τ sig) → Buf (Elt Ideal) ℓ)

/-! ## The pieces of the arrays -/

abbrev simL (d : Dev nD) : Loc nD τ sig := (d.tc : Thread nD τ).loc main_v0_0
abbrev hasL (d : Dev nD) : Loc nD τ sig := (d.tc : Thread nD τ).loc main_v1
abbrev gateL (d : Dev nD) : Loc nD τ sig := (d.tc : Thread nD τ).loc main_v2
abbrev slotL (d : Dev nD) : Loc nD τ sig := (d.tc : Thread nD τ).loc main_arg0
abbrev mapL (d : Dev nD) : Loc nD τ sig := (d.tc : Thread nD τ).loc main_v3_0
abbrev outL (d : Dev nD) : Loc nD τ sig := (d.tc : Thread nD τ).loc main_v3_1

/-- The slots as numbers. -/
def xs (d : Dev nD) : ℕ → ℕ → ℕ → EReal := of3 (α := EReal) (m (slotL d) : S4x1000x256.Idx → EReal)

/-- What one subcore is given for batch `b`. -/
def Batch (d : Dev nD) (b : ℕ) : sProp 𝕄 :=
  iprop(∃ (f2 : Buf (Elt Ideal) (simL d)) (f3 : Buf (Elt Ideal) (hasL d)) (f4 : Buf (Elt Ideal) (gateL d)) (f6 : Buf (Elt Ideal) (mapL d)) (f7 : Buf (Elt Ideal) (outL d)),
    ⌜b < 4 → Init (simS (V0 m d b)) (of3 (α := EReal) (f2 : S4x1000x1008.Idx → EReal) b) (of2 (α := EReal) (f3 : S4x1008.Idx → EReal) b) (of2 (f4 : S4x1008.Idx → BitVec 32) b)⌝
    ∗ (simL d ↦[part ![4, 1000, 1008] b]{fullShare} f2) ∗ (hasL d ↦[part ![4, 1008] b]{fullShare} f3) ∗ (gateL d ↦[part ![4, 1008] b]{fullShare} f4)
    ∗ (slotL d ↦[part ![4, 1000, 256] b]{fullShare} m (slotL d)) ∗ (mapL d ↦[part ![4, 1008] b]{fullShare} f6) ∗ (outL d ↦[part ![4, 1000, 256] b]{fullShare} f7))

/-- What it brings back: the slots, and the batch's map and merged slots. -/
def BatchOut (d : Dev nD) (b : ℕ) : sProp 𝕄 :=
  iprop(∃ f : Buf (Elt Ideal) (mapL d) × Buf (Elt Ideal) (outL d),
    ⌜b < 4 → Merged (simS (V0 m d b)) (xs m d b) (of2 (f.1 : S4x1008.Idx → BitVec 32) b) (of3 (α := EReal) (f.2 : S4x1000x256.Idx → EReal) b)⌝
    ∗ (slotL d ↦[part ![4, 1000, 256] b]{fullShare} m (slotL d)) ∗ (mapL d ↦[part ![4, 1008] b]{fullShare} f.1) ∗ (outL d ↦[part ![4, 1000, 256] b]{fullShare} f.2))

set_option synthInstance.maxHeartbeats 400000 in
set_option synthInstance.maxSize 2048 in
instance batch_storable (d : Dev nD) (b : ℕ) : BI.Storable (upEmb : UEmb _ 𝕄) (Batch m d b) := by
  unfold Batch; infer_instance
set_option synthInstance.maxHeartbeats 400000 in
set_option synthInstance.maxSize 2048 in
instance batchOut_storable (d : Dev nD) (b : ℕ) : BI.Storable (upEmb : UEmb _ 𝕄) (BatchOut m d b) := by
  unfold BatchOut; infer_instance

/-- The batch that subcore `i` of SparseCore `c` works on; from the fifth on there is none. -/
def bat (c : Fin 2) (i : Fin 16) : ℕ := i.val * 2 + c.val

def P : K.Pay (nD := nD) (Val := Elt Ideal) (Name := ℕ) (U := UU) where
  st := fun q d c => match q with | 0 => bigSep Finset.univ fun i : Fin 16 => Batch m d (bat c i)
  dn := fun q d c => match q with | 0 => bigSep Finset.univ fun i : Fin 16 => BatchOut m d (bat c i)
  go := fun q d c i => match q with | 0 => Batch m d (bat c i)
  td := fun q d c i => match q with | 0 => BatchOut m d (bat c i)
  x := fun _ _ => iprop(emp)

instance P_storable : (P m).IsStorable where
  st q d c := match q with
    | 0 => (inferInstance : BI.Storable (upEmb : UEmb _ 𝕄) (bigSep Finset.univ fun i : Fin 16 => Batch m d (bat c i)))
  dn q d c := match q with
    | 0 => (inferInstance : BI.Storable (upEmb : UEmb _ 𝕄) (bigSep Finset.univ fun i : Fin 16 => BatchOut m d (bat c i)))
  go q d c i := match q with
    | 0 => (inferInstance : BI.Storable (upEmb : UEmb _ 𝕄) (Batch m d (bat c i)))
  td q d c i := match q with
    | 0 => (inferInstance : BI.Storable (upEmb : UEmb _ 𝕄) (BatchOut m d (bat c i)))

theorem vecSplit : K.VecSplit' (P m) 0 := by
  intro d c
  show (bigSep Finset.univ fun i : Fin 16 => Batch m d (bat c i)) ⊢ |={Set.univ}=> iprop(
    (bigSep Finset.univ fun i : Fin 16 => Batch m d (bat c i))
      ∗ ((bigSep Finset.univ fun i : Fin 16 => BatchOut m d (bat c i)) -∗ bigSep Finset.univ fun i : Fin 16 => BatchOut m d (bat c i)))
  iintro H; imodintro
  isplitl [H]; · iexact H
  iintro H; iexact H

/-! ## A subcore's own buffers and semaphores -/

section Own

variable (d : Dev nD) (i : grid1.Coords)

theorem whole_out (c : Thread nD τ) (r : Ref sig c.2.kind) :
    iprop(∃ f, c.loc r ↦{fullShare} f) ⊢ (iprop(∃ Y, owns c (Memref.whole r) fullShare Y) : sProp 𝕄) := by
  iintro ⟨%f, H⟩
  iexists f
  unfold owns
  iexists f
  isplitr
  · ipureintro; rfl
  · rw [View.set_whole]; iexact H

theorem whole_in (c : Thread nD τ) (r : Ref sig c.2.kind) :
    (iprop(∃ Y, owns c (Memref.whole r) fullShare Y) : sProp 𝕄) ⊢ iprop(∃ f, c.loc r ↦{fullShare} f) := by
  unfold owns
  rw [View.set_whole]
  iintro ⟨%Y, %f, -, H⟩
  iexists f; iexact H

theorem part_out (c : Thread nD τ) (r : Ref sig c.2.kind) (q : PosShare TreeShare) (S : Finset r.ty.shape.Idx) (X : r.ty.shape.Idx → Elt Ideal r.ty.elt) :
    (c.loc r ↦[S]{q} X : sProp 𝕄) ⊢ ownsOn c (Memref.whole r) q S X := by
  unfold ownsOn
  iintro H
  iexists X
  isplitr
  · ipureintro; exact fun _ _ => rfl
  · rw [show S.map (Memref.whole r).view.emb = S from Finset.map_refl]; iexact H

theorem part_in (c : Thread nD τ) (r : Ref sig c.2.kind) (q : PosShare TreeShare) (S : Finset r.ty.shape.Idx) (X : r.ty.shape.Idx → Elt Ideal r.ty.elt) :
    (ownsOn c (Memref.whole r) q S X : sProp 𝕄) ⊢ c.loc r ↦[S]{q} X := by
  unfold ownsOn
  iintro ⟨%f, %h, H⟩
  rw [show S.map (Memref.whole r).view.emb = S from Finset.map_refl]
  rw [← pointsTo_congr (ℓ := c.loc r) (I := S) (q := q) (f := f) (g := X) (fun j hj => h j hj)]
  iexact H

abbrev scratchRefs : Finset (Ref sig .scVector) :=
  {cc1_scratch0, cc1_scratch1, cc1_scratch2, cc1_scratch3, cc1_scratch4, cc1_scratch5, cc1_scratch6, cc1_scratch7, cc1_scratch8}

abbrev scratchSems : Finset (SemLoc sig) :=
  {.dma cc1_scratch9.sem, .dma cc1_scratch10.sem, .dma cc1_scratch11.sem, .dma cc1_scratch12.sem, .dma cc1_scratch13.sem, .dma cc1_scratch14.sem, .dma cc1_scratch15.sem}

def refEmb (p : Proc τ) : Ref sig p.kind ↪ DevRef τ sig := ⟨p.devRef, Proc.devRef_injective p⟩
def semEmb (c : Thread nD τ) : SemLoc sig ↪ GSem nD τ sig := ⟨fun s => (c, s), fun _ _ h => congrArg Prod.snd h⟩

def restB : sProp 𝕄 :=
  bigSep (ownRefs (τ := τ) (sig := sig) (thr d i).2 \ scratchRefs.map (refEmb (thr d i).2)) fun b => iprop(∃ f, (((thr d i).1, b) : Loc nD τ sig) ↦{fullShare} f)
def restS : sProp 𝕄 := bigSep (ownCells (thr d i) \ scratchSems.map (semEmb (thr d i))) fun g => semVal g 0

theorem ownBufs_split : (ownBufs (thr d i) : sProp 𝕄) = iprop((bigSep scratchRefs fun r => iprop(∃ f, (thr d i).loc r ↦{fullShare} f)) ∗ restB d i) := by
  unfold ownBufs restB
  have h : scratchRefs.map (refEmb (thr d i).2) ⊆ ownRefs (τ := τ) (sig := sig) (thr d i).2 := by
    intro b hb
    obtain ⟨r, hr, rfl⟩ := Finset.mem_map.mp hb
    refine SparseCore.Cfg.mem_ownRefs_of_owner ?_
    simp only [scratchRefs, Finset.mem_insert, Finset.mem_singleton] at hr
    rcases hr with rfl | rfl | rfl | rfl | rfl | rfl | rfl | rfl | rfl <;> rfl
  rw [bigSep_sdiff_split h, bigSep_map]
  rfl

theorem ownSems_split : (ownSems0 (thr d i) : sProp 𝕄) = iprop((bigSep scratchSems fun s => semVal (thr d i, s) 0) ∗ restS d i) := by
  unfold ownSems0 restS
  have h : scratchSems.map (semEmb (thr d i)) ⊆ ownCells (thr d i) := by
    intro b hb
    obtain ⟨r, hr, rfl⟩ := Finset.mem_map.mp hb
    refine mem_ownCells.mpr ⟨rfl, ?_⟩
    show r.isScoped .scVector = true
    clear hb; revert r; decide
  rw [bigSep_sdiff_split h, bigSep_map]
  rfl

abbrev ScratchK (d : Dev nD) (i : grid1.Coords) : sProp 𝕄 :=
  Scratch d i (Memref.whole cc1_scratch0) (Memref.whole cc1_scratch1) (Memref.whole cc1_scratch2) (Memref.whole cc1_scratch3) (Memref.whole cc1_scratch4) (Memref.whole cc1_scratch5)
    (Memref.whole cc1_scratch6) (Memref.whole cc1_scratch7) (Memref.whole cc1_scratch8) cc1_scratch9 cc1_scratch10 cc1_scratch11 cc1_scratch12 cc1_scratch13 cc1_scratch14 cc1_scratch15

theorem bigSep_nine (Φ : Ref sig .scVector → sProp 𝕄) : bigSep scratchRefs Φ = iprop(Φ cc1_scratch0 ∗ Φ cc1_scratch1 ∗ Φ cc1_scratch2 ∗ Φ cc1_scratch3 ∗ Φ cc1_scratch4
    ∗ Φ cc1_scratch5 ∗ Φ cc1_scratch6 ∗ Φ cc1_scratch7 ∗ Φ cc1_scratch8) := by
  unfold scratchRefs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem bigSep_seven (Φ : SemLoc sig → sProp 𝕄) : bigSep scratchSems Φ = iprop(Φ (.dma cc1_scratch9.sem) ∗ Φ (.dma cc1_scratch10.sem) ∗ Φ (.dma cc1_scratch11.sem)
    ∗ Φ (.dma cc1_scratch12.sem) ∗ Φ (.dma cc1_scratch13.sem) ∗ Φ (.dma cc1_scratch14.sem) ∗ Φ (.dma cc1_scratch15.sem)) := by
  unfold scratchSems
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem scratch_deal : iprop((ownBufs (thr d i) : sProp 𝕄) ∗ ownSems0 (thr d i)) ⊢ iprop(ScratchK d i ∗ restB d i ∗ restS d i) := by
  rw [ownBufs_split, ownSems_split, bigSep_nine, bigSep_seven]
  iintro ⟨⟨⟨H0, H1, H2, H3, H4, H5, H6, H7, H8⟩, HB⟩, ⟨S0, S1, S2, S3, S4, S5, S6⟩, HS⟩
  isplitr [HB HS]
  · unfold ScratchK
    unfold Scratch
    isplitl [H0]; · iapply (whole_out (thr d i) cc1_scratch0); iexact H0
    isplitl [H1]; · iapply (whole_out (thr d i) cc1_scratch1); iexact H1
    isplitl [H2]; · iapply (whole_out (thr d i) cc1_scratch2); iexact H2
    isplitl [H3]; · iapply (whole_out (thr d i) cc1_scratch3); iexact H3
    isplitl [H4]; · iapply (whole_out (thr d i) cc1_scratch4); iexact H4
    isplitl [H5]; · iapply (whole_out (thr d i) cc1_scratch5); iexact H5
    isplitl [H6]; · iapply (whole_out (thr d i) cc1_scratch6); iexact H6
    isplitl [H7]; · iapply (whole_out (thr d i) cc1_scratch7); iexact H7
    isplitl [H8]; · iapply (whole_out (thr d i) cc1_scratch8); iexact H8
    isplitl [S0]; · iexact S0
    isplitl [S1]; · iexact S1
    isplitl [S2]; · iexact S2
    isplitl [S3]; · iexact S3
    isplitl [S4]; · iexact S4
    isplitl [S5]; · iexact S5
    iexact S6
  · isplitl [HB]; · iexact HB
    iexact HS

theorem scratch_back : iprop(ScratchK d i ∗ restB d i ∗ restS d i) ⊢ iprop((ownBufs (thr d i) : sProp 𝕄) ∗ ownSems0 (thr d i)) := by
  rw [ownBufs_split, ownSems_split, bigSep_nine, bigSep_seven]
  unfold ScratchK
  unfold Scratch
  iintro ⟨⟨H0, H1, H2, H3, H4, H5, H6, H7, H8, S0, S1, S2, S3, S4, S5, S6⟩, HB, HS⟩
  isplitl [H0 H1 H2 H3 H4 H5 H6 H7 H8 HB]
  · isplitr [HB]
    · isplitl [H0]; · iapply (whole_in (thr d i) cc1_scratch0); iexact H0
      isplitl [H1]; · iapply (whole_in (thr d i) cc1_scratch1); iexact H1
      isplitl [H2]; · iapply (whole_in (thr d i) cc1_scratch2); iexact H2
      isplitl [H3]; · iapply (whole_in (thr d i) cc1_scratch3); iexact H3
      isplitl [H4]; · iapply (whole_in (thr d i) cc1_scratch4); iexact H4
      isplitl [H5]; · iapply (whole_in (thr d i) cc1_scratch5); iexact H5
      isplitl [H6]; · iapply (whole_in (thr d i) cc1_scratch6); iexact H6
      isplitl [H7]; · iapply (whole_in (thr d i) cc1_scratch7); iexact H7
      iapply (whole_in (thr d i) cc1_scratch8); iexact H8
    · iexact HB
  · isplitr [HS]
    · isplitl [S0]; · iexact S0
      isplitl [S1]; · iexact S1
      isplitl [S2]; · iexact S2
      isplitl [S3]; · iexact S3
      isplitl [S4]; · iexact S4
      isplitl [S5]; · iexact S5
      iexact S6
    · iexact HS

end Own

/-! ## A subcore's task -/

section Task

variable (d : Dev nD) (i : grid1.Coords)

theorem cond1_of (h : wid i < 4) : k1_cond1 i = 1#1 := by
  have h0 : (i 0).val < 2 := (i 0).isLt
  have h1 : (i 1).val < 16 := (i 1).isLt
  have e : (BitVec.ofNat 32 (i 1).val * 2#32 + BitVec.ofNat 32 (i 0).val) = BitVec.ofNat 32 (wid i) := by
    apply BitVec.eq_of_toNat_eq
    unfold wid
    rw [BitVec.toNat_add, BitVec.toNat_mul, BitVec.toNat_ofNat, BitVec.toNat_ofNat, BitVec.toNat_ofNat]
    simp only [BitVec.toNat_ofNat]
    omega
  unfold k1_cond1
  simp only [Scalar.muli, Scalar.addi, IntOp.muli, IntOp.addi]
  rw [e]
  generalize wid i = w at h
  interval_cases w <;> decide

abbrev taskProg : Prog (TpuEff nD τ sig (Elt Ideal) Λ₀ (thr d i).2) PUnit :=
  cc1__greedy_body (F := Ideal) i (Memref.whole main_v0_0_scv) (Memref.isWhole_whole _) (Memref.whole main_v1_scv) (Memref.isWhole_whole _) (Memref.whole main_v2_scv) (Memref.isWhole_whole _)
    (Memref.whole main_arg0_scv) (Memref.isWhole_whole _) (Memref.whole main_v3_0_scv) (Memref.isWhole_whole _) (Memref.whole main_v3_1_scv) (Memref.isWhole_whole _)
    (Memref.whole cc1_scratch0) (Memref.isWhole_whole _) (Memref.whole cc1_scratch1) (Memref.isWhole_whole _) (Memref.whole cc1_scratch2) (Memref.isWhole_whole _)
    (Memref.whole cc1_scratch3) (Memref.isWhole_whole _) (Memref.whole cc1_scratch4) (Memref.isWhole_whole _) (Memref.whole cc1_scratch5) (Memref.isWhole_whole _)
    (Memref.whole cc1_scratch6) (Memref.isWhole_whole _) (Memref.whole cc1_scratch7) (Memref.isWhole_whole _) (Memref.whole cc1_scratch8) (Memref.isWhole_whole _)
    cc1_scratch9 cc1_scratch10 cc1_scratch11 cc1_scratch12 cc1_scratch13 cc1_scratch14 cc1_scratch15

theorem Env_in (O : CellTallies nD τ sig (HIx 1)) (W : Waits sig (HIx 1)) (hO : ∀ g, O g none = 0) :
    (iprop(levAts K.L K.lev ∗ owes (thr d i) O W) : sProp 𝕄) ⊢ Env (thr d i) O W none := by
  unfold Env
  iintro ⟨Hl, HO⟩
  isplitl [Hl]
  · iapply (K.mayWaits_none (thr := thr d i) hO); iexact Hl
  · iexists W
    isplitr
    · ipureintro; exact fun p hp => Or.inl hp
    · iexact HO

theorem Env_out (O : CellTallies nD τ sig (HIx 1)) (W : Waits sig (HIx 1)) :
    (Env (thr d i) O W none : sProp 𝕄) ⊢ iprop(∃ W', ⌜∀ p ∈ W', p ∈ W ∨ p.2 = none⌝ ∗ owes (thr d i) O W') := by
  unfold Env
  iintro ⟨-, H⟩
  iexact H

theorem task_run (O : CellTallies nD τ sig (HIx 1)) (W : Waits sig (HIx 1)) (hi : wid i < 4) :
    iprop(Batch m d (wid i) ∗ ScratchK d i ∗ Env (thr d i) O W none)
      ⊢ wp frame (wpE (defs₀ (F := Ideal)) 𝒱₀ (thr d i) none) Set.univ (taskProg d i)
          fun _ => iprop(BatchOut m d (wid i) ∗ ScratchK d i ∗ Env (thr d i) O W none) := by
  unfold taskProg
  rw [cc1__greedy_body_eq_skeleton]
  unfold Batch
  iintro ⟨⟨%f2, %f3, %f4, %f6, %f7, %hI, H2, H3, H4, H5, H6, H7⟩, HS, HE⟩
  ihave H2 := (part_out (thr d i) main_v0_0_scv fullShare (part ![4, 1000, 1008] (wid i)) f2) $$ H2
  ihave H3 := (part_out (thr d i) main_v1_scv fullShare (part ![4, 1008] (wid i)) f3) $$ H3
  ihave H4 := (part_out (thr d i) main_v2_scv fullShare (part ![4, 1008] (wid i)) f4) $$ H4
  ihave H5 := (part_out (thr d i) main_arg0_scv fullShare (part ![4, 1000, 256] (wid i)) (m (slotL d))) $$ H5
  ihave H6 := (part_out (thr d i) main_v3_0_scv fullShare (part ![4, 1008] (wid i)) f6) $$ H6
  ihave H7 := (part_out (thr d i) main_v3_1_scv fullShare (part ![4, 1000, 256] (wid i)) f7) $$ H7
  ihave H2 := (ownsOn_congr (thr d i) (Memref.whole main_v0_0_scv) fullShare (D := part ![4, 1000, 1008] (wid i)) (X := f2) (Y := at3 (of3 (α := EReal) (f2 : S4x1000x1008.Idx → EReal)))
    (fun j _ => (congrFun (at3_of3 (α := EReal) (f2 : S4x1000x1008.Idx → EReal)) j).symm)) $$ H2
  ihave H3 := (ownsOn_congr (thr d i) (Memref.whole main_v1_scv) fullShare (D := part ![4, 1008] (wid i)) (X := f3) (Y := at2 (of2 (α := EReal) (f3 : S4x1008.Idx → EReal)))
    (fun j _ => (congrFun (at2_of2 (α := EReal) (f3 : S4x1008.Idx → EReal)) j).symm)) $$ H3
  ihave H4 := (ownsOn_congr (thr d i) (Memref.whole main_v2_scv) fullShare (D := part ![4, 1008] (wid i)) (X := f4) (Y := at2 (of2 (f4 : S4x1008.Idx → BitVec 32)))
    (fun j _ => (congrFun (at2_of2 (f4 : S4x1008.Idx → BitVec 32)) j).symm)) $$ H4
  ihave H5 := (ownsOn_congr (thr d i) (Memref.whole main_arg0_scv) fullShare (D := part ![4, 1000, 256] (wid i)) (X := m (slotL d)) (Y := at3 (of3 (α := EReal) (m (slotL d) : S4x1000x256.Idx → EReal)))
    (fun j _ => (congrFun (at3_of3 (α := EReal) (m (slotL d) : S4x1000x256.Idx → EReal)) j).symm)) $$ H5
  ihave H6 := (ownsOn_congr (thr d i) (Memref.whole main_v3_0_scv) fullShare (D := part ![4, 1008] (wid i)) (X := f6) (Y := at2 (of2 (f6 : S4x1008.Idx → BitVec 32)))
    (fun j _ => (congrFun (at2_of2 (f6 : S4x1008.Idx → BitVec 32)) j).symm)) $$ H6
  ihave H7 := (ownsOn_congr (thr d i) (Memref.whole main_v3_1_scv) fullShare (D := part ![4, 1000, 256] (wid i)) (X := f7) (Y := at3 (of3 (α := EReal) (f7 : S4x1000x256.Idx → EReal)))
    (fun j _ => (congrFun (at3_of3 (α := EReal) (f7 : S4x1000x256.Idx → EReal)) j).symm)) $$ H7
  iapply (body_wp (q := fullShare) (q' := fullShare) (G := of3 (α := EReal) (f2 : S4x1000x1008.Idx → EReal)) (Uu := of2 (α := EReal) (f3 : S4x1008.Idx → EReal)) (GW := of2 (f4 : S4x1008.Idx → BitVec 32))
    (x := of3 (α := EReal) (m (slotL d) : S4x1000x256.Idx → EReal)) 𝒱₀ d i none countersEmb O W none _ (Memref.isWhole_whole _) _ (Memref.isWhole_whole _) _ (Memref.isWhole_whole _) _ (Memref.isWhole_whole _) _ (Memref.isWhole_whole _)
    _ (Memref.isWhole_whole _) _ (Memref.isWhole_whole _) _ (Memref.isWhole_whole _) _ (Memref.isWhole_whole _) _ (Memref.isWhole_whole _) _ (Memref.isWhole_whole _)
    _ (Memref.isWhole_whole _) _ (Memref.isWhole_whole _) _ (Memref.isWhole_whole _) _ (Memref.isWhole_whole _) cc1_scratch9 cc1_scratch10 cc1_scratch11 cc1_scratch12
    cc1_scratch13 cc1_scratch14 cc1_scratch15 (cond1_of i hi) (hI hi)) $$ [H2 H3 H4 H5 H6 H7 HS HE]
  · isplitl [H2]; · iexact H2
    isplitl [H3]; · iexact H3
    isplitl [H4]; · iexact H4
    isplitl [H5]; · iexact H5
    isplitl [H6]; · iexact H6
    isplitl [H7]; · iexact H7
    isplitl [HS]; · iexact HS
    iexact HE
  iintro %mt %Z %hM ⟨-, -, -, H5, H6, H7, HS, HE⟩
  isplitl [H5 H6 H7]
  · unfold BatchOut
    iexists ((at2 fun _ => mt : S4x1008.Idx → BitVec 32), (at3 Z : S4x1000x256.Idx → EReal))
    isplitr
    · ipureintro
      intro _
      obtain ⟨A, M, hR, h1, h2⟩ := hM
      refine ⟨A, M, hR, fun i' hi' => ?_, fun t ht dd hd => ?_⟩
      · exact (of2_at (at2 fun _ => mt : S4x1008.Idx → BitVec 32) ⟨wid i, hi⟩ ⟨i', by omega⟩).trans (h1 i' hi')
      · exact (of3_at (at3 Z : S4x1000x256.Idx → EReal) ⟨wid i, hi⟩ ⟨t, ht⟩ ⟨dd, hd⟩).trans (h2 t ht dd hd)
    isplitl [H5]
    · ihave H5 := (ownsOn_congr (thr d i) (Memref.whole main_arg0_scv) fullShare (D := part ![4, 1000, 256] (wid i)) (X := at3 (of3 (α := EReal) (m (slotL d) : S4x1000x256.Idx → EReal))) (Y := m (slotL d))
        (fun j _ => (congrFun (at3_of3 (α := EReal) (m (slotL d) : S4x1000x256.Idx → EReal)) j))) $$ H5
      iapply (part_in (thr d i) main_arg0_scv fullShare (part ![4, 1000, 256] (wid i)) (m (slotL d))); iexact H5
    isplitl [H6]
    · iapply (part_in (thr d i) main_v3_0_scv fullShare (part ![4, 1008] (wid i)) _); iexact H6
    · iapply (part_in (thr d i) main_v3_1_scv fullShare (part ![4, 1000, 256] (wid i)) _); iexact H7
  isplitl [HS]; · iexact HS
  iexact HE

theorem task_idle (O : CellTallies nD τ sig (HIx 1)) (W : Waits sig (HIx 1)) (hi : ¬ wid i < 4) :
    iprop(Batch m d (wid i) ∗ ScratchK d i ∗ Env (thr d i) O W none)
      ⊢ wp frame (wpE (defs₀ (F := Ideal)) 𝒱₀ (thr d i) none) Set.univ (taskProg d i)
          fun _ => iprop(BatchOut m d (wid i) ∗ ScratchK d i ∗ Env (thr d i) O W none) := by
  unfold taskProg
  rw [cc1__greedy_body_eq_skeleton]
  unfold cc1__greedy_body_skel
  unfold Batch
  iintro ⟨⟨%f2, %f3, %f4, %f6, %f7, %hI, H2, H3, H4, H5, H6, H7⟩, HS, HE⟩
  iapply (wp_negO 𝒱₀ (thr d i) none (fun h => hi (wid_lt i h)))
  iapply (wp_doneO 𝒱₀ (thr d i) none)
  isplitl [H5 H6 H7]
  · unfold BatchOut
    iexists (f6, f7)
    isplitr
    · ipureintro; exact fun h => absurd h hi
    isplitl [H5]; · iexact H5
    isplitl [H6]; · iexact H6
    iexact H7
  isplitl [HS]; · iexact HS
  iexact HE

theorem task_body (O : CellTallies nD τ sig (HIx 1)) (W : Waits sig (HIx 1)) (hO : ∀ g, O g none = 0) :
    iprop(levAts K.L K.lev ∗ emp ∗ Batch m d (wid i) ∗ scopedBufs (thr d i) ∗ scopedSems0 (thr d i) ∗ owes (thr d i) O W)
      ⊢ wp frame (wpE (defs₀ (F := Ideal)) 𝒱₀ (thr d i) none) Set.univ (taskProg d i)
          fun _ => iprop(BatchOut m d (wid i) ∗ scopedBufs (thr d i) ∗ scopedSems0 (thr d i)
            ∗ ∃ W', ⌜∀ p ∈ W', p ∈ W ∨ p.2 = none ∨ p.2 = some (0 : Fin 1)⌝ ∗ owes (thr d i) O W') := by
  rw [show (scopedBufs (thr d i) : sProp 𝕄) = ownBufs (thr d i) from K.scopedBufs_V facts d _ _,
    show (scopedSems0 (thr d i) : sProp 𝕄) = ownSems0 (thr d i) from SparseCore.Cfg.scopedSems0_V (Val := Elt Ideal) d _ _]
  have hrun : iprop(Batch m d (wid i) ∗ ScratchK d i ∗ Env (thr d i) O W none)
      ⊢ wp frame (wpE (defs₀ (F := Ideal)) 𝒱₀ (thr d i) none) Set.univ (taskProg d i)
          fun _ => iprop(BatchOut m d (wid i) ∗ ScratchK d i ∗ Env (thr d i) O W none) := by
    by_cases hi : wid i < 4
    · exact task_run m d i O W hi
    · exact task_idle m d i O W hi
  generalize taskProg d i = p at hrun ⊢
  iintro ⟨Hl, -, HB, Hbufs, Hsems, HO⟩
  ihave HE := (Env_in d i O W hO) $$ [Hl HO]
  · isplitl [Hl] <;> iassumption
  ihave HS := (scratch_deal d i) $$ [Hbufs Hsems]
  · isplitl [Hbufs] <;> iassumption
  icases HS with ⟨HS, HrB, HrS⟩
  iapply (wp_wand (wpE := wpE (defs₀ (F := Ideal)) 𝒱₀ (thr d i) none)) $$ [HB HS HE]
  · iapply hrun
    isplitl [HB]; · iexact HB
    isplitl [HS]; · iexact HS
    iexact HE
  iintro %u ⟨HB, HS, HE⟩
  isplitl [HB]; · iexact HB
  ihave H := (scratch_back d i) $$ [HS HrB HrS]
  · isplitl [HS]; · iexact HS
    isplitl [HrB] <;> iassumption
  icases H with ⟨Hb, Hs⟩
  isplitl [Hb]; · iexact Hb
  isplitl [Hs]; · iexact Hs
  ihave H := (Env_out d i O W) $$ HE
  icases H with ⟨%W', %hW, HO⟩
  iexists W'
  isplitr
  · ipureintro; exact fun p hp => (hW p hp).imp_right Or.inl
  · iexact HO

end Task

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (d : Dev nD) (c : Fin τ.nSC) (s : Fin τ.nSub) :
    defs₀ (F := Ideal) (.scVector c s) 1 () = SparseCore.onTile hcore1 hsub1 (fun c s => taskProg d (coordsV c s)) ⟨⟩ c s := rfl

set_option maxRecDepth 16384 in
theorem tileObl : K.TileObl D 𝒱 (P m) v₀ 0 := by
  intro d c i O W hO _ _
  simp only [show (P m).ox = fun _ _ => 0 from rfl, add_zero]
  have hci : (K.core 0 c).val < grid1.bound 0 ∧ (K.sub 0 i).val < grid1.bound 1 := ⟨c.isLt, i.isLt⟩
  change _ ⊢ wp _ _ _ (Pipeline.liftProg (defs₀ (F := Ideal) (.scVector (K.core 0 c) (K.sub 0 i)) 1 ())) _
  refine BI.Entails.trans ?_ (Pipeline.wp_liftProg D (Pipeline.defs_kernel pcfgs (defs₀ (F := Ideal))) 𝒱₀ _ Set.univ none _ _)
  rw [defs₀_vector d]; simp only [SparseCore.onTile, hci, and_self, ↓reduceDIte]
  exact task_body m d (coordsV ⟨_, hci.1⟩ ⟨_, hci.2⟩) O W hO

end Cert.Proof.Region
-- ==== Proof.Launch.lean ====
/-
  The kernel's program on the TensorCore: the region, the reshapes, the SparseCore call and the slice; and its run.
-/
module

public import proofs.«01_k».proof.Proof.Tile
public import Idealize.ShloMosaic.Lib.StableHlo.Run
public import Idealize.ShloMosaic.Lib.Pipeline.RegionArrays

@[expose] public section

noncomputable section

namespace Cert.Proof.Region

open Cert.KernelIdeal Cert.KernelIdeal.Gen Cert.Proof.Rules Cert.Proof.Vec Cert.Proof.Greedy Cert.Proof.Scan
open Idealize.ShloMosaic
open Idealize.ShloMosaic.SparseCore (S V T)
open Idealize.ShloMosaic.SparseCore.Cfg (HIx Pay)
open Idealize.ShloMosaic.Pipeline (RDat Dat)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

variable (m : (ℓ : Loc nD τ sig) → Buf (Elt Ideal) ℓ)

/-! ## What the region leaves is a state the subcores may start from -/

theorem cond_big (x : EReal) (h : theta < x) :
    Scalar.cmpi .ne (Scalar.extui (Scalar.cmpf (F := Ideal) (φ := .f32) .ogt x (Scalar.ofBits .f32 0x3F666666#32))) 0#32 = 1#1 :=
  (ne_zero_iff _).mpr ((cmp_ogt _ _).mpr (lit_theta.trans_lt h))

theorem theta_big (v0 : FVec Ideal S1x1000x256 .f32) (h : theta < (k0_pay4 (F := Ideal) v0 : EReal)) : Big v0 := by
  unfold Big cond0
  generalize k0_pay4 (F := Ideal) v0 = x at h ⊢
  exact cond_big x h

theorem cast_f (X : S4x1x1008.Idx → EReal) (b : Fin 4) (c : Fin 1008) :
    (shapeCast S4x1008 X shapeCasts_S4x1x1008_S4x1008 : S4x1008.Idx → EReal) (ix2 b c) = X (ix3 b 0 c) := by
  pointwise
theorem cast_i (X : S4x1x1008.Idx → BitVec 32) (b : Fin 4) (c : Fin 1008) :
    (shapeCast S4x1008 X shapeCasts_S4x1x1008_S4x1008 : S4x1008.Idx → BitVec 32) (ix2 b c) = X (ix3 b 0 c) := by
  pointwise

theorem arr_init (O : CellTallies nD τ sig (HIx 1)) (R : Set (SemLoc sig × HIx 1)) (d : Dev nD)
    (G : (w : Fin cfg0.W) → Buf (Elt Ideal) ((cfg0.win w).arr.view.loc (d.tc : Thread nD τ)))
    (h : ∀ w, (rdat m O R d).ArrAt w cfg0.N (G w)) (b : ℕ) (hb : b < 4) :
    Init (simS (V0 m d b)) (of3 (α := EReal) (G 1 : S4x1000x1008.Idx → EReal) b)
      (of2 (α := EReal) (shapeCast S4x1008 (G 2 : S4x1x1008.Idx → EReal) shapeCasts_S4x1x1008_S4x1008 : S4x1008.Idx → EReal) b)
      (of2 (shapeCast S4x1008 (G 3 : S4x1x1008.Idx → BitVec 32) shapeCasts_S4x1x1008_S4x1008 : S4x1008.Idx → BitVec 32) b) := by
  refine init_of _ (fun c => ?_) (fun hbig => ⟨fun r c => ?_, fun c => ?_⟩)
  · refine (of2_at _ (⟨b, hb⟩ : Fin 4) c).trans ?_
    refine (cast_f _ _ _).trans ?_
    exact arr2 m O R d G h (ix3 ⟨b, hb⟩ 0 c)
  · refine (of3_at _ (⟨b, hb⟩ : Fin 4) r c).trans ?_
    exact arr1 m O R d G h (ix3 ⟨b, hb⟩ r c) (theta_big _ hbig)
  · refine (of2_at _ (⟨b, hb⟩ : Fin 4) c).trans ?_
    refine (cast_i _ _ _).trans ?_
    exact arr3 m O R d G h (ix3 ⟨b, hb⟩ 0 c) (theta_big _ hbig)

/-! ## The region -/

abbrev a0 : (p : Fin 1) → (pcfgs (F := Ideal) p).Adm := fun p => (cfgs p).toPCfg_adm

def below (d : Dev nD) : Set (SemLoc sig × HIx 1) := {p | K.lev (T d, p.1) p.2 ≤ 8 * 0}

def rdats : (p : Fin 1) → (c : Dev nD) → RDat τ (Elt Ideal) (HIx 1) ℕ UU ℕ (Pipeline.pin (pcfgs (F := Ideal)) a0 p) c :=
  fun | 0 => fun c => rdat m (K.Otc c 0) (below c) c

theorem Otc_none (d : Dev nD) (n : ℕ) (g : GSem nD τ sig) : K.Otc d n g (none : HIx 1) = 0 := by
  by_contra h
  have := SparseCore.Cfg.lev_of_Otc_pos (Nat.pos_of_ne_zero h)
  rw [SparseCore.Cfg.lev_none] at this
  omega

def seg : RDat.RegionSeg (pcfgs (F := Ideal)) a0 (rdats m) (none : HIx 1) (defs₀ (F := Ideal)) 𝒱₀ K.L K.lev (0 : Fin 1) where
  win := launch0.win.to₀
  block_pos := launch0.block_pos
  stage_whole := launch0.stage_whole
  K := PEmpty
  osem k := k.elim
  ho := Pipeline.OwnSemFacts.none _
  hbody c := hbody m (K.Otc c 0) (below c) c
  hwaits c := RDat.cellsWaits_intro _ (rdats m) none 0 c fun w s t => K.mayWait_none (thr := T c) _ (fun g => Otc_none c 0 g)
  pre c := iprop((rdats m 0 c).arrays (rdats m 0 c).A ∗ (rdats m 0 c).owesAt none 0)
  post c := iprop((rdats m 0 c).arraysAt (Pipeline.pin (pcfgs (F := Ideal)) a0 0).N ∗ (rdats m 0 c).owesAt none (Fin.last (Pipeline.pin (pcfgs (F := Ideal)) a0 0).N))
  X _ := BI.emp
  Y _ := BI.emp
  Z _ := BI.emp
  hentry c := by
    rw [Pipeline.ownSems0_none, Pipeline.prefHeld_of_none _ rfl]
    iintro ⟨⟨Ha, HO⟩, -, -⟩
    imodintro
    isplitl [Ha]; · iexact Ha
    isplitr; · iempintro
    isplitl [HO]; · iexact HO
    isplitr <;> iempintro
  hin c := by
    refine (show _ ⊢ (BI.emp : sProp 𝕄) from ?_)
    iintro -
    iempintro
  hout c := by
    rw [Pipeline.ownSems0_none, show (Pipeline.scopedRest (Pipeline.pin (pcfgs (F := Ideal)) a0 0).spec c : sProp 𝕄) = BI.emp from scopedRest0_eq c]
    iintro -
    isplitr; · iempintro
    isplitr <;> iempintro
  hexit c := by
    iintro ⟨Ha, HO, -, -⟩
    imodintro
    isplitl [Ha]; · iexact Ha
    iexact HO

end Cert.Proof.Region
-- ==== Proof.Steps.lean ====
/-
  The steps of the program on the TensorCore: the region, a host operation, the batches dealt to the subcores and brought back together.
-/
module

public import proofs.«01_k».proof.Proof.Launch
public import Idealize.ShloMosaic.Lib.StableHlo.Run
public import Idealize.ShloMosaic.Lib.Pipeline.RegionArrays

@[expose] public section

noncomputable section

namespace Cert.Proof.Region

open Cert.KernelIdeal Cert.KernelIdeal.Gen Cert.Proof.Rules Cert.Proof.Vec Cert.Proof.Greedy Cert.Proof.Scan
open Idealize.ShloMosaic
open Idealize.ShloMosaic.SparseCore (S V T)
open Idealize.ShloMosaic.SparseCore.Cfg (HIx Pay)
open Idealize.ShloMosaic.Pipeline (RDat Dat)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

variable (m : (ℓ : Loc nD τ sig) → Buf (Elt Ideal) ℓ)

/-! ## A host operation from one buffer to another -/

include m in
theorem wp_two (d : Dev nD) (op : HloOp τ sig (Elt Ideal)) (x y : Ref sig .tc)
    (hb : op.bufs = {(Proc.devRef .tc x : DevRef τ sig), (Proc.devRef .tc y : DevRef τ sig)}) (hne : (Proc.devRef .tc x : DevRef τ sig) ≠ Proc.devRef .tc y) (hw : op.writes = {(Proc.devRef .tc y : DevRef τ sig)}) (hf : op.fresh = ∅)
    (fx : Buf (Elt Ideal) ((d.tc : Thread nD τ).loc x)) (fy fy' : Buf (Elt Ideal) ((d.tc : Thread nD τ).loc y))
    (hres : ∀ F : Valuation τ sig (Elt Ideal), F (Proc.devRef .tc x : DevRef τ sig) = fx → op.result F (Proc.devRef .tc y : DevRef τ sig) = fy') (Q : PUnit → sProp 𝕄) :
    iprop((boundary (T d) ∗ ((d.tc : Thread nD τ).loc x ↦{fullShare} fx) ∗ ((d.tc : Thread nD τ).loc y ↦{fullShare} fy))
      ∗ ((boundary (T d) ∗ ((d.tc : Thread nD τ).loc x ↦{fullShare} fx) ∗ ((d.tc : Thread nD τ).loc y ↦{fullShare} fy')) -∗ Q ⟨⟩))
    ⊢ wp frame (wpE (K.defs D) 𝒱 (T d) none) Set.univ (hlo (p := .tc) rfl op (fun _ => .ret ⟨⟩)) Q := by
  classical
  let F : Valuation τ sig (Elt Ideal) := Function.update (Function.update (fun b => m (d, b)) (Proc.devRef .tc x : DevRef τ sig) fx) (Proc.devRef .tc y : DevRef τ sig) fy
  have hFy : F (Proc.devRef .tc y : DevRef τ sig) = fy := Function.update_self _ _ _
  have hFx : F (Proc.devRef .tc x : DevRef τ sig) = fx := by
    show Function.update _ _ _ _ = _
    rw [Function.update_of_ne hne, Function.update_self]
  have h1 : op.result F (Proc.devRef .tc x : DevRef τ sig) = fx := by
    rw [HloOp.result_of_not_mem _ _ (by rw [hw]; simpa using hne), hFx]
  have hp : ∀ G : Valuation τ sig (Elt Ideal), (bigSep op.bufs (fun b => (d, b) ↦{fullShare} G b) : sProp 𝕄)
      = iprop((((d.tc : Thread nD τ).loc x) ↦{fullShare} G (Proc.devRef .tc x : DevRef τ sig)) ∗ (((d.tc : Thread nD τ).loc y) ↦{fullShare} G (Proc.devRef .tc y : DevRef τ sig))) := by
    intro G
    rw [hb, SparseCore.bigSep_insert' (by simpa using hne), bigSep_singleton]
  iintro ⟨⟨Hb, Hx, Hy⟩, Hk⟩
  iapply (wp_hlo (defs := K.defs D) 𝒱 (T d) none Set.univ (hp := rfl) (op := op) (q := fun _ => fullShare) (F := F) (fun _ _ => rfl) hf) $$ [Hb Hx Hy]
  · isplitl [Hb]; · iexact Hb
    iapply (Entails.of_eq (hp F).symm)
    rw [hFx, hFy]
    isplitl [Hx] <;> iassumption
  iintro ⟨Hb, H⟩
  ihave H := (Entails.of_eq (hp (op.result F))) $$ H
  rw [h1, hres F hFx, wp_ret]
  icases H with ⟨Hx, Hy⟩
  imodintro
  iapply Hk $$ [Hb Hx Hy]
  isplitl [Hb]; · iexact Hb
  isplitl [Hx] <;> iassumption

/-! ## The batches dealt and brought back -/

abbrev Lane := Fin 2 × Fin 16
def lane (p : Lane) : ℕ := bat p.1 p.2
theorem lane_inj {p q : Lane} (h : lane p = lane q) : p = q := by
  obtain ⟨a, b⟩ := p; obtain ⟨a', b'⟩ := q
  unfold lane bat at h; dsimp only at h
  have e1 : a.val = a'.val := by omega
  have e2 : b.val = b'.val := by omega
  rw [Fin.ext e1, Fin.ext e2]
theorem lane_of (b : ℕ) (hb : b < 32) : ∃ p, lane p = b :=
  ⟨(⟨b % 2, Nat.mod_lt _ (by decide)⟩, ⟨b / 2, by omega⟩), by show b / 2 * 2 + b % 2 = b; omega⟩

theorem part_disj {n : ℕ} {sz : Fin (n + 1) → ℕ} {p q : Lane} (h : p ≠ q) : Disjoint (part sz (lane p)) (part sz (lane q)) := by
  refine Finset.disjoint_left.mpr fun j hj hj' => h (lane_inj ?_)
  rw [← mem_part.mp hj, ← mem_part.mp hj']
theorem part_cover {n : ℕ} {sz : Fin (n + 1) → ℕ} (h : sz 0 ≤ 32) : (Finset.univ : Finset Lane).biUnion (fun p => part sz (lane p)) = Finset.univ := by
  refine Finset.eq_univ_of_forall fun j => ?_
  obtain ⟨p, hp⟩ := lane_of (j 0).val (lt_of_lt_of_le (j 0).isLt h)
  exact Finset.mem_biUnion.mpr ⟨p, Finset.mem_univ _, mem_part.mpr hp.symm⟩

theorem deal (ℓ : Loc nD τ sig) (Kp : Lane → Finset (Idx ℓ)) (hd : ∀ p q, p ≠ q → Disjoint (Kp p) (Kp q)) (hc : (Finset.univ : Finset Lane).biUnion Kp = Finset.univ)
    (f : Buf (Elt Ideal) ℓ) : (ℓ ↦{fullShare} f : sProp 𝕄) ⊢ bigSep Finset.univ fun p : Lane => ℓ ↦[Kp p]{fullShare} f :=
  Entails.of_eq ((congrArg (fun I => (ℓ ↦[I]{fullShare} f : sProp 𝕄)) hc.symm).trans (pointsTo_biUnion Finset.univ Kp fun p _ q _ h => hd p q h))

theorem gather (ℓ : Loc nD τ sig) (Kp : Lane → Finset (Idx ℓ)) (hd : ∀ p q, p ≠ q → Disjoint (Kp p) (Kp q)) (hc : (Finset.univ : Finset Lane).biUnion Kp = Finset.univ)
    (fs : Lane → Buf (Elt Ideal) ℓ) (f₀ : Buf (Elt Ideal) ℓ) : (bigSep Finset.univ fun p : Lane => ℓ ↦[Kp p]{fullShare} fs p)
      ⊢ (iprop(∃ g, ⌜∀ p, ∀ i ∈ Kp p, g i = fs p i⌝ ∗ ℓ ↦{fullShare} g) : sProp 𝕄) := by
  iintro H
  ihave H := (pointsTo_biUnion_join Finset.univ Kp fs f₀ fun p _ q _ h => hd p q h) $$ H
  icases H with ⟨%g, %hg, H⟩
  iexists g
  isplitr; · ipureintro; exact fun p => hg p (Finset.mem_univ p)
  iapply (Entails.of_eq (congrArg (fun I => (ℓ ↦[I]{fullShare} g : sProp 𝕄)) hc)) $$ H

theorem of2_part {α : Type} [Inhabited α] {k n : ℕ} (f g : (⟨2, ![k, n]⟩ : Shape).Idx → α) (b : ℕ) (h : ∀ j ∈ part ![k, n] b, f j = g j) : of2 f b = of2 g b := by
  funext c
  unfold of2
  split
  · exact h _ (mem_part.mpr rfl)
  · rfl
theorem of3_part {α : Type} [Inhabited α] {k n l : ℕ} (f g : (⟨3, ![k, n, l]⟩ : Shape).Idx → α) (b : ℕ) (h : ∀ j ∈ part ![k, n, l] b, f j = g j) : of3 f b = of3 g b := by
  funext c e
  unfold of3
  split
  · exact h _ (mem_part.mpr rfl)
  · rfl

theorem st_eq (d : Dev nD) : (bigSep Finset.univ fun c : Fin (K.nCore 0) => (P m).st 0 d c) = (bigSep Finset.univ fun p : Lane => Batch m d (lane p) : sProp 𝕄) :=
  (bigSep_univ_prod (fun p : Lane => (Batch m d (lane p) : sProp 𝕄))).symm
theorem dn_eq (d : Dev nD) : (bigSep Finset.univ fun c : Fin (K.nCore 0) => (P m).dn 0 d c) = (bigSep Finset.univ fun p : Lane => BatchOut m d (lane p) : sProp 𝕄) :=
  (bigSep_univ_prod (fun p : Lane => (BatchOut m d (lane p) : sProp 𝕄))).symm

theorem deal_all (d : Dev nD) (f2 : Buf (Elt Ideal) (simL d)) (f3 : Buf (Elt Ideal) (hasL d)) (f4 : Buf (Elt Ideal) (gateL d)) (f6 : Buf (Elt Ideal) (mapL d)) (f7 : Buf (Elt Ideal) (outL d))
    (h : ∀ b, b < 4 → Init (simS (V0 m d b)) (of3 (α := EReal) (f2 : S4x1000x1008.Idx → EReal) b) (of2 (α := EReal) (f3 : S4x1008.Idx → EReal) b) (of2 (f4 : S4x1008.Idx → BitVec 32) b)) :
    iprop((simL d ↦{fullShare} f2) ∗ (hasL d ↦{fullShare} f3) ∗ (gateL d ↦{fullShare} f4) ∗ (slotL d ↦{fullShare} m (slotL d)) ∗ (mapL d ↦{fullShare} f6) ∗ (outL d ↦{fullShare} f7))
    ⊢ (bigSep Finset.univ fun c : Fin (K.nCore 0) => (P m).st 0 d c : sProp 𝕄) := by
  rw [st_eq]
  iintro ⟨H2, H3, H4, H5, H6, H7⟩
  ihave H2 := (deal (simL d) (fun p => part ![4, 1000, 1008] (lane p)) (fun _ _ => part_disj) (part_cover (by decide)) f2) $$ H2
  ihave H3 := (deal (hasL d) (fun p => part ![4, 1008] (lane p)) (fun _ _ => part_disj) (part_cover (by decide)) f3) $$ H3
  ihave H4 := (deal (gateL d) (fun p => part ![4, 1008] (lane p)) (fun _ _ => part_disj) (part_cover (by decide)) f4) $$ H4
  ihave H5 := (deal (slotL d) (fun p => part ![4, 1000, 256] (lane p)) (fun _ _ => part_disj) (part_cover (by decide)) (m (slotL d))) $$ H5
  ihave H6 := (deal (mapL d) (fun p => part ![4, 1008] (lane p)) (fun _ _ => part_disj) (part_cover (by decide)) f6) $$ H6
  ihave H7 := (deal (outL d) (fun p => part ![4, 1000, 256] (lane p)) (fun _ _ => part_disj) (part_cover (by decide)) f7) $$ H7
  have hone : ∀ p : Lane, iprop((simL d ↦[part ![4, 1000, 1008] (lane p)]{fullShare} f2) ∗ (hasL d ↦[part ![4, 1008] (lane p)]{fullShare} f3)
      ∗ (gateL d ↦[part ![4, 1008] (lane p)]{fullShare} f4) ∗ (slotL d ↦[part ![4, 1000, 256] (lane p)]{fullShare} m (slotL d))
      ∗ (mapL d ↦[part ![4, 1008] (lane p)]{fullShare} f6) ∗ (outL d ↦[part ![4, 1000, 256] (lane p)]{fullShare} f7))
      ⊢ (Batch m d (lane p) : sProp 𝕄) := by
    intro p
    unfold Batch
    iintro H
    iexists f2, f3, f4, f6, f7
    isplitr; · ipureintro; exact h _
    iexact H
  have hm : (bigSep Finset.univ fun p : Lane => iprop((simL d ↦[part ![4, 1000, 1008] (lane p)]{fullShare} f2) ∗ (hasL d ↦[part ![4, 1008] (lane p)]{fullShare} f3)
      ∗ (gateL d ↦[part ![4, 1008] (lane p)]{fullShare} f4) ∗ (slotL d ↦[part ![4, 1000, 256] (lane p)]{fullShare} m (slotL d))
      ∗ (mapL d ↦[part ![4, 1008] (lane p)]{fullShare} f6) ∗ (outL d ↦[part ![4, 1000, 256] (lane p)]{fullShare} f7)))
      ⊢ (bigSep Finset.univ fun p : Lane => Batch m d (lane p) : sProp 𝕄) := bigSep_mono fun p _ => hone p
  iapply hm
  simp only [bigSep_sep']
  isplitl [H2]; · iexact H2
  isplitl [H3]; · iexact H3
  isplitl [H4]; · iexact H4
  isplitl [H5]; · iexact H5
  isplitl [H6]; · iexact H6
  iexact H7

theorem gather_all (d : Dev nD) :
    (bigSep Finset.univ fun c : Fin (K.nCore 0) => (P m).dn 0 d c : sProp 𝕄)
    ⊢ iprop((slotL d ↦{fullShare} m (slotL d)) ∗ ∃ (f6 : Buf (Elt Ideal) (mapL d)) (f7 : Buf (Elt Ideal) (outL d)),
        ⌜∀ b, b < 4 → Merged (simS (V0 m d b)) (xs m d b) (of2 (f6 : S4x1008.Idx → BitVec 32) b) (of3 (α := EReal) (f7 : S4x1000x256.Idx → EReal) b)⌝
        ∗ (mapL d ↦{fullShare} f6) ∗ (outL d ↦{fullShare} f7)) := by
  rw [dn_eq]
  unfold BatchOut
  haveI : ∀ _ : Lane, Nonempty (Buf (Elt Ideal) (mapL d) × Buf (Elt Ideal) (outL d)) := fun _ => ⟨(m (mapL d), m (outL d))⟩
  iintro H
  ihave H := (bigSep_exists_pi (Finset.univ : Finset Lane) _) $$ H
  icases H with ⟨%y, H⟩
  ihave H := (bigSep_pure_sep (Finset.univ : Finset Lane) _ _) $$ H
  icases H with ⟨%hy, H⟩
  simp only [bigSep_sep']
  icases H with ⟨H5, H6, H7⟩
  ihave H5 := (gather (slotL d) (fun p => part ![4, 1000, 256] (lane p)) (fun _ _ => part_disj) (part_cover (by decide)) (fun _ => m (slotL d)) (m (slotL d))) $$ H5
  icases H5 with ⟨%g5, %h5, H5⟩
  have e5 : g5 = m (slotL d) := by
    funext i
    have hi : i ∈ (Finset.univ : Finset Lane).biUnion (fun p => part ![4, 1000, 256] (lane p)) := by rw [part_cover (by decide)]; exact Finset.mem_univ _
    obtain ⟨p, _, hp⟩ := Finset.mem_biUnion.mp hi
    exact h5 p i hp
  subst e5
  ihave H6 := (gather (mapL d) (fun p => part ![4, 1008] (lane p)) (fun _ _ => part_disj) (part_cover (by decide)) (fun p => (y p).1) (m (mapL d))) $$ H6
  icases H6 with ⟨%g6, %h6, H6⟩
  ihave H7 := (gather (outL d) (fun p => part ![4, 1000, 256] (lane p)) (fun _ _ => part_disj) (part_cover (by decide)) (fun p => (y p).2) (m (outL d))) $$ H7
  icases H7 with ⟨%g7, %h7, H7⟩
  isplitl [H5]; · iexact H5
  iexists g6, g7
  isplitr
  · ipureintro
    intro b hb
    obtain ⟨p, rfl⟩ := lane_of b (by omega)
    rw [of2_part (g6 : S4x1008.Idx → BitVec 32) (y p).1 (lane p) (h6 p), of3_part (α := EReal) (g7 : S4x1000x256.Idx → EReal) (y p).2 (lane p) (h7 p)]
    exact hy p (Finset.mem_univ _) hb
  isplitl [H6] <;> iassumption

end Cert.Proof.Region
-- ==== Proof.Main.lean ====
/-
  The whole program on the TensorCore, and its run from any state.
-/
module

public import proofs.«01_k».proof.Proof.Steps
public import proofs.«01_k».proof.Defs
public import Idealize.ShloMosaic.Lib.StableHlo.Run
public import Idealize.ShloMosaic.Lib.Pipeline.RegionArrays

@[expose] public section

noncomputable section

namespace Cert.Proof.Region

open Cert.KernelIdeal Cert.KernelIdeal.Gen Cert.Proof.Rules Cert.Proof.Vec Cert.Proof.Greedy Cert.Proof.Scan
open Idealize.ShloMosaic
open Idealize.ShloMosaic.SparseCore (S V T)
open Idealize.ShloMosaic.SparseCore.Cfg (HIx Pay)
open Idealize.ShloMosaic.Pipeline (RDat Dat)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

variable (m : (ℓ : Loc nD τ sig) → Buf (Elt Ideal) ℓ)

def EP : Emb UP 𝕄 := (Emb.inl : Emb UP (UP × Counters)).trans (embR : Emb (UP × Counters) 𝕄)
instance EP_lands : EP.LandsIn (upEmb : UEmb _ 𝕄) := by unfold EP; infer_instance

abbrev pin0 := Pipeline.pin (pcfgs (F := Ideal)) a0

/-- What the region spends: its pipeline's ghost state. -/
def G (d : Dev nD) : sProp 𝕄 := iprop(Pipeline.cellsGhost pin0 EP 0 d ∗ Pipeline.toksInit pin0 EP 0 d)

/-! ## The region -/

theorem share_full (d : Dev nD) (w : Fin (pin0 0).W) : (rdats m 0 d).share w = fullShare := by
  show (if _ then fullShare else fullShare) = fullShare
  exact ite_self _

def callProg : Prog (TpuEff nD τ sig (Elt Ideal) ΛP .tc) PUnit := .op (.customCall (Pipeline.entry 0) ()) .ret
theorem call_eq : (Prog.lift (.customCall (SparseCore.inner (Pipeline.entry 0)) ()) : Prog (TpuEff nD τ sig (Elt Ideal) (SparseCore.Sig ΛP 1) .tc) PUnit)
    = SparseCore.liftProg callProg := rfl

theorem seg_pre (d : Dev nD) : (seg m).pre d = iprop((rdats m 0 d).arrays (rdats m 0 d).A ∗ (rdats m 0 d).owesAt none 0) := rfl
theorem seg_post (d : Dev nD) : (seg m).post d = iprop((rdats m 0 d).arraysAt (pin0 0).N ∗ (rdats m 0 d).owesAt none (Fin.last (pin0 0).N)) := rfl

/-- The region from the four arrays to their contents after it. -/
theorem region_inner (κ : GSem nD τ sig → ℕ) (d : Dev nD) (Q : PUnit → sProp 𝕄) :
    iprop(K.ctx EH (P m) κ ∗ boundary (T d) ∗ G d ∗ (∃ W, ⌜K.WBelow (T d) W (8 * 0)⌝ ∗ owes (T d) (K.Otc d 0) W)
      ∗ ((slotL d ↦{fullShare} m (slotL d)) ∗ (simL d ↦{fullShare} m (simL d))
          ∗ ((d.tc : Thread nD τ).loc main_v0_1 ↦{fullShare} m ((d.tc : Thread nD τ).loc main_v0_1)) ∗ ((d.tc : Thread nD τ).loc main_v0_2 ↦{fullShare} m ((d.tc : Thread nD τ).loc main_v0_2)))
      ∗ ((boundary (T d) ∗ (∃ W, ⌜K.WBelow (T d) W (8 * 0)⌝ ∗ owes (T d) (K.Otc d 0) W)
          ∗ ∃ F : (w : Fin cfg0.W) → Buf (Elt Ideal) ((cfg0.win w).arr.view.loc (d.tc : Thread nD τ)), ⌜∀ w, (rdat m (K.Otc d 0) (below d) d).ArrAt w cfg0.N (F w)⌝
            ∗ (slotL d ↦{fullShare} F 0) ∗ (simL d ↦{fullShare} F 1)
            ∗ ((d.tc : Thread nD τ).loc main_v0_1 ↦{fullShare} F 2) ∗ ((d.tc : Thread nD τ).loc main_v0_2 ↦{fullShare} F 3)) -∗ Q ⟨⟩))
    ⊢ wp frame (wpE D 𝒱 (T d) none) Set.univ callProg Q := by
  unfold callProg
  iintro ⟨#Hctx, Hb, HG, HO, ⟨H0, H1, H2, H3⟩, Hk⟩
  ihave #Hl := (K.ctx_levAts κ) $$ Hctx
  unfold G
  icases HG with ⟨Hg, Ht⟩
  iapply (RDat.RegionSeg.wp (pcfgs (F := Ideal)) a0 (rdats m) none cellOf_inj EP (defs₀ (F := Ideal)) 𝒱₀ K.L K.lev (seg m) d none (fun u h => nomatch h) Prog.ret Q)
  rw [seg_pre, seg_post]
  isplitl [Hk]
  · iintro ⟨Hb, Ha, HO⟩
    rw [wp_ret]
    imodintro
    iapply Hk
    isplitl [Hb]; · iexact Hb
    isplitl [HO]
    · unfold RDat.owesAt Pipeline.owesWithin
      icases HO with ⟨%W, %hW, HO⟩
      iexists W
      isplitr
      · ipureintro
        intro p hp
        rcases hW hp with h | ⟨w, s, h⟩
        · exact h
        · rw [h]; exact Nat.zero_le _
      iexact HO
    · have ha : ((rdats m 0 d).arraysAt (pin0 0).N : sProp 𝕄) ⊢ iprop(∃ F : (w : Fin cfg0.W) → Buf (Elt Ideal) ((cfg0.win w).arr.view.loc (d.tc : Thread nD τ)), ⌜∀ w, (rdat m (K.Otc d 0) (below d) d).ArrAt w cfg0.N (F w)⌝
            ∗ (slotL d ↦{fullShare} F 0) ∗ (simL d ↦{fullShare} F 1)
            ∗ ((d.tc : Thread nD τ).loc main_v0_1 ↦{fullShare} F 2) ∗ ((d.tc : Thread nD τ).loc main_v0_2 ↦{fullShare} F 3)) := by
        rw [RDat.arraysAt_eq (pcfgs (F := Ideal)) a0 (rdats m) 0 d arr_whole0 (share_full m d)]
        haveI : ∀ w : Fin (pin0 0).W, Nonempty (Buf (Elt Ideal) ((d.tc : Thread nD τ).loc (Pipeline.arrRef (pin0 0).spec w))) := fun w => ⟨m _⟩
        iintro H
        ihave H := (bigSep_exists_pi (Finset.univ : Finset (Fin (pin0 0).W)) _) $$ H
        icases H with ⟨%F, H⟩
        ihave H := (bigSep_pure_sep (Finset.univ : Finset (Fin (pin0 0).W)) _ _) $$ H
        icases H with ⟨%hF, H⟩
        ihave H := (Entails.of_eq (bigSep_W0 _)) $$ H
        icases H with ⟨H0, H1, H2, H3⟩
        iexists F
        isplitr; · ipureintro; exact fun w => hF w (Finset.mem_univ _)
        isplitl [H0]; · iexact H0
        isplitl [H1]; · iexact H1
        isplitl [H2]; · iexact H2
        iexact H3
      iapply ha $$ Ha
  isplitl [Hb]; · iexact Hb
  isplitl [HO H0 H1 H2 H3]
  · isplitl [H0 H1 H2 H3]
    · rw [RDat.arrays_eq (pcfgs (F := Ideal)) a0 (rdats m) 0 d arr_whole0 (share_full m d)]
      iapply (Entails.of_eq (bigSep_W0 _).symm)
      isplitl [H0]; · iexact H0
      isplitl [H1]; · iexact H1
      isplitl [H2]; · iexact H2
      iexact H3
    · unfold RDat.owesAt Pipeline.owesWithin
      icases HO with ⟨%W, %hW, HO⟩
      iexists W
      isplitr
      · ipureintro
        intro p hp
        exact Or.inl (hW p hp)
      iexact HO
  isplitr; · iexact Hl
  isplitl [Hg] <;> iassumption

theorem region_wp (κ : GSem nD τ sig → ℕ) (d : Dev nD) (Q : PUnit → sProp 𝕄) :
    iprop(K.ctx EH (P m) κ ∗ boundary (T d) ∗ G d ∗ (∃ W, ⌜K.WBelow (T d) W (8 * 0)⌝ ∗ owes (T d) (K.Otc d 0) W)
      ∗ ((slotL d ↦{fullShare} m (slotL d)) ∗ (simL d ↦{fullShare} m (simL d))
          ∗ ((d.tc : Thread nD τ).loc main_v0_1 ↦{fullShare} m ((d.tc : Thread nD τ).loc main_v0_1)) ∗ ((d.tc : Thread nD τ).loc main_v0_2 ↦{fullShare} m ((d.tc : Thread nD τ).loc main_v0_2)))
      ∗ ((boundary (T d) ∗ (∃ W, ⌜K.WBelow (T d) W (8 * 0)⌝ ∗ owes (T d) (K.Otc d 0) W)
          ∗ ∃ F : (w : Fin cfg0.W) → Buf (Elt Ideal) ((cfg0.win w).arr.view.loc (d.tc : Thread nD τ)), ⌜∀ w, (rdat m (K.Otc d 0) (below d) d).ArrAt w cfg0.N (F w)⌝
            ∗ (slotL d ↦{fullShare} F 0) ∗ (simL d ↦{fullShare} F 1)
            ∗ ((d.tc : Thread nD τ).loc main_v0_1 ↦{fullShare} F 2) ∗ ((d.tc : Thread nD τ).loc main_v0_2 ↦{fullShare} F 3)) -∗ Q ⟨⟩))
    ⊢ wp frame (wpE (K.defs D) 𝒱 (T d) none) Set.univ (Prog.lift (.customCall (SparseCore.inner (Pipeline.entry 0)) ()) : Prog (TpuEff nD τ sig (Elt Ideal) (SparseCore.Sig ΛP 1) .tc) PUnit) Q :=
  (region_inner m κ d Q).trans (K.wp_liftProg D 𝒱 (T d) Set.univ none callProg Q)

/-! ## The program -/

variable (ρ : Dev nD → PrngReg)

/-- The location of the map the program returns. -/
abbrev resL (d : Dev nD) : Loc nD τ sig := (d.tc : Thread nD τ).loc main_v4

/-- What the two results of the program hold: per batch the map and the merged slots the merging gives. -/
def Good (d : Dev nD) (r : S4x1000.Idx → BitVec 32) (z : S4x1000x256.Idx → EReal) : Prop :=
  ∀ b, b < 4 → Merged (simS (V0 m d b)) (xs m d b) (of2 r b) (of3 (α := EReal) z b)

theorem slice_at (f : S4x1008.Idx → BitVec 32) (b : Fin 4) (i : Fin 1000) :
    (extractStridedSlice S4x1000 ![0, 0] f slices_S4x1008_S4x1000_0_0 : S4x1000.Idx → BitVec 32) (ix2 b i) = f (ix2 b ⟨i.val, by omega⟩) := by
  pointwise

theorem good_slice (d : Dev nD) (f : S4x1008.Idx → BitVec 32) (z : S4x1000x256.Idx → EReal)
    (h : ∀ b, b < 4 → Merged (simS (V0 m d b)) (xs m d b) (of2 f b) (of3 (α := EReal) z b)) :
    Good m d (extractStridedSlice S4x1000 ![0, 0] f slices_S4x1008_S4x1000_0_0) z := by
  intro b hb
  obtain ⟨A, M, hr, hm, hz⟩ := h b hb
  refine ⟨A, M, hr, fun i hi => ?_, hz⟩
  refine Eq.trans ?_ (hm i hi)
  refine (of2_at _ (⟨b, hb⟩ : Fin 4) (⟨i, hi⟩ : Fin 1000)).trans ((slice_at f _ _).trans ?_)
  exact (of2_at f (⟨b, hb⟩ : Fin 4) (⟨i, by omega⟩ : Fin 1008)).symm

/-- What the program leaves: the slots, and the merged slots and the map. -/
def FIN (d : Dev nD) : sProp 𝕄 :=
  iprop((slotL d ↦{fullShare} m (slotL d)) ∗ ∃ (r : Buf (Elt Ideal) (resL d)) (z : Buf (Elt Ideal) (outL d)),
    ⌜Good m d (r : S4x1000.Idx → BitVec 32) (z : S4x1000x256.Idx → EReal)⌝ ∗ (outL d ↦{fullShare} z) ∗ (resL d ↦{fullShare} r))

theorem unscoped_eq (d : Dev nD) : (unscopedBufs d (fun b => m ((SparseCore.T d : Thread nD τ).loc b)) : sProp 𝕄)
    = iprop((slotL d ↦{fullShare} m (slotL d)) ∗ (simL d ↦{fullShare} m (simL d))
          ∗ ((d.tc : Thread nD τ).loc main_v0_1 ↦{fullShare} m ((d.tc : Thread nD τ).loc main_v0_1)) ∗ ((d.tc : Thread nD τ).loc main_v0_2 ↦{fullShare} m ((d.tc : Thread nD τ).loc main_v0_2))
          ∗ (hasL d ↦{fullShare} m (hasL d)) ∗ (gateL d ↦{fullShare} m (gateL d)) ∗ (mapL d ↦{fullShare} m (mapL d)) ∗ (outL d ↦{fullShare} m (outL d)) ∗ (resL d ↦{fullShare} m (resL d))) := by
  unfold unscopedBufs
  rw [show (Finset.univ.filter fun b : Ref sig .tc => ¬ b.isScoped) = {main_arg0, main_v0_0, main_v0_1, main_v0_2, main_v1, main_v2, main_v3_0, main_v3_1, main_v4} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! The three host operations. -/

abbrev opA : HloOp τ sig (Elt Ideal) := StableHlo.reshape main_v0_1 main_v1 (rfl : (.f32 : EltTy) = .f32) shapeCasts_S4x1x1008_S4x1008
abbrev opB : HloOp τ sig (Elt Ideal) := StableHlo.reshape main_v0_2 main_v2 (rfl : (.i32 : EltTy) = .i32) shapeCasts_S4x1x1008_S4x1008
abbrev opC : HloOp τ sig (Elt Ideal) := StableHlo.unary main_v3_0 main_v4 ((extractStridedSlice S4x1000 ![0, 0] · slices_S4x1008_S4x1000_0_0) : (⟨S4x1008, .i32⟩ : BufTy).Contents (Elt Ideal) → (⟨S4x1000, .i32⟩ : BufTy).Contents (Elt Ideal))

set_option maxHeartbeats 1600000 in
theorem hmain (κ : GSem nD τ sig → ℕ) (d : Dev nD) :
    iprop(K.ctx EH (P m) κ ∗ K.tcSt EH d 0 ∗ K.tcRes m ρ d ∗ G d)
      ⊢ wp frame (wpE (K.defs D) 𝒱 (SparseCore.T d) none) Set.univ (main (F := Ideal) d)
          fun _ => iprop(K.tcSt EH d 1 ∗ FIN m d ∗ K.tcEnd d) := by
  unfold SparseCore.Cfg.tcRes SparseCore.Cfg.tcEnd
  rw [unscoped_eq]
  simp only [main, wp_bind, wp_pure]
  iintro ⟨#Hctx, Hst, ⟨Hb, ⟨H0, H1, H2, H3, H4, H5, H6, H7, H8⟩, Hts, -⟩, HG⟩
  have hst : (K.tcSt EH d 0 : sProp 𝕄) ⊢ iprop((∃ W, ⌜K.WBelow (T d) W (8 * 0)⌝ ∗ owes (T d) (K.Otc d 0) W) ∗ ((∃ W, ⌜K.WBelow (T d) W (8 * 0)⌝ ∗ owes (T d) (K.Otc d 0) W) -∗ K.tcSt EH d 0)) := by
    unfold SparseCore.Cfg.tcSt
    iintro ⟨HO, H⟩
    isplitl [HO]; · iexact HO
    iintro HO
    isplitl [HO]; · iexact HO
    iexact H
  ihave Hst := hst $$ Hst
  icases Hst with ⟨HO, Hst⟩
  iapply (region_wp m κ d)
  isplitr; · iexact Hctx
  isplitl [Hb]; · iexact Hb
  isplitl [HG]; · iexact HG
  isplitl [HO]; · iexact HO
  isplitl [H0 H1 H2 H3]
  · isplitl [H0]; · iexact H0
    isplitl [H1]; · iexact H1
    isplitl [H2] <;> iassumption
  iintro ⟨Hb, HO, %A, %hA, H0, H1, H2, H3⟩
  ihave Hst := Hst $$ HO
  have e0 : A 0 = m (slotL d) := arr0 m (K.Otc d 0) (below d) d A hA
  rw [e0]
  iapply (wp_two m d opA main_v0_1 main_v1 rfl (by decide) rfl rfl (A 2) (m (hasL d))
    (shapeCast S4x1008 (A 2 : S4x1x1008.Idx → EReal) shapeCasts_S4x1x1008_S4x1008) (fun F hF => by refine (StableHlo.reshape_result _ _ _ _ _ _ F).trans ?_; rw [hF]; rfl))
  isplitl [Hb H2 H4]
  · isplitl [Hb]; · iexact Hb
    isplitl [H2]; · iexact H2
    iexact H4
  iintro ⟨Hb, -, H4⟩
  iapply (wp_two m d opB main_v0_2 main_v2 rfl (by decide) rfl rfl (A 3) (m (gateL d))
    (shapeCast S4x1008 (A 3 : S4x1x1008.Idx → BitVec 32) shapeCasts_S4x1x1008_S4x1008) (fun F hF => by refine (StableHlo.reshape_result _ _ _ _ _ _ F).trans ?_; rw [hF]; rfl))
  isplitl [Hb H3 H5]
  · isplitl [Hb]; · iexact Hb
    isplitl [H3]; · iexact H3
    iexact H5
  iintro ⟨Hb, -, H5⟩
  iapply (K.wp_run D 𝒱 (EH := EH) (P := P m) κ d 0)
  isplitr; · iexact Hctx
  isplitl [Hst]; · iexact Hst
  isplitl [H0 H1 H4 H5 H6 H7]
  · iapply (deal_all m d (A 1) (shapeCast S4x1008 (A 2 : S4x1x1008.Idx → EReal) shapeCasts_S4x1x1008_S4x1008)
      (shapeCast S4x1008 (A 3 : S4x1x1008.Idx → BitVec 32) shapeCasts_S4x1x1008_S4x1008) (m (mapL d)) (m (outL d)) (fun b hb => arr_init m (K.Otc d 0) (below d) d A hA b hb))
    isplitl [H1]; · iexact H1
    isplitl [H4]; · iexact H4
    isplitl [H5]; · iexact H5
    isplitl [H0]; · iexact H0
    isplitl [H6]; · iexact H6
    iexact H7
  iintro ⟨Hst, Hdn⟩
  ihave Hdn := (gather_all m d) $$ Hdn
  icases Hdn with ⟨H0, %f6, %f7, %hf, H6, H7⟩
  iapply (wp_two m d opC
    main_v3_0 main_v4 rfl (by decide) rfl rfl f6 (m (resL d))
    (extractStridedSlice S4x1000 ![0, 0] (f6 : S4x1008.Idx → BitVec 32) slices_S4x1008_S4x1000_0_0) (fun F hF => by refine (StableHlo.unary_result _ _ _ _ _ F).trans ?_; rw [hF]))
  isplitl [Hb H6 H8]
  · isplitl [Hb]; · iexact Hb
    isplitl [H6]; · iexact H6
    iexact H8
  iintro ⟨Hb, -, H8⟩
  imodintro
  isplitl [Hst]; · iexact Hst
  isplitr [Hb Hts]
  · unfold FIN
    isplitl [H0]; · iexact H0
    iexists (extractStridedSlice S4x1000 ![0, 0] (f6 : S4x1008.Idx → BitVec 32) slices_S4x1008_S4x1000_0_0 : S4x1000.Idx → BitVec 32), f7
    isplitr; · ipureintro; exact good_slice m d f6 f7 hf
    isplitl [H7] <;> iassumption
  isplitl [Hb] <;> iassumption

/-! ## The run -/

def u₀ : UU := (initOf K.hsCells K.hsToks, (initOf (Pipeline.cells pin0 cellOf_inj) (Pipeline.launchToks pin0 cellOf_inj), 1))

theorem hu₀ : (ownU u₀ : sProp 𝕄) ⊢ |={Set.univ}=> iprop(BI.own (EH (initOf K.hsCells K.hsToks)) ∗ (bigSep Finset.univ fun d : Dev nD => G d)
      ∗ bigSep Finset.univ fun thr : Thread nD τ => bigSep Finset.univ fun q : Fin 1 => (P m).x q thr) := by
  unfold u₀
  iintro H
  ihave H := (ownU_pair (initOf K.hsCells K.hsToks) ((initOf (Pipeline.cells pin0 cellOf_inj) (Pipeline.launchToks pin0 cellOf_inj), 1) : UP × Counters)) $$ H
  icases H with ⟨H1, H2⟩
  ihave H2 := (own_pair_emb (embR : Emb (UP × Counters) 𝕄) (initOf (Pipeline.cells pin0 cellOf_inj) (Pipeline.launchToks pin0 cellOf_inj)) (1 : Counters)) $$ H2
  icases H2 with ⟨H2, -⟩
  ihave H2 := (Entails.of_eq (show (BI.own (((Emb.inl : Emb UP (UP × Counters)).trans (embR : Emb (UP × Counters) 𝕄)) (initOf (Pipeline.cells pin0 cellOf_inj) (Pipeline.launchToks pin0 cellOf_inj))) : sProp 𝕄)
    = BI.own (EP (initOf (Pipeline.cells pin0 cellOf_inj) (Pipeline.launchToks pin0 cellOf_inj))) from rfl)) $$ H2
  imod (Pipeline.fund_ghost (pin0) EP cellOf_inj) $$ H2 with ⟨Hg, Ht⟩
  imodintro
  isplitl [H1]; · iexact H1
  have hG : (iprop((bigSep Finset.univ fun c : Dev nD => bigSep Finset.univ fun p => Pipeline.cellsGhost pin0 EP p c)
      ∗ bigSep Finset.univ fun c : Dev nD => bigSep Finset.univ fun p => Pipeline.toksInit pin0 EP p c) : sProp 𝕄)
      = bigSep Finset.univ fun d : Dev nD => G d := by
    unfold G
    rw [bigSep_sep']
    congr 1
    · exact bigSep_congr fun _ _ => bigSep_univ_of_subsingleton (0 : Fin 1)
    · exact bigSep_congr fun _ _ => bigSep_univ_of_subsingleton (0 : Fin 1)
  isplitl [Hg Ht]
  · iapply (Entails.of_eq hG)
    isplitl [Hg] <;> iassumption
  · iapply (Entails.of_eq (show (BI.emp : sProp 𝕄) = (bigSep Finset.univ fun thr : Thread nD τ => bigSep Finset.univ fun q : Fin 1 => (P m).x q thr) from
      ((bigSep_congr fun _ _ => (bigSep_univ_of_subsingleton (0 : Fin 1)).trans rfl).trans (bigSep_emp_const _)).symm))
    iempintro

def fq (d : Dev nD) (s' : Phys nD τ sig (Elt Ideal)) : Prop :=
  s'.mem.mem (slotL d) = m (slotL d) ∧ Good m d (s'.mem.mem (resL d) : S4x1000.Idx → BitVec 32) (s'.mem.mem (outL d) : S4x1000x256.Idx → EReal)

set_option maxRecDepth 16384 in
theorem hfin (d : Dev nD) (s' : Phys nD τ sig (Elt Ideal)) : iprop(FIN m d ∗ SI s') ⊢ (⌜fq m d s'⌝ : sProp 𝕄) := by
  unfold FIN
  iintro ⟨⟨H0, %r, %z, %hg, Hz, Hr⟩, HSI⟩
  ihave H := (persistent_entails_right (SI_pointsTo_agree (st := s') (ℓ := slotL d) (I := Finset.univ) (q := fullShare) (f := m (slotL d)))) $$ [HSI H0]
  · isplitl [HSI] <;> iassumption
  icases H with ⟨%h1, HSI, -⟩
  ihave H := (persistent_entails_right (SI_pointsTo_agree (st := s') (ℓ := outL d) (I := Finset.univ) (q := fullShare) (f := z))) $$ [HSI Hz]
  · isplitl [HSI] <;> iassumption
  icases H with ⟨%h2, HSI, -⟩
  ihave H := (SI_pointsTo_agree (st := s') (ℓ := resL d) (I := Finset.univ) (q := fullShare) (f := r)) $$ [HSI Hr]
  · isplitl [HSI] <;> iassumption
  icases H with %h3
  ipureintro
  have e2 : s'.mem.mem (outL d) = z := funext fun i => h2 i (Finset.mem_univ i)
  have e3 : s'.mem.mem (resL d) = r := funext fun i => h3 i (Finset.mem_univ i)
  exact ⟨funext fun i => h1 i (Finset.mem_univ i), by rw [e2, e3]; exact hg⟩

def QC : PUnit × MemSt nD τ sig (Elt Ideal) → Prop := fun r =>
  (∀ c : Dev nD, r.2.mem (slotL c) = m (slotL c) ∧ Good m c (r.2.mem (resL c) : S4x1000.Idx → BitVec 32) (r.2.mem (outL c) : S4x1000x256.Idx → EReal)) ∧ r.2.sem = fun _ => 0

theorem run_main : θ_run (Cert.KernelIdeal.defs (F := Ideal)) (Cert.KernelIdeal.threads (F := Ideal)) ⟨m, fun _ => 0, ρ⟩ (QC m) :=
  SparseCore.Cfg.θ_run_sc_quiescent (K := K) (D := D) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) u₀ (sep_elim_left.trans (hu₀ m)) (hmain m ρ) (fq m) (hfin m) (QC m) (fun _ h hz => ⟨h, hz⟩)

/-- The kernel's program runs to its end from every state, leaves its argument alone and every semaphore at zero. -/
theorem frame_kernel : Cert.quiescent_KernelIdeal := fun m ρ _ =>
  (θ_run _ _ _).mono (fun _ h => ⟨fun c => (h.1 c).1, h.2⟩) (run_main m ρ)

end Cert.Proof.Region
-- ==== Proof.RefStep.lean ====
/-
  One trip of the reference's loop, entry by entry: the greatest similarity, the first pair in row order that attains it,
  and what the trip makes of the similarities and of the merge map. From that: a trip is one round of greedy merging.
-/
module

public import Idealize.ShloMosaic.Lib.Affine
public import proofs.«01_k».proof.Proof.Sim
public import proofs.«01_k».proof.Proof.Gen.ReferenceIdeal.Step

@[expose] public section

noncomputable section

namespace Cert.Proof.Ref

open Cert.ReferenceIdeal Cert.ReferenceIdeal.Gen Cert.ReferenceIdeal.Step Cert.Proof.Vec Cert.Proof.Greedy
open Idealize.ShloMosaic

theorem ofNat_inj {a b : ℕ} (ha : a < 2 ^ 31) (hb : b < 2 ^ 31) : (BitVec.ofNat 32 a = BitVec.ofNat 32 b) ↔ a = b := by
  refine ⟨fun h => ?_, fun h => h ▸ rfl⟩
  have := congrArg BitVec.toNat h
  rw [BitVec.toNat_ofNat, BitVec.toNat_ofNat] at this; omega

theorem ofNat_toInt {a : ℕ} (ha : a < 2 ^ 31) : (BitVec.ofNat 32 a).toInt = a := by
  rw [BitVec.toInt_eq_toNat_of_lt (by rw [BitVec.toNat_ofNat]; omega), BitVec.toNat_ofNat]; omega

theorem div_thousand {a : ℕ} (ha : a < 2 ^ 31) : IntOp.divsi .host (BitVec.ofNat 32 a) 1000#32 = BitVec.ofNat 32 (a / 1000) := by
  have hc : ¬ IntOp.SDivCorner (BitVec.ofNat 32 a) 1000#32 := by
    unfold IntOp.SDivCorner
    simp
  unfold IntOp.divsi
  rw [if_neg hc]
  apply BitVec.eq_of_toInt_eq
  rw [BitVec.toInt_sdiv_of_ne_or_ne _ _ (.inr (by decide)), ofNat_toInt ha, show (1000#32).toInt = 1000 from by decide, ofNat_toInt (a := a / 1000) (by omega)]
  rw [Int.tdiv_eq_ediv_of_nonneg (by omega)]; omega

theorem rem_thousand {a : ℕ} (ha : a < 2 ^ 31) : IntOp.remsi .host (BitVec.ofNat 32 a) 1000#32 = BitVec.ofNat 32 (a % 1000) := by
  have hc : ¬ IntOp.SDivCorner (BitVec.ofNat 32 a) 1000#32 := by
    unfold IntOp.SDivCorner
    simp
  unfold IntOp.remsi
  rw [if_neg hc]
  apply BitVec.eq_of_toInt_eq
  rw [BitVec.toInt_srem, ofNat_toInt ha, show (1000#32).toInt = 1000 from by decide, ofNat_toInt (a := a % 1000) (by omega)]
  rw [Int.tmod_eq_emod_of_nonneg (by omega)]; omega

theorem max_small {a b : ℕ} (ha : a < 2 ^ 31) (hb : b < 2 ^ 31) : IntOp.maxsi (BitVec.ofNat 32 a) (BitVec.ofNat 32 b) = BitVec.ofNat 32 (max a b) := by
  unfold IntOp.maxsi
  by_cases h : (BitVec.ofNat 32 b).slt (BitVec.ofNat 32 a)
  · have h' := BitVec.slt_iff_toInt_lt.mp h
    rw [ofNat_toInt ha, ofNat_toInt hb] at h'
    rw [if_pos h]; congr 1; omega
  · have h' := mt BitVec.slt_iff_toInt_lt.mpr h
    rw [ofNat_toInt ha, ofNat_toInt hb] at h'
    rw [if_neg h]; congr 1; omega

theorem min_small {a b : ℕ} (ha : a < 2 ^ 31) (hb : b < 2 ^ 31) : IntOp.minsi (BitVec.ofNat 32 a) (BitVec.ofNat 32 b) = BitVec.ofNat 32 (min a b) := by
  unfold IntOp.minsi
  by_cases h : (BitVec.ofNat 32 a).slt (BitVec.ofNat 32 b)
  · have h' := BitVec.slt_iff_toInt_lt.mp h
    rw [ofNat_toInt ha, ofNat_toInt hb] at h'
    rw [if_pos h]; congr 1; omega
  · have h' := mt BitVec.slt_iff_toInt_lt.mpr h
    rw [ofNat_toInt ha, ofNat_toInt hb] at h'
    rw [if_neg h]; congr 1; omega

theorem fold_max_all {ι : Type} [Fintype ι] [Nonempty ι] (f : ι → EReal) :
    (∀ i, f i ≤ Finset.univ.fold max ⊥ f) ∧ ∃ i, f i = Finset.univ.fold max ⊥ f := by
  obtain ⟨h1, i, -, h2⟩ := Scan.fold_max Finset.univ f Finset.univ_nonempty
  exact ⟨fun i => h1 i (Finset.mem_univ i), i, h2⟩

theorem fold_min_all {ι : Type} [Fintype ι] [DecidableEq ι] (f : ι → BitVec 32) (b : BitVec 32) :
    (∀ i, (Finset.univ.fold (IKind.op .minsi) b f).toInt ≤ (f i).toInt) ∧ (Finset.univ.fold (IKind.op .minsi) b f = b ∨ ∃ i, f i = Finset.univ.fold (IKind.op .minsi) b f) := by
  obtain ⟨h1, h2⟩ := Scan.fold_min Finset.univ f b
  exact ⟨fun i => h1 i (Finset.mem_univ i), h2.imp id fun ⟨i, _, h⟩ => ⟨i, h⟩⟩

variable (n : ℕ) (s : State Ideal) (b : Fin 4)

theorem max_fold : (b3 n s (ix1 b) : EReal) = (Finset.univ : Finset (Fin 1000 × Fin 1000)).fold (max : EReal → EReal → EReal) ⊥ (fun k => (s.main_v19_4 (ix3 b k.1 k.2) : EReal)) := by
  unfold b3 b2
  refine (Host.reduce_eq_fold (FloatOps.maximumf (F := Ideal) (φ := .f32)) s.main_v19_4 _ reducesTo_S4x1000x1000_S4_d1_2 h_S_ (ix1 b)).trans ?_
  rw [show (constant (F := Ideal) S_ .f32 0xFF800000#32 (Shape.Idx.first h_S_) : EReal) = (⊥ : EReal) from Scan.lit_bot]
  exact Shape.ReducesTo.fold_fiber_r3_a12 (n0 := 4) (n1 := 1000) (n2 := 1000) reducesTo_S4x1000x1000_S4_d1_2 (ix1 b) (FloatOps.maximumf (F := Ideal) (φ := .f32)) _ s.main_v19_4

/-- The greatest similarity of a batch. -/
theorem max_at : (∀ i j : Fin 1000, (s.main_v19_4 (ix3 b i j) : EReal) ≤ b3 n s (ix1 b)) ∧ ∃ i j : Fin 1000, (s.main_v19_4 (ix3 b i j) : EReal) = b3 n s (ix1 b) := by
  rw [max_fold]
  obtain ⟨h1, i, h2⟩ := fold_max_all (fun k : Fin 1000 × Fin 1000 => (s.main_v19_4 (ix3 b k.1 k.2) : EReal))
  exact ⟨fun i j => h1 (i, j), i.1, i.2, h2⟩

/-- A pair's number in row order. -/
theorem flat_at (i j : Fin 1000) : (K_main_v17 (F := Ideal) (ix3 b i j) : BitVec 32) = BitVec.ofNat 32 (1000 * i.val + j.val) := by
  have e : (K_main_v17 (F := Ideal) (ix3 b i j) : BitVec 32) = BitVec.ofNat 32 i.val * 1000#32 + BitVec.ofNat 32 j.val := by
    unfold K_main_v17 K_main_v16 K_main_v9 K_main_v15 K_main_v10 K_main_c
    pointwise
    unfold IntOp.addi IntOp.muli; rfl
  rw [e, ← BitVec.ofNat_mul, ← BitVec.ofNat_add, Nat.mul_comm]

theorem mark_at (i j : Fin 1000) : (b10 n s (ix3 b i j) : BitVec 32)
    = if (s.main_v19_4 (ix3 b i j) : EReal) = b3 n s (ix1 b) then BitVec.ofNat 32 (1000 * i.val + j.val) else 1000000#32 := by
  rw [← flat_at b i j]
  unfold b10 b6 b5 b4 b9 b8 b7
  generalize b3 n s = v
  pointwise

theorem min_fold : (b12 n s (ix1 b) : BitVec 32) = (Finset.univ : Finset (Fin 1000 × Fin 1000)).fold (IKind.op .minsi) 2147483647#32 (fun k => (b10 n s (ix3 b k.1 k.2) : BitVec 32)) := by
  unfold b12 b11
  refine (Host.reduce_eq_fold (IKind.op .minsi) (b10 n s) _ reducesTo_S4x1000x1000_S4_d1_2 h_S_ (ix1 b)).trans ?_
  exact Shape.ReducesTo.fold_fiber_r3_a12 (n0 := 4) (n1 := 1000) (n2 := 1000) reducesTo_S4x1000x1000_S4_d1_2 (ix1 b) (IKind.op .minsi) _ (b10 n s)

/-- The first pair, in row order, that attains the greatest similarity. -/
theorem first_at : ∃ r c : Fin 1000, (s.main_v19_4 (ix3 b r c) : EReal) = b3 n s (ix1 b) ∧ (b12 n s (ix1 b) : BitVec 32) = BitVec.ofNat 32 (1000 * r.val + c.val)
    ∧ ∀ i j : Fin 1000, (s.main_v19_4 (ix3 b i j) : EReal) = b3 n s (ix1 b) → 1000 * r.val + c.val ≤ 1000 * i.val + j.val := by
  rw [min_fold]
  obtain ⟨h1, h2⟩ := fold_min_all (fun k : Fin 1000 × Fin 1000 => (b10 n s (ix3 b k.1 k.2) : BitVec 32)) 2147483647#32
  generalize (Finset.univ : Finset (Fin 1000 × Fin 1000)).fold (IKind.op .minsi) 2147483647#32 (fun k => (b10 n s (ix3 b k.1 k.2) : BitVec 32)) = w at h1 h2 ⊢
  obtain ⟨-, i0, j0, h0⟩ := max_at n s b
  have hk := h1 (i0, j0)
  have hi0 := i0.isLt; have hj0 := j0.isLt
  simp only [mark_at] at hk
  rw [if_pos h0, ofNat_toInt (by omega)] at hk
  rcases h2 with h2 | ⟨⟨r, c⟩, h2⟩
  · rw [h2, show (2147483647#32).toInt = 2147483647 from by decide] at hk; omega
  · simp only [mark_at] at h2
    by_cases e : (s.main_v19_4 (ix3 b r c) : EReal) = b3 n s (ix1 b)
    · rw [if_pos e] at h2
      refine ⟨r, c, e, h2.symm, fun i j hij => ?_⟩
      have := h1 (i, j)
      simp only [mark_at] at this
      have hi := i.isLt; have hj := j.isLt; have hr := r.isLt; have hc := c.isLt
      rw [if_pos hij, ← h2, ofNat_toInt (by omega), ofNat_toInt (by omega)] at this
      omega
    · rw [if_neg e] at h2
      rw [← h2, show (1000000#32).toInt = 1000000 from by decide] at hk; omega

theorem row_at : (b15 n s (ix1 b) : BitVec 32) = IntOp.divsi .host (b12 n s (ix1 b)) 1000#32 := by
  unfold b15 b14 b13
  generalize b12 n s = v
  pointwise

theorem col_at : (b18 n s (ix1 b) : BitVec 32) = IntOp.remsi .host (b12 n s (ix1 b)) 1000#32 := by
  unfold b18 b17 b16
  generalize b12 n s = v
  pointwise

theorem gone_word (v : FVec Ideal S4 .f32) (x y : IVec S4 32) (i : Fin 1000) :
    (andi (broadcastInDim S4x1000 ![0, 1] bcast_S4x1_S4x1000_0_1 (broadcastInDim S4x1 ![0] bcast_S4_S4x1_0 (cmpf .ogt v (broadcastInDim S4 ![] bcast_S_S4 (constant (F := Ideal) S_ .f32 0x3F666666#32)))))
      (cmpi .eq (iotaInDim S4x1000 32 1) (broadcastInDim S4x1000 ![0, 1] bcast_S4x1_S4x1000_0_1 (broadcastInDim S4x1 ![0] bcast_S4_S4x1_0 (maxsi x y)))) (ix2 b i) : BitVec 1)
    = IntOp.andi (Ideal.cmp .ogt (v (ix1 b)) (Ideal.ofBits .f32 0x3F666666#32)) (IntOp.cmpi .eq (BitVec.ofNat 32 i.val) (IntOp.maxsi (x (ix1 b)) (y (ix1 b)))) := by
  pointwise

theorem gone_iff (v : EReal) (w x : BitVec 32) : IntOp.andi (Ideal.cmp .ogt v (Ideal.ofBits .f32 0x3F666666#32)) (IntOp.cmpi .eq w x) = 1#1 ↔ theta < v ∧ w = x := by
  rw [lit_theta, IntOp.andi_eq_one, cmp_ogt, IntOp.cmpi_eq]

theorem gone_eq : b29 n s = andi (broadcastInDim S4x1000 ![0, 1] bcast_S4x1_S4x1000_0_1 (broadcastInDim S4x1 ![0] bcast_S4_S4x1_0 (cmpf .ogt (b3 n s) (broadcastInDim S4 ![] bcast_S_S4 (constant (F := Ideal) S_ .f32 0x3F666666#32)))))
      (cmpi .eq (iotaInDim S4x1000 32 1) (broadcastInDim S4x1000 ![0, 1] bcast_S4x1_S4x1000_0_1 (broadcastInDim S4x1 ![0] bcast_S4_S4x1_0 (maxsi (b15 n s) (b18 n s))))) := by
  unfold b29 b28 b27 b26 b25 b24 b23 b22 b21 b19 K_main_v18
  rfl

/-- The row that a trip merges away, marked. -/
theorem gone_at (i : Fin 1000) : (b29 n s (ix2 b i) : BitVec 1) = 1#1
    ↔ theta < (b3 n s (ix1 b) : EReal) ∧ BitVec.ofNat 32 i.val = IntOp.maxsi (b15 n s (ix1 b)) (b18 n s (ix1 b)) := by
  rw [gone_eq]
  generalize b3 n s = v
  generalize b15 n s = x
  generalize b18 n s = y
  rw [gone_word b v x y i]
  exact gone_iff _ _ _

theorem map_at (i : Fin 1000) : (b32 n s (ix2 b i) : BitVec 32)
    = if (b29 n s (ix2 b i) : BitVec 1) = 1#1 then IntOp.minsi (b15 n s (ix1 b)) (b18 n s (ix1 b)) else s.main_v19_5 (ix2 b i) := by
  unfold b32 b31 b30 b20
  generalize b15 n s = x
  generalize b18 n s = y
  generalize b29 n s = z
  pointwise
  rfl

theorem sim_at (i j : Fin 1000) : (b41 n s (ix3 b i j) : EReal)
    = if (b29 n s (ix2 b i) : BitVec 1) = 1#1 ∨ (b29 n s (ix2 b j) : BitVec 1) = 1#1 then two else s.main_v19_4 (ix3 b i j) := by
  have e : (b41 n s (ix3 b i j) : EReal) = if IntOp.ori (b29 n s (ix2 b i) : BitVec 1) (b29 n s (ix2 b j) : BitVec 1) = 1#1 then Ideal.ofBits .f32 0xC0000000#32 else s.main_v19_4 (ix3 b i j) := by
    unfold b41 b40 b39 b38 b37 b36 b35 b34 b33
    generalize b29 n s = z
    pointwise
    rfl
  rw [e, lit_two]
  exact if_congr IntOp.ori_eq_one rfl rfl

/-- A batch's share of a state: the alive pairs have their similarities, the others stand below the threshold; the merge map is in words. -/
structure Holds (S : ℕ → ℕ → EReal) (A : Finset ℕ) (M : ℕ → ℕ) : Prop where
  sub : A ⊆ Finset.range 1000
  sim : ∀ i j : Fin 1000, (s.main_v19_4 (ix3 b i j) : EReal) = if i.val ∈ A ∧ j.val ∈ A then S i.val j.val else two
  map : ∀ i : Fin 1000, (s.main_v19_5 (ix2 b i) : BitVec 32) = BitVec.ofNat 32 (M i.val)

variable {s b}

theorem Holds.next {S : ℕ → ℕ → EReal} {A : Finset ℕ} {M : ℕ → ℕ} (h : Holds s b S A M) :
    ∃ A' M', Greedy.Step S theta A M A' M' ∧ Holds (step n s) b S A' M' := by
  obtain ⟨hle, -⟩ := max_at n s b
  by_cases hv : theta < (b3 n s (ix1 b) : EReal)
  · obtain ⟨r, c, hrc, hk, hfirst⟩ := first_at n s b
    have hr := r.isLt
    have hc := c.isLt
    have hin : r.val ∈ A ∧ c.val ∈ A := by
      by_contra hn
      rw [h.sim, if_neg hn] at hrc
      rw [← hrc] at hv
      exact absurd hv (not_lt.mpr two_lt_theta.le)
    have hS : S r.val c.val = (b3 n s (ix1 b) : EReal) := by rw [← hrc, h.sim, if_pos hin]
    have hrow : (b15 n s (ix1 b) : BitVec 32) = BitVec.ofNat 32 r.val := by
      rw [row_at, hk, div_thousand (by omega)]; exact congrArg (BitVec.ofNat 32) (by omega)
    have hcol : (b18 n s (ix1 b) : BitVec 32) = BitVec.ofNat 32 c.val := by
      rw [col_at, hk, rem_thousand (by omega)]; exact congrArg (BitVec.ofNat 32) (by omega)
    have hgone : ∀ i : Fin 1000, (b29 n s (ix2 b i) : BitVec 1) = 1#1 ↔ i.val = max r.val c.val := fun i => by
      have hi := i.isLt
      rw [gone_at, hrow, hcol, max_small (by omega) (by omega), ofNat_inj (by omega) (by omega)]
      exact ⟨fun x => x.2, fun x => ⟨hv, x⟩⟩
    refine ⟨_, _, .merge (r := r.val) (c := c.val) ⟨hin.1, hin.2, fun i hi j hj => ?_, fun i hi j hj e => ?_⟩ (hS ▸ hv), ?_, fun i j => ?_, fun i => ?_⟩
    · have hi' := Finset.mem_range.mp (h.sub hi)
      have hj' := Finset.mem_range.mp (h.sub hj)
      have := hle ⟨i, hi'⟩ ⟨j, hj'⟩
      rw [h.sim, if_pos ⟨hi, hj⟩] at this
      exact this.trans hS.ge
    · have hi' := Finset.mem_range.mp (h.sub hi)
      have hj' := Finset.mem_range.mp (h.sub hj)
      have := hfirst ⟨i, hi'⟩ ⟨j, hj'⟩ (by rw [h.sim, if_pos ⟨hi, hj⟩]; exact e.trans hS)
      have this : 1000 * r.val + c.val ≤ 1000 * i + j := this
      omega
    · exact (Finset.erase_subset _ _).trans h.sub
    · rw [step_main_v19_4, sim_at, h.sim]
      simp only [hgone, Finset.mem_erase]
      by_cases h1 : i.val = max r.val c.val
      · rw [if_pos (.inl h1), if_neg fun x => x.1.1 h1]
      · by_cases h2 : j.val = max r.val c.val
        · rw [if_pos (.inr h2), if_neg fun x => x.2.1 h2]
        · rw [if_neg (not_or.mpr ⟨h1, h2⟩)]
          exact if_congr ⟨fun x => ⟨⟨h1, x.1⟩, ⟨h2, x.2⟩⟩, fun x => ⟨x.1.2, x.2.2⟩⟩ rfl rfl
    · rw [step_main_v19_5, map_at, hrow, hcol, min_small (by omega) (by omega)]
      by_cases h1 : i.val = max r.val c.val
      · rw [if_pos ((hgone i).mpr h1), h1, Function.update_self]
      · rw [if_neg (mt (hgone i).mp h1), Function.update_of_ne h1, h.map]
  · have hgone : ∀ i : Fin 1000, ¬ (b29 n s (ix2 b i) : BitVec 1) = 1#1 := fun i hi => hv ((gone_at n s b i).mp hi).1
    refine ⟨A, M, .stay fun i hi j hj => ?_, h.sub, fun i j => ?_, fun i => ?_⟩
    · have hi' := Finset.mem_range.mp (h.sub hi)
      have hj' := Finset.mem_range.mp (h.sub hj)
      have := hle ⟨i, hi'⟩ ⟨j, hj'⟩
      rw [h.sim, if_pos ⟨hi, hj⟩] at this
      exact this.trans (not_lt.mp hv)
    · rw [step_main_v19_4, sim_at, if_neg (not_or.mpr ⟨hgone i, hgone j⟩)]
      exact h.sim i j
    · rw [step_main_v19_5, map_at, if_neg (hgone i)]
      exact h.map i

/-- After `n` trips a batch holds what `n` rounds of greedy merging reach. -/
theorem reach_iter {S : ℕ → ℕ → EReal} (it : ℕ → State Ideal) (h0 : Holds (it 0) b S (Finset.range 1000) id) (hs : ∀ n, it (n + 1) = step n (it n)) :
    ∀ n, ∃ A M, Reach S theta 1000 n A M ∧ Holds (it n) b S A M
  | 0 => ⟨_, _, .zero, h0⟩
  | n + 1 => by
    obtain ⟨A, M, hr, hh⟩ := reach_iter it h0 hs n
    obtain ⟨A', M', hst, hh'⟩ := hh.next n
    exact ⟨A', M', .succ hr hst, hs n ▸ hh'⟩

end Cert.Proof.Ref

end
-- ==== Proof.RefValue.lean ====
/-
  The reference's values, entry by entry: what its loop starts from, and the merged slots it computes at the end.
-/
module

public import proofs.«01_k».proof.Proof.RefStep

@[expose] public section

noncomputable section

namespace Cert.Proof.Ref

open Cert.ReferenceIdeal Cert.ReferenceIdeal.Gen Cert.ReferenceIdeal.Step Cert.Proof.Vec Cert.Proof.Greedy
open Idealize.ShloMosaic

variable (x : FVec Ideal S4x1000x256 .f32) (b : Fin 4)

theorem dot_at (u v : FVec Ideal S4x1000x256 .f32) (i j : Fin 1000) :
    (Host.dotGeneral dot_S4x1000x256_S4x1000x256_S4x1000x1000_2_2_1_1_0_0 none u v (ix3 b i j) : EReal) = ∑ k : Fin 256, (u (ix3 b i k) : EReal) * v (ix3 b j k) := by
  pointwise

theorem sq_at (i : Fin 1000) : (A_main_v1 (F := Ideal) x (ix2 b i) : EReal) = ∑ k : Fin 256, (x (ix3 b i k) : EReal) * x (ix3 b i k) := by
  unfold A_main_v1 A_main_v0 K_main_cst
  pointwise

theorem unit_at (i : Fin 1000) (k : Fin 256) : (A_main_v7 (F := Ideal) x (ix3 b i k) : EReal)
    = Ideal.div (x (ix3 b i k)) (max (Ideal.sqrt (∑ k : Fin 256, (x (ix3 b i k) : EReal) * x (ix3 b i k))) (Ideal.ofBits .f32 0x2B8CBCCC#32)) := by
  rw [← sq_at]
  unfold A_main_v7 A_main_v6 A_main_v5 A_main_v3 A_main_v2 K_main_v4 K_main_cst_0
  generalize A_main_v1 (F := Ideal) x = y
  pointwise

theorem sim0_word (y : FVec Ideal S4x1000x1000 .f32) (i j : Fin 1000) :
    (select (cmpi .eq (iotaInDim S4x1000x1000 32 1) (iotaInDim S4x1000x1000 32 2)) (subf y (broadcastInDim S4x1000x1000 ![] bcast_S_S4x1000x1000 (constant (F := Ideal) S_ .f32 0x40000000#32))) y (ix3 b i j) : EReal)
    = if i = j then (y (ix3 b i j) : EReal) - Ideal.ofBits .f32 0x40000000#32 else y (ix3 b i j) := by
  pointwise
  have hi := i.isLt
  have hj := j.isLt
  by_cases h : i = j
  · rw [if_pos h, h, show IntOp.cmpi .eq (BitVec.ofNat 32 j.val) (BitVec.ofNat 32 j.val) = 1#1 from IntOp.cmpi_eq.mpr rfl]
    rfl
  · rw [if_neg h]
    exact if_neg fun e => h (Fin.ext ((ofNat_inj (by omega) (by omega)).mp (IntOp.cmpi_eq.mp e)))

theorem dot2_at (u : FVec Ideal S4x1000x1000 .f32) (i : Fin 1000) (k : Fin 256) :
    (Host.dotGeneral dot_S4x1000x1000_S4x1000x256_S4x1000x256_1_1_2_2_0_0 none u x (ix3 b i k) : EReal) = ∑ n : Fin 1000, (u (ix3 b n i) : EReal) * x (ix3 b n k) := by
  pointwise

theorem member_at (mt : IVec S4x1000 32) (n t : Fin 1000) :
    (uitofp (F := Ideal) .f32 (cmpi .eq (broadcastInDim S4x1000x1000 ![0, 1, 2] bcast_S4x1000x1_S4x1000x1000_0_1_2 (broadcastInDim S4x1000x1 ![0, 1] bcast_S4x1000_S4x1000x1_0_1 mt)) (iotaInDim S4x1000x1000 32 2)) (ix3 b n t) : EReal)
      = if mt (ix2 b n) = BitVec.ofNat 32 t.val then 1 else 0 := by
  pointwise
  by_cases h : mt (ix2 b n) = BitVec.ofNat 32 t.val
  · rw [if_pos h, IntOp.cmpi_eq.mpr h]
    show (((1#1).toNat : ℝ) : EReal) = 1
    simp
  · have : IntOp.cmpi .eq (mt (ix2 b n)) (BitVec.ofNat 32 t.val) = 0#1 := by
      show BitVec.ofBool (mt (ix2 b n) == BitVec.ofNat 32 t.val) = 0#1
      rw [beq_false_of_ne h]; rfl
    rw [if_neg h, this]
    show (((0#1).toNat : ℝ) : EReal) = 0
    simp

theorem quot_word (u : FVec Ideal S4x1000x1000 .f32) (t : Fin 1000) (k : Fin 256) (y : FVec Ideal S4x1000x256 .f32) :
    (Host.divf y (broadcastInDim S4x1000x256 ![0, 1, 2] bcast_S4x1000x1_S4x1000x256_0_1_2 (broadcastInDim S4x1000x1 ![0, 1] bcast_S4x1000_S4x1000x1_0_1 (maximumf (Host.reduceAdd u (constant (F := Ideal) S_ .f32 0x00000000#32) reducesTo_S4x1000x1000_S4x1000_d1 h_S_) (broadcastInDim S4x1000 ![] bcast_S_S4x1000 (constant (F := Ideal) S_ .f32 0x3F800000#32))))) (ix3 b t k) : EReal)
      = Ideal.div (y (ix3 b t k)) (max (∑ n : Fin 1000, (u (ix3 b n t) : EReal)) 1) := by
  pointwise

/-- What the loop starts from: every slot alive and its own representative. -/
theorem init_holds (v0 : FVec Ideal Cert.KernelIdeal.S1x1000x256 .f32) (hv : ∀ (i : Fin 1000) (k : Fin 256), (v0 (ix3 0 i k) : EReal) = x (ix3 b i k)) :
    Holds (init x) b (Scan.simS v0) (Finset.range 1000) id where
  sub := subset_rfl
  sim i j := by
    rw [if_pos ⟨Finset.mem_range.mpr i.isLt, Finset.mem_range.mpr j.isLt⟩, Scan.simS_at, Scan.pay1_at]
    have e : (A_main_v14 (F := Ideal) x (ix3 b i j) : EReal) = if i = j then (A_main_v8 (F := Ideal) x (ix3 b i j) : EReal) - Ideal.ofBits .f32 0x40000000#32 else A_main_v8 (F := Ideal) x (ix3 b i j) :=
      sim0_word b (A_main_v8 (F := Ideal) x) i j
    have hu : ∀ (i : Fin 1000) (k : Fin 256), Scan.unitRow v0 i k = A_main_v7 (F := Ideal) x (ix3 b i k) := fun i k => by
      rw [unit_at]; unfold Scan.unitRow; simp only [hv]
    have hd : (A_main_v8 (F := Ideal) x (ix3 b i j) : EReal) = ∑ k : Fin 256, Scan.unitRow v0 i k * Scan.unitRow v0 j k := by
      simp only [hu]
      exact dot_at b (A_main_v7 (F := Ideal) x) (A_main_v7 (F := Ideal) x) i j
    rw [← hd]
    exact e
  map i := by
    show (K_main_v18 (F := Ideal) (ix2 b i) : BitVec 32) = BitVec.ofNat 32 i.val
    unfold K_main_v18
    pointwise

variable {b} {s : State Ideal}

/-- The merged slots are those of the merge map. -/
theorem merged_at {S : ℕ → ℕ → EReal} {A : Finset ℕ} {M : ℕ → ℕ} (h : Holds s b S A M) (hM : ∀ i < 1000, M i < 1000) (y : ℕ → ℕ → EReal)
    (hy : ∀ (i : Fin 1000) (k : Fin 256), (x (ix3 b i k) : EReal) = y i.val k.val) (t : Fin 1000) (k : Fin 256) :
    (R_main_v31 s x (ix3 b t k) : EReal) = Scan.mergedAt M y t.val k.val := by
  have e : (R_main_v31 s x (ix3 b t k) : EReal)
      = Ideal.div (∑ n : Fin 1000, (if (s.main_v19_5 (ix2 b n) : BitVec 32) = BitVec.ofNat 32 t.val then 1 else 0 : EReal) * x (ix3 b n k))
        (max (∑ n : Fin 1000, (if (s.main_v19_5 (ix2 b n) : BitVec 32) = BitVec.ofNat 32 t.val then 1 else 0 : EReal)) 1) := by
    unfold R_main_v31
    generalize hm : (uitofp (F := Ideal) .f32 (cmpi .eq (broadcastInDim S4x1000x1000 ![0, 1, 2] bcast_S4x1000x1_S4x1000x1000_0_1_2 (broadcastInDim S4x1000x1 ![0, 1] bcast_S4x1000_S4x1000x1_0_1 s.main_v19_5)) (iotaInDim S4x1000x1000 32 2)) : FVec Ideal S4x1000x1000 .f32) = u
    have hu : ∀ n : Fin 1000, (u (ix3 b n t) : EReal) = if (s.main_v19_5 (ix2 b n) : BitVec 32) = BitVec.ofNat 32 t.val then 1 else 0 := fun n => by
      rw [← hm]; exact member_at b s.main_v19_5 n t
    simp only [← hu]
    rw [← dot2_at]
    exact quot_word b u t k _
  have hw : ∀ n : Fin 1000, ((s.main_v19_5 (ix2 b n) : BitVec 32) = BitVec.ofNat 32 t.val) ↔ M n.val = t.val := fun n => by
    have := hM n.val n.isLt
    have ht := t.isLt
    rw [h.map, ofNat_inj (by omega) (by omega)]
  simp only [hw, hy] at e
  rw [e]
  unfold Scan.mergedAt Scan.sums Scan.counts Scan.recip
  rw [Ideal.mul_one_div (ne_of_gt (lt_of_lt_of_le zero_lt_one (le_max_right _ _))), Finset.sum_range, Finset.sum_range]
  congr 1
  refine Finset.sum_congr rfl fun n _ => ?_
  by_cases hn : M n.val = t.val
  · rw [if_pos hn, if_pos hn, one_mul]
  · rw [if_neg hn, if_neg hn, zero_mul]

end Cert.Proof.Ref

end
-- ==== Proof.Same.lean ====
/-
  The kernel's results are the reference's: both are the merge map that the rounds reach, and the slots merged by it.
-/
module

public import proofs.«01_k».proof.Proof.Main
public import proofs.«01_k».proof.Proof.RefValue
public import proofs.«01_k».proof.Proof.Gen.ReferenceIdeal.StepRun

@[expose] public section

noncomputable section

namespace Cert.Proof.Region

open Cert.KernelIdeal Cert.KernelIdeal.Gen Cert.Proof.Vec Cert.Proof.Greedy Cert.Proof.Scan
open Idealize.ShloMosaic Idealize.SL.Sem

/-- The sequence of the reference's states from given slots. -/
theorem exists_iter (x : FVec Ideal S4x1000x256 .f32) : ∃ it : ℕ → Cert.ReferenceIdeal.Step.State Ideal,
    it 0 = Cert.ReferenceIdeal.Step.init x ∧ ∀ n, it (n + 1) = Cert.ReferenceIdeal.Step.step n (it n) :=
  ⟨fun n => Nat.rec (Cert.ReferenceIdeal.Step.init x) (fun n s => Cert.ReferenceIdeal.Step.step n s) n, rfl, fun _ => rfl⟩

variable (m : (ℓ : Loc nD τ sig) → Buf (Elt Ideal) ℓ) (d : Dev nD)

theorem V0_at (b : Fin 4) (i : Fin 1000) (k : Fin 256) : (V0 m d b.val (ix3 0 i k) : EReal) = (m (slotL d) : S4x1000x256.Idx → EReal) (ix3 b i k) := by
  unfold V0
  rw [dif_pos b.isLt]
  rfl

theorem same {N : ℕ} (hN : N = 1000) (x : S4x1000x256.Idx → EReal) (hx : (m (slotL d) : S4x1000x256.Idx → EReal) = x) (it : ℕ → Cert.ReferenceIdeal.Step.State Ideal)
    (h0 : it 0 = Cert.ReferenceIdeal.Step.init x) (hs : ∀ n, it (n + 1) = Cert.ReferenceIdeal.Step.step n (it n))
    (r : S4x1000.Idx → BitVec 32) (z : S4x1000x256.Idx → EReal) (hg : Good m d r z) :
    z = (Cert.ReferenceIdeal.Step.R_main_v31 (it N) x : S4x1000x256.Idx → EReal) ∧ r = ((it N).main_v19_5 : S4x1000.Idx → BitVec 32) := by
  have hall : ∀ b : Fin 4, (∀ i : Fin 1000, r (ix2 b i) = (it N).main_v19_5 (ix2 b i))
      ∧ ∀ (t : Fin 1000) (k : Fin 256), z (ix3 b t k) = (Cert.ReferenceIdeal.Step.R_main_v31 (it N) x (ix3 b t k) : EReal) := by
    intro b
    obtain ⟨A, M, hr, hmt, hz⟩ := hg b.val b.isLt
    have hi : Ref.Holds (it 0) b (simS (V0 m d b.val)) (Finset.range 1000) id := by
      rw [h0]
      exact Ref.init_holds x b (V0 m d b.val) fun i k => by rw [V0_at, hx]
    obtain ⟨A', M', hr', hh⟩ := Ref.reach_iter it hi hs N
    rw [hN] at hr'
    obtain ⟨rfl, rfl⟩ := hr.det hr'
    refine ⟨fun i => ?_, fun t k => ?_⟩
    · rw [hh.map, ← hmt i.val i.isLt, of2_at]
    · rw [Ref.merged_at x hh hr.lt (xs m d b.val) (fun i k => ?_) t k, ← hz t.val t.isLt k.val k.isLt]
      · exact (of3_at (α := EReal) z b t k).symm
      · unfold xs
        rw [hx]
        exact (of3_at (α := EReal) x b i k).symm
  constructor
  · funext j
    rw [← ix3_eta j]
    exact (hall (j 0)).2 (j 1) (j 2)
  · funext j
    rw [← ix2_eta j]
    exact (hall (j 0)).1 (j 1)

/-- From the same slots the kernel and the reference end with the same merged slots and the same merge map. -/
theorem algebraic : Cert.algebraic_KernelIdeal_ReferenceIdeal := by
  intro m g m' g' _ hm
  choose it h0 hs using fun c : Dev Cert.ReferenceIdeal.nD => exists_iter (m' ((c.tc : Thread Cert.ReferenceIdeal.nD Cert.ReferenceIdeal.τ).loc Cert.ReferenceIdeal.main_arg0) : S4x1000x256.Idx → EReal)
  refine ⟨fun c => Cert.ReferenceIdeal.Step.R_main_v31 (it c 1000) (m' ((c.tc : Thread Cert.ReferenceIdeal.nD Cert.ReferenceIdeal.τ).loc Cert.ReferenceIdeal.main_arg0)), fun c => (it c 1000).main_v19_5, ?_, ?_⟩
  · refine (θ_run _ _ _).mono (fun r h c => ?_) (run_main m g)
    obtain ⟨ha, hg⟩ := h.1 c
    obtain ⟨hz, hr⟩ := same m c rfl (m' ((c.tc : Thread Cert.ReferenceIdeal.nD Cert.ReferenceIdeal.τ).loc Cert.ReferenceIdeal.main_arg0)) (hm c).symm (it c) (h0 c) (hs c) _ _ hg
    exact ⟨hz, hr, ha⟩
  · exact Cert.ReferenceIdeal.StepRun.run_iter (F := Ideal) m' g' it h0 hs

end Cert.Proof.Region

end
-- ==== Proof.lean ====
/-
  The claims together.
-/
module

public import proofs.«01_k».proof.Defs
public import proofs.«01_k».proof.Proof.Main
public import proofs.«01_k».proof.Proof.Same
public import proofs.«01_k».proof.Proof.Gen.ReferenceIdeal.Run
public import Idealize.ShloMosaic.Adequacy

@[expose] public section

noncomputable section

namespace Cert.Proof

open Idealize.ShloMosaic Idealize.SL.Sem

/-- The reference's program runs to its end and leaves its argument alone; it has no semaphore. -/
theorem frame_reference : Cert.quiescent_ReferenceIdeal := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

theorem claim : Cert.Claim := ⟨Cert.KernelIdeal.Gen.facts, Cert.ReferenceIdeal.Gen.facts, Region.frame_kernel, frame_reference, Region.algebraic⟩

end Cert.Proof
